-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)) (v5 : (c : Dev Cert.Kernel3Ideal.nD) → Buf (Elt Ideal) ((c.tc : Thread Cert.Kernel3Ideal.nD Cert.Kernel3Ideal.τ).loc Cert.Kernel3Ideal.main_v6_5)) (v6 : (c : Dev Cert.Kernel3Ideal.nD) → Buf (Elt Ideal) ((c.tc : Thread Cert.Kernel3Ideal.nD Cert.Kernel3Ideal.τ).loc Cert.Kernel3Ideal.main_v6_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_v6_5) = v5 c
          ∧ r.2.mem ((c.tc : Thread Cert.Kernel3Ideal.nD Cert.Kernel3Ideal.τ).loc Cert.Kernel3Ideal.main_v6_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v22) = v4 c
          ∧ r.2.mem ((c.tc : Thread Cert.Reference3Ideal.nD Cert.Reference3Ideal.τ).loc Cert.Reference3Ideal.main_v18) = v5 c
          ∧ r.2.mem ((c.tc : Thread Cert.Reference3Ideal.nD Cert.Reference3Ideal.τ).loc Cert.Reference3Ideal.main_v23) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "scale" .f32 0x3DB504F3#32 (((Real.sqrt 128)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v28_0)) (v1 : (c : Dev Cert.Kernel7Ideal.nD) → Buf (Elt Ideal) ((c.tc : Thread Cert.Kernel7Ideal.nD Cert.Kernel7Ideal.τ).loc Cert.Kernel7Ideal.main_v28_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v28_0) = v0 c
          ∧ r.2.mem ((c.tc : Thread Cert.Kernel7Ideal.nD Cert.Kernel7Ideal.τ).loc Cert.Kernel7Ideal.main_v28_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v86) = v0 c
          ∧ r.2.mem ((c.tc : Thread Cert.Reference7Ideal.nD Cert.Reference7Ideal.τ).loc Cert.Reference7Ideal.main_v87) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_router (hKernelIdeal := hKernelIdeal) (hReferenceIdeal := hReferenceIdeal) (hPre_finite_router := hPre_finite_router)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_router.lean ====
abbrev S65536x1024 : Shape := ⟨2, ![65536, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S_ : Shape := ⟨0, ![]⟩

class Facts : Prop where
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S1024x16 : S_.BroadcastsInDim S1024x16 (![] : Fin 0 → Fin S1024x16.rank)
  bcast_S_S16 : S_.BroadcastsInDim S16 (![] : Fin 0 → Fin S16.rank)

variable [Facts]

def fn {F : FTy → Type} [FloatOps F] (main_arg0 : FVec F S65536x1024 .f32) (main_arg1 : FVec F S1024 .f32) (main_arg2 : FVec F S1024x4 .f32) (main_arg3 : FVec F S4 .f32) (main_arg4 : FVec F S1024x16 .f32) (main_arg5 : FVec F S16 .f32) (main_arg6 : FVec F S16x1024x512 .f32) (main_arg7 : FVec F S16x1024x512 .f32) (main_arg8 : FVec F S16x512x1024 .f32) : IVec S1024 1 × IVec S1024x4 1 × IVec S4 1 × IVec S1024x16 1 × IVec S16 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x4 .f32 := Host.absf main_arg2
  let main_cst_0 : FVec F S_ .f32 := constant S_ .f32 0x7F800000#32
  let main_v4 : FVec F S1024x4 .f32 := broadcastInDim S1024x4 ![] bcast_S_S1024x4 main_cst_0
  let main_v5 : IVec S1024x4 1 := cmpf .olt main_v3 main_v4
  let main_v6 : FVec F S4 .f32 := Host.absf main_arg3
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S1024x16 .f32 := Host.absf main_arg4
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_v12 : FVec F S16 .f32 := Host.absf main_arg5
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  (main_v2, main_v5, main_v8, main_v11, main_v14)
-- ==== Kernel.lean ====
abbrev S65536x1024 : Shape := ⟨2, ![65536, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S_ : Shape := ⟨0, ![]⟩
abbrev S1024x108 : Shape := ⟨2, ![1024, 108]⟩
abbrev S1024x128 : Shape := ⟨2, ![1024, 128]⟩
abbrev S108 : Shape := ⟨1, ![108]⟩
abbrev S128 : Shape := ⟨1, ![128]⟩
abbrev S1x128 : Shape := ⟨2, ![1, 128]⟩
abbrev S1x1024 : Shape := ⟨2, ![1, 1024]⟩
abbrev S512x1024 : Shape := ⟨2, ![512, 1024]⟩
abbrev S1x1024x512 : Shape := ⟨3, ![1, 1024, 512]⟩
abbrev S1x512x1024 : Shape := ⟨3, ![1, 512, 1024]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 22
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x16, .f32⟩
  | .hbm, ⟨5, _⟩ => ⟨S16, .f32⟩
  | .hbm, ⟨6, _⟩ => ⟨S16x1024x512, .f32⟩
  | .hbm, ⟨7, _⟩ => ⟨S16x1024x512, .f32⟩
  | .hbm, ⟨8, _⟩ => ⟨S16x512x1024, .f32⟩
  | .hbm, ⟨9, _⟩ => ⟨S_, .f32⟩
  | .hbm, ⟨10, _⟩ => ⟨S1024x108, .f32⟩
  | .hbm, ⟨11, _⟩ => ⟨S1024x128, .f32⟩
  | .hbm, ⟨12, _⟩ => ⟨S1024x128, .bf16⟩
  | .hbm, ⟨13, _⟩ => ⟨S_, .f32⟩
  | .hbm, ⟨14, _⟩ => ⟨S108, .f32⟩
  | .hbm, ⟨15, _⟩ => ⟨S128, .f32⟩
  | .hbm, ⟨16, _⟩ => ⟨S1x128, .f32⟩
  | .hbm, ⟨17, _⟩ => ⟨S16x1024x512, .bf16⟩
  | .hbm, ⟨18, _⟩ => ⟨S16x1024x512, .bf16⟩
  | .hbm, ⟨19, _⟩ => ⟨S16x512x1024, .bf16⟩
  | .hbm, ⟨20, _⟩ => ⟨S1x1024, .f32⟩
  | .hbm, ⟨21, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S1x128, .f32⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x512x1024, .bf16⟩
  | .local _ .vmem, ⟨10, _⟩ => ⟨S1x512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![128, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S65536x1024 : Shape := ⟨2, ![65536, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4 : Shape := ⟨2, ![65536, 4]⟩
abbrev S1x4 : Shape := ⟨2, ![1, 4]⟩
abbrev S65536x16 : Shape := ⟨2, ![65536, 16]⟩
abbrev S1x16 : Shape := ⟨2, ![1, 16]⟩
abbrev S65536x4x4 : Shape := ⟨3, ![65536, 4, 4]⟩
abbrev S65536x4x1 : Shape := ⟨3, ![65536, 4, 1]⟩
abbrev S65536x2 : Shape := ⟨2, ![65536, 2]⟩
abbrev S65536x2x1 : Shape := ⟨3, ![65536, 2, 1]⟩
abbrev S1x1x4 : Shape := ⟨3, ![1, 1, 4]⟩
abbrev S65536x2x4 : Shape := ⟨3, ![65536, 2, 4]⟩
abbrev S65536x1x4 : Shape := ⟨3, ![65536, 1, 4]⟩
abbrev S65536x16x512 : Shape := ⟨3, ![65536, 16, 512]⟩
abbrev S16x1024x65536 : Shape := ⟨3, ![16, 1024, 65536]⟩
abbrev S65536x16x1024 : Shape := ⟨3, ![65536, 16, 1024]⟩
abbrev S65536x16x1 : Shape := ⟨3, ![65536, 16, 1]⟩

abbrev nBuf : Space → Nat
  | .hbm => 128
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x16, .f32⟩
  | .hbm, ⟨5, _⟩ => ⟨S16, .f32⟩
  | .hbm, ⟨6, _⟩ => ⟨S16x1024x512, .f32⟩
  | .hbm, ⟨7, _⟩ => ⟨S16x1024x512, .f32⟩
  | .hbm, ⟨8, _⟩ => ⟨S16x512x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x4, .f32⟩
  | .hbm, ⟨26, _⟩ => ⟨S1x4, .f32⟩
  | .hbm, ⟨27, _⟩ => ⟨S65536x4, .f32⟩
  | .hbm, ⟨28, _⟩ => ⟨S65536x4, .f32⟩
  | .hbm, ⟨29, _⟩ => ⟨S_, .f32⟩
  | .hbm, ⟨30, _⟩ => ⟨S65536, .f32⟩
  | .hbm, ⟨31, _⟩ => ⟨S_, .f32⟩
  | .hbm, ⟨32, _⟩ => ⟨S65536, .f32⟩
  | .hbm, ⟨33, _⟩ => ⟨S65536, .f32⟩
  | .hbm, ⟨34, _⟩ => ⟨S65536x1, .f32⟩
  | .hbm, ⟨35, _⟩ => ⟨S65536x4, .f32⟩
  | .hbm, ⟨36, _⟩ => ⟨S65536x4, .f32⟩
  | .hbm, ⟨37, _⟩ => ⟨S65536x4, .f32⟩
  | .hbm, ⟨38, _⟩ => ⟨S_, .f32⟩
  | .hbm, ⟨39, _⟩ => ⟨S65536, .f32⟩
  | .hbm, ⟨40, _⟩ => ⟨S65536x1, .f32⟩
  | .hbm, ⟨41, _⟩ => ⟨S65536x4, .f32⟩
  | .hbm, ⟨42, _⟩ => ⟨S65536x4, .f32⟩
  | .hbm, ⟨43, _⟩ => ⟨S65536x4, .i32⟩
  | .hbm, ⟨44, _⟩ => ⟨S_, .f32⟩
  | .hbm, ⟨45, _⟩ => ⟨S_, .i32⟩
  | .hbm, ⟨46, _⟩ => ⟨S65536, .f32⟩
  | .hbm, ⟨47, _⟩ => ⟨S65536, .i32⟩
  | .hbm, ⟨48, _⟩ => ⟨S65536x1, .i32⟩
  | .hbm, ⟨49, _⟩ => ⟨S1x4, .i32⟩
  | .hbm, ⟨50, _⟩ => ⟨S65536x4, .i32⟩
  | .hbm, ⟨51, _⟩ => ⟨S65536x4, .i32⟩
  | .hbm, ⟨52, _⟩ => ⟨S65536x4, .i1⟩
  | .hbm, ⟨53, _⟩ => ⟨S65536x4, .f32⟩
  | .hbm, ⟨54, _⟩ => ⟨S65536x4, .f32⟩
  | .hbm, ⟨55, _⟩ => ⟨S_, .f32⟩
  | .hbm, ⟨56, _⟩ => ⟨S65536, .f32⟩
  | .hbm, ⟨57, _⟩ => ⟨S65536x1, .f32⟩
  | .hbm, ⟨58, _⟩ => ⟨S65536x16, .f32⟩
  | .hbm, ⟨59, _⟩ => ⟨S1x16, .f32⟩
  | .hbm, ⟨60, _⟩ => ⟨S65536x16, .f32⟩
  | .hbm, ⟨61, _⟩ => ⟨S65536x16, .f32⟩
  | .hbm, ⟨62, _⟩ => ⟨S65536x4x4, .f32⟩
  | .hbm, ⟨63, _⟩ => ⟨S65536x4x1, .f32⟩
  | .hbm, ⟨64, _⟩ => ⟨S65536x4x4, .f32⟩
  | .hbm, ⟨65, _⟩ => ⟨S65536x4x4, .f32⟩
  | .hbm, ⟨66, _⟩ => ⟨S_, .f32⟩
  | .hbm, ⟨67, _⟩ => ⟨S65536x4, .f32⟩
  | .hbm, ⟨68, _⟩ => ⟨S_, .f32⟩
  | .hbm, ⟨69, _⟩ => ⟨S65536, .f32⟩
  | .hbm, ⟨70, _⟩ => ⟨S_, .f32⟩
  | .hbm, ⟨71, _⟩ => ⟨S65536, .f32⟩
  | .hbm, ⟨72, _⟩ => ⟨S65536, .f32⟩
  | .hbm, ⟨73, _⟩ => ⟨S65536x1, .f32⟩
  | .hbm, ⟨74, _⟩ => ⟨S65536x4, .f32⟩
  | .hbm, ⟨75, _⟩ => ⟨S65536x4, .f32⟩
  | .hbm, ⟨76, _⟩ => ⟨S65536x4, .f32⟩
  | .hbm, ⟨77, _⟩ => ⟨S_, .f32⟩
  | .hbm, ⟨78, _⟩ => ⟨S65536, .f32⟩
  | .hbm, ⟨79, _⟩ => ⟨S65536x1, .f32⟩
  | .hbm, ⟨80, _⟩ => ⟨S65536x4, .f32⟩
  | .hbm, ⟨81, _⟩ => ⟨S65536x4, .f32⟩
  | .hbm, ⟨82, _⟩ => ⟨S65536x2, .f32⟩
  | .hbm, ⟨83, _⟩ => ⟨S65536x2, .i32⟩
  | .hbm, ⟨84, _⟩ => ⟨S_, .f32⟩
  | .hbm, ⟨85, _⟩ => ⟨S65536, .f32⟩
  | .hbm, ⟨86, _⟩ => ⟨S65536x1, .f32⟩
  | .hbm, ⟨87, _⟩ => ⟨S65536x2, .f32⟩
  | .hbm, ⟨88, _⟩ => ⟨S65536x2, .f32⟩
  | .hbm, ⟨89, _⟩ => ⟨S65536x2x1, .i32⟩
  | .hbm, ⟨90, _⟩ => ⟨S1x1x4, .i32⟩
  | .hbm, ⟨91, _⟩ => ⟨S65536x2x4, .i32⟩
  | .hbm, ⟨92, _⟩ => ⟨S65536x2x4, .i32⟩
  | .hbm, ⟨93, _⟩ => ⟨S65536x2x4, .i1⟩
  | .hbm, ⟨94, _⟩ => ⟨S65536x2x4, .f32⟩
  | .hbm, ⟨95, _⟩ => ⟨S65536x2x1, .f32⟩
  | .hbm, ⟨96, _⟩ => ⟨S65536x2x4, .f32⟩
  | .hbm, ⟨97, _⟩ => ⟨S65536x2x4, .f32⟩
  | .hbm, ⟨98, _⟩ => ⟨S_, .f32⟩
  | .hbm, ⟨99, _⟩ => ⟨S65536x4, .f32⟩
  | .hbm, ⟨100, _⟩ => ⟨S65536x4x1, .f32⟩
  | .hbm, ⟨101, _⟩ => ⟨S65536x4, .f32⟩
  | .hbm, ⟨102, _⟩ => ⟨S65536x4, .f32⟩
  | .hbm, ⟨103, _⟩ => ⟨S65536x1x4, .f32⟩
  | .hbm, ⟨104, _⟩ => ⟨S65536x4x4, .f32⟩
  | .hbm, ⟨105, _⟩ => ⟨S65536x4x4, .f32⟩
  | .hbm, ⟨106, _⟩ => ⟨S65536x4x4, .f32⟩
  | .hbm, ⟨107, _⟩ => ⟨S65536x16, .f32⟩
  | .hbm, ⟨108, _⟩ => ⟨S65536x16x512, .f32⟩
  | .hbm, ⟨109, _⟩ => ⟨S65536x16x512, .f32⟩
  | .hbm, ⟨110, _⟩ => ⟨S65536x16x512, .f32⟩
  | .hbm, ⟨111, _⟩ => ⟨S_, .f32⟩
  | .hbm, ⟨112, _⟩ => ⟨S65536x16x512, .f32⟩
  | .hbm, ⟨113, _⟩ => ⟨S65536x16x512, .f32⟩
  | .hbm, ⟨114, _⟩ => ⟨S_, .f32⟩
  | .hbm, ⟨115, _⟩ => ⟨S65536x16x512, .f32⟩
  | .hbm, ⟨116, _⟩ => ⟨S65536x16x512, .f32⟩
  | .hbm, ⟨117, _⟩ => ⟨S65536x16x512, .f32⟩
  | .hbm, ⟨118, _⟩ => ⟨S65536x16x512, .f32⟩
  | .hbm, ⟨119, _⟩ => ⟨S65536x16x512, .f32⟩
  | .hbm, ⟨120, _⟩ => ⟨S16x1024x65536, .f32⟩
  | .hbm, ⟨121, _⟩ => ⟨S65536x16x1024, .f32⟩
  | .hbm, ⟨122, _⟩ => ⟨S65536x16x1, .f32⟩
  | .hbm, ⟨123, _⟩ => ⟨S65536x16x1024, .f32⟩
  | .hbm, ⟨124, _⟩ => ⟨S65536x16x1024, .f32⟩
  | .hbm, ⟨125, _⟩ => ⟨S_, .f32⟩
  | .hbm, ⟨126, _⟩ => ⟨S65536x1024, .f32⟩
  | .hbm, ⟨127, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_cst : Ref sig .tc := ⟨.hbm, 44, rfl⟩
abbrev main_call0_c : Ref sig .tc := ⟨.hbm, 45, rfl⟩
abbrev main_call0_v1_0 : Ref sig .tc := ⟨.hbm, 46, rfl⟩
abbrev main_v28 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_values : Ref sig .tc := ⟨.hbm, 82, rfl⟩
abbrev main_indices : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_11 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_call3_v0 : Ref sig .tc := ⟨.hbm, 109, rfl⟩
abbrev main_call3_v1 : Ref sig .tc := ⟨.hbm, 110, rfl⟩
abbrev main_call3_cst : Ref sig .tc := ⟨.hbm, 111, rfl⟩
abbrev main_call3_v2 : Ref sig .tc := ⟨.hbm, 112, rfl⟩
abbrev main_call3_v3 : Ref sig .tc := ⟨.hbm, 113, rfl⟩
abbrev main_call3_cst_0 : Ref sig .tc := ⟨.hbm, 114, rfl⟩
abbrev main_call3_v4 : Ref sig .tc := ⟨.hbm, 115, rfl⟩
abbrev main_call3_v5 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_12 : Ref sig .tc := ⟨.hbm, 125, rfl⟩
abbrev main_v79 : Ref sig .tc := ⟨.hbm, 126, rfl⟩
abbrev main_v80 : Ref sig .tc := ⟨.hbm, 127, rfl⟩

abbrev nD : Nat := 1
abbrev τ : Topo := Topo.v7x

variable {F : FTy → Type} [FloatOps F]
-- ==== Kernel2.lean ====
abbrev S16x256x1024 : Shape := ⟨3, ![16, 256, 1024]⟩
abbrev S1024 : Shape := ⟨1, ![1024]⟩
abbrev S1024x1024 : Shape := ⟨2, ![1024, 1024]⟩
abbrev S4096x1024 : Shape := ⟨2, ![4096, 1024]⟩
abbrev S1x1024 : Shape := ⟨2, ![1, 1024]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S1024x1024, .bf16⟩
  | .hbm, ⟨5, _⟩ => ⟨S1x1024, .f32⟩
  | .hbm, ⟨6, _⟩ => ⟨S4096x512, .f32⟩
  | .hbm, ⟨7, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16x256x1024 : Shape := ⟨3, ![16, 256, 1024]⟩
abbrev S1024 : Shape := ⟨1, ![1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x512 : Shape := ⟨3, ![16, 256, 512]⟩
abbrev S4096x512 : Shape := ⟨2, ![4096, 512]⟩

abbrev nBuf : Space → Nat
  | .hbm => 24
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x1024, .f32⟩
  | .hbm, ⟨20, _⟩ => ⟨S16x256x512, .f32⟩
  | .hbm, ⟨21, _⟩ => ⟨S16x256x512, .f32⟩
  | .hbm, ⟨22, _⟩ => ⟨S4096x512, .f32⟩
  | .hbm, ⟨23, _⟩ => ⟨S4096x512, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x2576 : Shape := ⟨2, ![1024, 2576]⟩
abbrev S1024x784 : Shape := ⟨2, ![1024, 784]⟩
abbrev S_ : Shape := ⟨0, ![]⟩
abbrev S1024x112 : Shape := ⟨2, ![1024, 112]⟩
abbrev S1024x1792 : Shape := ⟨2, ![1024, 1792]⟩
abbrev S1024x2688 : Shape := ⟨2, ![1024, 2688]⟩
abbrev S1x1024 : Shape := ⟨2, ![1, 1024]⟩
abbrev S65536x896 : Shape := ⟨2, ![65536, 896]⟩
abbrev S65536x256 : Shape := ⟨2, ![65536, 256]⟩
abbrev S65536x512 : Shape := ⟨2, ![65536, 512]⟩
abbrev S512x1024 : Shape := ⟨2, ![512, 1024]⟩
abbrev S512x896 : Shape := ⟨2, ![512, 896]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024x896 : Shape := ⟨2, ![1024, 896]⟩
abbrev S1024x256 : Shape := ⟨2, ![1024, 256]⟩
abbrev S1024x512 : Shape := ⟨2, ![1024, 512]⟩

abbrev nBuf : Space → Nat
  | .hbm => 17
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2576, .f32⟩
  | .hbm, ⟨3, _⟩ => ⟨S1024x784, .f32⟩
  | .hbm, ⟨4, _⟩ => ⟨S_, .f32⟩
  | .hbm, ⟨5, _⟩ => ⟨S1024x112, .f32⟩
  | .hbm, ⟨6, _⟩ => ⟨S1024x1792, .f32⟩
  | .hbm, ⟨7, _⟩ => ⟨S1024x2688, .f32⟩
  | .hbm, ⟨8, _⟩ => ⟨S1024x2688, .bf16⟩
  | .hbm, ⟨9, _⟩ => ⟨S1x1024, .f32⟩
  | .hbm, ⟨10, _⟩ => ⟨S65536x896, .f32⟩
  | .hbm, ⟨11, _⟩ => ⟨S65536x256, .f32⟩
  | .hbm, ⟨12, _⟩ => ⟨S65536x512, .bf16⟩
  | .hbm, ⟨13, _⟩ => ⟨S65536x512, .f32⟩
  | .hbm, ⟨14, _⟩ => ⟨S65536x512, .bf16⟩
  | .hbm, ⟨15, _⟩ => ⟨S65536x512, .f32⟩
  | .hbm, ⟨16, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x896, .f32⟩
  | .local _ .vmem, ⟨5, _⟩ => ⟨S512x896, .f32⟩
  | .local _ .vmem, ⟨6, _⟩ => ⟨S512x256, .f32⟩
  | .local _ .vmem, ⟨7, _⟩ => ⟨S512x256, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev main_v6_5 : Ref sig .tc := ⟨.hbm, 15, rfl⟩
abbrev main_v6_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S65536x1024 : Shape := ⟨2, ![65536, 1024]⟩
abbrev S1024 : Shape := ⟨1, ![1024]⟩
abbrev S1024x2576 : Shape := ⟨2, ![1024, 2576]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2576 : Shape := ⟨2, ![65536, 2576]⟩
abbrev S65536x784 : Shape := ⟨2, ![65536, 784]⟩
abbrev S65536x256 : Shape := ⟨2, ![65536, 256]⟩
abbrev S65536x512 : Shape := ⟨2, ![65536, 512]⟩
abbrev S65536x112 : Shape := ⟨2, ![65536, 112]⟩
abbrev S65536x896 : Shape := ⟨2, ![65536, 896]⟩

abbrev nBuf : Space → Nat
  | .hbm => 31
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2576, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x2576, .f32⟩
  | .hbm, ⟨20, _⟩ => ⟨S65536x784, .f32⟩
  | .hbm, ⟨21, _⟩ => ⟨S65536x256, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S_, .f32⟩
  | .hbm, ⟨26, _⟩ => ⟨S65536x112, .f32⟩
  | .hbm, ⟨27, _⟩ => ⟨S65536x896, .f32⟩
  | .hbm, ⟨28, _⟩ => ⟨S65536x512, .bf16⟩
  | .hbm, ⟨29, _⟩ => ⟨S65536x512, .bf16⟩
  | .hbm, ⟨30, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel4.lean ====
abbrev S65536x1024 : Shape := ⟨2, ![65536, 1024]⟩
abbrev S65536x256 : Shape := ⟨2, ![65536, 256]⟩
abbrev S65536x512 : Shape := ⟨2, ![65536, 512]⟩
abbrev S1024x1024 : Shape := ⟨2, ![1024, 1024]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩

abbrev nBuf : Space → Nat
  | .hbm => 7
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S65536x256, .bf16⟩
  | .hbm, ⟨2, _⟩ => ⟨S65536x256, .bf16⟩
  | .hbm, ⟨3, _⟩ => ⟨S65536x512, .bf16⟩
  | .hbm, ⟨4, _⟩ => ⟨S1024x1024, .f32⟩
  | .hbm, ⟨5, _⟩ => ⟨S1024x1024, .bf16⟩
  | .hbm, ⟨6, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S65536x1024 : Shape := ⟨2, ![65536, 1024]⟩
abbrev S65536x256 : Shape := ⟨2, ![65536, 256]⟩
abbrev S65536x512 : Shape := ⟨2, ![65536, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x256, .bf16⟩
  | .hbm, ⟨2, _⟩ => ⟨S65536x256, .bf16⟩
  | .hbm, ⟨3, _⟩ => ⟨S65536x512, .bf16⟩
  | .hbm, ⟨4, _⟩ => ⟨S1024x1024, .f32⟩
  | .hbm, ⟨5, _⟩ => ⟨S65536x1024, .bf16⟩
  | .hbm, ⟨6, _⟩ => ⟨S65536x1024, .f32⟩
  | .hbm, ⟨7, _⟩ => ⟨S65536x1024, .f32⟩
  | .hbm, ⟨8, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel5.lean ====
abbrev S16x4096x1024 : Shape := ⟨3, ![16, 4096, 1024]⟩
abbrev S1024 : Shape := ⟨1, ![1024]⟩
abbrev S16x256x512 : Shape := ⟨3, ![16, 256, 512]⟩
abbrev S1024x512 : Shape := ⟨2, ![1024, 512]⟩
abbrev S512x1024 : Shape := ⟨2, ![512, 1024]⟩
abbrev S1x1024 : Shape := ⟨2, ![1, 1024]⟩
abbrev S1x512x1024 : Shape := ⟨3, ![1, 512, 1024]⟩
abbrev S1x256x512 : Shape := ⟨3, ![1, 256, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 10
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x256x512, .f32⟩
  | .hbm, ⟨3, _⟩ => ⟨S16x256x512, .f32⟩
  | .hbm, ⟨4, _⟩ => ⟨S1024x512, .f32⟩
  | .hbm, ⟨5, _⟩ => ⟨S512x1024, .f32⟩
  | .hbm, ⟨6, _⟩ => ⟨S1024x512, .bf16⟩
  | .hbm, ⟨7, _⟩ => ⟨S512x1024, .bf16⟩
  | .hbm, ⟨8, _⟩ => ⟨S1x1024, .f32⟩
  | .hbm, ⟨9, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S512x1024, .bf16⟩
  | .local _ .vmem, ⟨9, _⟩ => ⟨S1x512x1024, .f32⟩
  | .local _ .vmem, ⟨10, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel5Ideal.lean ====
variable {F : FTy → Type} [FloatOps F] [Named F]
def κ : String → Option EReal := fun
  | "scale" => some (((Real.sqrt 128)⁻¹ : ℝ) : EReal)
  | _ => none
-- ==== Reference5Ideal.lean ====
abbrev S16x4096x1024 : Shape := ⟨3, ![16, 4096, 1024]⟩
abbrev S1024 : Shape := ⟨1, ![1024]⟩
abbrev S16x256x512 : Shape := ⟨3, ![16, 256, 512]⟩
abbrev S1024x512 : Shape := ⟨2, ![1024, 512]⟩
abbrev S512x1024 : Shape := ⟨2, ![512, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x256x4x128 : Shape := ⟨4, ![16, 256, 4, 128]⟩
abbrev S16x4096x512 : Shape := ⟨3, ![16, 4096, 512]⟩
abbrev S16x4096x4x128 : Shape := ⟨4, ![16, 4096, 4, 128]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x128x4096 : Shape := ⟨4, ![16, 4, 128, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x256x512, .f32⟩
  | .hbm, ⟨3, _⟩ => ⟨S16x256x512, .f32⟩
  | .hbm, ⟨4, _⟩ => ⟨S1024x512, .f32⟩
  | .hbm, ⟨5, _⟩ => ⟨S512x1024, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S16x256x4x128, .f32⟩
  | .hbm, ⟨23, _⟩ => ⟨S16x256x4x128, .f32⟩
  | .hbm, ⟨24, _⟩ => ⟨S16x4096x512, .f32⟩
  | .hbm, ⟨25, _⟩ => ⟨S16x4096x4x128, .f32⟩
  | .hbm, ⟨26, _⟩ => ⟨S16x4x4096x256, .f32⟩
  | .hbm, ⟨27, _⟩ => ⟨S_, .f32⟩
  | .hbm, ⟨28, _⟩ => ⟨S_, .f32⟩
  | .hbm, ⟨29, _⟩ => ⟨S16x4x4096x256, .f32⟩
  | .hbm, ⟨30, _⟩ => ⟨S16x4x4096x256, .f32⟩
  | .hbm, ⟨31, _⟩ => ⟨S_, .f32⟩
  | .hbm, ⟨32, _⟩ => ⟨S16x4x4096, .f32⟩
  | .hbm, ⟨33, _⟩ => ⟨S_, .f32⟩
  | .hbm, ⟨34, _⟩ => ⟨S16x4x4096, .f32⟩
  | .hbm, ⟨35, _⟩ => ⟨S16x4x4096, .f32⟩
  | .hbm, ⟨36, _⟩ => ⟨S16x4x4096x1, .f32⟩
  | .hbm, ⟨37, _⟩ => ⟨S16x4x4096x256, .f32⟩
  | .hbm, ⟨38, _⟩ => ⟨S16x4x4096x256, .f32⟩
  | .hbm, ⟨39, _⟩ => ⟨S16x4x4096x256, .f32⟩
  | .hbm, ⟨40, _⟩ => ⟨S_, .f32⟩
  | .hbm, ⟨41, _⟩ => ⟨S16x4x4096, .f32⟩
  | .hbm, ⟨42, _⟩ => ⟨S16x4x4096x1, .f32⟩
  | .hbm, ⟨43, _⟩ => ⟨S16x4x4096x256, .f32⟩
  | .hbm, ⟨44, _⟩ => ⟨S16x4x4096x256, .f32⟩
  | .hbm, ⟨45, _⟩ => ⟨S16x4x128x4096, .f32⟩
  | .hbm, ⟨46, _⟩ => ⟨S16x4096x4x128, .f32⟩
  | .hbm, ⟨47, _⟩ => ⟨S16x4096x512, .f32⟩
  | .hbm, ⟨48, _⟩ => ⟨S16x4096x1024, .f32⟩
  | .hbm, ⟨49, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel6.lean ====
abbrev S65536x1024 : Shape := ⟨2, ![65536, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1x1024, .f32⟩
  | .hbm, ⟨3, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S65536x1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S_, .f32⟩
  | .hbm, ⟨7, _⟩ => ⟨S65536x1, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x1, .f32⟩
  | .hbm, ⟨13, _⟩ => ⟨S65536x1024, .f32⟩
  | .hbm, ⟨14, _⟩ => ⟨S65536x1024, .f32⟩
  | .hbm, ⟨15, _⟩ => ⟨S1x1024, .f32⟩
  | .hbm, ⟨16, _⟩ => ⟨S65536x1024, .f32⟩
  | .hbm, ⟨17, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S16x4096x256 : Shape := ⟨3, ![16, 4096, 256]⟩
abbrev S16x15x256 : Shape := ⟨3, ![16, 15, 256]⟩
abbrev S4x64x64 : Shape := ⟨3, ![4, 64, 64]⟩
abbrev S256 : Shape := ⟨1, ![256]⟩
abbrev S_ : Shape := ⟨0, ![]⟩
abbrev S16x16x256 : Shape := ⟨3, ![16, 16, 256]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x256 : Shape := ⟨2, ![1, 256]⟩
abbrev S1x512x256 : Shape := ⟨3, ![1, 512, 256]⟩
abbrev S1x16x256 : Shape := ⟨3, ![1, 16, 256]⟩
abbrev S16x256 : Shape := ⟨2, ![16, 256]⟩
abbrev S512x256 : Shape := ⟨2, ![512, 256]⟩
abbrev S528x256 : Shape := ⟨2, ![528, 256]⟩

abbrev nBuf : Space → Nat
  | .hbm => 45
  | .vmem => 11
  | .smem => 0
  | _ => 0

abbrev bufTy : (tb : Table) → Fin (tcTables nBuf tb) → BufTy
  | .hbm, ⟨0, _⟩ => ⟨S16x4096x256, .f32⟩
  | .hbm, ⟨1, _⟩ => ⟨S16x15x256, .f32⟩
  | .hbm, ⟨2, _⟩ => ⟨S4x64x64, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S16x16x256, .f32⟩
  | .hbm, ⟨7, _⟩ => ⟨S_, .f32⟩
  | .hbm, ⟨8, _⟩ => ⟨S256x256, .f32⟩
  | .hbm, ⟨9, _⟩ => ⟨S1x64x64, .f32⟩
  | .hbm, ⟨10, _⟩ => ⟨S64x64, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S256x256, .f32⟩
  | .hbm, ⟨17, _⟩ => ⟨S1x64x64, .f32⟩
  | .hbm, ⟨18, _⟩ => ⟨S64x64, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S256x256, .f32⟩
  | .hbm, ⟨25, _⟩ => ⟨S1x64x64, .f32⟩
  | .hbm, ⟨26, _⟩ => ⟨S64x64, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S256x256, .f32⟩
  | .hbm, ⟨33, _⟩ => ⟨S1x64x64, .f32⟩
  | .hbm, ⟨34, _⟩ => ⟨S64x64, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S256x256, .f32⟩
  | .hbm, ⟨41, _⟩ => ⟨S256x256, .bf16⟩
  | .hbm, ⟨42, _⟩ => ⟨S1x256, .f32⟩
  | .hbm, ⟨43, _⟩ => ⟨S16x4096x256, .bf16⟩
  | .hbm, ⟨44, _⟩ => ⟨S16x16x256, .f32⟩
  | .local _ .vmem, ⟨0, _⟩ => ⟨S1x512x256, .f32⟩
  | .local _ .vmem, ⟨1, _⟩ => ⟨S1x512x256, .f32⟩
  | .local _ .vmem, ⟨2, _⟩ => ⟨S1x16x256, .f32⟩
  | .local _ .vmem, ⟨3, _⟩ => ⟨S1x16x256, .f32⟩
  | .local _ .vmem, ⟨4, _⟩ => ⟨S256x256, .bf16⟩
  | .local _ .vmem, ⟨5, _⟩ => ⟨S1x256, .f32⟩
  | .local _ .vmem, ⟨6, _⟩ => ⟨S1x512x256, .bf16⟩
  | .local _ .vmem, ⟨7, _⟩ => ⟨S1x512x256, .bf16⟩
  | .local _ .vmem, ⟨8, _⟩ => ⟨S1x16x256, .f32⟩
  | .local _ .vmem, ⟨9, _⟩ => ⟨S1x16x256, .f32⟩
  | .local _ .vmem, ⟨10, _⟩ => ⟨S16x256, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v93 : BitVec 1 := Scalar.cmpi .eq arg1 c7_i32
  let v94 : BitVec 32 := Scalar.extui v93
  let c0_i32_31 : BitVec 32 := 0#32
  let v95 : BitVec 1 := Scalar.cmpi .ne v94 c0_i32_31
  v95

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S16x4096x256 : Shape := ⟨3, ![16, 4096, 256]⟩
abbrev S16x15x256 : Shape := ⟨3, ![16, 15, 256]⟩
abbrev S4x64x64 : Shape := ⟨3, ![4, 64, 64]⟩
abbrev S256 : Shape := ⟨1, ![256]⟩
abbrev S16x4111x256 : Shape := ⟨3, ![16, 4111, 256]⟩
abbrev S4096 : Shape := ⟨1, ![4096]⟩
abbrev S_ : Shape := ⟨0, ![]⟩
abbrev S1x4096x1 : Shape := ⟨3, ![1, 4096, 1]⟩
abbrev S16x4096x64 : Shape := ⟨3, ![16, 4096, 64]⟩
abbrev S1x64x64 : Shape := ⟨3, ![1, 64, 64]⟩
abbrev S64x64 : Shape := ⟨2, ![64, 64]⟩
abbrev S16x4096x128 : Shape := ⟨3, ![16, 4096, 128]⟩
abbrev S16x4096x192 : Shape := ⟨3, ![16, 4096, 192]⟩
abbrev S1x1x256 : Shape := ⟨3, ![1, 1, 256]⟩
abbrev S16x16x256 : Shape := ⟨3, ![16, 16, 256]⟩

abbrev nBuf : Space → Nat
  | .hbm => 97
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x15x256, .f32⟩
  | .hbm, ⟨2, _⟩ => ⟨S4x64x64, .f32⟩
  | .hbm, ⟨3, _⟩ => ⟨S256, .f32⟩
  | .hbm, ⟨4, _⟩ => ⟨S16x4111x256, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S1x4096x1, .i32⟩
  | .hbm, ⟨10, _⟩ => ⟨S16x4096x256, .f32⟩
  | .hbm, ⟨11, _⟩ => ⟨S16x4096x256, .f32⟩
  | .hbm, ⟨12, _⟩ => ⟨S16x4096x256, .f32⟩
  | .hbm, ⟨13, _⟩ => ⟨S_, .i32⟩
  | .hbm, ⟨14, _⟩ => ⟨S1x4096x1, .i32⟩
  | .hbm, ⟨15, _⟩ => ⟨S1x4096x1, .i32⟩
  | .hbm, ⟨16, _⟩ => ⟨S1x4096x1, .f32⟩
  | .hbm, ⟨17, _⟩ => ⟨S16x4096x64, .f32⟩
  | .hbm, ⟨18, _⟩ => ⟨S16x4096x64, .f32⟩
  | .hbm, ⟨19, _⟩ => ⟨S16x4096x64, .f32⟩
  | .hbm, ⟨20, _⟩ => ⟨S16x4096x64, .f32⟩
  | .hbm, ⟨21, _⟩ => ⟨S16x4096x64, .f32⟩
  | .hbm, ⟨22, _⟩ => ⟨S1x64x64, .f32⟩
  | .hbm, ⟨23, _⟩ => ⟨S64x64, .f32⟩
  | .hbm, ⟨24, _⟩ => ⟨S16x4096x64, .f32⟩
  | .hbm, ⟨25, _⟩ => ⟨S16x4096x256, .f32⟩
  | .hbm, ⟨26, _⟩ => ⟨S16x4096x256, .f32⟩
  | .hbm, ⟨27, _⟩ => ⟨S16x4096x256, .f32⟩
  | .hbm, ⟨28, _⟩ => ⟨S16x4096x256, .f32⟩
  | .hbm, ⟨29, _⟩ => ⟨S_, .i32⟩
  | .hbm, ⟨30, _⟩ => ⟨S1x4096x1, .i32⟩
  | .hbm, ⟨31, _⟩ => ⟨S1x4096x1, .i32⟩
  | .hbm, ⟨32, _⟩ => ⟨S1x4096x1, .f32⟩
  | .hbm, ⟨33, _⟩ => ⟨S16x4096x64, .f32⟩
  | .hbm, ⟨34, _⟩ => ⟨S16x4096x64, .f32⟩
  | .hbm, ⟨35, _⟩ => ⟨S16x4096x64, .f32⟩
  | .hbm, ⟨36, _⟩ => ⟨S16x4096x64, .f32⟩
  | .hbm, ⟨37, _⟩ => ⟨S16x4096x64, .f32⟩
  | .hbm, ⟨38, _⟩ => ⟨S1x64x64, .f32⟩
  | .hbm, ⟨39, _⟩ => ⟨S64x64, .f32⟩
  | .hbm, ⟨40, _⟩ => ⟨S16x4096x64, .f32⟩
  | .hbm, ⟨41, _⟩ => ⟨S16x4096x128, .f32⟩
  | .hbm, ⟨42, _⟩ => ⟨S16x4096x256, .f32⟩
  | .hbm, ⟨43, _⟩ => ⟨S16x4096x256, .f32⟩
  | .hbm, ⟨44, _⟩ => ⟨S16x4096x256, .f32⟩
  | .hbm, ⟨45, _⟩ => ⟨S16x4096x256, .f32⟩
  | .hbm, ⟨46, _⟩ => ⟨S16x4096x256, .f32⟩
  | .hbm, ⟨47, _⟩ => ⟨S16x4096x256, .f32⟩
  | .hbm, ⟨48, _⟩ => ⟨S16x4096x256, .f32⟩
  | .hbm, ⟨49, _⟩ => ⟨S16x4096x256, .f32⟩
  | .hbm, ⟨50, _⟩ => ⟨S_, .i32⟩
  | .hbm, ⟨51, _⟩ => ⟨S1x4096x1, .i32⟩
  | .hbm, ⟨52, _⟩ => ⟨S1x4096x1, .i32⟩
  | .hbm, ⟨53, _⟩ => ⟨S1x4096x1, .f32⟩
  | .hbm, ⟨54, _⟩ => ⟨S16x4096x64, .f32⟩
  | .hbm, ⟨55, _⟩ => ⟨S16x4096x64, .f32⟩
  | .hbm, ⟨56, _⟩ => ⟨S16x4096x64, .f32⟩
  | .hbm, ⟨57, _⟩ => ⟨S16x4096x64, .f32⟩
  | .hbm, ⟨58, _⟩ => ⟨S16x4096x64, .f32⟩
  | .hbm, ⟨59, _⟩ => ⟨S1x64x64, .f32⟩
  | .hbm, ⟨60, _⟩ => ⟨S64x64, .f32⟩
  | .hbm, ⟨61, _⟩ => ⟨S16x4096x64, .f32⟩
  | .hbm, ⟨62, _⟩ => ⟨S16x4096x192, .f32⟩
  | .hbm, ⟨63, _⟩ => ⟨S16x4096x256, .f32⟩
  | .hbm, ⟨64, _⟩ => ⟨S16x4096x256, .f32⟩
  | .hbm, ⟨65, _⟩ => ⟨S16x4096x256, .f32⟩
  | .hbm, ⟨66, _⟩ => ⟨S16x4096x256, .f32⟩
  | .hbm, ⟨67, _⟩ => ⟨S16x4096x256, .f32⟩
  | .hbm, ⟨68, _⟩ => ⟨S16x4096x256, .f32⟩
  | .hbm, ⟨69, _⟩ => ⟨S16x4096x256, .f32⟩
  | .hbm, ⟨70, _⟩ => ⟨S16x4096x256, .f32⟩
  | .hbm, ⟨71, _⟩ => ⟨S16x4096x256, .f32⟩
  | .hbm, ⟨72, _⟩ => ⟨S16x4096x256, .f32⟩
  | .hbm, ⟨73, _⟩ => ⟨S16x4096x256, .f32⟩
  | .hbm, ⟨74, _⟩ => ⟨S16x4096x256, .f32⟩
  | .hbm, ⟨75, _⟩ => ⟨S16x4096x256, .f32⟩
  | .hbm, ⟨76, _⟩ => ⟨S16x4096x256, .f32⟩
  | .hbm, ⟨77, _⟩ => ⟨S16x4096x256, .f32⟩
  | .hbm, ⟨78, _⟩ => ⟨S16x4096x256, .f32⟩
  | .hbm, ⟨79, _⟩ => ⟨S_, .i32⟩
  | .hbm, ⟨80, _⟩ => ⟨S1x4096x1, .i32⟩
  | .hbm, ⟨81, _⟩ => ⟨S1x4096x1, .i32⟩
  | .hbm, ⟨82, _⟩ => ⟨S1x4096x1, .f32⟩
  | .hbm, ⟨83, _⟩ => ⟨S16x4096x64, .f32⟩
  | .hbm, ⟨84, _⟩ => ⟨S16x4096x64, .f32⟩
  | .hbm, ⟨85, _⟩ => ⟨S16x4096x64, .f32⟩
  | .hbm, ⟨86, _⟩ => ⟨S16x4096x64, .f32⟩
  | .hbm, ⟨87, _⟩ => ⟨S16x4096x64, .f32⟩
  | .hbm, ⟨88, _⟩ => ⟨S1x64x64, .f32⟩
  | .hbm, ⟨89, _⟩ => ⟨S64x64, .f32⟩
  | .hbm, ⟨90, _⟩ => ⟨S16x4096x64, .f32⟩
  | .hbm, ⟨91, _⟩ => ⟨S16x4096x256, .f32⟩
  | .hbm, ⟨92, _⟩ => ⟨S1x1x256, .f32⟩
  | .hbm, ⟨93, _⟩ => ⟨S16x4096x256, .f32⟩
  | .hbm, ⟨94, _⟩ => ⟨S16x4096x256, .f32⟩
  | .hbm, ⟨95, _⟩ => ⟨S16x4096x256, .bf16⟩
  | .hbm, ⟨96, _⟩ => ⟨S16x16x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_c_2 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_c_3 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩

abbrev nD : Nat := 1
abbrev τ : Topo := Topo.v7x

variable {F : FTy → Type} [FloatOps F]
-- ==== Proof.RefRun.lean ====
/-
  The reference's host operations as a list, and its run: every weakly fair execution ends with the result buffer at
  the operations' composed term of the arguments, the arguments unchanged. The arg-max over the groups is two
  four-operand operations, named here.
-/
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The arg-max reduction's value, over the probabilities and the group numbers. -/
def amax1 (x : (⟨S65536x4, .f32⟩ : BufTy).Contents (Elt F)) (y : (⟨S65536x4, .i32⟩ : BufTy).Contents (Elt F))
    (u : (⟨S_, .f32⟩ : BufTy).Contents (Elt F)) (v : (⟨S_, .i32⟩ : BufTy).Contents (Elt F)) : (⟨S65536, .f32⟩ : BufTy).Contents (Elt F) :=
  fun j => (Host.argReduce reducer_argmax_f32_i32 x y u v reducesTo_S65536x4_S65536_d1 h_S_ j).1

/-- The arg-max reduction's index, over the probabilities and the group numbers. -/
def amax2 (x : (⟨S65536x4, .f32⟩ : BufTy).Contents (Elt F)) (y : (⟨S65536x4, .i32⟩ : BufTy).Contents (Elt F))
    (u : (⟨S_, .f32⟩ : BufTy).Contents (Elt F)) (v : (⟨S_, .i32⟩ : BufTy).Contents (Elt F)) : (⟨S65536, .i32⟩ : BufTy).Contents (Elt F) :=
  fun j => (Host.argReduce reducer_argmax_f32_i32 x y u v reducesTo_S65536x4_S65536_d1 h_S_ j).2

/-- @main's 119 operations, in order (a called function's operations stand in its call's place, spelt `TRef.…`). -/
abbrev ops : List (HloOp τ sig (Elt F)) :=
  [ binary main_arg0 main_arg0 main_v0 (mulf : (⟨S65536x1024, .f32⟩ : BufTy).Contents (Elt F) → (⟨S65536x1024, .f32⟩ : BufTy).Contents (Elt F) → (⟨S65536x1024, .f32⟩ : BufTy).Contents (Elt F)),
    nullary main_cst (constant S_ .f32 0x00000000#32),
    binary main_v0 main_cst main_v1 ((fun x v => Host.reduceAdd x v reducesTo_S65536x1024_S65536_d1 h_S_) : (⟨S65536x1024, .f32⟩ : BufTy).Contents (Elt F) → (⟨S_, .f32⟩ : BufTy).Contents (Elt F) → (⟨S65536, .f32⟩ : BufTy).Contents (Elt F)),
    unary main_v1 main_v2 (broadcastInDim S65536x1 ![0] bcast_S65536_S65536x1_0 : (⟨S65536, .f32⟩ : BufTy).Contents (Elt F) → (⟨S65536x1, .f32⟩ : BufTy).Contents (Elt F)),
    nullary main_cst_0 (constant S_ .f32 0x44800000#32),
    unary main_cst_0 main_v3 (broadcastInDim S65536x1 ![] bcast_S_S65536x1 : (⟨S_, .f32⟩ : BufTy).Contents (Elt F) → (⟨S65536x1, .f32⟩ : BufTy).Contents (Elt F)),
    binary main_v2 main_v3 main_v4 (Host.divf : (⟨S65536x1, .f32⟩ : BufTy).Contents (Elt F) → (⟨S65536x1, .f32⟩ : BufTy).Contents (Elt F) → (⟨S65536x1, .f32⟩ : BufTy).Contents (Elt F)),
    nullary main_cst_1 (constant S_ .f32 0x358637BD#32),
    unary main_cst_1 main_v5 (broadcastInDim S65536x1 ![] bcast_S_S65536x1 : (⟨S_, .f32⟩ : BufTy).Contents (Elt F) → (⟨S65536x1, .f32⟩ : BufTy).Contents (Elt F)),
    binary main_v4 main_v5 main_v6 (addf : (⟨S65536x1, .f32⟩ : BufTy).Contents (Elt F) → (⟨S65536x1, .f32⟩ : BufTy).Contents (Elt F) → (⟨S65536x1, .f32⟩ : BufTy).Contents (Elt F)),
    unary main_v6 main_v7 (Host.rsqrt : (⟨S65536x1, .f32⟩ : BufTy).Contents (Elt F) → (⟨S65536x1, .f32⟩ : BufTy).Contents (Elt F)),
    unary main_v7 main_v8 (broadcastInDim S65536x1024 ![0, 1] bcast_S65536x1_S65536x1024_0_1 : (⟨S65536x1, .f32⟩ : BufTy).Contents (Elt F) → (⟨S65536x1024, .f32⟩ : BufTy).Contents (Elt F)),
    binary main_arg0 main_v8 main_v9 (mulf : (⟨S65536x1024, .f32⟩ : BufTy).Contents (Elt F) → (⟨S65536x1024, .f32⟩ : BufTy).Contents (Elt F) → (⟨S65536x1024, .f32⟩ : BufTy).Contents (Elt F)),
    unary main_arg1 main_v10 (broadcastInDim S1x1024 ![1] bcast_S1024_S1x1024_1 : (⟨S1024, .f32⟩ : BufTy).Contents (Elt F) → (⟨S1x1024, .f32⟩ : BufTy).Contents (Elt F)),
    unary main_v10 main_v11 (broadcastInDim S65536x1024 ![0, 1] bcast_S1x1024_S65536x1024_0_1 : (⟨S1x1024, .f32⟩ : BufTy).Contents (Elt F) → (⟨S65536x1024, .f32⟩ : BufTy).Contents (Elt F)),
    binary main_v9 main_v11 main_v12 (mulf : (⟨S65536x1024, .f32⟩ : BufTy).Contents (Elt F) → (⟨S65536x1024, .f32⟩ : BufTy).Contents (Elt F) → (⟨S65536x1024, .f32⟩ : BufTy).Contents (Elt F)),
    binary main_v12 main_arg2 main_v13 ((fun l r => Host.dotGeneral dot_S65536x1024_S1024x4_S65536x4_1_0_0_1_n_n none l r) : (⟨S65536x1024, .f32⟩ : BufTy).Contents (Elt F) → (⟨S1024x4, .f32⟩ : BufTy).Contents (Elt F) → (⟨S65536x4, .f32⟩ : BufTy).Contents (Elt F)),
    unary main_arg3 main_v14 (broadcastInDim S1x4 ![1] bcast_S4_S1x4_1 : (⟨S4, .f32⟩ : BufTy).Contents (Elt F) → (⟨S1x4, .f32⟩ : BufTy).Contents (Elt F)),
    unary main_v14 main_v15 (broadcastInDim S65536x4 ![0, 1] bcast_S1x4_S65536x4_0_1 : (⟨S1x4, .f32⟩ : BufTy).Contents (Elt F) → (⟨S65536x4, .f32⟩ : BufTy).Contents (Elt F)),
    binary main_v13 main_v15 main_v16 (addf : (⟨S65536x4, .f32⟩ : BufTy).Contents (Elt F) → (⟨S65536x4, .f32⟩ : BufTy).Contents (Elt F) → (⟨S65536x4, .f32⟩ : BufTy).Contents (Elt F)),
    nullary main_cst_2 (constant S_ .f32 0xFF800000#32),
    binary main_v16 main_cst_2 main_v17 ((fun x v => Host.reduce FloatOps.maximumf x v reducesTo_S65536x4_S65536_d1 h_S_) : (⟨S65536x4, .f32⟩ : BufTy).Contents (Elt F) → (⟨S_, .f32⟩ : BufTy).Contents (Elt F) → (⟨S65536, .f32⟩ : BufTy).Contents (Elt F)),
    nullary main_cst_3 (constant S_ .f32 0xFF800000#32),
    unary main_cst_3 main_v18 (broadcastInDim S65536 ![] bcast_S_S65536 : (⟨S_, .f32⟩ : BufTy).Contents (Elt F) → (⟨S65536, .f32⟩ : BufTy).Contents (Elt F)),
    binary main_v18 main_v17 main_v19 (maximumf : (⟨S65536, .f32⟩ : BufTy).Contents (Elt F) → (⟨S65536, .f32⟩ : BufTy).Contents (Elt F) → (⟨S65536, .f32⟩ : BufTy).Contents (Elt F)),
    unary main_v19 main_v20 (broadcastInDim S65536x1 ![0] bcast_S65536_S65536x1_0 : (⟨S65536, .f32⟩ : BufTy).Contents (Elt F) → (⟨S65536x1, .f32⟩ : BufTy).Contents (Elt F)),
    unary main_v20 main_v21 (broadcastInDim S65536x4 ![0, 1] bcast_S65536x1_S65536x4_0_1 : (⟨S65536x1, .f32⟩ : BufTy).Contents (Elt F) → (⟨S65536x4, .f32⟩ : BufTy).Contents (Elt F)),
    binary main_v16 main_v21 main_v22 (subf : (⟨S65536x4, .f32⟩ : BufTy).Contents (Elt F) → (⟨S65536x4, .f32⟩ : BufTy).Contents (Elt F) → (⟨S65536x4, .f32⟩ : BufTy).Contents (Elt F)),
    unary main_v22 main_v23 (Host.exp : (⟨S65536x4, .f32⟩ : BufTy).Contents (Elt F) → (⟨S65536x4, .f32⟩ : BufTy).Contents (Elt F)),
    nullary main_cst_4 (constant S_ .f32 0x00000000#32),
    binary main_v23 main_cst_4 main_v24 ((fun x v => Host.reduceAdd x v reducesTo_S65536x4_S65536_d1 h_S_) : (⟨S65536x4, .f32⟩ : BufTy).Contents (Elt F) → (⟨S_, .f32⟩ : BufTy).Contents (Elt F) → (⟨S65536, .f32⟩ : BufTy).Contents (Elt F)),
    unary main_v24 main_v25 (broadcastInDim S65536x1 ![0] bcast_S65536_S65536x1_0 : (⟨S65536, .f32⟩ : BufTy).Contents (Elt F) → (⟨S65536x1, .f32⟩ : BufTy).Contents (Elt F)),
    unary main_v25 main_v26 (broadcastInDim S65536x4 ![0, 1] bcast_S65536x1_S65536x4_0_1 : (⟨S65536x1, .f32⟩ : BufTy).Contents (Elt F) → (⟨S65536x4, .f32⟩ : BufTy).Contents (Elt F)),
    binary main_v23 main_v26 main_v27 (Host.divf : (⟨S65536x4, .f32⟩ : BufTy).Contents (Elt F) → (⟨S65536x4, .f32⟩ : BufTy).Contents (Elt F) → (⟨S65536x4, .f32⟩ : BufTy).Contents (Elt F)),
    TRef.nullary (TRef.of (T := ⟨S65536x4, .i32⟩) main_call0_v0) (iotaInDim S65536x4 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S65536x4, .f32⟩) main_v27) (TRef.of (T := ⟨S65536x4, .i32⟩) main_call0_v0) (TRef.of (T := ⟨S_, .f32⟩) main_call0_cst) (TRef.of (T := ⟨S_, .i32⟩) main_call0_c) (TRef.of (T := ⟨S65536, .f32⟩) main_call0_v1_0) (fun x y u v => amax1 x y u v),
    TRef.quaternary (TRef.of (T := ⟨S65536x4, .f32⟩) main_v27) (TRef.of (T := ⟨S65536x4, .i32⟩) main_call0_v0) (TRef.of (T := ⟨S_, .f32⟩) main_call0_cst) (TRef.of (T := ⟨S_, .i32⟩) main_call0_c) (TRef.of (T := ⟨S65536, .i32⟩) main_v28) (fun x y u v => amax2 x y u v),
    TRef.unary (TRef.of (T := ⟨S65536, .i32⟩) main_v28) (TRef.of (T := ⟨S65536x1, .i32⟩) main_call1_v0) (broadcastInDim S65536x1 ![0] bcast_S65536_S65536x1_0),
    TRef.nullary (TRef.of (T := ⟨S1x4, .i32⟩) main_call1_v1) (iotaInDim S1x4 32 1),
    TRef.unary (TRef.of (T := ⟨S65536x1, .i32⟩) main_call1_v0) (TRef.of (T := ⟨S65536x4, .i32⟩) main_call1_v2) (broadcastInDim S65536x4 ![0, 1] bcast_S65536x1_S65536x4_0_1),
    TRef.unary (TRef.of (T := ⟨S1x4, .i32⟩) main_call1_v1) (TRef.of (T := ⟨S65536x4, .i32⟩) main_call1_v3) (broadcastInDim S65536x4 ![0, 1] bcast_S1x4_S65536x4_0_1),
    TRef.binary (TRef.of (T := ⟨S65536x4, .i32⟩) main_call1_v2) (TRef.of (T := ⟨S65536x4, .i32⟩) main_call1_v3) (TRef.of (T := ⟨S65536x4, .i1⟩) main_call1_v4) (cmpi .eq),
    TRef.unary (TRef.of (T := ⟨S65536x4, .i1⟩) main_call1_v4) (TRef.of (T := ⟨S65536x4, .f32⟩) main_v29) (uitofp .f32),
    binary main_v27 main_v29 main_v30 (mulf : (⟨S65536x4, .f32⟩ : BufTy).Contents (Elt F) → (⟨S65536x4, .f32⟩ : BufTy).Contents (Elt F) → (⟨S65536x4, .f32⟩ : BufTy).Contents (Elt F)),
    nullary main_cst_5 (constant S_ .f32 0x00000000#32),
    binary main_v30 main_cst_5 main_v31 ((fun x v => Host.reduceAdd x v reducesTo_S65536x4_S65536_d1 h_S_) : (⟨S65536x4, .f32⟩ : BufTy).Contents (Elt F) → (⟨S_, .f32⟩ : BufTy).Contents (Elt F) → (⟨S65536, .f32⟩ : BufTy).Contents (Elt F)),
    unary main_v31 main_v32 (broadcastInDim S65536x1 ![0] bcast_S65536_S65536x1_0 : (⟨S65536, .f32⟩ : BufTy).Contents (Elt F) → (⟨S65536x1, .f32⟩ : BufTy).Contents (Elt F)),
    binary main_v12 main_arg4 main_v33 ((fun l r => Host.dotGeneral dot_S65536x1024_S1024x16_S65536x16_1_0_0_1_n_n none l r) : (⟨S65536x1024, .f32⟩ : BufTy).Contents (Elt F) → (⟨S1024x16, .f32⟩ : BufTy).Contents (Elt F) → (⟨S65536x16, .f32⟩ : BufTy).Contents (Elt F)),
    unary main_arg5 main_v34 (broadcastInDim S1x16 ![1] bcast_S16_S1x16_1 : (⟨S16, .f32⟩ : BufTy).Contents (Elt F) → (⟨S1x16, .f32⟩ : BufTy).Contents (Elt F)),
    unary main_v34 main_v35 (broadcastInDim S65536x16 ![0, 1] bcast_S1x16_S65536x16_0_1 : (⟨S1x16, .f32⟩ : BufTy).Contents (Elt F) → (⟨S65536x16, .f32⟩ : BufTy).Contents (Elt F)),
    binary main_v33 main_v35 main_v36 (addf : (⟨S65536x16, .f32⟩ : BufTy).Contents (Elt F) → (⟨S65536x16, .f32⟩ : BufTy).Contents (Elt F) → (⟨S65536x16, .f32⟩ : BufTy).Contents (Elt F)),
    reshape main_v36 main_v37 (rfl : (.f32 : EltTy) = .f32) shapeCasts_S65536x16_S65536x4x4,
    unary main_v29 main_v38 (broadcastInDim S65536x4x1 ![0, 1] bcast_S65536x4_S65536x4x1_0_1 : (⟨S65536x4, .f32⟩ : BufTy).Contents (Elt F) → (⟨S65536x4x1, .f32⟩ : BufTy).Contents (Elt F)),
    unary main_v38 main_v39 (broadcastInDim S65536x4x4 ![0, 1, 2] bcast_S65536x4x1_S65536x4x4_0_1_2 : (⟨S65536x4x1, .f32⟩ : BufTy).Contents (Elt F) → (⟨S65536x4x4, .f32⟩ : BufTy).Contents (Elt F)),
    binary main_v37 main_v39 main_v40 (mulf : (⟨S65536x4x4, .f32⟩ : BufTy).Contents (Elt F) → (⟨S65536x4x4, .f32⟩ : BufTy).Contents (Elt F) → (⟨S65536x4x4, .f32⟩ : BufTy).Contents (Elt F)),
    nullary main_cst_6 (constant S_ .f32 0x00000000#32),
    binary main_v40 main_cst_6 main_v41 ((fun x v => Host.reduceAdd x v reducesTo_S65536x4x4_S65536x4_d1 h_S_) : (⟨S65536x4x4, .f32⟩ : BufTy).Contents (Elt F) → (⟨S_, .f32⟩ : BufTy).Contents (Elt F) → (⟨S65536x4, .f32⟩ : BufTy).Contents (Elt F)),
    nullary main_cst_7 (constant S_ .f32 0xFF800000#32),
    binary main_v41 main_cst_7 main_v42 ((fun x v => Host.reduce FloatOps.maximumf x v reducesTo_S65536x4_S65536_d1 h_S_) : (⟨S65536x4, .f32⟩ : BufTy).Contents (Elt F) → (⟨S_, .f32⟩ : BufTy).Contents (Elt F) → (⟨S65536, .f32⟩ : BufTy).Contents (Elt F)),
    nullary main_cst_8 (constant S_ .f32 0xFF800000#32),
    unary main_cst_8 main_v43 (broadcastInDim S65536 ![] bcast_S_S65536 : (⟨S_, .f32⟩ : BufTy).Contents (Elt F) → (⟨S65536, .f32⟩ : BufTy).Contents (Elt F)),
    binary main_v43 main_v42 main_v44 (maximumf : (⟨S65536, .f32⟩ : BufTy).Contents (Elt F) → (⟨S65536, .f32⟩ : BufTy).Contents (Elt F) → (⟨S65536, .f32⟩ : BufTy).Contents (Elt F)),
    unary main_v44 main_v45 (broadcastInDim S65536x1 ![0] bcast_S65536_S65536x1_0 : (⟨S65536, .f32⟩ : BufTy).Contents (Elt F) → (⟨S65536x1, .f32⟩ : BufTy).Contents (Elt F)),
    unary main_v45 main_v46 (broadcastInDim S65536x4 ![0, 1] bcast_S65536x1_S65536x4_0_1 : (⟨S65536x1, .f32⟩ : BufTy).Contents (Elt F) → (⟨S65536x4, .f32⟩ : BufTy).Contents (Elt F)),
    binary main_v41 main_v46 main_v47 (subf : (⟨S65536x4, .f32⟩ : BufTy).Contents (Elt F) → (⟨S65536x4, .f32⟩ : BufTy).Contents (Elt F) → (⟨S65536x4, .f32⟩ : BufTy).Contents (Elt F)),
    unary main_v47 main_v48 (Host.exp : (⟨S65536x4, .f32⟩ : BufTy).Contents (Elt F) → (⟨S65536x4, .f32⟩ : BufTy).Contents (Elt F)),
    nullary main_cst_9 (constant S_ .f32 0x00000000#32),
    binary main_v48 main_cst_9 main_v49 ((fun x v => Host.reduceAdd x v reducesTo_S65536x4_S65536_d1 h_S_) : (⟨S65536x4, .f32⟩ : BufTy).Contents (Elt F) → (⟨S_, .f32⟩ : BufTy).Contents (Elt F) → (⟨S65536, .f32⟩ : BufTy).Contents (Elt F)),
    unary main_v49 main_v50 (broadcastInDim S65536x1 ![0] bcast_S65536_S65536x1_0 : (⟨S65536, .f32⟩ : BufTy).Contents (Elt F) → (⟨S65536x1, .f32⟩ : BufTy).Contents (Elt F)),
    unary main_v50 main_v51 (broadcastInDim S65536x4 ![0, 1] bcast_S65536x1_S65536x4_0_1 : (⟨S65536x1, .f32⟩ : BufTy).Contents (Elt F) → (⟨S65536x4, .f32⟩ : BufTy).Contents (Elt F)),
    binary main_v48 main_v51 main_v52 (Host.divf : (⟨S65536x4, .f32⟩ : BufTy).Contents (Elt F) → (⟨S65536x4, .f32⟩ : BufTy).Contents (Elt F) → (⟨S65536x4, .f32⟩ : BufTy).Contents (Elt F)),
    unary main_v52 main_values ((fun x => (Host.topK S65536x2 1 (FloatOps.cmpfTotal .gt) x sliceFits_S65536x4_S65536x2).1) : (⟨S65536x4, .f32⟩ : BufTy).Contents (Elt F) → (⟨S65536x2, .f32⟩ : BufTy).Contents (Elt F)),
    unary main_v52 main_indices ((fun x => (Host.topK S65536x2 1 (FloatOps.cmpfTotal .gt) x sliceFits_S65536x4_S65536x2).2) : (⟨S65536x4, .f32⟩ : BufTy).Contents (Elt F) → (⟨S65536x2, .i32⟩ : BufTy).Contents (Elt F)),
    nullary main_cst_10 (constant S_ .f32 0x00000000#32),
    binary main_values main_cst_10 main_v53 ((fun x v => Host.reduceAdd x v reducesTo_S65536x2_S65536_d1 h_S_) : (⟨S65536x2, .f32⟩ : BufTy).Contents (Elt F) → (⟨S_, .f32⟩ : BufTy).Contents (Elt F) → (⟨S65536, .f32⟩ : BufTy).Contents (Elt F)),
    unary main_v53 main_v54 (broadcastInDim S65536x1 ![0] bcast_S65536_S65536x1_0 : (⟨S65536, .f32⟩ : BufTy).Contents (Elt F) → (⟨S65536x1, .f32⟩ : BufTy).Contents (Elt F)),
    unary main_v54 main_v55 (broadcastInDim S65536x2 ![0, 1] bcast_S65536x1_S65536x2_0_1 : (⟨S65536x1, .f32⟩ : BufTy).Contents (Elt F) → (⟨S65536x2, .f32⟩ : BufTy).Contents (Elt F)),
    binary main_values main_v55 main_v56 (Host.divf : (⟨S65536x2, .f32⟩ : BufTy).Contents (Elt F) → (⟨S65536x2, .f32⟩ : BufTy).Contents (Elt F) → (⟨S65536x2, .f32⟩ : BufTy).Contents (Elt F)),
    TRef.unary (TRef.of (T := ⟨S65536x2, .i32⟩) main_indices) (TRef.of (T := ⟨S65536x2x1, .i32⟩) main_call2_v0) (broadcastInDim S65536x2x1 ![0, 1] bcast_S65536x2_S65536x2x1_0_1),
    TRef.nullary (TRef.of (T := ⟨S1x1x4, .i32⟩) main_call2_v1) (iotaInDim S1x1x4 32 2),
    TRef.unary (TRef.of (T := ⟨S65536x2x1, .i32⟩) main_call2_v0) (TRef.of (T := ⟨S65536x2x4, .i32⟩) main_call2_v2) (broadcastInDim S65536x2x4 ![0, 1, 2] bcast_S65536x2x1_S65536x2x4_0_1_2),
    TRef.unary (TRef.of (T := ⟨S1x1x4, .i32⟩) main_call2_v1) (TRef.of (T := ⟨S65536x2x4, .i32⟩) main_call2_v3) (broadcastInDim S65536x2x4 ![0, 1, 2] bcast_S1x1x4_S65536x2x4_0_1_2),
    TRef.binary (TRef.of (T := ⟨S65536x2x4, .i32⟩) main_call2_v2) (TRef.of (T := ⟨S65536x2x4, .i32⟩) main_call2_v3) (TRef.of (T := ⟨S65536x2x4, .i1⟩) main_call2_v4) (cmpi .eq),
    TRef.unary (TRef.of (T := ⟨S65536x2x4, .i1⟩) main_call2_v4) (TRef.of (T := ⟨S65536x2x4, .f32⟩) main_v57) (uitofp .f32),
    unary main_v56 main_v58 (broadcastInDim S65536x2x1 ![0, 1] bcast_S65536x2_S65536x2x1_0_1 : (⟨S65536x2, .f32⟩ : BufTy).Contents (Elt F) → (⟨S65536x2x1, .f32⟩ : BufTy).Contents (Elt F)),
    unary main_v58 main_v59 (broadcastInDim S65536x2x4 ![0, 1, 2] bcast_S65536x2x1_S65536x2x4_0_1_2 : (⟨S65536x2x1, .f32⟩ : BufTy).Contents (Elt F) → (⟨S65536x2x4, .f32⟩ : BufTy).Contents (Elt F)),
    binary main_v57 main_v59 main_v60 (mulf : (⟨S65536x2x4, .f32⟩ : BufTy).Contents (Elt F) → (⟨S65536x2x4, .f32⟩ : BufTy).Contents (Elt F) → (⟨S65536x2x4, .f32⟩ : BufTy).Contents (Elt F)),
    nullary main_cst_11 (constant S_ .f32 0x00000000#32),
    binary main_v60 main_cst_11 main_v61 ((fun x v => Host.reduceAdd x v reducesTo_S65536x2x4_S65536x4_d1 h_S_) : (⟨S65536x2x4, .f32⟩ : BufTy).Contents (Elt F) → (⟨S_, .f32⟩ : BufTy).Contents (Elt F) → (⟨S65536x4, .f32⟩ : BufTy).Contents (Elt F)),
    unary main_v29 main_v62 (broadcastInDim S65536x4x1 ![0, 1] bcast_S65536x4_S65536x4x1_0_1 : (⟨S65536x4, .f32⟩ : BufTy).Contents (Elt F) → (⟨S65536x4x1, .f32⟩ : BufTy).Contents (Elt F)),
    unary main_v32 main_v63 (broadcastInDim S65536x4 ![0, 1] bcast_S65536x1_S65536x4_0_1 : (⟨S65536x1, .f32⟩ : BufTy).Contents (Elt F) → (⟨S65536x4, .f32⟩ : BufTy).Contents (Elt F)),
    binary main_v63 main_v61 main_v64 (mulf : (⟨S65536x4, .f32⟩ : BufTy).Contents (Elt F) → (⟨S65536x4, .f32⟩ : BufTy).Contents (Elt F) → (⟨S65536x4, .f32⟩ : BufTy).Contents (Elt F)),
    unary main_v64 main_v65 (broadcastInDim S65536x1x4 ![0, 2] bcast_S65536x4_S65536x1x4_0_2 : (⟨S65536x4, .f32⟩ : BufTy).Contents (Elt F) → (⟨S65536x1x4, .f32⟩ : BufTy).Contents (Elt F)),
    unary main_v62 main_v66 (broadcastInDim S65536x4x4 ![0, 1, 2] bcast_S65536x4x1_S65536x4x4_0_1_2 : (⟨S65536x4x1, .f32⟩ : BufTy).Contents (Elt F) → (⟨S65536x4x4, .f32⟩ : BufTy).Contents (Elt F)),
    unary main_v65 main_v67 (broadcastInDim S65536x4x4 ![0, 1, 2] bcast_S65536x1x4_S65536x4x4_0_1_2 : (⟨S65536x1x4, .f32⟩ : BufTy).Contents (Elt F) → (⟨S65536x4x4, .f32⟩ : BufTy).Contents (Elt F)),
    binary main_v66 main_v67 main_v68 (mulf : (⟨S65536x4x4, .f32⟩ : BufTy).Contents (Elt F) → (⟨S65536x4x4, .f32⟩ : BufTy).Contents (Elt F) → (⟨S65536x4x4, .f32⟩ : BufTy).Contents (Elt F)),
    reshape main_v68 main_v69 (rfl : (.f32 : EltTy) = .f32) shapeCasts_S65536x4x4_S65536x16,
    binary main_v12 main_arg6 main_v70 ((fun l r => Host.dotGeneral dot_S65536x1024_S16x1024x512_S65536x16x512_1_1_0_02_n_n none l r) : (⟨S65536x1024, .f32⟩ : BufTy).Contents (Elt F) → (⟨S16x1024x512, .f32⟩ : BufTy).Contents (Elt F) → (⟨S65536x16x512, .f32⟩ : BufTy).Contents (Elt F)),
    TRef.unary (TRef.of (T := ⟨S65536x16x512, .f32⟩) main_v70) (TRef.of (T := ⟨S65536x16x512, .f32⟩) main_call3_v0) Host.negf,
    TRef.unary (TRef.of (T := ⟨S65536x16x512, .f32⟩) main_call3_v0) (TRef.of (T := ⟨S65536x16x512, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S65536x16x512, .f32⟩) main_call3_v2) (broadcastInDim S65536x16x512 ![] bcast_S_S65536x16x512),
    TRef.binary (TRef.of (T := ⟨S65536x16x512, .f32⟩) main_call3_v2) (TRef.of (T := ⟨S65536x16x512, .f32⟩) main_call3_v1) (TRef.of (T := ⟨S65536x16x512, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S65536x16x512, .f32⟩) main_call3_v4) (broadcastInDim S65536x16x512 ![] bcast_S_S65536x16x512),
    TRef.binary (TRef.of (T := ⟨S65536x16x512, .f32⟩) main_call3_v4) (TRef.of (T := ⟨S65536x16x512, .f32⟩) main_call3_v3) (TRef.of (T := ⟨S65536x16x512, .f32⟩) main_call3_v5) Host.divf,
    TRef.binary (TRef.of (T := ⟨S65536x16x512, .f32⟩) main_v70) (TRef.of (T := ⟨S65536x16x512, .f32⟩) main_call3_v5) (TRef.of (T := ⟨S65536x16x512, .f32⟩) main_v71) mulf,
    binary main_v12 main_arg7 main_v72 ((fun l r => Host.dotGeneral dot_S65536x1024_S16x1024x512_S65536x16x512_1_1_0_02_n_n none l r) : (⟨S65536x1024, .f32⟩ : BufTy).Contents (Elt F) → (⟨S16x1024x512, .f32⟩ : BufTy).Contents (Elt F) → (⟨S65536x16x512, .f32⟩ : BufTy).Contents (Elt F)),
    binary main_v71 main_v72 main_v73 (mulf : (⟨S65536x16x512, .f32⟩ : BufTy).Contents (Elt F) → (⟨S65536x16x512, .f32⟩ : BufTy).Contents (Elt F) → (⟨S65536x16x512, .f32⟩ : BufTy).Contents (Elt F)),
    binary main_arg8 main_v73 main_v74 ((fun l r => Host.dotGeneral dot_S16x512x1024_S65536x16x512_S16x1024x65536_1_2_2_0_0_1 none l r) : (⟨S16x512x1024, .f32⟩ : BufTy).Contents (Elt F) → (⟨S65536x16x512, .f32⟩ : BufTy).Contents (Elt F) → (⟨S16x1024x65536, .f32⟩ : BufTy).Contents (Elt F)),
    unary main_v74 main_v75 ((transpose S65536x16x1024 [2, 0, 1] · transposes_S16x1024x65536_S65536x16x1024_2_0_1) : (⟨S16x1024x65536, .f32⟩ : BufTy).Contents (Elt F) → (⟨S65536x16x1024, .f32⟩ : BufTy).Contents (Elt F)),
    unary main_v69 main_v76 (broadcastInDim S65536x16x1 ![0, 1] bcast_S65536x16_S65536x16x1_0_1 : (⟨S65536x16, .f32⟩ : BufTy).Contents (Elt F) → (⟨S65536x16x1, .f32⟩ : BufTy).Contents (Elt F)),
    unary main_v76 main_v77 (broadcastInDim S65536x16x1024 ![0, 1, 2] bcast_S65536x16x1_S65536x16x1024_0_1_2 : (⟨S65536x16x1, .f32⟩ : BufTy).Contents (Elt F) → (⟨S65536x16x1024, .f32⟩ : BufTy).Contents (Elt F)),
    binary main_v77 main_v75 main_v78 (mulf : (⟨S65536x16x1024, .f32⟩ : BufTy).Contents (Elt F) → (⟨S65536x16x1024, .f32⟩ : BufTy).Contents (Elt F) → (⟨S65536x16x1024, .f32⟩ : BufTy).Contents (Elt F)),
    nullary main_cst_12 (constant S_ .f32 0x00000000#32),
    binary main_v78 main_cst_12 main_v79 ((fun x v => Host.reduceAdd x v reducesTo_S65536x16x1024_S65536x1024_d1 h_S_) : (⟨S65536x16x1024, .f32⟩ : BufTy).Contents (Elt F) → (⟨S_, .f32⟩ : BufTy).Contents (Elt F) → (⟨S65536x1024, .f32⟩ : BufTy).Contents (Elt F)),
    binary main_arg0 main_v79 main_v80 (addf : (⟨S65536x1024, .f32⟩ : BufTy).Contents (Elt F) → (⟨S65536x1024, .f32⟩ : BufTy).Contents (Elt F) → (⟨S65536x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., nullary_bufs_sub .., binary_bufs_sub .., unary_bufs_sub .., binary_bufs_sub .., unary_bufs_sub .., unary_bufs_sub .., binary_bufs_sub .., reshape_bufs_sub .., unary_bufs_sub .., unary_bufs_sub .., binary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., nullary_bufs_sub .., binary_bufs_sub .., unary_bufs_sub .., unary_bufs_sub .., binary_bufs_sub .., unary_bufs_sub .., nullary_bufs_sub .., unary_bufs_sub .., unary_bufs_sub .., binary_bufs_sub .., unary_bufs_sub .., unary_bufs_sub .., unary_bufs_sub .., binary_bufs_sub .., nullary_bufs_sub .., binary_bufs_sub .., unary_bufs_sub .., unary_bufs_sub .., binary_bufs_sub .., unary_bufs_sub .., unary_bufs_sub .., unary_bufs_sub .., binary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., unary_bufs_sub .., unary_bufs_sub .., unary_bufs_sub .., binary_bufs_sub .., nullary_bufs_sub .., binary_bufs_sub .., binary_bufs_sub ..⟩

set_option maxRecDepth 8192 in
/-- `main_v80`'s composed term of the arguments (named: it is long). -/
def res_main_v80 (m : (ℓ : Loc nD τ sig) → Buf (Elt F) ℓ) (c : Dev nD) : Buf (Elt F) ((c.tc : Thread nD τ).loc main_v80) :=
  addf (m ((c.tc : Thread nD τ).loc main_arg0)) (Host.reduceAdd (mulf (broadcastInDim S65536x16x1024 ![0, 1, 2] bcast_S65536x16x1_S65536x16x1024_0_1_2 (broadcastInDim S65536x16x1 ![0, 1] bcast_S65536x16_S65536x16x1_0_1 (shapeCast _ (mulf (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1)))))) (broadcastInDim S65536x4x4 ![0, 1, 2] bcast_S65536x1x4_S65536x4x4_0_1_2 (broadcastInDim S65536x1x4 ![0, 2] bcast_S65536x4_S65536x1x4_0_2 (mulf (broadcastInDim S65536x4 ![0, 1] bcast_S65536x1_S65536x4_0_1 (broadcastInDim S65536x1 ![0] bcast_S65536_S65536x1_0 (Host.reduceAdd (mulf (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))) (constant S_ .f32 0x00000000#32) reducesTo_S65536x4_S65536_d1 h_S_))) (Host.reduceAdd (mulf (uitofp .f32 (cmpi .eq (broadcastInDim S65536x2x4 ![0, 1, 2] bcast_S65536x2x1_S65536x2x4_0_1_2 (broadcastInDim S65536x2x1 ![0, 1] bcast_S65536x2_S65536x2x1_0_1 ((Host.topK S65536x2 1 (FloatOps.cmpfTotal .gt) (Host.divf (Host.exp (subf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (constant S_ .f32 0xFF800000#32) reducesTo_S65536x4_S65536_d1 h_S_)))))) (constant S_ .f32 0x00000000#32) reducesTo_S65536x4_S65536_d1 h_S_)))) sliceFits_S65536x4_S65536x2).2))) (broadcastInDim S65536x2x4 ![0, 1, 2] bcast_S1x1x4_S65536x2x4_0_1_2 (iotaInDim S1x1x4 32 2)))) (broadcastInDim S65536x2x4 ![0, 1, 2] bcast_S65536x2x1_S65536x2x4_0_1_2 (broadcastInDim S65536x2x1 ![0, 1] bcast_S65536x2_S65536x2x1_0_1 (Host.divf ((Host.topK S65536x2 1 (FloatOps.cmpfTotal .gt) (Host.divf (Host.exp (subf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (constant S_ .f32 0xFF800000#32) reducesTo_S65536x4_S65536_d1 h_S_)))))) (constant S_ .f32 0x00000000#32) reducesTo_S65536x4_S65536_d1 h_S_)))) sliceFits_S65536x4_S65536x2).1) (broadcastInDim S65536x2 ![0, 1] bcast_S65536x1_S65536x2_0_1 (broadcastInDim S65536x1 ![0] bcast_S65536_S65536x1_0 (Host.reduceAdd ((Host.topK S65536x2 1 (FloatOps.cmpfTotal .gt) (Host.divf (Host.exp (subf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (Host.reduceAdd (mulf (shapeCast _ (addf (Host.dotGeneral dot_S65536x1024_S1024x16_S65536x16_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg4))) (broadcastInDim S65536x16 ![0, 1] bcast_S1x16_S65536x16_0_1 (broadcastInDim S1x16 ![1] bcast_S16_S1x16_1 (m ((c.tc : Thread nD τ).loc main_arg5))))) shapeCasts_S65536x16_S65536x4x4) (broadcastInDim S65536x4x4 ![0, 1, 2] bcast_S65536x4x1_S65536x4x4_0_1_2 (broadcastInDim S65536x4x1 ![0, 1] bcast_S65536x4_S65536x4x1_0_1 (uitofp .f32 (cmpi .eq (broadcastInDim S65536x4 ![0, 1] bcast_S65536x1_S65536x4_0_1 (broadcastInDim S65536x1 ![0] bcast_S65536_S65536x1_0 (amax2 (Host.divf (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (broadcastInDim S65536x4 ![0, 1] bcast_S65536x1_S65536x4_0_1 (broadcastInDim S65536x1 ![0] bcast_S65536_S65536x1_0 (Host.reduceAdd (Host.exp (subf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (broadcastInDim S65536x4 ![0, 1] bcast_S65536x1_S65536x4_0_1 (broadcastInDim S65536x1 ![0] bcast_S65536_S65536x1_0 (maximumf (broadcastInDim S65536 ![] bcast_S_S65536 (constant S_ .f32 0xFF800000#32)) (Host.reduce FloatOps.maximumf (addf (Host.dotGeneral dot_S65536x1024_S1024x4_S65536x4_1_0_0_1_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg2))) (broadcastInDim S65536x4 ![0, 1] bcast_S1x4_S65536x4_0_1 (broadcastInDim S1x4 ![1] bcast_S4_S1x4_1 (m ((c.tc : Thread nD τ).loc main_arg3))))) (constant S_ .f32 0xFF800000#32) reducesTo_S65536x4_S65536_d1 h_S_)))))) (constant S_ .f32 0x00000000#32) reducesTo_S65536x4_S65536_d1 h_S_)))) (iotaInDim S65536x4 32 1) (constant S_ .f32 0xFF800000#32) (constantI S_ 32 0#32)))) (broadcastInDim S65536x4 ![0, 1] bcast_S1x4_S65536x4_0_1 (iotaInDim S1x4 32 1))))))) (constant S_ .f32 0x00000000#32) reducesTo_S65536x4x4_S65536x4_d1 h_S_) (constant S_ .f32 0xFF800000#32) reducesTo_S65536x4_S65536_d1 h_S_)))))) (constant S_ .f32 0x00000000#32) reducesTo_S65536x4_S65536_d1 h_S_)))) sliceFits_S65536x4_S65536x2).1) (constant S_ .f32 0x00000000#32) reducesTo_S65536x2_S65536_d1 h_S_))))))) (constant S_ .f32 0x00000000#32) reducesTo_S65536x2x4_S65536x4_d1 h_S_))))) shapeCasts_S65536x4x4_S65536x16))) (transpose S65536x16x1024 [2, 0, 1] (Host.dotGeneral dot_S16x512x1024_S65536x16x512_S16x1024x65536_1_2_2_0_0_1 none (m ((c.tc : Thread nD τ).loc main_arg8)) (mulf (mulf (Host.dotGeneral dot_S65536x1024_S16x1024x512_S65536x16x512_1_1_0_02_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg6))) (Host.divf (broadcastInDim S65536x16x512 ![] bcast_S_S65536x16x512 (constant S_ .f32 0x3F800000#32)) (addf (broadcastInDim S65536x16x512 ![] bcast_S_S65536x16x512 (constant S_ .f32 0x3F800000#32)) (Host.exp (Host.negf (Host.dotGeneral dot_S65536x1024_S16x1024x512_S65536x16x512_1_1_0_02_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg6)))))))) (Host.dotGeneral dot_S65536x1024_S16x1024x512_S65536x16x512_1_1_0_02_n_n none (mulf (mulf (m ((c.tc : Thread nD τ).loc main_arg0)) (broadcastInDim S65536x1024 ![0, 1] bcast_S65536x1_S65536x1024_0_1 (Host.rsqrt (addf (Host.divf (broadcastInDim S65536x1 ![0] bcast_S65536_S65536x1_0 (Host.reduceAdd (mulf (m ((c.tc : Thread nD τ).loc main_arg0)) (m ((c.tc : Thread nD τ).loc main_arg0))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 (m ((c.tc : Thread nD τ).loc main_arg1))))) (m ((c.tc : Thread nD τ).loc main_arg7))))) transposes_S16x1024x65536_S65536x16x1024_2_0_1)) (constant S_ .f32 0x00000000#32) reducesTo_S65536x16x1024_S65536x1024_d1 h_S_)

/-- `res_main_v80` by its position among the values @main returns, 0 counting from 0: the name for hand proofs to cite, since
    a re-print renumbers `main_v80`. An abbreviation: it unfolds to the `res_main_v80` that `run` states. -/
abbrev res_out0 (m : (ℓ : Loc nD τ sig) → Buf (Elt F) ℓ) (c : Dev nD) : Buf (Elt F) ((c.tc : Thread nD τ).loc main_v80) := res_main_v80 m c

set_option maxRecDepth 8192 in
set_option maxHeartbeats 47600000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = res_main_v80 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v80).trans (by simp only [ops, TRef.binary, TRef.nullary, TRef.quaternary, TRef.unary, TRef.toBuf, TRef.ofBuf, cast_eq]; after_results_simp <;> rfl <;> (unfold res_main_v80; rfl)),
      (h c main_arg0).trans (by simp only [ops, TRef.binary, TRef.nullary, TRef.quaternary, TRef.unary, TRef.toBuf, TRef.ofBuf, cast_eq]; after_results_simp <;> rfl),
      (h c main_arg1).trans (by simp only [ops, TRef.binary, TRef.nullary, TRef.quaternary, TRef.unary, TRef.toBuf, TRef.ofBuf, cast_eq]; after_results_simp <;> rfl),
      (h c main_arg2).trans (by simp only [ops, TRef.binary, TRef.nullary, TRef.quaternary, TRef.unary, TRef.toBuf, TRef.ofBuf, cast_eq]; after_results_simp <;> rfl),
      (h c main_arg3).trans (by simp only [ops, TRef.binary, TRef.nullary, TRef.quaternary, TRef.unary, TRef.toBuf, TRef.ofBuf, cast_eq]; after_results_simp <;> rfl),
      (h c main_arg4).trans (by simp only [ops, TRef.binary, TRef.nullary, TRef.quaternary, TRef.unary, TRef.toBuf, TRef.ofBuf, cast_eq]; after_results_simp <;> rfl),
      (h c main_arg5).trans (by simp only [ops, TRef.binary, TRef.nullary, TRef.quaternary, TRef.unary, TRef.toBuf, TRef.ofBuf, cast_eq]; after_results_simp <;> rfl),
      (h c main_arg6).trans (by simp only [ops, TRef.binary, TRef.nullary, TRef.quaternary, TRef.unary, TRef.toBuf, TRef.ofBuf, cast_eq]; after_results_simp <;> rfl),
      (h c main_arg7).trans (by simp only [ops, TRef.binary, TRef.nullary, TRef.quaternary, TRef.unary, TRef.toBuf, TRef.ofBuf, cast_eq]; after_results_simp <;> rfl),
      (h c main_arg8).trans (by simp only [ops, TRef.binary, TRef.nullary, TRef.quaternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Value

end
-- ==== Proof.KBlock.lean ====
/-
  What one grid point of the mixture-of-experts kernel leaves in its buffers, as terms over the blocks it reads.

  A point that opens a row block (expert 0) writes the normalised rows and the gates into the two carried buffers
  and starts the output block at the residual rows plus expert 0's term; every other point adds its expert's term.
-/
module

public import proofs.«01_k».proof.Proof.Gen.KernelIdeal.Frame
public import proofs.«01_k».proof.Proof.Gen.KernelIdeal.Value
public import Idealize.ShloMosaic.Lib.Pipeline.Value
public import Idealize.ShloMosaic.Lib.Tactic

@[expose] public section

noncomputable section

namespace Cert.KernelIdeal.Blocks

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- The lane numbers of a row block's gate buffer. -/
abbrev lanes : IVec S512x128 32 := iota .tc S512x128 32 [1] iota_S512x128_d1_w32

/-- The gate buffer a row block's first point writes: over the logits, the top group's weight times the two kept
    experts' shares. -/
def gateBlk (x0 : Vec F S512x1024 .f32) (x1 : Vec F S1x1024 .f32) (x2 : Vec F S1024x128 .bf16) (x3 : Vec F S1x128 .f32) :
    FVec F S512x128 .f32 :=
  k0_pay12 lanes (k0_pay9 (k0_pay5 x0 x1 x2 x3) (k0_pay8 x0 x1 x2 x3)) (k0_pay10 lanes (k0_pay7 x0 x1 x2 x3))
    (k0_pay11 (k0_pay4 x0 x1 x2 x3) lanes (k0_pay7 x0 x1 x2 x3))

/-- A later point adds its expert's gated output to the block. -/
theorem out_B (c : Dev nD) (i : grid0.Coords) (a2 : Memref sig .tc .vmem S512x1024 .f32) (h2 : a2.IsWhole) (a3 : Memref sig .tc .vmem S1x1024 .f32) (h3 : a3.IsWhole) (a4 : Memref sig .tc .vmem S1024x128 .bf16) (h4 : a4.IsWhole) (a5 : Memref sig .tc .vmem S1x128 .f32) (h5 : a5.IsWhole) (a6 : Memref sig .tc .vmem S1x1024x512 .bf16) (h6 : a6.IsWhole) (a7 : Memref sig .tc .vmem S1x1024x512 .bf16) (h7 : a7.IsWhole) (a8 : Memref sig .tc .vmem S1x512x1024 .bf16) (h8 : a8.IsWhole) (a9 : Memref sig .tc .vmem S512x1024 .f32) (h9 : a9.IsWhole) (a10 : Memref sig .tc .vmem S512x1024 .bf16) (h10 : a10.IsWhole) (a11 : Memref sig .tc .vmem S512x128 .f32) (h11 : a11.IsWhole)
    (hc : ¬cond0_0 i) (x0 : Vec F S512x1024 .f32) (x1 : Vec F S1x1024 .f32) (x2 : Vec F S1024x128 .bf16) (x3 : Vec F S1x128 .f32)
    (x4 : Vec F S1x1024x512 .bf16) (x5 : Vec F S1x1024x512 .bf16) (x6 : Vec F S1x512x1024 .bf16)
    (xo : Vec F S512x1024 .f32) (xs0 : Vec F S512x1024 .bf16) (xs1 : Vec F S512x128 .f32) :
    out0_B_7 c i a2 h2 a3 h3 a4 h4 a5 h5 a6 h6 a7 h7 a8 h8 a9 h9 a10 h10 a11 h11 hc x0 x1 x2 x3 x4 x5 x6 xo xs0 xs1
      = k0_pay1 (k0_pay13 xs0 x4 x5 x6) (k0_pay14 i xs1) xo := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 x6 xo xs0 xs1)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread,
    View.ld_unit_zero (S := S512x1024) hz2, View.ld_unit_zero (S := S1x1024) hz2, View.ld_unit_zero (S := S1024x128) hz2, View.ld_unit_zero (S := S1x128) hz2,
    View.ld_unit_zero (S := S1x1024x512) hz3, View.ld_unit_zero (S := S1x512x1024) hz3, View.ld_unit_zero (S := S512x128) hz2]

/-- The first point of a row block stores the normalised rows, rounded. -/
theorem sout_A_0 (c : Dev nD) (i : grid0.Coords) (a2 : Memref sig .tc .vmem S512x1024 .f32) (h2 : a2.IsWhole) (a3 : Memref sig .tc .vmem S1x1024 .f32) (h3 : a3.IsWhole) (a4 : Memref sig .tc .vmem S1024x128 .bf16) (h4 : a4.IsWhole) (a5 : Memref sig .tc .vmem S1x128 .f32) (h5 : a5.IsWhole) (a6 : Memref sig .tc .vmem S1x1024x512 .bf16) (h6 : a6.IsWhole) (a7 : Memref sig .tc .vmem S1x1024x512 .bf16) (h7 : a7.IsWhole) (a8 : Memref sig .tc .vmem S1x512x1024 .bf16) (h8 : a8.IsWhole) (a9 : Memref sig .tc .vmem S512x1024 .f32) (h9 : a9.IsWhole) (a10 : Memref sig .tc .vmem S512x1024 .bf16) (h10 : a10.IsWhole) (a11 : Memref sig .tc .vmem S512x128 .f32) (h11 : a11.IsWhole)
    (hc : cond0_0 i) (x0 : Vec F S512x1024 .f32) (x1 : Vec F S1x1024 .f32) (x2 : Vec F S1024x128 .bf16) (x3 : Vec F S1x128 .f32)
    (x4 : Vec F S1x1024x512 .bf16) (x5 : Vec F S1x1024x512 .bf16) (x6 : Vec F S1x512x1024 .bf16) :
    sout0_A_0 c i a2 h2 a3 h3 a4 h4 a5 h5 a6 h6 a7 h7 a8 h8 a9 h9 a10 h10 a11 h11 hc x0 x1 x2 x3 x4 x5 x6 = k0_pay3 x0 x1 := by
  unfold sout0_A_0
  rw [View.read_writes_eq_canon _ _ _ (scover0_A_0 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread,
    View.ld_unit_zero (S := S512x1024) hz2, View.ld_unit_zero (S := S1x1024) hz2, View.ld_unit_zero (S := S1024x128) hz2, View.ld_unit_zero (S := S1x128) hz2,
    View.ld_unit_zero (S := S1x1024x512) hz3, View.ld_unit_zero (S := S1x512x1024) hz3, View.ld_unit_zero (S := S512x128) hz2]

/-- The first point of a row block stores the gates. -/
theorem sout_A_1 (c : Dev nD) (i : grid0.Coords) (a2 : Memref sig .tc .vmem S512x1024 .f32) (h2 : a2.IsWhole) (a3 : Memref sig .tc .vmem S1x1024 .f32) (h3 : a3.IsWhole) (a4 : Memref sig .tc .vmem S1024x128 .bf16) (h4 : a4.IsWhole) (a5 : Memref sig .tc .vmem S1x128 .f32) (h5 : a5.IsWhole) (a6 : Memref sig .tc .vmem S1x1024x512 .bf16) (h6 : a6.IsWhole) (a7 : Memref sig .tc .vmem S1x1024x512 .bf16) (h7 : a7.IsWhole) (a8 : Memref sig .tc .vmem S1x512x1024 .bf16) (h8 : a8.IsWhole) (a9 : Memref sig .tc .vmem S512x1024 .f32) (h9 : a9.IsWhole) (a10 : Memref sig .tc .vmem S512x1024 .bf16) (h10 : a10.IsWhole) (a11 : Memref sig .tc .vmem S512x128 .f32) (h11 : a11.IsWhole)
    (hc : cond0_0 i) (x0 : Vec F S512x1024 .f32) (x1 : Vec F S1x1024 .f32) (x2 : Vec F S1024x128 .bf16) (x3 : Vec F S1x128 .f32)
    (x4 : Vec F S1x1024x512 .bf16) (x5 : Vec F S1x1024x512 .bf16) (x6 : Vec F S1x512x1024 .bf16) :
    sout0_A_1 c i a2 h2 a3 h3 a4 h4 a5 h5 a6 h6 a7 h7 a8 h8 a9 h9 a10 h10 a11 h11 hc x0 x1 x2 x3 x4 x5 x6 = gateBlk x0 x1 x2 x3 := by
  unfold sout0_A_1
  rw [View.read_writes_eq_canon _ _ _ (scover0_A_1 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz2]
  unfold gateBlk
  simp only [View.readAt_eq_ld, h2.read_unread, h3.read_unread, h4.read_unread, h5.read_unread, h6.read_unread, h7.read_unread, h8.read_unread, h9.read_unread, h10.read_unread, h11.read_unread,
    View.ld_unit_zero (S := S512x1024) hz2, View.ld_unit_zero (S := S1x1024) hz2, View.ld_unit_zero (S := S1024x128) hz2, View.ld_unit_zero (S := S1x128) hz2,
    View.ld_unit_zero (S := S1x1024x512) hz3, View.ld_unit_zero (S := S1x512x1024) hz3, View.ld_unit_zero (S := S512x128) hz2]

/-- The first point of a row block leaves the residual rows plus expert 0's gated output. -/
theorem out_A (c : Dev nD) (i : grid0.Coords) (a2 : Memref sig .tc .vmem S512x1024 .f32) (h2 : a2.IsWhole) (a3 : Memref sig .tc .vmem S1x1024 .f32) (h3 : a3.IsWhole) (a4 : Memref sig .tc .vmem S1024x128 .bf16) (h4 : a4.IsWhole) (a5 : Memref sig .tc .vmem S1x128 .f32) (h5 : a5.IsWhole) (a6 : Memref sig .tc .vmem S1x1024x512 .bf16) (h6 : a6.IsWhole) (a7 : Memref sig .tc .vmem S1x1024x512 .bf16) (h7 : a7.IsWhole) (a8 : Memref sig .tc .vmem S1x512x1024 .bf16) (h8 : a8.IsWhole) (a9 : Memref sig .tc .vmem S512x1024 .f32) (h9 : a9.IsWhole) (a10 : Memref sig .tc .vmem S512x1024 .bf16) (h10 : a10.IsWhole) (a11 : Memref sig .tc .vmem S512x128 .f32) (h11 : a11.IsWhole)
    (hc : cond0_0 i) (x0 : Vec F S512x1024 .f32) (x1 : Vec F S1x1024 .f32) (x2 : Vec F S1024x128 .bf16) (x3 : Vec F S1x128 .f32)
    (x4 : Vec F S1x1024x512 .bf16) (x5 : Vec F S1x1024x512 .bf16) (x6 : Vec F S1x512x1024 .bf16) :
    out0_A_7 c i a2 h2 a3 h3 a4 h4 a5 h5 a6 h6 a7 h7 a8 h8 a9 h9 a10 h10 a11 h11 hc x0 x1 x2 x3 x4 x5 x6
      = k0_pay1 (k0_pay13 (k0_pay3 x0 x1) x4 x5 x6) (k0_pay14 i (gateBlk x0 x1 x2 x3)) x0 := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S512x1024) hz2]
  simp only [View.readCov_unit_zero (S := S512x1024) _ hz2, View.readCov_unit_zero (S := S512x128) _ hz2]
  unfold gateBlk
  simp only [View.readAt_eq_ld, h2.read_unread, h3.read_unread, h4.read_unread, h5.read_unread, h6.read_unread, h7.read_unread, h8.read_unread, h9.read_unread, h10.read_unread, h11.read_unread,
    View.ld_unit_zero (S := S512x1024) hz2, View.ld_unit_zero (S := S1x1024) hz2, View.ld_unit_zero (S := S1024x128) hz2, View.ld_unit_zero (S := S1x128) hz2,
    View.ld_unit_zero (S := S1x1024x512) hz3, View.ld_unit_zero (S := S1x512x1024) hz3, View.ld_unit_zero (S := S512x128) hz2]

end Cert.KernelIdeal.Blocks

end
-- ==== Proof.Row.lean ====
/-
  The routing of one token, over the reals: the first largest of four logits, the two first largest of a group, the
  group's softmax weight and the two kept experts' shares — and the small facts about extended reals and folds that
  reading a row of either program needs.
-/
module

public import Idealize.ShloMosaic.Lib.ValueIdx
public import Idealize.ShloMosaic.Lib.IdealHost
public import Idealize.ShloMosaic.Lib.Pipeline.Value

@[expose] public section

noncomputable section

open scoped BigOperators

namespace Cert.Moe

open Idealize.ShloMosaic

/-! ## The choice -/

/-- `g` is the first largest of the group logits; `k1` and `k2` are the first largest and the first largest but one of
    that group's expert logits. -/
structure Pick (G : Fin 4 → ℝ) (E : Fin 4 → Fin 4 → ℝ) (g k1 k2 : Fin 4) : Prop where
  g_le : ∀ j, G j ≤ G g
  g_lt : ∀ j, j < g → G j < G g
  k1_le : ∀ j, E g j ≤ E g k1
  k1_lt : ∀ j, j < k1 → E g j < E g k1
  ne : k2 ≠ k1
  k2_le : ∀ j, j ≠ k1 → E g j ≤ E g k2
  k2_lt : ∀ j, j < k2 → j ≠ k1 → E g j < E g k2

/-- A nonempty finite set of indices has a first one where a function is largest. -/
theorem exists_first_max (s : Finset (Fin 4)) (hs : s.Nonempty) (f : Fin 4 → ℝ) :
    ∃ i ∈ s, (∀ j ∈ s, f j ≤ f i) ∧ ∀ j ∈ s, j < i → f j < f i := by
  obtain ⟨m, hm, hmax⟩ := Finset.exists_max_image s f hs
  have hne : (s.filter fun j => f j = f m).Nonempty := ⟨m, by simp [hm]⟩
  obtain ⟨i, hi, hmin⟩ := Finset.exists_min_image _ (fun j : Fin 4 => j) hne
  rw [Finset.mem_filter] at hi
  refine ⟨i, hi.1, fun j hj => hi.2 ▸ hmax j hj, fun j hj hji => ?_⟩
  refine lt_of_le_of_ne (hi.2 ▸ hmax j hj) fun he => ?_
  exact absurd (hmin j (by simp [hj, he, hi.2])) (not_le.2 hji)

theorem Pick.exists (G : Fin 4 → ℝ) (E : Fin 4 → Fin 4 → ℝ) : ∃ g k1 k2, Pick G E g k1 k2 := by
  obtain ⟨g, -, h1, h2⟩ := exists_first_max Finset.univ Finset.univ_nonempty G
  obtain ⟨k1, -, h3, h4⟩ := exists_first_max Finset.univ Finset.univ_nonempty (E g)
  have hne : (Finset.univ.erase k1).Nonempty := by
    rw [← Finset.card_pos, Finset.card_erase_of_mem (Finset.mem_univ _), Finset.card_univ, Fintype.card_fin]
    decide
  obtain ⟨k2, hk2, h5, h6⟩ := exists_first_max (Finset.univ.erase k1) hne (E g)
  exact ⟨g, k1, k2, fun j => h1 j (Finset.mem_univ _), fun j => h2 j (Finset.mem_univ _),
    fun j => h3 j (Finset.mem_univ _), fun j => h4 j (Finset.mem_univ _), Finset.ne_of_mem_erase hk2,
    fun j hj => h5 j (by simp [hj]), fun j hj hne => h6 j (by simp [hne]) hj⟩

/-- The softmax of four logits, shifted by one of them. -/
def soft (e : Fin 4 → ℝ) (k0 k : Fin 4) : ℝ := Real.exp (e k - e k0) / ∑ j, Real.exp (e j - e k0)

theorem expSum_pos (e : Fin 4 → ℝ) (k0 : Fin 4) : 0 < ∑ j, Real.exp (e j - e k0) :=
  Finset.sum_pos (fun j _ => Real.exp_pos _) Finset.univ_nonempty

theorem soft_pos (e : Fin 4 → ℝ) (k0 k : Fin 4) : 0 < soft e k0 k := div_pos (Real.exp_pos _) (expSum_pos e k0)

theorem soft_le (e : Fin 4 → ℝ) (k0 : Fin 4) {a b : Fin 4} : soft e k0 a ≤ soft e k0 b ↔ e a ≤ e b := by
  unfold soft
  rw [div_le_div_iff_of_pos_right (expSum_pos e k0), Real.exp_le_exp]
  exact sub_le_sub_iff_right _

theorem soft_lt (e : Fin 4 → ℝ) (k0 : Fin 4) {a b : Fin 4} : soft e k0 a < soft e k0 b ↔ e a < e b :=
  lt_iff_lt_of_le_iff_le (soft_le e k0)

/-- The chosen group's weight. -/
def groupW (G : Fin 4 → ℝ) (g : Fin 4) : ℝ := 1 / ∑ j, Real.exp (G j - G g)

theorem groupW_eq (G : Fin 4 → ℝ) (g : Fin 4) : soft G g g = groupW G g := by
  unfold soft groupW; rw [sub_self, Real.exp_zero]

/-- An expert's share among the two kept ones. -/
def share (e : Fin 4 → ℝ) (k1 k2 k : Fin 4) : ℝ :=
  if k = k1 then soft e k1 k1 / (soft e k1 k1 + soft e k1 k2)
  else if k = k2 then soft e k1 k2 / (soft e k1 k1 + soft e k1 k2) else 0

/-- The gate of expert `k` of group `a`. -/
def gate (G : Fin 4 → ℝ) (E : Fin 4 → Fin 4 → ℝ) (g k1 k2 a k : Fin 4) : ℝ :=
  if a = g then groupW G g * share (E g) k1 k2 k else 0

/-! ## Extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem ofBits_neg_one_f32 : Ideal.ofBits .f32 0xBF800000#32 = ((-1 : ℝ) : EReal) := by
  simp [Ideal.ofBits, Ideal.ieee]
  rw [← EReal.coe_mul]
  norm_num

theorem ofBits_bot_f32 : Ideal.ofBits .f32 0xFF800000#32 = (⊥ : EReal) := by
  simp [Ideal.ofBits, Ideal.ieee]

theorem ofBits_one_f32' : Ideal.ofBits .f32 0x3F800000#32 = ((1 : ℝ) : EReal) := by
  rw [Ideal.ofBits_one_f32, EReal.coe_one]

/-! ## Folds that one element decides -/

/-- A fold of a commutative associative operation over all of a type is the element that absorbs every other and the
    start value. -/
theorem fold_absorb {ι α : Type*} [Fintype ι] [DecidableEq ι] (op : α → α → α) [hc : Std.Commutative op]
    [ha : Std.Associative op] (b : α) (f : ι → α) (i0 : ι) (h0 : op (f i0) b = f i0)
    (h : ∀ i, i ≠ i0 → op (f i0) (f i) = f i0) : (Finset.univ : Finset ι).fold op b f = f i0 := by
  have key : ∀ s : Finset ι, i0 ∉ s → op (f i0) (s.fold op b f) = f i0 := by
    intro s
    induction s using Finset.induction_on with
    | empty => intro _; simpa using h0
    | insert a s has ih =>
      intro hn
      rw [Finset.mem_insert, not_or] at hn
      rw [Finset.fold_insert has, ← ha.assoc, h a (fun e => hn.1 e.symm), ih hn.2]
  rw [← Finset.insert_erase (Finset.mem_univ i0), Finset.fold_insert (Finset.notMem_erase _ _)]
  exact key _ (Finset.notMem_erase _ _)

/-- The largest of a family of extended reals, folded from `⊥`. -/
theorem fold_max_eq {ι : Type*} [Fintype ι] [DecidableEq ι] (f : ι → EReal) (i0 : ι) (h : ∀ i, f i ≤ f i0) :
    (Finset.univ : Finset ι).fold max ⊥ f = f i0 :=
  fold_absorb max ⊥ f i0 (max_eq_left bot_le) fun i _ => max_eq_left (h i)

/-- The first lane where a condition holds, as the minimum over the lanes of the lane number where it holds and 128
    elsewhere. -/
theorem fold_minsi_eq (p : Fin 128 → Prop) [DecidablePred p] (i0 : Fin 128) (h0 : p i0) (h : ∀ i, i < i0 → ¬p i) :
    (Finset.univ : Finset (Fin 128)).fold IKind.minsi.op 2147483647#32
      (fun n => if p n then BitVec.ofNat 32 n.val else 128#32) = BitVec.ofNat 32 i0.val := by
  have key := fold_absorb IKind.minsi.op 2147483647#32 (fun n : Fin 128 => if p n then BitVec.ofNat 32 n.val else 128#32) i0
  simp only [if_pos h0] at key
  have h1 : ∀ a : Fin 128, IKind.minsi.op (BitVec.ofNat 32 a.val) 2147483647#32 = BitVec.ofNat 32 a.val := by decide +kernel
  have h2 : ∀ a : Fin 128, IKind.minsi.op (BitVec.ofNat 32 a.val) 128#32 = BitVec.ofNat 32 a.val := by decide +kernel
  have h3 : ∀ a b : Fin 128, a ≤ b → IKind.minsi.op (BitVec.ofNat 32 a.val) (BitVec.ofNat 32 b.val) = BitVec.ofNat 32 a.val := by
    decide +kernel
  refine key (h1 i0) fun i _ => ?_
  by_cases hp : p i
  · rw [if_pos hp]; exact h3 _ _ (not_lt.1 fun hlt => h i hlt hp)
  · rw [if_neg hp]; exact h2 i0

end Cert.Moe
-- ==== Proof.KRow.lean ====
/-
  The kernel's gate buffer read one row at a time: over rows whose logits are real, the row of gates a row block's
  first point writes is the routing of Row.lean, lane `4 + 4 a + k` holding expert `k` of group `a`.
-/
module

public import proofs.«01_k».proof.Proof.KBlock
public import proofs.«01_k».proof.Proof.Row
public import Idealize.ShloMosaic.Lib.Pointwise.Reshape

@[expose] public section

noncomputable section

open scoped BigOperators

namespace Cert.KernelIdeal.KRow

open Idealize.ShloMosaic
open Cert.KernelIdeal Cert.KernelIdeal.Gen Cert.KernelIdeal.Blocks Cert.Moe

/-! ## Row reductions kept as a column -/

theorem bcol {α : Type} (x : S512x1.Idx → α) (r : Fin 512) (n : Fin 128) :
    broadcastTo S512x128 x broadcasts_S512x1_S512x128 (ix2 r n) = x (ix2 r 0) :=
  broadcastTo_apply x _ _ _ fun a => match a with | ⟨0, _⟩ => rfl | ⟨1, _⟩ => rfl

theorem bcol' {α : Type} (x : S512x1.Idx → α) (r : Fin 512) (n : Fin 1024) :
    broadcastTo S512x1024 x broadcasts_S512x1_S512x1024 (ix2 r n) = x (ix2 r 0) :=
  broadcastTo_apply x _ _ _ fun a => match a with | ⟨0, _⟩ => rfl | ⟨1, _⟩ => rfl

theorem ccol {α : Type} (x : S512.Idx → α) (r : Fin 512) :
    shapeCast S512x1 x shapeCasts_S512_S512x1 (ix2 r 0) = x (ix1 r) :=
  shapeCast_apply x _ _ _ (by
    rw [rowMajor_val1, rowMajor_val2 _ 1 rfl]
    show r.val = r.val * 1 + 0
    omega)

theorem maxrow (v : FVec Ideal S512x128 .f32) (r : Fin 512) :
    multiReduction .maximumf [1] S512 v 0xFF800000#32 reduces_S512x128_S512 (.inl rfl) rfl (ix1 r)
      = (Finset.univ : Finset (Fin 128)).fold max ⊥ fun k => v (ix2 r k) := by
  refine (Ideal.multiReduction_maximumf_single _ _ _ _ _ _).trans ?_
  show Finset.fold max (Ideal.ofBits .f32 0xFF800000#32) _ _ = _
  rw [ofBits_bot_f32]
  refine Finset.fold_congr fun k _ => ?_
  exact congrArg v (funext fun a => match a with | ⟨0, _⟩ => rfl | ⟨1, _⟩ => rfl)

theorem addrow (v : FVec Ideal S512x128 .f32) (r : Fin 512) :
    multiReduction .add [1] S512 v 0x00000000#32 reduces_S512x128_S512 (.inl rfl) rfl (ix1 r)
      = ∑ k : Fin 128, v (ix2 r k) := by
  refine (Ideal.multiReduction_add_single _ _ _ _ _ _).trans ?_
  refine Finset.sum_congr rfl fun k _ => ?_
  exact congrArg v (funext fun a => match a with | ⟨0, _⟩ => rfl | ⟨1, _⟩ => rfl)

theorem addrow' (v : FVec Ideal S512x1024 .f32) (r : Fin 512) :
    multiReduction .add [1] S512 v 0x00000000#32 reduces_S512x1024_S512 (.inl rfl) rfl (ix1 r)
      = ∑ k : Fin 1024, v (ix2 r k) := by
  refine (Ideal.multiReduction_add_single _ _ _ _ _ _).trans ?_
  refine Finset.sum_congr rfl fun k _ => ?_
  exact congrArg v (funext fun a => match a with | ⟨0, _⟩ => rfl | ⟨1, _⟩ => rfl)

theorem minrow (v : IVec S512x128 32) (r : Fin 512) :
    multiReductionI .minsi [1] S512 v 2147483647#32 reduces_S512x128_S512 rfl (ix1 r)
      = (Finset.univ : Finset (Fin 128)).fold IKind.minsi.op 2147483647#32 fun k => v (ix2 r k) := by
  refine (multiReductionI_eq_fold _ _ _ _ _ _).trans ?_
  refine (reduces_S512x128_S512.fold_filter_drop_single _ _ _ _).trans ?_
  refine Finset.fold_congr fun k _ => ?_
  exact congrArg v (funext fun a => match a with | ⟨0, _⟩ => rfl | ⟨1, _⟩ => rfl)

theorem lanes_apply (r : Fin 512) (n : Fin 128) : lanes (ix2 r n) = BitVec.ofNat 32 n.val :=
  iota_single_apply _ _ _ _ _ _

theorem colMax (v : FVec Ideal S512x128 .f32) (r : Fin 512) (i0 : Fin 128) (h : ∀ n, v (ix2 r n) ≤ v (ix2 r i0)) :
    shapeCast S512x1 (multiReduction .maximumf [1] S512 v 0xFF800000#32 reduces_S512x128_S512 (.inl rfl) rfl)
      shapeCasts_S512_S512x1 (ix2 r 0) = v (ix2 r i0) :=
  (ccol _ r).trans ((maxrow v r).trans (fold_max_eq (fun n => v (ix2 r n)) i0 h))

theorem colSum (v : FVec Ideal S512x128 .f32) (r : Fin 512) :
    shapeCast S512x1 (multiReduction .add [1] S512 v 0x00000000#32 reduces_S512x128_S512 (.inl rfl) rfl)
      shapeCasts_S512_S512x1 (ix2 r 0) = ∑ k : Fin 128, v (ix2 r k) :=
  (ccol _ r).trans (addrow v r)

theorem toNat_lane (a b : Fin 128) : BitVec.ofNat 32 a.val = BitVec.ofNat 32 b.val ↔ a = b := by
  constructor
  · intro h
    have := congrArg BitVec.toNat h
    simp only [BitVec.toNat_ofNat] at this
    exact Fin.ext (by omega)
  · rintro rfl; rfl

/-- Reading a column of first lanes: where the condition's bits are those of `p`, the first lane with `p`. -/
theorem firstLane (b : IVec S512x128 1) (r : Fin 512) (p : Fin 128 → Prop) [DecidablePred p] (i0 : Fin 128)
    (hb : ∀ n, b (ix2 r n) = BitVec.ofBool (decide (p n))) (h0 : p i0) (h : ∀ i, i < i0 → ¬p i) :
    shapeCast S512x1 (multiReductionI .minsi [1] S512 (select b lanes (broadcast S512x128 128#32)) 2147483647#32
      reduces_S512x128_S512 rfl) shapeCasts_S512_S512x1 (ix2 r 0) = BitVec.ofNat 32 i0.val := by
  refine (ccol _ r).trans ((minrow _ r).trans ?_)
  rw [← fold_minsi_eq p i0 h0 h]
  refine Finset.fold_congr fun n _ => ?_
  show Scalar.select (b (ix2 r n)) (lanes (ix2 r n)) 128#32 = _
  rw [hb, lanes_apply]
  by_cases hp : p n <;> simp [hp, Scalar.select]

theorem cmpf_oeq (x y : EReal) : FloatOps.cmpf (F := Ideal) (φ := .f32) .oeq x y = BitVec.ofBool (decide (x = y)) := by
  simp only [Ideal.cmpf_def, Ideal.cmp]

theorem select_ofBool {α : Type} (p : Prop) [Decidable p] (x y : α) :
    Scalar.select (BitVec.ofBool (decide p)) x y = if p then x else y := by
  by_cases h : p <;> simp [h, Scalar.select]

theorem select_or_not {α : Type} (p q : Prop) [Decidable p] [Decidable q] (x y : α) :
    Scalar.select (IntOp.ori (BitVec.ofBool (decide p)) (IntOp.xori (BitVec.ofBool (decide q)) 1#1)) x y
      = if p ∨ ¬q then x else y := by
  by_cases h : p <;> by_cases h' : q <;> simp [h, h', Scalar.select, IntOp.ori, IntOp.xori]

/-! ## The gates of a row -/

/-- The lane of expert `k` of group `a`. -/
def lane (a k : Fin 4) : Fin 128 := ⟨4 + 4 * a.val + k.val, by omega⟩

/-- The lanes of group `g`'s experts. -/
def inGroup (g : Fin 4) (n : Fin 128) : Prop := 4 + 4 * g.val ≤ n.val ∧ n.val < 8 + 4 * g.val

instance (g : Fin 4) : DecidablePred (inGroup g) := fun n => inferInstanceAs (Decidable (_ ∧ _))

theorem inGroup_lane (g k : Fin 4) : inGroup g (lane g k) := ⟨by show _ ≤ 4 + 4 * g.val + k.val; omega, by show 4 + 4 * g.val + k.val < _; omega⟩

theorem exists_lane {g : Fin 4} {n : Fin 128} (h : inGroup g n) : ∃ k, n = lane g k :=
  ⟨⟨n.val - (4 + 4 * g.val), by have := h.1; have := h.2; omega⟩, Fin.ext (by
    show n.val = 4 + 4 * g.val + (n.val - (4 + 4 * g.val))
    have := h.1; omega)⟩

theorem lane_lt {g k k' : Fin 4} : lane g k < lane g k' ↔ k < k' := by
  show 4 + 4 * g.val + k.val < 4 + 4 * g.val + k'.val ↔ k.val < k'.val; omega

theorem lane_inj {g k k' : Fin 4} : lane g k = lane g k' ↔ k = k' := by
  rw [Fin.ext_iff, Fin.ext_iff]
  show 4 + 4 * g.val + k.val = 4 + 4 * g.val + k'.val ↔ _; omega

/-- A sum over the lanes of a function that is zero off one group. -/
theorem sum_group (g : Fin 4) (f : Fin 128 → EReal) (h : ∀ n, ¬inGroup g n → f n = 0) :
    ∑ n, f n = ∑ k, f (lane g k) := by
  refine (Fintype.sum_of_injective (lane g) (fun a b e => lane_inj.1 e) _ _ (fun n hn => h n fun hg => hn ?_) fun k => rfl).symm
  obtain ⟨k, rfl⟩ := exists_lane hg
  exact ⟨k, rfl⟩

/-- A sum over the lanes of a function that is zero off the first four. -/
theorem sum_head (f : Fin 128 → EReal) (h : ∀ n, ¬n.val < 4 → f n = 0) :
    ∑ n, f n = ∑ j : Fin 4, f (j.castLE (by decide)) := by
  refine (Fintype.sum_of_injective (fun j : Fin 4 => j.castLE (by decide : 4 ≤ 128))
    (fun a b e => Fin.castLE_injective _ e) _ _ (fun n hn => h n fun hg => hn ⟨⟨n.val, hg⟩, rfl⟩) fun k => rfl).symm

section row

variable (x0 : Vec Ideal S512x1024 .f32) (x1 : Vec Ideal S1x1024 .f32) (x2 : Vec Ideal S1024x128 .bf16)
  (x3 : Vec Ideal S1x128 .f32) (r : Fin 512) (l : Fin 128 → ℝ)

/-- The group logits of a row. -/
def rowG (l : Fin 128 → ℝ) (j : Fin 4) : ℝ := l (j.castLE (by decide))
/-- The expert logits of a row. -/
def rowE (l : Fin 128 → ℝ) (a k : Fin 4) : ℝ := l (lane a k)

theorem pay5_row (hL : ∀ n, k0_pay4 x0 x1 x2 x3 (ix2 r n) = (l n : EReal)) (n : Fin 128) :
    k0_pay5 x0 x1 x2 x3 (ix2 r n) = if n.val < 4 then (l n : EReal) else ⊥ := by
  have hb : ∀ n : Fin 128, IntOp.cmpi .slt (BitVec.ofNat 32 n.val) 4#32 = BitVec.ofBool (decide (n.val < 4)) := by decide +kernel
  show Scalar.select (IntOp.cmpi .slt (lanes (ix2 r n)) 4#32) (k0_pay4 x0 x1 x2 x3 (ix2 r n)) (Ideal.ofBits .f32 0xFF800000#32) = _
  rw [lanes_apply, hb, hL, ofBits_bot_f32]
  by_cases h : n.val < 4 <;> simp [h, Scalar.select]

variable {g k1 k2 : Fin 4} (hp : Pick (rowG l) (rowE l) g k1 k2)
include hp

theorem pay6_row (hL : ∀ n, k0_pay4 x0 x1 x2 x3 (ix2 r n) = (l n : EReal)) :
    k0_pay6 x0 x1 x2 x3 (ix2 r 0) = (rowG l g : EReal) := by
  have hg : k0_pay5 x0 x1 x2 x3 (ix2 r (g.castLE (by decide))) = (rowG l g : EReal) := by
    rw [pay5_row x0 x1 x2 x3 r l hL, if_pos (by exact g.isLt)]; rfl
  refine (colMax (k0_pay5 x0 x1 x2 x3) r (g.castLE (by decide)) fun n => ?_).trans hg
  rw [hg, pay5_row x0 x1 x2 x3 r l hL]
  split
  · next h => exact EReal.coe_le_coe_iff.2 (hp.g_le ⟨n.val, h⟩)
  · exact bot_le

theorem pay7_row (hL : ∀ n, k0_pay4 x0 x1 x2 x3 (ix2 r n) = (l n : EReal)) :
    k0_pay7 x0 x1 x2 x3 (ix2 r 0) = BitVec.ofNat 32 g.val := by
  refine firstLane _ r (fun n => (if n.val < 4 then (l n : EReal) else ⊥) = (rowG l g : EReal)) (g.castLE (by decide))
    (fun n => ?_) ?_ fun n hn => ?_
  · show FloatOps.cmpf (F := Ideal) (φ := .f32) .oeq (k0_pay5 x0 x1 x2 x3 (ix2 r n)) (broadcastTo S512x128 (k0_pay6 x0 x1 x2 x3) broadcasts_S512x1_S512x128 (ix2 r n)) = _
    rw [cmpf_oeq, bcol, pay6_row x0 x1 x2 x3 r l hp hL, pay5_row x0 x1 x2 x3 r l hL]
  · rw [if_pos (by exact g.isLt)]; rfl
  · have hlt : n.val < g.val := hn
    have h4 : n.val < 4 := by omega
    rw [if_pos h4, EReal.coe_eq_coe_iff]
    exact ne_of_lt (hp.g_lt ⟨n.val, h4⟩ hlt)

theorem pay9_row (hL : ∀ n, k0_pay4 x0 x1 x2 x3 (ix2 r n) = (l n : EReal)) :
    k0_pay9 (k0_pay5 x0 x1 x2 x3) (k0_pay8 x0 x1 x2 x3) (ix2 r 0) = (groupW (rowG l) g : EReal) := by
  have hv : ∀ n, exp (subf (k0_pay5 x0 x1 x2 x3) (k0_pay8 x0 x1 x2 x3)) (ix2 r n)
      = if n.val < 4 then ((Real.exp (l n - rowG l g) : ℝ) : EReal) else 0 := by
    intro n
    show Ideal.exp (k0_pay5 x0 x1 x2 x3 (ix2 r n) - broadcastTo S512x128 (k0_pay6 x0 x1 x2 x3) broadcasts_S512x1_S512x128 (ix2 r n)) = _
    rw [bcol, pay6_row x0 x1 x2 x3 r l hp hL, pay5_row x0 x1 x2 x3 r l hL]
    split
    · rfl
    · rw [EReal.bot_sub]; rfl
  show Ideal.div (Ideal.ofBits .f32 0x3F800000#32) (shapeCast S512x1 (multiReduction .add [1] S512
    (exp (subf (k0_pay5 x0 x1 x2 x3) (k0_pay8 x0 x1 x2 x3))) 0x00000000#32 reduces_S512x128_S512 (.inl rfl) rfl)
      shapeCasts_S512_S512x1 (ix2 r 0)) = _
  rw [colSum, sum_head _ (fun n hn => by rw [hv, if_neg hn])]
  have : ∀ j : Fin 4, exp (subf (k0_pay5 x0 x1 x2 x3) (k0_pay8 x0 x1 x2 x3)) (ix2 r (j.castLE (by decide)))
      = ((Real.exp (rowG l j - rowG l g) : ℝ) : EReal) := fun j => by rw [hv, if_pos (by exact j.isLt)]; rfl
  simp only [this]
  rw [← coe_sum, ofBits_one_f32', div_coe _ _ (ne_of_gt (expSum_pos _ _))]
  rfl

end row

/-- The test of a lane word against a group word that the gate computation makes: the lane's offset from 4 lies in
    `[0, 16)` and its quotient by 4, rounded down, is the group. -/
def groupBit (n g : BitVec 32) : BitVec 1 :=
  let d := IntOp.subi n 4#32
  let q := IntOp.divsi .vector d 4#32
  let s := IntOp.subi ((IntOp.cmpi .sgt d 0#32).setWidth 32) ((IntOp.cmpi .slt d 0#32).setWidth 32)
  let s4 := Scalar.subi (Scalar.extui (Scalar.cmpi .sgt 4#32 0#32)) (Scalar.extui (Scalar.cmpi .slt 4#32 0#32))
  let c := IntOp.andi (IntOp.cmpi .ne s s4) (IntOp.cmpi .ne (IntOp.remsi .vector d 4#32) 0#32)
  IntOp.andi (IntOp.andi (IntOp.cmpi .sge d 0#32) (IntOp.cmpi .slt d 16#32))
    (IntOp.cmpi .eq (Scalar.select c (IntOp.subi q 1#32) q) g)

theorem pay10_row (v76 : IVec S512x1 32) (r : Fin 512) (g : Fin 4) (h : v76 (ix2 r 0) = BitVec.ofNat 32 g.val) (n : Fin 128) :
    k0_pay10 lanes v76 (ix2 r n) = BitVec.ofBool (decide (inGroup g n)) := by
  have key : ∀ (g : Fin 4) (n : Fin 128),
      groupBit (BitVec.ofNat 32 n.val) (BitVec.ofNat 32 g.val) = BitVec.ofBool (decide (inGroup g n)) := by decide +kernel
  have e : k0_pay10 lanes v76 (ix2 r n)
      = groupBit (lanes (ix2 r n)) (broadcastTo S512x128 v76 broadcasts_S512x1_S512x128 (ix2 r n)) := rfl
  rw [e, bcol, h, lanes_apply, key]

theorem pay11_row (v63 : FVec Ideal S512x128 .f32) (v76 : IVec S512x1 32) (r : Fin 512) (l : Fin 128 → ℝ) {g k1 k2 : Fin 4}
    (hp : Pick (rowG l) (rowE l) g k1 k2) (hL : ∀ n, v63 (ix2 r n) = (l n : EReal))
    (h : v76 (ix2 r 0) = BitVec.ofNat 32 g.val) (n : Fin 128) :
    k0_pay11 v63 lanes v76 (ix2 r n) = if inGroup g n then ((l n - rowE l g k1 : ℝ) : EReal) else ⊥ := by
  let v : FVec Ideal S512x128 .f32 := select (k0_pay10 lanes v76) v63 (broadcast S512x128 (Scalar.ofBits .f32 0xFF800000#32))
  have hv : ∀ n, v (ix2 r n) = if inGroup g n then (l n : EReal) else ⊥ := by
    intro n
    show Scalar.select (k0_pay10 lanes v76 (ix2 r n)) (v63 (ix2 r n)) (Ideal.ofBits .f32 0xFF800000#32) = _
    rw [pay10_row v76 r g h, hL, ofBits_bot_f32]
    by_cases hi : inGroup g n <;> simp [hi, Scalar.select]
  have h1 : v (ix2 r (lane g k1)) = (rowE l g k1 : EReal) := by rw [hv, if_pos (inGroup_lane g k1)]; rfl
  have hm := colMax v r (lane g k1) fun n => by
    rw [h1, hv]
    split
    · next hi => obtain ⟨k, rfl⟩ := exists_lane hi; exact EReal.coe_le_coe_iff.2 (hp.k1_le k)
    · exact bot_le
  show v (ix2 r n) - broadcastTo S512x128 (shapeCast S512x1 (multiReduction .maximumf [1] S512 v 0xFF800000#32
    reduces_S512x128_S512 (.inl rfl) rfl) shapeCasts_S512_S512x1) broadcasts_S512x1_S512x128 (ix2 r n) = _
  rw [bcol, hm, h1, hv]
  split
  · rw [EReal.coe_sub]
  · rw [EReal.bot_sub]

/-- The gates of a row from the shifted logits of the chosen group. -/
theorem pay12_row (v83 : FVec Ideal S512x1 .f32) (v117 : IVec S512x128 1) (v123 : FVec Ideal S512x128 .f32) (r : Fin 512)
    (e : Fin 4 → ℝ) (w : ℝ) {g k1 k2 : Fin 4} (hle : ∀ j, e j ≤ e k1) (hlt : ∀ j, j < k1 → e j < e k1) (hne : k2 ≠ k1)
    (hle2 : ∀ j, j ≠ k1 → e j ≤ e k2) (hlt2 : ∀ j, j < k2 → j ≠ k1 → e j < e k2)
    (h83 : v83 (ix2 r 0) = (w : EReal)) (h117 : ∀ n, v117 (ix2 r n) = BitVec.ofBool (decide (inGroup g n)))
    (hin : ∀ k, v123 (ix2 r (lane g k)) = ((e k - e k1 : ℝ) : EReal)) (hout : ∀ n, ¬inGroup g n → v123 (ix2 r n) = ⊥)
    (a k : Fin 4) :
    k0_pay12 lanes v83 v117 v123 (ix2 r (lane a k)) = ((if a = g then w * share e k1 k2 k else 0 : ℝ) : EReal) := by
  let v124 : FVec Ideal S512x128 .f32 := exp v123
  have h124i : ∀ k, v124 (ix2 r (lane g k)) = ((Real.exp (e k - e k1) : ℝ) : EReal) := fun k => by
    show Ideal.exp (v123 _) = _
    rw [hin]; rfl
  have h124o : ∀ n, ¬inGroup g n → v124 (ix2 r n) = 0 := fun n hn => by
    show Ideal.exp (v123 _) = _
    rw [hout n hn]; rfl
  let v126 : FVec Ideal S512x1 .f32 := shapeCast S512x1 (multiReduction .add [1] S512 v124 0x00000000#32
    reduces_S512x128_S512 (.inl rfl) rfl) shapeCasts_S512_S512x1
  have h126 : v126 (ix2 r 0) = ((∑ j, Real.exp (e j - e k1) : ℝ) : EReal) := by
    refine (colSum v124 r).trans ?_
    rw [sum_group g _ h124o, coe_sum]
    exact Finset.sum_congr rfl fun k _ => h124i k
  let v128 : FVec Ideal S512x128 .f32 := divf v124 (broadcastTo S512x128 v126 broadcasts_S512x1_S512x128)
  have h128i : ∀ k, v128 (ix2 r (lane g k)) = (soft e k1 k : EReal) := fun k => by
    show Ideal.div (v124 _) (broadcastTo S512x128 v126 broadcasts_S512x1_S512x128 _) = _
    rw [bcol, h126, h124i, div_coe _ _ (ne_of_gt (expSum_pos _ _))]
    rfl
  have h128o : ∀ n, ¬inGroup g n → v128 (ix2 r n) = ((0 : ℝ) : EReal) := fun n hn => by
    show Ideal.div (v124 _) (broadcastTo S512x128 v126 broadcasts_S512x1_S512x128 _) = _
    rw [bcol, h126, h124o n hn, ← EReal.coe_zero, div_coe _ _ (ne_of_gt (expSum_pos _ _)), zero_div]
  let v130 : FVec Ideal S512x1 .f32 := shapeCast S512x1 (multiReduction .maximumf [1] S512 v128 0xFF800000#32
    reduces_S512x128_S512 (.inl rfl) rfl) shapeCasts_S512_S512x1
  have h130 : v130 (ix2 r 0) = (soft e k1 k1 : EReal) := by
    refine (colMax v128 r (lane g k1) fun n => ?_).trans (h128i k1)
    rw [h128i]
    by_cases hi : inGroup g n
    · obtain ⟨k, rfl⟩ := exists_lane hi
      rw [h128i]
      exact EReal.coe_le_coe_iff.2 ((soft_le e k1).2 (hle k))
    · rw [h128o n hi]
      exact EReal.coe_le_coe_iff.2 (le_of_lt (soft_pos e k1 k1))
  let v136 : IVec S512x1 32 := shapeCast S512x1 (multiReductionI .minsi [1] S512 (select (cmpf .oeq v128
    (broadcastTo S512x128 v130 broadcasts_S512x1_S512x128)) lanes (broadcast S512x128 128#32)) 2147483647#32
      reduces_S512x128_S512 rfl) shapeCasts_S512_S512x1
  have h136 : v136 (ix2 r 0) = BitVec.ofNat 32 (lane g k1).val := by
    refine firstLane _ r (fun n => v128 (ix2 r n) = (soft e k1 k1 : EReal)) (lane g k1) (fun n => ?_) (h128i k1) fun n hn => ?_
    · show FloatOps.cmpf (F := Ideal) (φ := .f32) .oeq (v128 (ix2 r n)) (broadcastTo S512x128 v130 broadcasts_S512x1_S512x128 (ix2 r n)) = _
      rw [cmpf_oeq, bcol, h130]
    · by_cases hi : inGroup g n
      · obtain ⟨k, rfl⟩ := exists_lane hi
        rw [h128i, EReal.coe_eq_coe_iff]
        exact ne_of_lt ((soft_lt e k1).2 (hlt k (lane_lt.1 hn)))
      · rw [h128o n hi, EReal.coe_eq_coe_iff]
        exact ne_of_lt (soft_pos e k1 k1)
  have hb136 : ∀ n, IntOp.cmpi .eq (lanes (ix2 r n)) (broadcastTo S512x128 v136 broadcasts_S512x1_S512x128 (ix2 r n))
      = BitVec.ofBool (decide (n = lane g k1)) := fun n => by
    rw [bcol, h136, lanes_apply]
    show BitVec.ofBool (BitVec.ofNat 32 n.val == BitVec.ofNat 32 (lane g k1).val) = _
    rw [beq_eq_decide, decide_eq_decide.2 (toNat_lane _ _)]
  let v142 : FVec Ideal S512x128 .f32 := select (ori (cmpi .eq lanes (broadcastTo S512x128 v136 broadcasts_S512x1_S512x128))
    (xori v117 (constantI S512x128 1 1#1))) (broadcast S512x128 (Scalar.ofBits .f32 0xBF800000#32)) v128
  have h142 : ∀ n, v142 (ix2 r n) = if n = lane g k1 ∨ ¬inGroup g n then ((-1 : ℝ) : EReal) else v128 (ix2 r n) := fun n => by
    show Scalar.select (IntOp.ori (IntOp.cmpi .eq (lanes (ix2 r n)) (broadcastTo S512x128 v136 broadcasts_S512x1_S512x128 (ix2 r n)))
      (IntOp.xori (v117 (ix2 r n)) 1#1)) (Ideal.ofBits .f32 0xBF800000#32) (v128 (ix2 r n)) = _
    rw [hb136, h117, ofBits_neg_one_f32]
    exact select_or_not _ _ _ _
  have h142k : ∀ k, k ≠ k1 → v142 (ix2 r (lane g k)) = (soft e k1 k : EReal) := fun k hk => by
    rw [h142, if_neg, h128i]
    rintro (h | h)
    · exact hk (lane_inj.1 h)
    · exact h (inGroup_lane g k)
  let v144 : FVec Ideal S512x1 .f32 := shapeCast S512x1 (multiReduction .maximumf [1] S512 v142 0xFF800000#32
    reduces_S512x128_S512 (.inl rfl) rfl) shapeCasts_S512_S512x1
  have hneg : (-1 : ℝ) < soft e k1 k2 := lt_trans (by norm_num) (soft_pos e k1 k2)
  have h144 : v144 (ix2 r 0) = (soft e k1 k2 : EReal) := by
    refine (colMax v142 r (lane g k2) fun n => ?_).trans (h142k k2 hne)
    rw [h142k k2 hne]
    by_cases hi : n = lane g k1 ∨ ¬inGroup g n
    · rw [h142, if_pos hi]
      exact EReal.coe_le_coe_iff.2 (le_of_lt hneg)
    · rw [not_or, not_not] at hi
      obtain ⟨k, rfl⟩ := exists_lane hi.2
      have hk : k ≠ k1 := fun h => hi.1 (h ▸ rfl)
      rw [h142k k hk]
      exact EReal.coe_le_coe_iff.2 ((soft_le e k1).2 (hle2 k hk))
  let v150 : IVec S512x1 32 := shapeCast S512x1 (multiReductionI .minsi [1] S512 (select (cmpf .oeq v142
    (broadcastTo S512x128 v144 broadcasts_S512x1_S512x128)) lanes (broadcast S512x128 128#32)) 2147483647#32
      reduces_S512x128_S512 rfl) shapeCasts_S512_S512x1
  have h150 : v150 (ix2 r 0) = BitVec.ofNat 32 (lane g k2).val := by
    refine firstLane _ r (fun n => v142 (ix2 r n) = (soft e k1 k2 : EReal)) (lane g k2) (fun n => ?_) (h142k k2 hne) fun n hn => ?_
    · show FloatOps.cmpf (F := Ideal) (φ := .f32) .oeq (v142 (ix2 r n)) (broadcastTo S512x128 v144 broadcasts_S512x1_S512x128 (ix2 r n)) = _
      rw [cmpf_oeq, bcol, h144]
    · by_cases hi : n = lane g k1 ∨ ¬inGroup g n
      · rw [h142, if_pos hi, EReal.coe_eq_coe_iff]
        exact ne_of_lt hneg
      · rw [not_or, not_not] at hi
        obtain ⟨k, rfl⟩ := exists_lane hi.2
        have hk : k ≠ k1 := fun h => hi.1 (h ▸ rfl)
        rw [h142k k hk, EReal.coe_eq_coe_iff]
        exact ne_of_lt ((soft_lt e k1).2 (hlt2 k (lane_lt.1 hn) hk))
  have hb150 : ∀ n, IntOp.cmpi .eq (lanes (ix2 r n)) (broadcastTo S512x128 v150 broadcasts_S512x1_S512x128 (ix2 r n))
      = BitVec.ofBool (decide (n = lane g k2)) := fun n => by
    rw [bcol, h150, lanes_apply]
    show BitVec.ofBool (BitVec.ofNat 32 n.val == BitVec.ofNat 32 (lane g k2).val) = _
    rw [beq_eq_decide, decide_eq_decide.2 (toNat_lane _ _)]
  have hs : soft e k1 k1 + soft e k1 k2 ≠ 0 := ne_of_gt (add_pos (soft_pos e k1 k1) (soft_pos e k1 k2))
  let v155 : FVec Ideal S512x1 .f32 := mulf v83 (divf v130 (addf v130 v144))
  have h155 : v155 (ix2 r 0) = ((w * (soft e k1 k1 / (soft e k1 k1 + soft e k1 k2)) : ℝ) : EReal) := by
    show mulf v83 (divf v130 (addf v130 v144)) (ix2 r 0) = _
    rw [ValueIdx.mulf_apply, ValueIdx.divf_apply, ValueIdx.addf_apply, h83, h130, h144, ← EReal.coe_add, div_coe _ _ hs, ← EReal.coe_mul]
  let v159 : FVec Ideal S512x1 .f32 := mulf v83 (divf v144 (addf v130 v144))
  have h159 : v159 (ix2 r 0) = ((w * (soft e k1 k2 / (soft e k1 k1 + soft e k1 k2)) : ℝ) : EReal) := by
    show mulf v83 (divf v144 (addf v130 v144)) (ix2 r 0) = _
    rw [ValueIdx.mulf_apply, ValueIdx.divf_apply, ValueIdx.addf_apply, h83, h130, h144, ← EReal.coe_add, div_coe _ _ hs, ← EReal.coe_mul]
  have hend : k0_pay12 lanes v83 v117 v123 = shapeCast S512x128 (select (cmpi .eq lanes (broadcastTo S512x128 v136 broadcasts_S512x1_S512x128))
      (broadcastTo S512x128 (shapeCast S512x1 v155 shapeCasts_S512x1_S512x1) broadcasts_S512x1_S512x128)
      (select (cmpi .eq lanes (broadcastTo S512x128 v150 broadcasts_S512x1_S512x128))
        (broadcastTo S512x128 (shapeCast S512x1 v159 shapeCasts_S512x1_S512x1) broadcasts_S512x1_S512x128)
        (broadcast S512x128 (Scalar.ofBits .f32 0x00000000#32)))) shapeCasts_S512x128_S512x128 := rfl
  rw [hend, shapeCast_self, shapeCast_self, shapeCast_self]
  show Scalar.select (IntOp.cmpi .eq (lanes (ix2 r (lane a k))) (broadcastTo S512x128 v136 broadcasts_S512x1_S512x128 (ix2 r (lane a k))))
    (broadcastTo S512x128 v155 broadcasts_S512x1_S512x128 (ix2 r (lane a k)))
    (Scalar.select (IntOp.cmpi .eq (lanes (ix2 r (lane a k))) (broadcastTo S512x128 v150 broadcasts_S512x1_S512x128 (ix2 r (lane a k))))
      (broadcastTo S512x128 v159 broadcasts_S512x1_S512x128 (ix2 r (lane a k))) (Ideal.ofBits .f32 0x00000000#32)) = _
  rw [hb136, hb150, bcol, bcol, h155, h159, Ideal.ofBits_zero_f32]
  have hla : ∀ k', lane a k = lane g k' ↔ a = g ∧ k = k' := fun k' => by
    rw [Fin.ext_iff, Fin.ext_iff, Fin.ext_iff]
    show 4 + 4 * a.val + k.val = 4 + 4 * g.val + k'.val ↔ _
    omega
  simp only [hla, select_ofBool]
  unfold share
  by_cases ha : a = g <;> by_cases h1 : k = k1 <;> by_cases h2 : k = k2 <;> simp [ha, h1, h2, hne]

/-- The gate buffer at a row of real logits. -/
theorem gateBlk_row (x0 : Vec Ideal S512x1024 .f32) (x1 : Vec Ideal S1x1024 .f32) (x2 : Vec Ideal S1024x128 .bf16)
    (x3 : Vec Ideal S1x128 .f32) (r : Fin 512) (l : Fin 128 → ℝ) {g k1 k2 : Fin 4} (hp : Pick (rowG l) (rowE l) g k1 k2)
    (hL : ∀ n, k0_pay4 x0 x1 x2 x3 (ix2 r n) = (l n : EReal)) (a k : Fin 4) :
    gateBlk x0 x1 x2 x3 (ix2 r (lane a k)) = (gate (rowG l) (rowE l) g k1 k2 a k : EReal) := by
  have h7 := pay7_row x0 x1 x2 x3 r l hp hL
  exact pay12_row _ _ _ r (rowE l g) (groupW (rowG l) g) hp.k1_le hp.k1_lt hp.ne hp.k2_le hp.k2_lt
    (pay9_row x0 x1 x2 x3 r l hp hL) (pay10_row _ r g h7)
    (fun k => by rw [pay11_row _ _ r l hp hL h7, if_pos (inGroup_lane g k)]; rfl)
    (fun n hn => by rw [pay11_row _ _ r l hp hL h7, if_neg hn]) a k

end Cert.KernelIdeal.KRow
-- ==== Proof.Spec.lean ====
/-
  The layer's mathematics at one token over the extended reals, named once for both programs: the normalised token, a
  router logit, one expert's output at a feature, and the two facts that make the logits real numbers.
-/
module

public import proofs.«01_k».proof.Proof.Row

@[expose] public section

noncomputable section

open scoped BigOperators

namespace Cert.Moe

open Idealize.ShloMosaic

/-- A token scaled by the reciprocal root of its mean square and by the gain. -/
def nrm (X g : Fin 1024 → EReal) (d : Fin 1024) : EReal :=
  X d * Ideal.rsqrt (Ideal.div (∑ k, X k * X k) (Ideal.ofBits .f32 0x44800000#32) + Ideal.ofBits .f32 0x358637BD#32) * g d

/-- A linear form and its bias. -/
def logit (h w : Fin 1024 → EReal) (b : EReal) : EReal := ∑ k, h k * w k + b

/-- The gated linear unit at one hidden feature, from its two projections. -/
def glu (a b : EReal) : EReal := a * Ideal.div (Ideal.ofBits .f32 0x3F800000#32) (Ideal.ofBits .f32 0x3F800000#32 + Ideal.exp (-a)) * b

/-- One expert at one output feature. -/
def expert (h : Fin 1024 → EReal) (A B : Fin 1024 → Fin 512 → EReal) (D : Fin 512 → EReal) : EReal :=
  ∑ f, glu (∑ k, h k * A k f) (∑ k, h k * B k f) * D f

theorem ofBits_1024 : Ideal.ofBits .f32 0x44800000#32 = ((1024 : ℝ) : EReal) := by
  simp [Ideal.ofBits, Ideal.ieee]
  rw [← EReal.coe_mul]
  norm_num

theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee]

theorem rsqrt_pos (r : ℝ) (hr : 0 < r) : Ideal.rsqrt (r : EReal) = (((Real.sqrt r)⁻¹ : ℝ) : EReal) := by
  have h : Ideal.rsqrt (r : EReal) = if r < 0 then ⊥ else if r = 0 then ⊤ else (((Real.sqrt r)⁻¹ : ℝ) : EReal) := rfl
  rw [h, if_neg (not_lt.2 (le_of_lt hr)), if_neg (ne_of_gt hr)]

theorem rsqrt_top : Ideal.rsqrt (⊤ : EReal) = 0 := rfl

theorem sq_nonneg' (x : EReal) : 0 ≤ x * x := by
  induction x using EReal.rec with
  | bot => simp
  | top => simp
  | coe r => exact_mod_cast mul_self_nonneg r

/-- The normalised token is real where the gain is, whatever the token. -/
theorem nrm_real (X g : Fin 1024 → EReal) (d : Fin 1024) (γ : ℝ) (hg : g d = (γ : EReal)) : ∃ r : ℝ, nrm X g d = (r : EReal) := by
  obtain ⟨e, he, hE⟩ := ofBits_eps
  unfold nrm
  rw [hE, ofBits_1024, hg]
  by_cases hX : ∀ k, ∃ r : ℝ, X k = (r : EReal)
  · choose x hx using hX
    have hs : ∑ k, X k * X k = ((∑ k, x k * x k : ℝ) : EReal) := by
      rw [coe_sum]
      exact Finset.sum_congr rfl fun k _ => by rw [hx, EReal.coe_mul]
    have hn : 0 ≤ ∑ k, x k * x k := Finset.sum_nonneg fun k _ => mul_self_nonneg _
    have hp : 0 < (∑ k, x k * x k) / 1024 + e := by positivity
    rw [hs, div_coe _ _ (by norm_num), ← EReal.coe_add, hx d]
    refine ⟨x d * (Real.sqrt ((∑ k, x k * x k) / 1024 + e))⁻¹ * γ, ?_⟩
    rw [EReal.coe_mul, EReal.coe_mul, rsqrt_pos _ hp]
  · rw [not_forall] at hX
    obtain ⟨k, hk⟩ := hX
    have hkk : X k * X k = ⊤ := by
      revert hk
      generalize X k = y
      induction y using EReal.rec with
      | bot => simp
      | top => simp
      | coe r => intro h; exact absurd ⟨r, rfl⟩ h
    have hs : ∑ k, X k * X k = ⊤ := by
      rw [← Finset.add_sum_erase _ _ (Finset.mem_univ k), hkk]
      refine EReal.top_add_of_ne_bot (ne_of_gt (lt_of_lt_of_le EReal.bot_lt_zero ?_))
      exact Finset.sum_nonneg fun j _ => sq_nonneg' _
    have hd : Ideal.div (⊤ : EReal) ((1024 : ℝ) : EReal) = ⊤ := by
      unfold Ideal.div
      rw [if_neg (by exact_mod_cast (by norm_num : (1024 : ℝ) ≠ 0)), ← EReal.coe_inv]
      exact EReal.top_mul_coe_of_pos (by norm_num)
    rw [hs, hd, EReal.top_add_coe]
    refine ⟨0, ?_⟩
    rw [rsqrt_top, mul_zero, zero_mul, EReal.coe_zero]

/-- A logit of real numbers is real. -/
theorem logit_real (h w : Fin 1024 → EReal) (b : EReal) (hh : ∀ k, ∃ r : ℝ, h k = (r : EReal))
    (hw : ∀ k, ∃ r : ℝ, w k = (r : EReal)) (hb : ∃ r : ℝ, b = (r : EReal)) : ∃ r : ℝ, logit h w b = (r : EReal) := by
  choose x hx using hh
  choose y hy using hw
  obtain ⟨β, rfl⟩ := hb
  refine ⟨∑ k, x k * y k + β, ?_⟩
  rw [EReal.coe_add, coe_sum]
  exact congrArg (fun z : EReal => z + (β : EReal)) (Finset.sum_congr rfl fun k _ => by rw [hx, hy, EReal.coe_mul])

/-- An extended real whose absolute value is below `⊤` is real. -/
theorem real_of_ne (x : EReal) (h1 : x ≠ ⊥) (h2 : x ≠ ⊤) : ∃ r : ℝ, x = (r : EReal) :=
  ⟨x.toReal, (EReal.coe_toReal h2 h1).symm⟩

end Cert.Moe
-- ==== Proof.KPoint.lean ====
/-
  The kernel's block computations read at an index over the extended reals: the normalised rows, the router's logits,
  one expert's output, the gate of the point's expert, and the accumulation.
-/
module

public import proofs.«01_k».proof.Proof.KRow
public import proofs.«01_k».proof.Proof.Spec
public import Idealize.ShloMosaic.Lib.MatmulPlain

@[expose] public section

noncomputable section

open scoped BigOperators

namespace Cert.KernelIdeal.KPoint

open Idealize.ShloMosaic
open Cert.KernelIdeal Cert.KernelIdeal.Gen Cert.KernelIdeal.Blocks Cert.KernelIdeal.KRow Cert.Moe

/-! ## Products and row broadcasts -/

theorem same2 {n m : Nat} (a : Fin n) (b : Fin m) : (ValueIdx.ix2 a b) = (ix2 a b : (⟨2, ![n, m]⟩ : Shape).Idx) :=
  funext fun k => match k with | ⟨0, _⟩ => rfl | ⟨1, _⟩ => rfl

theorem mmPlain {M K N : ℕ} (d : DotDims ⟨2, ![M, K]⟩ ⟨2, ![K, N]⟩ ⟨2, ![M, N]⟩) (hd : d = DotDims.plain M K N)
    {φ₁ φ₂ : FTy} (lhs : FVec Ideal ⟨2, ![M, K]⟩ φ₁) (rhs : FVec Ideal ⟨2, ![K, N]⟩ φ₂) (r : Fin M) (c : Fin N) :
    matmul d none lhs rhs (constant ⟨2, ![M, N]⟩ .f32 0x00000000#32) (ix2 r c)
      = ∑ k : Fin K, lhs (ix2 r k) * rhs (ix2 k c) := by
  subst hd
  have h := Ideal.matmul_plain_apply (φ₁ := φ₁) (φ₂ := φ₂) none lhs rhs (constant ⟨2, ![M, N]⟩ .f32 0x00000000#32) r c
  simp only [same2] at h
  refine h.trans ?_
  show Ideal.ofBits .f32 0x00000000#32 + _ = _
  rw [Ideal.ofBits_zero_f32, zero_add]

theorem brow {α : Type} (x : S1x1024.Idx → α) (r : Fin 512) (n : Fin 1024) :
    broadcastTo S512x1024 x broadcasts_S1x1024_S512x1024 (ix2 r n) = x (ix2 0 n) :=
  broadcastTo_apply x _ _ _ fun a => match a with | ⟨0, _⟩ => rfl | ⟨1, _⟩ => rfl

theorem brow' {α : Type} (x : S1x128.Idx → α) (r : Fin 512) (n : Fin 128) :
    broadcastTo S512x128 x broadcasts_S1x128_S512x128 (ix2 r n) = x (ix2 0 n) :=
  broadcastTo_apply x _ _ _ fun a => match a with | ⟨0, _⟩ => rfl | ⟨1, _⟩ => rfl

theorem drop1 {α : Type} (x : S1x1024x512.Idx → α) (k : Fin 1024) (f : Fin 512) :
    shapeCast S1024x512 x shapeCasts_S1x1024x512_S1024x512 (ix2 k f) = x (ix3 0 k f) :=
  shapeCast_apply x _ _ _ (by
    rw [rowMajor_val3 _ (1024 * 512) 512 rfl rfl, rowMajor_val2 _ 512 rfl]
    show 0 * (1024 * 512) + k.val * 512 + f.val = k.val * 512 + f.val
    omega)

theorem drop1' {α : Type} (x : S1x512x1024.Idx → α) (f : Fin 512) (d : Fin 1024) :
    shapeCast S512x1024 x shapeCasts_S1x512x1024_S512x1024 (ix2 f d) = x (ix3 0 f d) :=
  shapeCast_apply x _ _ _ (by
    rw [rowMajor_val3 _ (512 * 1024) 1024 rfl rfl, rowMajor_val2 _ 1024 rfl]
    show 0 * (512 * 1024) + f.val * 1024 + d.val = f.val * 1024 + d.val
    omega)

/-! ## The point's payloads -/

theorem pay2_apply (x0 : Vec Ideal S512x1024 .f32) (x1 : Vec Ideal S1x1024 .f32) (r : Fin 512) (d : Fin 1024) :
    k0_pay2 x0 x1 (ix2 r d) = nrm (fun k => x0 (ix2 r k)) (fun k => x1 (ix2 0 k)) d := by
  unfold k0_pay2
  rw [shapeCast_self]
  show x0 (ix2 r d) * broadcastTo S512x1024 _ broadcasts_S512x1_S512x1024 (ix2 r d)
    * broadcastTo S512x1024 x1 broadcasts_S1x1024_S512x1024 (ix2 r d) = _
  rw [brow, bcol']
  show x0 (ix2 r d) * Ideal.rsqrt (Ideal.div (shapeCast S512x1 (multiReduction (F := Ideal) .add [1] S512 (mulf (F := Ideal) x0 x0) 0x00000000#32
    reduces_S512x1024_S512 (.inl rfl) rfl) shapeCasts_S512_S512x1 (ix2 r 0)) (Ideal.ofBits .f32 0x44800000#32)
      + Ideal.ofBits .f32 0x358637BD#32) * x1 (ix2 0 d) = _
  rw [ccol, addrow']
  rfl

theorem pay3_apply (x0 : Vec Ideal S512x1024 .f32) (x1 : Vec Ideal S1x1024 .f32) (r : Fin 512) (d : Fin 1024) :
    k0_pay3 x0 x1 (ix2 r d) = nrm (fun k => x0 (ix2 r k)) (fun k => x1 (ix2 0 k)) d := by
  unfold k0_pay3
  rw [shapeCast_self]
  exact pay2_apply x0 x1 r d

theorem pay4_apply (x0 : Vec Ideal S512x1024 .f32) (x1 : Vec Ideal S1x1024 .f32) (x2 : Vec Ideal S1024x128 .bf16)
    (x3 : Vec Ideal S1x128 .f32) (r : Fin 512) (n : Fin 128) :
    k0_pay4 x0 x1 x2 x3 (ix2 r n)
      = logit (nrm (fun k => x0 (ix2 r k)) (fun k => x1 (ix2 0 k))) (fun k => x2 (ix2 k n)) (x3 (ix2 0 n)) := by
  unfold k0_pay4
  rw [shapeCast_self, shapeCast_self]
  show matmul dot_S512x1024_S1024x128_S512x128_1_0_0_1_n_n none (k0_pay2 x0 x1) x2 (constant S512x128 .f32 0x00000000#32) (ix2 r n)
    + broadcastTo S512x128 x3 broadcasts_S1x128_S512x128 (ix2 r n) = _
  rw [brow', mmPlain dot_S512x1024_S1024x128_S512x128_1_0_0_1_n_n rfl]
  simp only [pay2_apply]
  rfl

theorem pay13_apply (xs : Vec Ideal S512x1024 .bf16) (x4 x5 : Vec Ideal S1x1024x512 .bf16) (x6 : Vec Ideal S1x512x1024 .bf16)
    (r : Fin 512) (d : Fin 1024) :
    k0_pay13 xs x4 x5 x6 (ix2 r d)
      = expert (fun k => xs (ix2 r k)) (fun k f => x4 (ix3 0 k f)) (fun k f => x5 (ix3 0 k f)) (fun f => x6 (ix3 0 f d)) := by
  unfold k0_pay13
  refine (mmPlain dot_S512x512_S512x1024_S512x1024_1_0_0_1_n_n rfl _ _ r d).trans ?_
  refine Finset.sum_congr rfl fun f _ => ?_
  rw [drop1']
  refine congrArg (fun z : EReal => z * x6 (ix3 0 f d)) ?_
  have hA : ∀ x : Vec Ideal S1x1024x512 .bf16, matmul (F := Ideal) dot_S512x1024_S1024x512_S512x512_1_0_0_1_n_n none xs
      (shapeCast S1024x512 x shapeCasts_S1x1024x512_S1024x512) (constant (F := Ideal) S512x512 .f32 0x00000000#32) (ix2 r f)
      = ∑ k, xs (ix2 r k) * x (ix3 0 k f) := fun x => by
    rw [mmPlain dot_S512x1024_S1024x512_S512x512_1_0_0_1_n_n rfl]
    exact Finset.sum_congr rfl fun k _ => by rw [drop1]
  rw [← hA x4, ← hA x5]
  generalize matmul (F := Ideal) dot_S512x1024_S1024x512_S512x512_1_0_0_1_n_n none xs
      (shapeCast S1024x512 x4 shapeCasts_S1x1024x512_S1024x512) (constant (F := Ideal) S512x512 .f32 0x00000000#32) = a
  generalize matmul (F := Ideal) dot_S512x1024_S1024x512_S512x512_1_0_0_1_n_n none xs
      (shapeCast S1024x512 x5 shapeCasts_S1x1024x512_S1024x512) (constant (F := Ideal) S512x512 .f32 0x00000000#32) = b
  show a (ix2 r f) * Ideal.div (Ideal.ofBits .f32 0x3F800000#32) (Ideal.ofBits .f32 0x3F800000#32
    + Ideal.exp (Ideal.ofBits .f32 0x00000000#32 - a (ix2 r f))) * b (ix2 r f) = _
  rw [Ideal.ofBits_zero_f32, zero_sub]
  rfl

theorem pay14_apply (i : grid0.Coords) (v : Vec Ideal S512x128 .f32) (r : Fin 512) (n : Fin 128) (hn : n.val = (i 1).val + 4) :
    k0_pay14 i v (ix2 r 0) = v (ix2 r n) := by
  unfold k0_pay14
  refine (colSum _ r).trans ?_
  have hv : ∀ k : Fin 128, select (cmpi .eq lanes (broadcast S512x128 (Scalar.addi (BitVec.ofNat 32 (i 1).val) 4#32)))
      v (broadcast S512x128 (Scalar.ofBits (F := Ideal) .f32 0x00000000#32)) (ix2 r k) = if k = n then v (ix2 r k) else 0 := fun k => by
    show Scalar.select (IntOp.cmpi .eq (lanes (ix2 r k)) (BitVec.ofNat 32 (i 1).val + 4#32)) (v (ix2 r k)) (Ideal.ofBits .f32 0x00000000#32) = _
    rw [lanes_apply, Ideal.ofBits_zero_f32]
    have h4 : BitVec.ofNat 32 (i 1).val + 4#32 = BitVec.ofNat 32 n.val := by rw [hn, BitVec.ofNat_add]
    rw [h4]
    show Scalar.select (BitVec.ofBool (BitVec.ofNat 32 k.val == BitVec.ofNat 32 n.val)) _ _ = _
    have h5 : (BitVec.ofNat 32 k.val == BitVec.ofNat 32 n.val) = decide (k = n) := by
      rw [Bool.eq_iff_iff, beq_iff_eq, decide_eq_true_iff]; exact toNat_lane k n
    rw [h5, select_ofBool]
  refine (Finset.sum_congr rfl fun k _ => hv k).trans ?_
  simp

theorem pay1_apply (a : FVec Ideal S512x1024 .f32) (b : FVec Ideal S512x1 .f32) (x : Vec Ideal S512x1024 .f32) (r : Fin 512) (d : Fin 1024) :
    k0_pay1 a b x (ix2 r d) = x (ix2 r d) + b (ix2 r 0) * a (ix2 r d) := by
  unfold k0_pay1
  rw [shapeCast_self]
  show x (ix2 r d) + broadcastTo S512x1024 b broadcasts_S512x1_S512x1024 (ix2 r d) * a (ix2 r d) = _
  rw [bcol']

end Cert.KernelIdeal.KPoint
-- ==== Proof.KWin.lean ====
/-
  The kernel's input blocks read at an index: each as the argument array it is a block of, through the host operations
  that concatenate, pad, round and reshape before the call.
-/
module

public import proofs.«01_k».proof.Proof.KPoint
public import Idealize.ShloMosaic.Lib.StableHlo.Run

@[expose] public section

noncomputable section

open scoped BigOperators

namespace Cert.KernelIdeal.KWin

open Idealize.ShloMosaic Idealize.ShloMosaic.TcCoe Idealize.SL.Sem
open Cert.KernelIdeal Cert.KernelIdeal.Gen Cert.KernelIdeal.Blocks Cert.KernelIdeal.KRow Cert.Moe

variable (m : (ℓ : Loc nD τ sig) → Buf (Elt Ideal) ℓ) (c : Dev nD)

/-! ## The arrays the call reads -/

/-- The router weights and the zeros that fill the lanes. -/
def wparts : List ((s : Shape) × Vec Ideal s .f32) :=
  [⟨S1024x4, (m ((c : Thread nD τ).loc main_arg2) : Vec Ideal S1024x4 .f32)⟩,
    ⟨S1024x16, (m ((c : Thread nD τ).loc main_arg4) : Vec Ideal S1024x16 .f32)⟩,
    ⟨S1024x108, broadcastInDim S1024x108 ![] bcast_S_S1024x108 (constant (F := Ideal) S_ .f32 0x00000000#32)⟩]

/-- The router weights side by side, zeros after the twenty columns in use. -/
def wcat : Vec Ideal S1024x128 .f32 :=
  concatenate S1024x128 1 (wparts m c) concatenates_S1024x4_S1024x16_S1024x108_S1024x128_d1

/-- The router biases and the zeros that fill the lanes. -/
def bparts : List ((s : Shape) × Vec Ideal s .f32) :=
  [⟨S4, (m ((c : Thread nD τ).loc main_arg3) : Vec Ideal S4 .f32)⟩,
    ⟨S16, (m ((c : Thread nD τ).loc main_arg5) : Vec Ideal S16 .f32)⟩,
    ⟨S108, broadcastInDim S108 ![] bcast_S_S108 (constant (F := Ideal) S_ .f32 0x00000000#32)⟩]

/-- The router biases in a row, zeros after the twenty in use. -/
def bcat : Vec Ideal S128 .f32 :=
  concatenate S128 0 (bparts m c) concatenates_S4_S16_S108_S128_d0

theorem V_v2 : (V m c main_v2 : Vec Ideal S1024x128 .bf16) = wcat m c := by
  simp only [V, hostOps0]; after_results_simp <;> rfl

theorem V_v5 : (V m c main_v5 : Vec Ideal S1x128 .f32) = shapeCast S1x128 (bcat m c) shapeCasts_S128_S1x128 := by
  simp only [V, hostOps0]; after_results_simp <;> rfl

theorem V_v6 : (V m c main_v6 : Vec Ideal S16x1024x512 .bf16) = (m ((c : Thread nD τ).loc main_arg6) : Vec Ideal S16x1024x512 .f32) := by
  simp only [V, hostOps0]; after_results_simp <;> rfl

theorem V_v7 : (V m c main_v7 : Vec Ideal S16x1024x512 .bf16) = (m ((c : Thread nD τ).loc main_arg7) : Vec Ideal S16x1024x512 .f32) := by
  simp only [V, hostOps0]; after_results_simp <;> rfl

theorem V_v8 : (V m c main_v8 : Vec Ideal S16x512x1024 .bf16) = (m ((c : Thread nD τ).loc main_arg8) : Vec Ideal S16x512x1024 .f32) := by
  simp only [V, hostOps0]; after_results_simp <;> rfl

theorem V_v9 : (V m c main_v9 : Vec Ideal S1x1024 .f32)
    = shapeCast S1x1024 (m ((c : Thread nD τ).loc main_arg1) : Vec Ideal S1024 .f32) shapeCasts_S1024_S1x1024 := by
  simp only [V, hostOps0]; after_results_simp <;> rfl

/-! ## Their entries -/

theorem wcat_group (k : Fin 1024) (j : Fin 4) :
    wcat m c (ix2 k (j.castLE (by decide))) = (m ((c : Thread nD τ).loc main_arg2) : Vec Ideal S1024x4 .f32) (ix2 k j) := by
  exact concatenate_apply_piece (t := S1024x128) 1 (wparts m c) concatenates_S1024x4_S1024x16_S1024x108_S1024x128_d1 (ix2 k (j.castLE (by decide))) 0 (show 0 < 3 by decide) S1024x4 _ rfl rfl 0 rfl (ix2 k j)
    (fun b hb => match b with | ⟨0, _⟩ => rfl | ⟨1, _⟩ => absurd rfl hb) (Nat.zero_add _)

theorem wcat_expert (k : Fin 1024) (n : Fin 128) (e : Fin 16) (hn : n.val = 4 + e.val) :
    wcat m c (ix2 k n) = (m ((c : Thread nD τ).loc main_arg4) : Vec Ideal S1024x16 .f32) (ix2 k e) := by
  exact concatenate_apply_piece (t := S1024x128) 1 (wparts m c) concatenates_S1024x4_S1024x16_S1024x108_S1024x128_d1 (ix2 k n) 1 (show 1 < 3 by decide) S1024x16 _ rfl rfl 4 rfl (ix2 k e)
    (fun b hb => match b with | ⟨0, _⟩ => rfl | ⟨1, _⟩ => absurd rfl hb) hn.symm

theorem wcat_rest (k : Fin 1024) (n : Fin 128) (q : Fin 108) (hn : n.val = 20 + q.val) : wcat m c (ix2 k n) = 0 := by
  exact (concatenate_apply_piece (t := S1024x128) 1 (wparts m c) concatenates_S1024x4_S1024x16_S1024x108_S1024x128_d1 (ix2 k n) 2 (show 2 < 3 by decide) S1024x108 _ rfl rfl 20 rfl (ix2 k q)
    (fun b hb => match b with | ⟨0, _⟩ => rfl | ⟨1, _⟩ => absurd rfl hb) hn.symm).trans Ideal.ofBits_zero_f32

theorem bcat_group (j : Fin 4) :
    bcat m c (ix1 (j.castLE (by decide))) = (m ((c : Thread nD τ).loc main_arg3) : Vec Ideal S4 .f32) (ix1 j) := by
  exact concatenate_apply_piece (t := S128) 0 (bparts m c) concatenates_S4_S16_S108_S128_d0 (ix1 (j.castLE (by decide))) 0 (show 0 < 3 by decide) S4 _ rfl rfl 0 rfl (ix1 j)
    (fun b hb => match b with | ⟨0, _⟩ => absurd rfl hb) (Nat.zero_add _)

theorem bcat_expert (n : Fin 128) (e : Fin 16) (hn : n.val = 4 + e.val) :
    bcat m c (ix1 n) = (m ((c : Thread nD τ).loc main_arg5) : Vec Ideal S16 .f32) (ix1 e) := by
  exact concatenate_apply_piece (t := S128) 0 (bparts m c) concatenates_S4_S16_S108_S128_d0 (ix1 n) 1 (show 1 < 3 by decide) S16 _ rfl rfl 4 rfl (ix1 e)
    (fun b hb => match b with | ⟨0, _⟩ => absurd rfl hb) hn.symm

theorem bcat_rest (n : Fin 128) (q : Fin 108) (hn : n.val = 20 + q.val) : bcat m c (ix1 n) = 0 := by
  exact (concatenate_apply_piece (t := S128) 0 (bparts m c) concatenates_S4_S16_S108_S128_d0 (ix1 n) 2 (show 2 < 3 by decide) S108 _ rfl rfl 20 rfl (ix1 q)
    (fun b hb => match b with | ⟨0, _⟩ => absurd rfl hb) hn.symm).trans Ideal.ofBits_zero_f32

/-! ## The blocks -/

theorem idx0 : ∀ t : Fin cfg0.N, win0_0.index t (0 : Fin 2) = t.val / 16 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val % 16 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val % 16 ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val % 16 ∧ win0_6.index t (1 : Fin 3) = 0 ∧ win0_6.index t (2 : Fin 3) = 0 :=
  (by decide +kernel : ∀ t : Fin grid0.N, _)

theorem expertOf : ∀ t : Fin cfg0.N, ((grid0.coords t) 1).val = t.val % 16 :=
  (by decide +kernel : ∀ t : Fin grid0.N, _)

theorem blk0 (t : Fin cfg0.N) (r : Fin 512) (k : Fin 1024) (q : Fin 65536) (hq : q.val = t.val / 16 * 512 + r.val) :
    (iblk m c 0 t : Vec Ideal S512x1024 .f32) (ix2 r k) = (m ((c : Thread nD τ).loc main_arg0) : Vec Ideal S65536x1024 .f32) (ix2 q k) := by
  unfold iblk
  rw [View.read_apply]
  show V m c main_arg0 _ = _
  rw [V_main_arg0]
  congr 1
  funext a
  apply Fin.ext
  match a with
  | ⟨0, _⟩ =>
    show win0_0.index t (0 : Fin 2) * 512 + 1 * r.val = q.val
    rw [(idx0 t).1, hq]; omega
  | ⟨1, _⟩ =>
    show win0_0.index t (1 : Fin 2) * 1024 + 1 * k.val = k.val
    rw [(idx0 t).2]; omega

theorem blk1 (t : Fin cfg0.N) (k : Fin 1024) :
    (iblk m c 1 t : Vec Ideal S1x1024 .f32) (ix2 0 k) = (m ((c : Thread nD τ).loc main_arg1) : Vec Ideal S1024 .f32) (ix1 k) := by
  have h : (iblk m c 1 t : Vec Ideal S1x1024 .f32) (ix2 0 k) = (V m c main_v9 : Vec Ideal S1x1024 .f32) (ix2 0 k) := by
    unfold iblk
    rw [View.read_apply]
    show V m c main_v9 _ = _
    congr 1
    funext a
    apply Fin.ext
    match a with
    | ⟨0, _⟩ =>
      show win0_1.index t (0 : Fin 2) * 1 + 1 * 0 = 0
      rw [(idx1 t).1]
    | ⟨1, _⟩ =>
      show win0_1.index t (1 : Fin 2) * 1024 + 1 * k.val = k.val
      rw [(idx1 t).2]; omega
  rw [h, V_v9]
  exact shapeCast_apply _ _ _ _ (by
    refine (rowMajor_val1 (ix1 k)).trans (Eq.trans ?_ (rowMajor_val2 _ 1024 rfl).symm)
    show k.val = 0 * 1024 + k.val
    omega)

theorem blk2 (t : Fin cfg0.N) (k : Fin 1024) (n : Fin 128) :
    (iblk m c 2 t : Vec Ideal S1024x128 .bf16) (ix2 k n) = wcat m c (ix2 k n) := by
  rw [← V_v2]
  unfold iblk
  rw [View.read_apply]
  show V m c main_v2 _ = _
  congr 1
  funext a
  apply Fin.ext
  match a with
  | ⟨0, _⟩ =>
    show win0_2.index t (0 : Fin 2) * 1024 + 1 * k.val = k.val
    rw [(idx2 t).1]; omega
  | ⟨1, _⟩ =>
    show win0_2.index t (1 : Fin 2) * 128 + 1 * n.val = n.val
    rw [(idx2 t).2]; omega

theorem blk3 (t : Fin cfg0.N) (n : Fin 128) : (iblk m c 3 t : Vec Ideal S1x128 .f32) (ix2 0 n) = bcat m c (ix1 n) := by
  have h : (iblk m c 3 t : Vec Ideal S1x128 .f32) (ix2 0 n) = (V m c main_v5 : Vec Ideal S1x128 .f32) (ix2 0 n) := by
    unfold iblk
    rw [View.read_apply]
    show V m c main_v5 _ = _
    congr 1
    funext a
    apply Fin.ext
    match a with
    | ⟨0, _⟩ =>
      show win0_3.index t (0 : Fin 2) * 1 + 1 * 0 = 0
      rw [(idx3 t).1]
    | ⟨1, _⟩ =>
      show win0_3.index t (1 : Fin 2) * 128 + 1 * n.val = n.val
      rw [(idx3 t).2]; omega
  rw [h, V_v5]
  exact shapeCast_apply _ _ _ _ (by
    refine (rowMajor_val1 (ix1 n)).trans (Eq.trans ?_ (rowMajor_val2 _ 128 rfl).symm)
    show n.val = 0 * 128 + n.val
    omega)

theorem blk4 (t : Fin cfg0.N) (k : Fin 1024) (f : Fin 512) (e : Fin 16) (he : e.val = t.val % 16) :
    (iblk m c 4 t : Vec Ideal S1x1024x512 .bf16) (ix3 0 k f) = (m ((c : Thread nD τ).loc main_arg6) : Vec Ideal S16x1024x512 .f32) (ix3 e k f) := by
  refine Eq.trans ?_ (congrFun (V_v6 m c) (ix3 e k f))
  unfold iblk
  rw [View.read_apply]
  show V m c main_v6 _ = _
  congr 1
  funext a
  apply Fin.ext
  match a with
  | ⟨0, _⟩ =>
    show win0_4.index t (0 : Fin 3) * 1 + 1 * 0 = e.val
    rw [(idx4 t).1, he]; omega
  | ⟨1, _⟩ =>
    show win0_4.index t (1 : Fin 3) * 1024 + 1 * k.val = k.val
    rw [(idx4 t).2.1]; omega
  | ⟨2, _⟩ =>
    show win0_4.index t (2 : Fin 3) * 512 + 1 * f.val = f.val
    rw [(idx4 t).2.2]; omega

theorem blk5 (t : Fin cfg0.N) (k : Fin 1024) (f : Fin 512) (e : Fin 16) (he : e.val = t.val % 16) :
    (iblk m c 5 t : Vec Ideal S1x1024x512 .bf16) (ix3 0 k f) = (m ((c : Thread nD τ).loc main_arg7) : Vec Ideal S16x1024x512 .f32) (ix3 e k f) := by
  refine Eq.trans ?_ (congrFun (V_v7 m c) (ix3 e k f))
  unfold iblk
  rw [View.read_apply]
  show V m c main_v7 _ = _
  congr 1
  funext a
  apply Fin.ext
  match a with
  | ⟨0, _⟩ =>
    show win0_5.index t (0 : Fin 3) * 1 + 1 * 0 = e.val
    rw [(idx5 t).1, he]; omega
  | ⟨1, _⟩ =>
    show win0_5.index t (1 : Fin 3) * 1024 + 1 * k.val = k.val
    rw [(idx5 t).2.1]; omega
  | ⟨2, _⟩ =>
    show win0_5.index t (2 : Fin 3) * 512 + 1 * f.val = f.val
    rw [(idx5 t).2.2]; omega

theorem blk6 (t : Fin cfg0.N) (f : Fin 512) (d : Fin 1024) (e : Fin 16) (he : e.val = t.val % 16) :
    (iblk m c 6 t : Vec Ideal S1x512x1024 .bf16) (ix3 0 f d) = (m ((c : Thread nD τ).loc main_arg8) : Vec Ideal S16x512x1024 .f32) (ix3 e f d) := by
  refine Eq.trans ?_ (congrFun (V_v8 m c) (ix3 e f d))
  unfold iblk
  rw [View.read_apply]
  show V m c main_v8 _ = _
  congr 1
  funext a
  apply Fin.ext
  match a with
  | ⟨0, _⟩ =>
    show win0_6.index t (0 : Fin 3) * 1 + 1 * 0 = e.val
    rw [(idx6 t).1, he]; omega
  | ⟨1, _⟩ =>
    show win0_6.index t (1 : Fin 3) * 512 + 1 * f.val = f.val
    rw [(idx6 t).2.1]; omega
  | ⟨2, _⟩ =>
    show win0_6.index t (2 : Fin 3) * 1024 + 1 * d.val = d.val
    rw [(idx6 t).2.2]; omega

end Cert.KernelIdeal.KWin
-- ==== Proof.KOut.lean ====
/-
  The kernel's output array at an index: the residual plus, over the sixteen experts, the gate the kernel's routing
  gives the expert times the expert's feed-forward value at the normalised row. By induction on the experts of a row block.
-/
module

public import proofs.«01_k».proof.Proof.KWin

@[expose] public section

noncomputable section

open scoped BigOperators

namespace Cert.KernelIdeal.KOut

open Idealize.ShloMosaic Idealize.ShloMosaic.TcCoe Idealize.SL.Sem
open Cert.KernelIdeal Cert.KernelIdeal.Gen Cert.KernelIdeal.Blocks Cert.KernelIdeal.KRow Cert.KernelIdeal.KPoint Cert.KernelIdeal.KWin Cert.Moe

variable (m : (ℓ : Loc nD τ sig) → Buf (Elt Ideal) ℓ) (c : Dev nD)

/-- The normalised rows of the row block of point `t`, as the kernel carries them. -/
def rows (t : Fin cfg0.N) : Vec Ideal S512x1024 .bf16 :=
  k0_pay3 (iblk m c 0 t : Vec Ideal S512x1024 .f32) (iblk m c 1 t : Vec Ideal S1x1024 .f32)

/-- The gates of the row block of point `t`, as the kernel carries them. -/
def gates (t : Fin cfg0.N) : Vec Ideal S512x128 .f32 :=
  gateBlk (iblk m c 0 t : Vec Ideal S512x1024 .f32) (iblk m c 1 t : Vec Ideal S1x1024 .f32)
    (iblk m c 2 t : Vec Ideal S1024x128 .bf16) (iblk m c 3 t : Vec Ideal S1x128 .f32)

/-- The rows of the row block of point `t`. -/
def xblk (t : Fin cfg0.N) : Vec Ideal S512x1024 .f32 := iblk m c 0 t

/-- What a point that opens a row block leaves: the output block. -/
theorem point_A_out (t : Fin cfg0.N) (h0 : t.val % 16 = 0) :
    (outsAt0 m c t.val t.isLt).1
      = k0_pay1 (k0_pay13 (rows m c t) (iblk m c 4 t) (iblk m c 5 t) (iblk m c 6 t)) (k0_pay14 (grid0.coords t) (gates m c t)) (xblk m c t) := by
  rw [outsAt0_A m c t h0]; dsimp only; rw [out_A]; rfl

/-- The carried rows. -/
theorem point_A_rows (t : Fin cfg0.N) (h0 : t.val % 16 = 0) : (outsAt0 m c t.val t.isLt).2.1 = rows m c t := by
  rw [outsAt0_A m c t h0]; dsimp only; rw [sout_A_0]; rfl

/-- The carried gates. -/
theorem point_A_gates (t : Fin cfg0.N) (h0 : t.val % 16 = 0) : (outsAt0 m c t.val t.isLt).2.2 = gates m c t := by
  rw [outsAt0_A m c t h0]; dsimp only; rw [sout_A_1]; rfl

/-- What a later point of a row block leaves, over what the point before left: the output block. -/
theorem point_B_out (n : ℕ) (hn : n + 1 < cfg0.N) (h0 : ¬(n + 1) % 16 = 0) :
    (outsAt0 m c (n + 1) hn).1
      = k0_pay1 (k0_pay13 (outsAt0 m c n (Nat.lt_of_succ_lt hn)).2.1 (iblk m c 4 ⟨n + 1, hn⟩) (iblk m c 5 ⟨n + 1, hn⟩) (iblk m c 6 ⟨n + 1, hn⟩))
          (k0_pay14 (grid0.coords ⟨n + 1, hn⟩) (outsAt0 m c n (Nat.lt_of_succ_lt hn)).2.2) (outsAt0 m c n (Nat.lt_of_succ_lt hn)).1 := by
  rw [outsAt0_B m c ⟨n + 1, hn⟩ h0]; dsimp only; rw [out_B]; rfl

theorem point_B_rows (n : ℕ) (hn : n + 1 < cfg0.N) (h0 : ¬(n + 1) % 16 = 0) :
    (outsAt0 m c (n + 1) hn).2.1 = (outsAt0 m c n (Nat.lt_of_succ_lt hn)).2.1 :=
  (congrArg (fun z => z.2.1) (outsAt0_B m c ⟨n + 1, hn⟩ h0)).trans
    (by dsimp only; unfold sout0_B_0; rfl)

theorem point_B_gates (n : ℕ) (hn : n + 1 < cfg0.N) (h0 : ¬(n + 1) % 16 = 0) :
    (outsAt0 m c (n + 1) hn).2.2 = (outsAt0 m c n (Nat.lt_of_succ_lt hn)).2.2 :=
  (congrArg (fun z => z.2.2) (outsAt0_B m c ⟨n + 1, hn⟩ h0)).trans
    (by dsimp only; unfold sout0_B_1; rfl)

/-- The expert a number names. -/
def ex (e : ℕ) : Fin 16 := ⟨e % 16, Nat.mod_lt _ (by decide)⟩
/-- The lane of an expert's gate. -/
def exLane (e : Fin 16) : Fin 128 := ⟨e.val + 4, by omega⟩

/-- What expert `e` adds at row `r` and column `d`, the row block's rows and gates given. -/
def term (xs : Vec Ideal S512x1024 .bf16) (gs : Vec Ideal S512x128 .f32) (r : Fin 512) (d : Fin 1024) (e : Fin 16) : EReal :=
  gs (ix2 r (exLane e)) * expert (fun k => xs (ix2 r k))
    (fun k f => (m ((c : Thread nD τ).loc main_arg6) : Vec Ideal S16x1024x512 .f32) (ix3 e k f))
    (fun k f => (m ((c : Thread nD τ).loc main_arg7) : Vec Ideal S16x1024x512 .f32) (ix3 e k f))
    (fun f => (m ((c : Thread nD τ).loc main_arg8) : Vec Ideal S16x512x1024 .f32) (ix3 e f d))

/-- One point's step read at an index. -/
theorem step_apply (t : Fin cfg0.N) (xs : Vec Ideal S512x1024 .bf16) (gs : Vec Ideal S512x128 .f32) (x : Vec Ideal S512x1024 .f32)
    (r : Fin 512) (d : Fin 1024) :
    k0_pay1 (k0_pay13 xs (iblk m c 4 t) (iblk m c 5 t) (iblk m c 6 t)) (k0_pay14 (grid0.coords t) gs) x (ix2 r d)
      = x (ix2 r d) + term m c xs gs r d (ex t.val) := by
  have he : (ex t.val).val = t.val % 16 := rfl
  rw [pay1_apply, pay14_apply (grid0.coords t) gs r (exLane (ex t.val)) (by rw [expertOf]; rfl), pay13_apply]
  unfold term
  refine congrArg (fun z => x (ix2 r d) + gs (ix2 r (exLane (ex t.val))) * z) ?_
  have e4 : (fun k f => (iblk m c 4 t : Vec Ideal S1x1024x512 .bf16) (ix3 0 k f))
      = fun k f => (m ((c : Thread nD τ).loc main_arg6) : Vec Ideal S16x1024x512 .f32) (ix3 (ex t.val) k f) :=
    funext fun k => funext fun f => blk4 m c t k f _ he
  have e5 : (fun k f => (iblk m c 5 t : Vec Ideal S1x1024x512 .bf16) (ix3 0 k f))
      = fun k f => (m ((c : Thread nD τ).loc main_arg7) : Vec Ideal S16x1024x512 .f32) (ix3 (ex t.val) k f) :=
    funext fun k => funext fun f => blk5 m c t k f _ he
  have e6 : (fun f => (iblk m c 6 t : Vec Ideal S1x512x1024 .bf16) (ix3 0 f d))
      = fun f => (m ((c : Thread nD τ).loc main_arg8) : Vec Ideal S16x512x1024 .f32) (ix3 (ex t.val) f d) :=
    funext fun f => blk6 m c t f d _ he
  exact (congrArg (fun A => expert _ A _ _) e4).trans ((congrArg (fun A => expert _ _ A _) e5).trans (congrArg (fun A => expert _ _ _ A) e6))

/-- After expert `e` of a row block: the rows and gates of the block, and the output block so far. -/
theorem sweep (t0 : Fin cfg0.N) (h0 : t0.val % 16 = 0) : ∀ (e : ℕ) (_ : e < 16) (hn : t0.val + e < cfg0.N),
    (outsAt0 m c (t0.val + e) hn).2.1 = rows m c t0 ∧ (outsAt0 m c (t0.val + e) hn).2.2 = gates m c t0
    ∧ ∀ (r : Fin 512) (d : Fin 1024), (outsAt0 m c (t0.val + e) hn).1 (ix2 r d)
      = xblk m c t0 (ix2 r d)
        + ∑ e' ∈ Finset.range (e + 1), term m c (rows m c t0) (gates m c t0) r d (ex e') := by
  intro e
  induction e with
  | zero =>
    intro _ hn
    refine ⟨point_A_rows m c t0 h0, point_A_gates m c t0 h0, fun r d => ?_⟩
    refine (congrFun (point_A_out m c t0 h0) (ix2 r d)).trans ((step_apply m c t0 _ _ _ r d).trans ?_)
    rw [Finset.sum_range_one]
    have : ex t0.val = ex 0 := Fin.ext h0
    rw [this]
  | succ e ih =>
    intro he hn
    have hn' : t0.val + e < cfg0.N := Nat.lt_of_succ_lt hn
    obtain ⟨i1, i2, i3⟩ := ih (by omega) hn'
    have hb : ¬(t0.val + e + 1) % 16 = 0 := by omega
    refine ⟨(point_B_rows m c _ hn hb).trans i1, (point_B_gates m c _ hn hb).trans i2, fun r d => ?_⟩
    refine (congrFun (point_B_out m c _ hn hb) (ix2 r d)).trans ((step_apply m c ⟨t0.val + e + 1, hn⟩ _ _ _ r d).trans ?_)
    refine (show _ = (outsAt0 m c (t0.val + e) hn').1 (ix2 r d)
      + term m c (outsAt0 m c (t0.val + e) hn').2.1 (outsAt0 m c (t0.val + e) hn').2.2 r d (ex (t0.val + e + 1)) from rfl).trans ?_
    rw [i1, i2, i3 r d, Finset.sum_range_succ _ (e + 1), ← add_assoc]
    have : ex (t0.val + e + 1) = ex (e + 1) := Fin.ext (by show (t0.val + e + 1) % 16 = (e + 1) % 16; omega)
    rw [this]

/-- The point that opens the row block of row `q`. -/
def opens (q : Fin 65536) : Fin cfg0.N := ⟨16 * (q.val / 512), lt_of_lt_of_eq (by omega) N_0.symm⟩
/-- The row's place in its block. -/
def place (q : Fin 65536) : Fin 512 := ⟨q.val % 512, Nat.mod_lt _ (by decide)⟩

theorem place_spec (q : Fin 65536) : q.val = (opens q).val / 16 * 512 + (place q).val := by
  show q.val = 16 * (q.val / 512) / 16 * 512 + q.val % 512
  omega

/-- The residual array. -/
def xarr : Vec Ideal S65536x1024 .f32 := m ((c : Thread nD τ).loc main_arg0)

/-- The kernel's output array at an index. -/
theorem G7_apply (q : Fin 65536) (d : Fin 1024) :
    Value.G7 m c (ix2 q d) = xarr m c (ix2 q d)
      + ∑ e : Fin 16, term m c (rows m c (opens q)) (gates m c (opens q)) (place q) d e := by
  have hq := q.isLt
  have hd := d.isLt
  have hpt : Value.pt7Of (ix2 q d : S65536x1024.Idx) = (opens q).val + 15 := by
    show 16 * (1 * (q.val / 512 - 0) + 1 * (d.val / 1024 - 0)) + 15 = 16 * (q.val / 512) + 15
    omega
  have hlt : (opens q).val + 15 < cfg0.N := lt_of_lt_of_eq (show 16 * (q.val / 512) + 15 < 2048 by omega) N_0.symm
  have hloc : Value.loc7Of (ix2 q d : S65536x1024.Idx) = ix2 (place q) d := by
    funext a
    apply Fin.ext
    match a with
    | ⟨0, _⟩ => rfl
    | ⟨1, _⟩ => show d.val % 1024 = d.val; omega
  unfold Value.G7
  rw [dif_pos (by rw [hpt]; exact hlt), hloc, Value.fold0_congr m c _ _ ((opens q).val + 15) (by omega) hpt,
    ← Value.outsAt0_sweep m c _ hlt]
  have h := (sweep m c (opens q) (Nat.mul_mod_right _ _) 15 (by decide) hlt).2.2 (place q) d
  refine h.trans ?_
  rw [show xblk m c (opens q) (ix2 (place q) d) = xarr m c (ix2 q d) from blk0 m c (opens q) (place q) d q (place_spec q), Finset.sum_range]
  refine congrArg (fun z => xarr m c (ix2 q d) + z) (Finset.sum_congr rfl fun e _ => ?_)
  have : ex e.val = e := Fin.ext (Nat.mod_eq_of_lt e.isLt)
  rw [this]

/-! ## The router's row -/

/-- The normalised row of row `q`. -/
def hrow (q : Fin 65536) (k : Fin 1024) : EReal :=
  nrm (fun k => (m ((c : Thread nD τ).loc main_arg0) : Vec Ideal S65536x1024 .f32) (ix2 q k))
    (fun k => (m ((c : Thread nD τ).loc main_arg1) : Vec Ideal S1024 .f32) (ix1 k)) k

theorem nrm_row (q : Fin 65536) :
    nrm (fun k => (iblk m c 0 (opens q) : Vec Ideal S512x1024 .f32) (ix2 (place q) k))
      (fun k => (iblk m c 1 (opens q) : Vec Ideal S1x1024 .f32) (ix2 0 k)) = hrow m c q := by
  have e0 : (fun k => (iblk m c 0 (opens q) : Vec Ideal S512x1024 .f32) (ix2 (place q) k))
      = fun k => (m ((c : Thread nD τ).loc main_arg0) : Vec Ideal S65536x1024 .f32) (ix2 q k) :=
    funext fun k => blk0 m c (opens q) (place q) k q (place_spec q)
  have e1 : (fun k => (iblk m c 1 (opens q) : Vec Ideal S1x1024 .f32) (ix2 0 k))
      = fun k => (m ((c : Thread nD τ).loc main_arg1) : Vec Ideal S1024 .f32) (ix1 k) :=
    funext fun k => blk1 m c (opens q) k
  exact (congrArg (fun A => nrm A _) e0).trans (congrArg (fun A => nrm _ A) e1)

theorem rows_apply (q : Fin 65536) (k : Fin 1024) : rows m c (opens q) (ix2 (place q) k) = hrow m c q k :=
  (pay3_apply _ _ (place q) k).trans (congrFun (nrm_row m c q) k)

theorem logits_apply (q : Fin 65536) (n : Fin 128) :
    k0_pay4 (iblk m c 0 (opens q) : Vec Ideal S512x1024 .f32) (iblk m c 1 (opens q) : Vec Ideal S1x1024 .f32)
        (iblk m c 2 (opens q) : Vec Ideal S1024x128 .bf16) (iblk m c 3 (opens q) : Vec Ideal S1x128 .f32) (ix2 (place q) n)
      = logit (hrow m c q) (fun k => wcat m c (ix2 k n)) (bcat m c (ix1 n)) := by
  refine (pay4_apply _ _ _ _ (place q) n).trans ?_
  have e2 : (fun k => (iblk m c 2 (opens q) : Vec Ideal S1024x128 .bf16) (ix2 k n)) = fun k => wcat m c (ix2 k n) :=
    funext fun k => blk2 m c (opens q) k n
  refine (congrArg (fun A => logit A _ _) (nrm_row m c q)).trans ((congrArg (fun A => logit _ A _) e2).trans ?_)
  exact congrArg (fun A => logit _ _ A) (blk3 m c (opens q) n)

end Cert.KernelIdeal.KOut
-- ==== Proof.RefRead.lean ====
/-
  The reference one operation at a time: the value each operation writes as a function of the arguments, and its
  reading at an index.
-/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

-- %0 = stablehlo.multiply %arg0, %arg0 : tensor<65536x1024xf32>
def val_main_v0 (x0 : (⟨S65536x1024, .f32⟩ : BufTy).Contents (Elt F)) : (⟨S65536x1024, .f32⟩ : BufTy).Contents (Elt F) :=
  mulf (x0) (x0)
theorem val_main_v0_apply (x0 : (⟨S65536x1024, .f32⟩ : BufTy).Contents (Elt F)) (i : S65536x1024.Idx) :
    val_main_v0 (F := F) x0 i = FloatOps.mulf (x0 i) (x0 i) := rfl

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %1 = stablehlo.reduce(%0 init: %cst) applies stablehlo.add across dimensions = [1] : (tensor<65536x1024xf32>, tensor<f32>) -> tensor<65536xf32> {
def val_main_v1 (x0 : (⟨S65536x1024, .f32⟩ : BufTy).Contents (Elt F)) : (⟨S65536, .f32⟩ : BufTy).Contents (Elt F) :=
  Host.reduceAdd (val_main_v0 (F := F) x0) (val_main_cst (F := F)) reducesTo_S65536x1024_S65536_d1 h_S_
abbrev idx_main_v1 (i : S65536.Idx) (k : Fin 1024) : S65536x1024.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v1_apply (x0 : (⟨S65536x1024, .f32⟩ : BufTy).Contents (Elt Ideal)) (i : S65536.Idx) :
    val_main_v1 (F := Ideal) x0 i = (val_main_cst (F := Ideal)) (Shape.Idx.first h_S_) + ∑ k : Fin 1024, (val_main_v0 (F := Ideal) x0) (idx_main_v1 i k) := by
  unfold val_main_v1
  generalize val_main_v0 (F := Ideal) x0 = y0
  simp only [Host.reduceAdd, Ideal.hostReduceAdd_def]
  rw [Ideal.hostReduceAdd_single reducesTo_S65536x1024_S65536_d1 (by decide)]
  refine congrArg (_ + ·) (Finset.sum_congr rfl fun k _ => ?_)
  exact congrArg y0 (funext fun a => Fin.ext (by match a with | ⟨0, _⟩ => rfl | ⟨1, _⟩ => rfl))

-- %2 = stablehlo.broadcast_in_dim %1, dims = [0] : (tensor<65536xf32>) -> tensor<65536x1xf32>
def val_main_v2 (x0 : (⟨S65536x1024, .f32⟩ : BufTy).Contents (Elt F)) : (⟨S65536x1, .f32⟩ : BufTy).Contents (Elt F) :=
  broadcastInDim S65536x1 ![0] bcast_S65536_S65536x1_0 (val_main_v1 (F := F) x0)
abbrev idx_main_v2 (i : S65536x1.Idx) : S65536.Idx := fun a => match a with
  | ⟨0, _⟩ => ⟨(i 0).val, (i 0).isLt⟩
theorem val_main_v2_apply (x0 : (⟨S65536x1024, .f32⟩ : BufTy).Contents (Elt F)) (i : S65536x1.Idx) :
    val_main_v2 (F := F) x0 i = val_main_v1 (F := F) x0 (idx_main_v2 i) := by
  unfold val_main_v2
  generalize val_main_v1 (F := F) x0 = y
  exact broadcastInDim_apply _ bcast_S65536_S65536x1_0 y i (idx_main_v2 i) (fun a => match a with
    | ⟨0, _⟩ => by show (i 0).val = if (65536 : Nat) = 1 then 0 else (i 0).val; rw [if_neg (by decide)])

-- %cst_0 = stablehlo.constant dense<1.024000e+03> : tensor<f32>
def val_main_cst_0 : (⟨S_, .f32⟩ : BufTy).Contents (Elt F) :=
  constant S_ .f32 0x44800000#32
theorem val_main_cst_0_apply (i : S_.Idx) :
    val_main_cst_0 (F := F) i = FloatOps.ofBits .f32 0x44800000#32 := rfl

-- %3 = stablehlo.broadcast_in_dim %cst_0, dims = [] : (tensor<f32>) -> tensor<65536x1xf32>
def val_main_v3 : (⟨S65536x1, .f32⟩ : BufTy).Contents (Elt F) :=
  broadcastInDim S65536x1 ![] bcast_S_S65536x1 (val_main_cst_0 (F := F))
abbrev idx_main_v3 (i : S65536x1.Idx) : S_.Idx := fun a => a.elim0
theorem val_main_v3_apply (i : S65536x1.Idx) :
    val_main_v3 (F := F) i = val_main_cst_0 (F := F) (idx_main_v3 i) := by
  unfold val_main_v3
  generalize val_main_cst_0 (F := F) = y
  exact broadcastInDim_apply _ bcast_S_S65536x1 y i (idx_main_v3 i) (fun a => a.elim0)

-- %4 = stablehlo.divide %2, %3 : tensor<65536x1xf32>
def val_main_v4 (x0 : (⟨S65536x1024, .f32⟩ : BufTy).Contents (Elt F)) : (⟨S65536x1, .f32⟩ : BufTy).Contents (Elt F) :=
  Host.divf (val_main_v2 (F := F) x0) (val_main_v3 (F := F))
theorem val_main_v4_apply (x0 : (⟨S65536x1024, .f32⟩ : BufTy).Contents (Elt F)) (i : S65536x1.Idx) :
    val_main_v4 (F := F) x0 i = FloatOps.hostDivf (val_main_v2 (F := F) x0 i) (val_main_v3 (F := F) i) := rfl

-- %cst_1 = stablehlo.constant dense<9.99999997E-7> : tensor<f32>
def val_main_cst_1 : (⟨S_, .f32⟩ : BufTy).Contents (Elt F) :=
  constant S_ .f32 0x358637BD#32
theorem val_main_cst_1_apply (i : S_.Idx) :
    val_main_cst_1 (F := F) i = FloatOps.ofBits .f32 0x358637BD#32 := rfl

-- %5 = stablehlo.broadcast_in_dim %cst_1, dims = [] : (tensor<f32>) -> tensor<65536x1xf32>
def val_main_v5 : (⟨S65536x1, .f32⟩ : BufTy).Contents (Elt F) :=
  broadcastInDim S65536x1 ![] bcast_S_S65536x1 (val_main_cst_1 (F := F))
abbrev idx_main_v5 (i : S65536x1.Idx) : S_.Idx := fun a => a.elim0
theorem val_main_v5_apply (i : S65536x1.Idx) :
    val_main_v5 (F := F) i = val_main_cst_1 (F := F) (idx_main_v5 i) := by
  unfold val_main_v5
  generalize val_main_cst_1 (F := F) = y
  exact broadcastInDim_apply _ bcast_S_S65536x1 y i (idx_main_v5 i) (fun a => a.elim0)

-- %6 = stablehlo.add %4, %5 : tensor<65536x1xf32>
def val_main_v6 (x0 : (⟨S65536x1024, .f32⟩ : BufTy).Contents (Elt F)) : (⟨S65536x1, .f32⟩ : BufTy).Contents (Elt F) :=
  addf (val_main_v4 (F := F) x0) (val_main_v5 (F := F))
theorem val_main_v6_apply (x0 : (⟨S65536x1024, .f32⟩ : BufTy).Contents (Elt F)) (i : S65536x1.Idx) :
    val_main_v6 (F := F) x0 i = FloatOps.addf (val_main_v4 (F := F) x0 i) (val_main_v5 (F := F) i) := rfl

-- %7 = stablehlo.rsqrt %6 : tensor<65536x1xf32>
def val_main_v7 (x0 : (⟨S65536x1024, .f32⟩ : BufTy).Contents (Elt F)) : (⟨S65536x1, .f32⟩ : BufTy).Contents (Elt F) :=
  Host.rsqrt (val_main_v6 (F := F) x0)
theorem val_main_v7_apply (x0 : (⟨S65536x1024, .f32⟩ : BufTy).Contents (Elt F)) (i : S65536x1.Idx) :
    val_main_v7 (F := F) x0 i = FloatOps.hostUnary .rsqrt (val_main_v6 (F := F) x0 i) := rfl

-- %8 = stablehlo.broadcast_in_dim %7, dims = [0, 1] : (tensor<65536x1xf32>) -> tensor<65536x1024xf32>
def val_main_v8 (x0 : (⟨S65536x1024, .f32⟩ : BufTy).Contents (Elt F)) : (⟨S65536x1024, .f32⟩ : BufTy).Contents (Elt F) :=
  broadcastInDim S65536x1024 ![0, 1] bcast_S65536x1_S65536x1024_0_1 (val_main_v7 (F := F) x0)
abbrev idx_main_v8 (i : S65536x1024.Idx) : S65536x1.Idx := fun a => match a with
  | ⟨0, _⟩ => ⟨(i 0).val, (i 0).isLt⟩
  | ⟨1, _⟩ => ⟨0, Nat.one_pos⟩
theorem val_main_v8_apply (x0 : (⟨S65536x1024, .f32⟩ : BufTy).Contents (Elt F)) (i : S65536x1024.Idx) :
    val_main_v8 (F := F) x0 i = val_main_v7 (F := F) x0 (idx_main_v8 i) := by
  unfold val_main_v8
  generalize val_main_v7 (F := F) x0 = y
  exact broadcastInDim_apply _ bcast_S65536x1_S65536x1024_0_1 y i (idx_main_v8 i) (fun a => match a with
    | ⟨0, _⟩ => by show (i 0).val = if (65536 : Nat) = 1 then 0 else (i 0).val; rw [if_neg (by decide)]
    | ⟨1, _⟩ => by show 0 = if (1 : Nat) = 1 then 0 else (i 1).val; rw [if_pos rfl])

-- %9 = stablehlo.multiply %arg0, %8 : tensor<65536x1024xf32>
def val_main_v9 (x0 : (⟨S65536x1024, .f32⟩ : BufTy).Contents (Elt F)) : (⟨S65536x1024, .f32⟩ : BufTy).Contents (Elt F) :=
  mulf (x0) (val_main_v8 (F := F) x0)
theorem val_main_v9_apply (x0 : (⟨S65536x1024, .f32⟩ : BufTy).Contents (Elt F)) (i : S65536x1024.Idx) :
    val_main_v9 (F := F) x0 i = FloatOps.mulf (x0 i) (val_main_v8 (F := F) x0 i) := rfl

-- %10 = stablehlo.broadcast_in_dim %arg1, dims = [1] : (tensor<1024xf32>) -> tensor<1x1024xf32>
def val_main_v10 (x1 : (⟨S1024, .f32⟩ : BufTy).Contents (Elt F)) : (⟨S1x1024, .f32⟩ : BufTy).Contents (Elt F) :=
  broadcastInDim S1x1024 ![1] bcast_S1024_S1x1024_1 (x1)
abbrev idx_main_v10 (i : S1x1024.Idx) : S1024.Idx := fun a => match a with
  | ⟨0, _⟩ => ⟨(i 1).val, (i 1).isLt⟩
theorem val_main_v10_apply (x1 : (⟨S1024, .f32⟩ : BufTy).Contents (Elt F)) (i : S1x1024.Idx) :
    val_main_v10 (F := F) x1 i = x1 (idx_main_v10 i) := by
  unfold val_main_v10
  exact broadcastInDim_apply _ bcast_S1024_S1x1024_1 x1 i (idx_main_v10 i) (fun a => match a with
    | ⟨0, _⟩ => by show (i 1).val = if (1024 : Nat) = 1 then 0 else (i 1).val; rw [if_neg (by decide)])

-- %11 = stablehlo.broadcast_in_dim %10, dims = [0, 1] : (tensor<1x1024xf32>) -> tensor<65536x1024xf32>
def val_main_v11 (x1 : (⟨S1024, .f32⟩ : BufTy).Contents (Elt F)) : (⟨S65536x1024, .f32⟩ : BufTy).Contents (Elt F) :=
  broadcastInDim S65536x1024 ![0, 1] bcast_S1x1024_S65536x1024_0_1 (val_main_v10 (F := F) x1)
abbrev idx_main_v11 (i : S65536x1024.Idx) : S1x1024.Idx := fun a => match a with
  | ⟨0, _⟩ => ⟨0, Nat.one_pos⟩
  | ⟨1, _⟩ => ⟨(i 1).val, (i 1).isLt⟩
theorem val_main_v11_apply (x1 : (⟨S1024, .f32⟩ : BufTy).Contents (Elt F)) (i : S65536x1024.Idx) :
    val_main_v11 (F := F) x1 i = val_main_v10 (F := F) x1 (idx_main_v11 i) := by
  unfold val_main_v11
  generalize val_main_v10 (F := F) x1 = y
  exact broadcastInDim_apply _ bcast_S1x1024_S65536x1024_0_1 y i (idx_main_v11 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

-- %12 = stablehlo.multiply %9, %11 : tensor<65536x1024xf32>
def val_main_v12 (x0 : (⟨S65536x1024, .f32⟩ : BufTy).Contents (Elt F)) (x1 : (⟨S1024, .f32⟩ : BufTy).Contents (Elt F)) : (⟨S65536x1024, .f32⟩ : BufTy).Contents (Elt F) :=
  mulf (val_main_v9 (F := F) x0) (val_main_v11 (F := F) x1)
theorem val_main_v12_apply (x0 : (⟨S65536x1024, .f32⟩ : BufTy).Contents (Elt F)) (x1 : (⟨S1024, .f32⟩ : BufTy).Contents (Elt F)) (i : S65536x1024.Idx) :
    val_main_v12 (F := F) x0 x1 i = FloatOps.mulf (val_main_v9 (F := F) x0 i) (val_main_v11 (F := F) x1 i) := rfl

-- %13 = stablehlo.dot_general %12, %arg2, contracting_dims = [1] x [0], precision = [DEFAULT, DEFAULT] : (tensor<65536x1024xf32>, tensor<1024x4xf32>) -> tensor<65536x4xf32>
def val_main_v13 (x0 : (⟨S65536x1024, .f32⟩ : BufTy).Contents (Elt F)) (x1 : (⟨S1024, .f32⟩ : BufTy).Contents (Elt F)) (x2 : (⟨S1024x4, .f32⟩ : BufTy).Contents (Elt F)) : (⟨S65536x4, .f32⟩ : BufTy).Contents (Elt F) :=
  Host.dotGeneral dot_S65536x1024_S1024x4_S65536x4_1_0_0_1_n_n none (val_main_v12 (F := F) x0 x1) (x2)
theorem lhs_main_v13_0 (i : S65536x4.Idx) (q : dot_S65536x1024_S1024x4_S65536x4_1_0_0_1_n_n.contr.Idx) :
    (dot_S65536x1024_S1024x4_S65536x4_1_0_0_1_n_n.lhsIdx i q 0).val = (i 0).val := by
  unfold DotDims.lhsIdx
  rw [dif_neg (show ¬(0 : Fin S65536x1024.rank) ∈ dot_S65536x1024_S1024x4_S65536x4_1_0_0_1_n_n.lhsBatch by decide), dif_pos (show (0 : Fin S65536x1024.rank) ∈ dot_S65536x1024_S1024x4_S65536x4_1_0_0_1_n_n.lhsNonContracting by decide)]
  rfl
theorem lhs_main_v13_1 (i : S65536x4.Idx) (q : dot_S65536x1024_S1024x4_S65536x4_1_0_0_1_n_n.contr.Idx) :
    (dot_S65536x1024_S1024x4_S65536x4_1_0_0_1_n_n.lhsIdx i q 1).val = (q ⟨0, by decide⟩).val :=
  dot_S65536x1024_S1024x4_S65536x4_1_0_0_1_n_n.lhsIdx_val_of_single rfl i q
theorem rhs_main_v13_0 (i : S65536x4.Idx) (q : dot_S65536x1024_S1024x4_S65536x4_1_0_0_1_n_n.contr.Idx) :
    (dot_S65536x1024_S1024x4_S65536x4_1_0_0_1_n_n.rhsIdx i q 0).val = (q ⟨0, by decide⟩).val :=
  dot_S65536x1024_S1024x4_S65536x4_1_0_0_1_n_n.rhsIdx_val_of_single rfl i q
theorem rhs_main_v13_1 (i : S65536x4.Idx) (q : dot_S65536x1024_S1024x4_S65536x4_1_0_0_1_n_n.contr.Idx) :
    (dot_S65536x1024_S1024x4_S65536x4_1_0_0_1_n_n.rhsIdx i q 1).val = (i 1).val := by
  unfold DotDims.rhsIdx
  rw [dif_neg (show ¬(1 : Fin S1024x4.rank) ∈ dot_S65536x1024_S1024x4_S65536x4_1_0_0_1_n_n.rhsBatch by decide), dif_pos (show (1 : Fin S1024x4.rank) ∈ dot_S65536x1024_S1024x4_S65536x4_1_0_0_1_n_n.rhsNonContracting by decide)]
  rfl
abbrev lidx_main_v13 (i : S65536x4.Idx) (k : Fin 1024) : S65536x1024.Idx := fun a => match a with
  | ⟨0, _⟩ => ⟨(i 0).val, (i 0).isLt⟩
  | ⟨1, _⟩ => ⟨k.val, k.isLt⟩
abbrev ridx_main_v13 (i : S65536x4.Idx) (k : Fin 1024) : S1024x4.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v13_apply (x0 : (⟨S65536x1024, .f32⟩ : BufTy).Contents (Elt Ideal)) (x1 : (⟨S1024, .f32⟩ : BufTy).Contents (Elt Ideal)) (x2 : (⟨S1024x4, .f32⟩ : BufTy).Contents (Elt Ideal)) (i : S65536x4.Idx) :
    val_main_v13 (F := Ideal) x0 x1 x2 i = ∑ k : Fin 1024, (val_main_v12 (F := Ideal) x0 x1) (lidx_main_v13 i k) * x2 (ridx_main_v13 i k) := by
  unfold val_main_v13
  generalize val_main_v12 (F := Ideal) x0 x1 = y0
  simp only [Host.dotGeneral]
  rw [Ideal.dotGeneral_apply, ← Equiv.sum_comp (ValueIdx.contrEquiv1 dot_S65536x1024_S1024x4_S65536x4_1_0_0_1_n_n 1024 rfl rfl).symm]
  refine Finset.sum_congr rfl fun k _ => ?_
  have hk := ValueIdx.contrEquiv1_symm_val dot_S65536x1024_S1024x4_S65536x4_1_0_0_1_n_n 1024 rfl rfl k
  have el : dot_S65536x1024_S1024x4_S65536x4_1_0_0_1_n_n.lhsIdx i ((ValueIdx.contrEquiv1 dot_S65536x1024_S1024x4_S65536x4_1_0_0_1_n_n 1024 rfl rfl).symm k) = lidx_main_v13 i k := funext fun a => Fin.ext (by
    match a with
    | ⟨0, _⟩ => exact lhs_main_v13_0 _ _
    | ⟨1, _⟩ => exact (lhs_main_v13_1 _ _).trans hk)
  have er : dot_S65536x1024_S1024x4_S65536x4_1_0_0_1_n_n.rhsIdx i ((ValueIdx.contrEquiv1 dot_S65536x1024_S1024x4_S65536x4_1_0_0_1_n_n 1024 rfl rfl).symm k) = ridx_main_v13 i k := funext fun a => Fin.ext (by
    match a with
    | ⟨0, _⟩ => exact (rhs_main_v13_0 _ _).trans hk
    | ⟨1, _⟩ => exact rhs_main_v13_1 _ _)
  rw [el, er]

-- %14 = stablehlo.broadcast_in_dim %arg3, dims = [1] : (tensor<4xf32>) -> tensor<1x4xf32>
def val_main_v14 (x3 : (⟨S4, .f32⟩ : BufTy).Contents (Elt F)) : (⟨S1x4, .f32⟩ : BufTy).Contents (Elt F) :=
  broadcastInDim S1x4 ![1] bcast_S4_S1x4_1 (x3)
abbrev idx_main_v14 (i : S1x4.Idx) : S4.Idx := fun a => match a with
  | ⟨0, _⟩ => ⟨(i 1).val, (i 1).isLt⟩
theorem val_main_v14_apply (x3 : (⟨S4, .f32⟩ : BufTy).Contents (Elt F)) (i : S1x4.Idx) :
    val_main_v14 (F := F) x3 i = x3 (idx_main_v14 i) := by
  unfold val_main_v14
  exact broadcastInDim_apply _ bcast_S4_S1x4_1 x3 i (idx_main_v14 i) (fun a => match a with
    | ⟨0, _⟩ => by show (i 1).val = if (4 : Nat) = 1 then 0 else (i 1).val; rw [if_neg (by decide)])

-- %15 = stablehlo.broadcast_in_dim %14, dims = [0, 1] : (tensor<1x4xf32>) -> tensor<65536x4xf32>
def val_main_v15 (x3 : (⟨S4, .f32⟩ : BufTy).Contents (Elt F)) : (⟨S65536x4, .f32⟩ : BufTy).Contents (Elt F) :=
  broadcastInDim S65536x4 ![0, 1] bcast_S1x4_S65536x4_0_1 (val_main_v14 (F := F) x3)
abbrev idx_main_v15 (i : S65536x4.Idx) : S1x4.Idx := fun a => match a with
  | ⟨0, _⟩ => ⟨0, Nat.one_pos⟩
  | ⟨1, _⟩ => ⟨(i 1).val, (i 1).isLt⟩
theorem val_main_v15_apply (x3 : (⟨S4, .f32⟩ : BufTy).Contents (Elt F)) (i : S65536x4.Idx) :
    val_main_v15 (F := F) x3 i = val_main_v14 (F := F) x3 (idx_main_v15 i) := by
  unfold val_main_v15
  generalize val_main_v14 (F := F) x3 = y
  exact broadcastInDim_apply _ bcast_S1x4_S65536x4_0_1 y i (idx_main_v15 i) (fun a => match a with
    | ⟨0, _⟩ => by show 0 = if (1 : Nat) = 1 then 0 else (i 0).val; rw [if_pos rfl]
    | ⟨1, _⟩ => by show (i 1).val = if (4 : Nat) = 1 then 0 else (i 1).val; rw [if_neg (by decide)])

-- %16 = stablehlo.add %13, %15 : tensor<65536x4xf32>
def val_main_v16 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4, .f32⟩ : BufTy).Contents (Elt F) :=
  addf (val_main_v13 (F := F) x0 x1 x2) (val_main_v15 (F := F) x3)
theorem val_main_v16_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4.Idx) :
    val_main_v16 (F := F) x0 x1 x2 x3 i = FloatOps.addf (val_main_v13 (F := F) x0 x1 x2 i) (val_main_v15 (F := F) x3 i) := rfl

-- %cst_2 = stablehlo.constant dense<0xFF800000> : tensor<f32>
def val_main_cst_2 : (⟨S_, .f32⟩ : BufTy).Contents (Elt F) :=
  constant S_ .f32 0xFF800000#32
theorem val_main_cst_2_apply (i : S_.Idx) :
    val_main_cst_2 (F := F) i = FloatOps.ofBits .f32 0xFF800000#32 := rfl

-- %17 = stablehlo.reduce(%16 init: %cst_2) applies stablehlo.maximum across dimensions = [1] : (tensor<65536x4xf32>, tensor<f32>) -> tensor<65536xf32> {
def val_main_v17 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536, .f32⟩ : BufTy).Contents (Elt F) :=
  Host.reduce FloatOps.maximumf (val_main_v16 (F := F) x0 x1 x2 x3) (val_main_cst_2 (F := F)) reducesTo_S65536x4_S65536_d1 h_S_

-- %cst_3 = stablehlo.constant dense<0xFF800000> : tensor<f32>
def val_main_cst_3 : (⟨S_, .f32⟩ : BufTy).Contents (Elt F) :=
  constant S_ .f32 0xFF800000#32
theorem val_main_cst_3_apply (i : S_.Idx) :
    val_main_cst_3 (F := F) i = FloatOps.ofBits .f32 0xFF800000#32 := rfl

-- %18 = stablehlo.broadcast_in_dim %cst_3, dims = [] : (tensor<f32>) -> tensor<65536xf32>
def val_main_v18 : (⟨S65536, .f32⟩ : BufTy).Contents (Elt F) :=
  broadcastInDim S65536 ![] bcast_S_S65536 (val_main_cst_3 (F := F))
abbrev idx_main_v18 (i : S65536.Idx) : S_.Idx := fun a => a.elim0
theorem val_main_v18_apply (i : S65536.Idx) :
    val_main_v18 (F := F) i = val_main_cst_3 (F := F) (idx_main_v18 i) := by
  unfold val_main_v18
  generalize val_main_cst_3 (F := F) = y
  exact broadcastInDim_apply _ bcast_S_S65536 y i (idx_main_v18 i) (fun a => a.elim0)

-- %19 = stablehlo.maximum %18, %17 : tensor<65536xf32>
def val_main_v19 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536, .f32⟩ : BufTy).Contents (Elt F) :=
  maximumf (val_main_v18 (F := F)) (val_main_v17 (F := F) x0 x1 x2 x3)
theorem val_main_v19_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536.Idx) :
    val_main_v19 (F := F) x0 x1 x2 x3 i = FloatOps.maximumf (val_main_v18 (F := F) i) (val_main_v17 (F := F) x0 x1 x2 x3 i) := rfl

-- %20 = stablehlo.broadcast_in_dim %19, dims = [0] : (tensor<65536xf32>) -> tensor<65536x1xf32>
def val_main_v20 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x1, .f32⟩ : BufTy).Contents (Elt F) :=
  broadcastInDim S65536x1 ![0] bcast_S65536_S65536x1_0 (val_main_v19 (F := F) x0 x1 x2 x3)
abbrev idx_main_v20 (i : S65536x1.Idx) : S65536.Idx := fun a => match a with
  | ⟨0, _⟩ => ⟨(i 0).val, (i 0).isLt⟩
theorem val_main_v20_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x1.Idx) :
    val_main_v20 (F := F) x0 x1 x2 x3 i = val_main_v19 (F := F) x0 x1 x2 x3 (idx_main_v20 i) := by
  unfold val_main_v20
  generalize val_main_v19 (F := F) x0 x1 x2 x3 = y
  exact broadcastInDim_apply _ bcast_S65536_S65536x1_0 y i (idx_main_v20 i) (fun a => match a with
    | ⟨0, _⟩ => by show (i 0).val = if (65536 : Nat) = 1 then 0 else (i 0).val; rw [if_neg (by decide)])

-- %21 = stablehlo.broadcast_in_dim %20, dims = [0, 1] : (tensor<65536x1xf32>) -> tensor<65536x4xf32>
def val_main_v21 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4, .f32⟩ : BufTy).Contents (Elt F) :=
  broadcastInDim S65536x4 ![0, 1] bcast_S65536x1_S65536x4_0_1 (val_main_v20 (F := F) x0 x1 x2 x3)
abbrev idx_main_v21 (i : S65536x4.Idx) : S65536x1.Idx := fun a => match a with
  | ⟨0, _⟩ => ⟨(i 0).val, (i 0).isLt⟩
  | ⟨1, _⟩ => ⟨0, Nat.one_pos⟩
theorem val_main_v21_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4.Idx) :
    val_main_v21 (F := F) x0 x1 x2 x3 i = val_main_v20 (F := F) x0 x1 x2 x3 (idx_main_v21 i) := by
  unfold val_main_v21
  generalize val_main_v20 (F := F) x0 x1 x2 x3 = y
  exact broadcastInDim_apply _ bcast_S65536x1_S65536x4_0_1 y i (idx_main_v21 i) (fun a => match a with
    | ⟨0, _⟩ => by show (i 0).val = if (65536 : Nat) = 1 then 0 else (i 0).val; rw [if_neg (by decide)]
    | ⟨1, _⟩ => by show 0 = if (1 : Nat) = 1 then 0 else (i 1).val; rw [if_pos rfl])

-- %22 = stablehlo.subtract %16, %21 : tensor<65536x4xf32>
def val_main_v22 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4, .f32⟩ : BufTy).Contents (Elt F) :=
  subf (val_main_v16 (F := F) x0 x1 x2 x3) (val_main_v21 (F := F) x0 x1 x2 x3)
theorem val_main_v22_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4.Idx) :
    val_main_v22 (F := F) x0 x1 x2 x3 i = FloatOps.subf (val_main_v16 (F := F) x0 x1 x2 x3 i) (val_main_v21 (F := F) x0 x1 x2 x3 i) := rfl

-- %23 = stablehlo.exponential %22 : tensor<65536x4xf32>
def val_main_v23 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4, .f32⟩ : BufTy).Contents (Elt F) :=
  Host.exp (val_main_v22 (F := F) x0 x1 x2 x3)
theorem val_main_v23_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4.Idx) :
    val_main_v23 (F := F) x0 x1 x2 x3 i = FloatOps.hostUnary .exp (val_main_v22 (F := F) x0 x1 x2 x3 i) := rfl

-- %cst_4 = stablehlo.constant dense<0.000000e+00> : tensor<f32>
def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

-- %24 = stablehlo.reduce(%23 init: %cst_4) applies stablehlo.add across dimensions = [1] : (tensor<65536x4xf32>, tensor<f32>) -> tensor<65536xf32> {
def val_main_v24 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536, .f32⟩ : BufTy).Contents (Elt F) :=
  Host.reduceAdd (val_main_v23 (F := F) x0 x1 x2 x3) (val_main_cst_4 (F := F)) reducesTo_S65536x4_S65536_d1 h_S_
abbrev idx_main_v24 (i : S65536.Idx) (k : Fin 4) : S65536x4.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v24_apply (x0 : (⟨S65536x1024, .f32⟩ : BufTy).Contents (Elt Ideal)) (x1 : (⟨S1024, .f32⟩ : BufTy).Contents (Elt Ideal)) (x2 : (⟨S1024x4, .f32⟩ : BufTy).Contents (Elt Ideal)) (x3 : (⟨S4, .f32⟩ : BufTy).Contents (Elt Ideal)) (i : S65536.Idx) :
    val_main_v24 (F := Ideal) x0 x1 x2 x3 i = (val_main_cst_4 (F := Ideal)) (Shape.Idx.first h_S_) + ∑ k : Fin 4, (val_main_v23 (F := Ideal) x0 x1 x2 x3) (idx_main_v24 i k) := by
  unfold val_main_v24
  generalize val_main_v23 (F := Ideal) x0 x1 x2 x3 = y0
  simp only [Host.reduceAdd, Ideal.hostReduceAdd_def]
  rw [Ideal.hostReduceAdd_single reducesTo_S65536x4_S65536_d1 (by decide)]
  refine congrArg (_ + ·) (Finset.sum_congr rfl fun k _ => ?_)
  exact congrArg y0 (funext fun a => Fin.ext (by match a with | ⟨0, _⟩ => rfl | ⟨1, _⟩ => rfl))

-- %25 = stablehlo.broadcast_in_dim %24, dims = [0] : (tensor<65536xf32>) -> tensor<65536x1xf32>
def val_main_v25 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x1, .f32⟩ : BufTy).Contents (Elt F) :=
  broadcastInDim S65536x1 ![0] bcast_S65536_S65536x1_0 (val_main_v24 (F := F) x0 x1 x2 x3)
abbrev idx_main_v25 (i : S65536x1.Idx) : S65536.Idx := fun a => match a with
  | ⟨0, _⟩ => ⟨(i 0).val, (i 0).isLt⟩
theorem val_main_v25_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x1.Idx) :
    val_main_v25 (F := F) x0 x1 x2 x3 i = val_main_v24 (F := F) x0 x1 x2 x3 (idx_main_v25 i) := by
  unfold val_main_v25
  generalize val_main_v24 (F := F) x0 x1 x2 x3 = y
  exact broadcastInDim_apply _ bcast_S65536_S65536x1_0 y i (idx_main_v25 i) (fun a => match a with
    | ⟨0, _⟩ => by show (i 0).val = if (65536 : Nat) = 1 then 0 else (i 0).val; rw [if_neg (by decide)])

-- %26 = stablehlo.broadcast_in_dim %25, dims = [0, 1] : (tensor<65536x1xf32>) -> tensor<65536x4xf32>
def val_main_v26 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4, .f32⟩ : BufTy).Contents (Elt F) :=
  broadcastInDim S65536x4 ![0, 1] bcast_S65536x1_S65536x4_0_1 (val_main_v25 (F := F) x0 x1 x2 x3)
abbrev idx_main_v26 (i : S65536x4.Idx) : S65536x1.Idx := fun a => match a with
  | ⟨0, _⟩ => ⟨(i 0).val, (i 0).isLt⟩
  | ⟨1, _⟩ => ⟨0, Nat.one_pos⟩
theorem val_main_v26_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4.Idx) :
    val_main_v26 (F := F) x0 x1 x2 x3 i = val_main_v25 (F := F) x0 x1 x2 x3 (idx_main_v26 i) := by
  unfold val_main_v26
  generalize val_main_v25 (F := F) x0 x1 x2 x3 = y
  exact broadcastInDim_apply _ bcast_S65536x1_S65536x4_0_1 y i (idx_main_v26 i) (fun a => match a with
    | ⟨0, _⟩ => by show (i 0).val = if (65536 : Nat) = 1 then 0 else (i 0).val; rw [if_neg (by decide)]
    | ⟨1, _⟩ => by show 0 = if (1 : Nat) = 1 then 0 else (i 1).val; rw [if_pos rfl])

-- %27 = stablehlo.divide %23, %26 : tensor<65536x4xf32>
def val_main_v27 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4, .f32⟩ : BufTy).Contents (Elt F) :=
  Host.divf (val_main_v23 (F := F) x0 x1 x2 x3) (val_main_v26 (F := F) x0 x1 x2 x3)
theorem val_main_v27_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4.Idx) :
    val_main_v27 (F := F) x0 x1 x2 x3 i = FloatOps.hostDivf (val_main_v23 (F := F) x0 x1 x2 x3 i) (val_main_v26 (F := F) x0 x1 x2 x3 i) := rfl

-- @argmax's %0 = stablehlo.iota dim = 1 : tensor<65536x4xi32>, in %28 = func.call @argmax(…) (record main_call0)
def val_main_call0_v0 : (⟨S65536x4, .i32⟩ : BufTy).Contents (Elt F) :=
  iotaInDim S65536x4 32 1
theorem val_main_call0_v0_apply (i : S65536x4.Idx) :
    val_main_call0_v0 (F := F) i = BitVec.ofNat 32 (i 1).val := rfl

-- @argmax's %cst = stablehlo.constant dense<0xFF800000> : tensor<f32>, in %28 = func.call @argmax(…) (record main_call0)
def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

-- @argmax's %c = stablehlo.constant dense<0> : tensor<i32>, in %28 = func.call @argmax(…) (record main_call0)
def val_main_call0_c : (⟨S_, .i32⟩ : BufTy).Contents (Elt F) :=
  constantI S_ 32 0#32
theorem val_main_call0_c_apply (i : S_.Idx) :
    val_main_call0_c (F := F) i = 0#32 := rfl

-- @argmax's %1:2 = stablehlo.reduce(%arg0 init: %cst), (%0 init: %c) across dimensions = [1] : (tensor<65536x4xf32>, tensor<65536x4xi32>, tensor<f32>, tensor<i32>) -> (tensor<65536xf32>, tensor<65536xi32>) reducer(%arg1: tensor<f32>, %arg3: tensor<f32>) (%arg2: tensor<i32>, %arg4: tensor<i32>) {, in %28 = func.call @argmax(…) (record main_call0)
def val_main_call0_v1_0 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536, .f32⟩ : BufTy).Contents (Elt F) :=
  amax1 (val_main_v27 (F := F) x0 x1 x2 x3) (val_main_call0_v0 (F := F)) (val_main_call0_cst (F := F)) (val_main_call0_c (F := F))

-- %28 = func.call @argmax(…) (record main_call0) result 0: @argmax's %1:2 = stablehlo.reduce(%arg0 init: %cst), (%0 init: %c) across dimensions = [1] : (tensor<65536x4xf32>, tensor<65536x4xi32>, tensor<f32>, tensor<i32>) -> (tensor<65536xf32>, tensor<65536xi32>) reducer(%arg1: tensor<f32>, %arg3: tensor<f32>) (%arg2: tensor<i32>, %arg4: tensor<i32>) {
def val_main_v28 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536, .i32⟩ : BufTy).Contents (Elt F) :=
  amax2 (val_main_v27 (F := F) x0 x1 x2 x3) (val_main_call0_v0 (F := F)) (val_main_call0_cst (F := F)) (val_main_call0_c (F := F))

-- @_one_hot's %0 = stablehlo.broadcast_in_dim %arg0, dims = [0] : (tensor<65536xi32>) -> tensor<65536x1xi32>, in %29 = func.call @_one_hot(…) (record main_call1)
def val_main_call1_v0 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x1, .i32⟩ : BufTy).Contents (Elt F) :=
  broadcastInDim S65536x1 ![0] bcast_S65536_S65536x1_0 (val_main_v28 (F := F) x0 x1 x2 x3)
abbrev idx_main_call1_v0 (i : S65536x1.Idx) : S65536.Idx := fun a => match a with
  | ⟨0, _⟩ => ⟨(i 0).val, (i 0).isLt⟩
theorem val_main_call1_v0_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x1.Idx) :
    val_main_call1_v0 (F := F) x0 x1 x2 x3 i = val_main_v28 (F := F) x0 x1 x2 x3 (idx_main_call1_v0 i) := by
  unfold val_main_call1_v0
  generalize val_main_v28 (F := F) x0 x1 x2 x3 = y
  exact broadcastInDim_apply _ bcast_S65536_S65536x1_0 y i (idx_main_call1_v0 i) (fun a => match a with
    | ⟨0, _⟩ => by show (i 0).val = if (65536 : Nat) = 1 then 0 else (i 0).val; rw [if_neg (by decide)])

-- @_one_hot's %1 = stablehlo.iota dim = 1 : tensor<1x4xi32>, in %29 = func.call @_one_hot(…) (record main_call1)
def val_main_call1_v1 : (⟨S1x4, .i32⟩ : BufTy).Contents (Elt F) :=
  iotaInDim S1x4 32 1
theorem val_main_call1_v1_apply (i : S1x4.Idx) :
    val_main_call1_v1 (F := F) i = BitVec.ofNat 32 (i 1).val := rfl

-- @_one_hot's %2 = stablehlo.broadcast_in_dim %0, dims = [0, 1] : (tensor<65536x1xi32>) -> tensor<65536x4xi32>, in %29 = func.call @_one_hot(…) (record main_call1)
def val_main_call1_v2 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4, .i32⟩ : BufTy).Contents (Elt F) :=
  broadcastInDim S65536x4 ![0, 1] bcast_S65536x1_S65536x4_0_1 (val_main_call1_v0 (F := F) x0 x1 x2 x3)
abbrev idx_main_call1_v2 (i : S65536x4.Idx) : S65536x1.Idx := fun a => match a with
  | ⟨0, _⟩ => ⟨(i 0).val, (i 0).isLt⟩
  | ⟨1, _⟩ => ⟨0, Nat.one_pos⟩
theorem val_main_call1_v2_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4.Idx) :
    val_main_call1_v2 (F := F) x0 x1 x2 x3 i = val_main_call1_v0 (F := F) x0 x1 x2 x3 (idx_main_call1_v2 i) := by
  unfold val_main_call1_v2
  generalize val_main_call1_v0 (F := F) x0 x1 x2 x3 = y
  exact broadcastInDim_apply _ bcast_S65536x1_S65536x4_0_1 y i (idx_main_call1_v2 i) (fun a => match a with
    | ⟨0, _⟩ => by show (i 0).val = if (65536 : Nat) = 1 then 0 else (i 0).val; rw [if_neg (by decide)]
    | ⟨1, _⟩ => by show 0 = if (1 : Nat) = 1 then 0 else (i 1).val; rw [if_pos rfl])

-- @_one_hot's %3 = stablehlo.broadcast_in_dim %1, dims = [0, 1] : (tensor<1x4xi32>) -> tensor<65536x4xi32>, in %29 = func.call @_one_hot(…) (record main_call1)
def val_main_call1_v3 : (⟨S65536x4, .i32⟩ : BufTy).Contents (Elt F) :=
  broadcastInDim S65536x4 ![0, 1] bcast_S1x4_S65536x4_0_1 (val_main_call1_v1 (F := F))
abbrev idx_main_call1_v3 (i : S65536x4.Idx) : S1x4.Idx := fun a => match a with
  | ⟨0, _⟩ => ⟨0, Nat.one_pos⟩
  | ⟨1, _⟩ => ⟨(i 1).val, (i 1).isLt⟩
theorem val_main_call1_v3_apply (i : S65536x4.Idx) :
    val_main_call1_v3 (F := F) i = val_main_call1_v1 (F := F) (idx_main_call1_v3 i) := by
  unfold val_main_call1_v3
  generalize val_main_call1_v1 (F := F) = y
  exact broadcastInDim_apply _ bcast_S1x4_S65536x4_0_1 y i (idx_main_call1_v3 i) (fun a => match a with
    | ⟨0, _⟩ => by show 0 = if (1 : Nat) = 1 then 0 else (i 0).val; rw [if_pos rfl]
    | ⟨1, _⟩ => by show (i 1).val = if (4 : Nat) = 1 then 0 else (i 1).val; rw [if_neg (by decide)])

-- @_one_hot's %4 = stablehlo.compare EQ, %2, %3, SIGNED : (tensor<65536x4xi32>, tensor<65536x4xi32>) -> tensor<65536x4xi1>, in %29 = func.call @_one_hot(…) (record main_call1)
def val_main_call1_v4 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4, .i1⟩ : BufTy).Contents (Elt F) :=
  cmpi .eq (val_main_call1_v2 (F := F) x0 x1 x2 x3) (val_main_call1_v3 (F := F))
theorem val_main_call1_v4_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4.Idx) :
    val_main_call1_v4 (F := F) x0 x1 x2 x3 i = IntOp.cmpi .eq (val_main_call1_v2 (F := F) x0 x1 x2 x3 i) (val_main_call1_v3 (F := F) i) := rfl

-- %29 = func.call @_one_hot(…) (record main_call1) result 0: @_one_hot's %5 = stablehlo.convert %4 : (tensor<65536x4xi1>) -> tensor<65536x4xf32>
def val_main_v29 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4, .f32⟩ : BufTy).Contents (Elt F) :=
  uitofp .f32 (val_main_call1_v4 (F := F) x0 x1 x2 x3)
theorem val_main_v29_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4.Idx) :
    val_main_v29 (F := F) x0 x1 x2 x3 i = FloatOps.uitofp .f32 (val_main_call1_v4 (F := F) x0 x1 x2 x3 i) := rfl

-- %30 = stablehlo.multiply %27, %29 : tensor<65536x4xf32>
def val_main_v30 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4, .f32⟩ : BufTy).Contents (Elt F) :=
  mulf (val_main_v27 (F := F) x0 x1 x2 x3) (val_main_v29 (F := F) x0 x1 x2 x3)
theorem val_main_v30_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4.Idx) :
    val_main_v30 (F := F) x0 x1 x2 x3 i = FloatOps.mulf (val_main_v27 (F := F) x0 x1 x2 x3 i) (val_main_v29 (F := F) x0 x1 x2 x3 i) := rfl

-- %cst_5 = stablehlo.constant dense<0.000000e+00> : tensor<f32>
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- %31 = stablehlo.reduce(%30 init: %cst_5) applies stablehlo.add across dimensions = [1] : (tensor<65536x4xf32>, tensor<f32>) -> tensor<65536xf32> {
def val_main_v31 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536, .f32⟩ : BufTy).Contents (Elt F) :=
  Host.reduceAdd (val_main_v30 (F := F) x0 x1 x2 x3) (val_main_cst_5 (F := F)) reducesTo_S65536x4_S65536_d1 h_S_
abbrev idx_main_v31 (i : S65536.Idx) (k : Fin 4) : S65536x4.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v31_apply (x0 : (⟨S65536x1024, .f32⟩ : BufTy).Contents (Elt Ideal)) (x1 : (⟨S1024, .f32⟩ : BufTy).Contents (Elt Ideal)) (x2 : (⟨S1024x4, .f32⟩ : BufTy).Contents (Elt Ideal)) (x3 : (⟨S4, .f32⟩ : BufTy).Contents (Elt Ideal)) (i : S65536.Idx) :
    val_main_v31 (F := Ideal) x0 x1 x2 x3 i = (val_main_cst_5 (F := Ideal)) (Shape.Idx.first h_S_) + ∑ k : Fin 4, (val_main_v30 (F := Ideal) x0 x1 x2 x3) (idx_main_v31 i k) := by
  unfold val_main_v31
  generalize val_main_v30 (F := Ideal) x0 x1 x2 x3 = y0
  simp only [Host.reduceAdd, Ideal.hostReduceAdd_def]
  rw [Ideal.hostReduceAdd_single reducesTo_S65536x4_S65536_d1 (by decide)]
  refine congrArg (_ + ·) (Finset.sum_congr rfl fun k _ => ?_)
  exact congrArg y0 (funext fun a => Fin.ext (by match a with | ⟨0, _⟩ => rfl | ⟨1, _⟩ => rfl))

-- %32 = stablehlo.broadcast_in_dim %31, dims = [0] : (tensor<65536xf32>) -> tensor<65536x1xf32>
def val_main_v32 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x1, .f32⟩ : BufTy).Contents (Elt F) :=
  broadcastInDim S65536x1 ![0] bcast_S65536_S65536x1_0 (val_main_v31 (F := F) x0 x1 x2 x3)
abbrev idx_main_v32 (i : S65536x1.Idx) : S65536.Idx := fun a => match a with
  | ⟨0, _⟩ => ⟨(i 0).val, (i 0).isLt⟩
theorem val_main_v32_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x1.Idx) :
    val_main_v32 (F := F) x0 x1 x2 x3 i = val_main_v31 (F := F) x0 x1 x2 x3 (idx_main_v32 i) := by
  unfold val_main_v32
  generalize val_main_v31 (F := F) x0 x1 x2 x3 = y
  exact broadcastInDim_apply _ bcast_S65536_S65536x1_0 y i (idx_main_v32 i) (fun a => match a with
    | ⟨0, _⟩ => by show (i 0).val = if (65536 : Nat) = 1 then 0 else (i 0).val; rw [if_neg (by decide)])

-- %33 = stablehlo.dot_general %12, %arg4, contracting_dims = [1] x [0], precision = [DEFAULT, DEFAULT] : (tensor<65536x1024xf32>, tensor<1024x16xf32>) -> tensor<65536x16xf32>
def val_main_v33 (x0 : (⟨S65536x1024, .f32⟩ : BufTy).Contents (Elt F)) (x1 : (⟨S1024, .f32⟩ : BufTy).Contents (Elt F)) (x4 : (⟨S1024x16, .f32⟩ : BufTy).Contents (Elt F)) : (⟨S65536x16, .f32⟩ : BufTy).Contents (Elt F) :=
  Host.dotGeneral dot_S65536x1024_S1024x16_S65536x16_1_0_0_1_n_n none (val_main_v12 (F := F) x0 x1) (x4)
theorem lhs_main_v33_0 (i : S65536x16.Idx) (q : dot_S65536x1024_S1024x16_S65536x16_1_0_0_1_n_n.contr.Idx) :
    (dot_S65536x1024_S1024x16_S65536x16_1_0_0_1_n_n.lhsIdx i q 0).val = (i 0).val := by
  unfold DotDims.lhsIdx
  rw [dif_neg (show ¬(0 : Fin S65536x1024.rank) ∈ dot_S65536x1024_S1024x16_S65536x16_1_0_0_1_n_n.lhsBatch by decide), dif_pos (show (0 : Fin S65536x1024.rank) ∈ dot_S65536x1024_S1024x16_S65536x16_1_0_0_1_n_n.lhsNonContracting by decide)]
  rfl
theorem lhs_main_v33_1 (i : S65536x16.Idx) (q : dot_S65536x1024_S1024x16_S65536x16_1_0_0_1_n_n.contr.Idx) :
    (dot_S65536x1024_S1024x16_S65536x16_1_0_0_1_n_n.lhsIdx i q 1).val = (q ⟨0, by decide⟩).val :=
  dot_S65536x1024_S1024x16_S65536x16_1_0_0_1_n_n.lhsIdx_val_of_single rfl i q
theorem rhs_main_v33_0 (i : S65536x16.Idx) (q : dot_S65536x1024_S1024x16_S65536x16_1_0_0_1_n_n.contr.Idx) :
    (dot_S65536x1024_S1024x16_S65536x16_1_0_0_1_n_n.rhsIdx i q 0).val = (q ⟨0, by decide⟩).val :=
  dot_S65536x1024_S1024x16_S65536x16_1_0_0_1_n_n.rhsIdx_val_of_single rfl i q
theorem rhs_main_v33_1 (i : S65536x16.Idx) (q : dot_S65536x1024_S1024x16_S65536x16_1_0_0_1_n_n.contr.Idx) :
    (dot_S65536x1024_S1024x16_S65536x16_1_0_0_1_n_n.rhsIdx i q 1).val = (i 1).val := by
  unfold DotDims.rhsIdx
  rw [dif_neg (show ¬(1 : Fin S1024x16.rank) ∈ dot_S65536x1024_S1024x16_S65536x16_1_0_0_1_n_n.rhsBatch by decide), dif_pos (show (1 : Fin S1024x16.rank) ∈ dot_S65536x1024_S1024x16_S65536x16_1_0_0_1_n_n.rhsNonContracting by decide)]
  rfl
abbrev lidx_main_v33 (i : S65536x16.Idx) (k : Fin 1024) : S65536x1024.Idx := fun a => match a with
  | ⟨0, _⟩ => ⟨(i 0).val, (i 0).isLt⟩
  | ⟨1, _⟩ => ⟨k.val, k.isLt⟩
abbrev ridx_main_v33 (i : S65536x16.Idx) (k : Fin 1024) : S1024x16.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v33_apply (x0 : (⟨S65536x1024, .f32⟩ : BufTy).Contents (Elt Ideal)) (x1 : (⟨S1024, .f32⟩ : BufTy).Contents (Elt Ideal)) (x4 : (⟨S1024x16, .f32⟩ : BufTy).Contents (Elt Ideal)) (i : S65536x16.Idx) :
    val_main_v33 (F := Ideal) x0 x1 x4 i = ∑ k : Fin 1024, (val_main_v12 (F := Ideal) x0 x1) (lidx_main_v33 i k) * x4 (ridx_main_v33 i k) := by
  unfold val_main_v33
  generalize val_main_v12 (F := Ideal) x0 x1 = y0
  simp only [Host.dotGeneral]
  rw [Ideal.dotGeneral_apply, ← Equiv.sum_comp (ValueIdx.contrEquiv1 dot_S65536x1024_S1024x16_S65536x16_1_0_0_1_n_n 1024 rfl rfl).symm]
  refine Finset.sum_congr rfl fun k _ => ?_
  have hk := ValueIdx.contrEquiv1_symm_val dot_S65536x1024_S1024x16_S65536x16_1_0_0_1_n_n 1024 rfl rfl k
  have el : dot_S65536x1024_S1024x16_S65536x16_1_0_0_1_n_n.lhsIdx i ((ValueIdx.contrEquiv1 dot_S65536x1024_S1024x16_S65536x16_1_0_0_1_n_n 1024 rfl rfl).symm k) = lidx_main_v33 i k := funext fun a => Fin.ext (by
    match a with
    | ⟨0, _⟩ => exact lhs_main_v33_0 _ _
    | ⟨1, _⟩ => exact (lhs_main_v33_1 _ _).trans hk)
  have er : dot_S65536x1024_S1024x16_S65536x16_1_0_0_1_n_n.rhsIdx i ((ValueIdx.contrEquiv1 dot_S65536x1024_S1024x16_S65536x16_1_0_0_1_n_n 1024 rfl rfl).symm k) = ridx_main_v33 i k := funext fun a => Fin.ext (by
    match a with
    | ⟨0, _⟩ => exact (rhs_main_v33_0 _ _).trans hk
    | ⟨1, _⟩ => exact rhs_main_v33_1 _ _)
  rw [el, er]

-- %34 = stablehlo.broadcast_in_dim %arg5, dims = [1] : (tensor<16xf32>) -> tensor<1x16xf32>
def val_main_v34 (x5 : (⟨S16, .f32⟩ : BufTy).Contents (Elt F)) : (⟨S1x16, .f32⟩ : BufTy).Contents (Elt F) :=
  broadcastInDim S1x16 ![1] bcast_S16_S1x16_1 (x5)
abbrev idx_main_v34 (i : S1x16.Idx) : S16.Idx := fun a => match a with
  | ⟨0, _⟩ => ⟨(i 1).val, (i 1).isLt⟩
theorem val_main_v34_apply (x5 : (⟨S16, .f32⟩ : BufTy).Contents (Elt F)) (i : S1x16.Idx) :
    val_main_v34 (F := F) x5 i = x5 (idx_main_v34 i) := by
  unfold val_main_v34
  exact broadcastInDim_apply _ bcast_S16_S1x16_1 x5 i (idx_main_v34 i) (fun a => match a with
    | ⟨0, _⟩ => by show (i 1).val = if (16 : Nat) = 1 then 0 else (i 1).val; rw [if_neg (by decide)])

-- %35 = stablehlo.broadcast_in_dim %34, dims = [0, 1] : (tensor<1x16xf32>) -> tensor<65536x16xf32>
def val_main_v35 (x5 : (⟨S16, .f32⟩ : BufTy).Contents (Elt F)) : (⟨S65536x16, .f32⟩ : BufTy).Contents (Elt F) :=
  broadcastInDim S65536x16 ![0, 1] bcast_S1x16_S65536x16_0_1 (val_main_v34 (F := F) x5)
abbrev idx_main_v35 (i : S65536x16.Idx) : S1x16.Idx := fun a => match a with
  | ⟨0, _⟩ => ⟨0, Nat.one_pos⟩
  | ⟨1, _⟩ => ⟨(i 1).val, (i 1).isLt⟩
theorem val_main_v35_apply (x5 : (⟨S16, .f32⟩ : BufTy).Contents (Elt F)) (i : S65536x16.Idx) :
    val_main_v35 (F := F) x5 i = val_main_v34 (F := F) x5 (idx_main_v35 i) := by
  unfold val_main_v35
  generalize val_main_v34 (F := F) x5 = y
  exact broadcastInDim_apply _ bcast_S1x16_S65536x16_0_1 y i (idx_main_v35 i) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])

-- %36 = stablehlo.add %33, %35 : tensor<65536x16xf32>
def val_main_v36 (x0 : (⟨S65536x1024, .f32⟩ : BufTy).Contents (Elt F)) (x1 : (⟨S1024, .f32⟩ : BufTy).Contents (Elt F)) (x4 : (⟨S1024x16, .f32⟩ : BufTy).Contents (Elt F)) (x5 : (⟨S16, .f32⟩ : BufTy).Contents (Elt F)) : (⟨S65536x16, .f32⟩ : BufTy).Contents (Elt F) :=
  addf (val_main_v33 (F := F) x0 x1 x4) (val_main_v35 (F := F) x5)
theorem val_main_v36_apply (x0 : (⟨S65536x1024, .f32⟩ : BufTy).Contents (Elt F)) (x1 : (⟨S1024, .f32⟩ : BufTy).Contents (Elt F)) (x4 : (⟨S1024x16, .f32⟩ : BufTy).Contents (Elt F)) (x5 : (⟨S16, .f32⟩ : BufTy).Contents (Elt F)) (i : S65536x16.Idx) :
    val_main_v36 (F := F) x0 x1 x4 x5 i = FloatOps.addf (val_main_v33 (F := F) x0 x1 x4 i) (val_main_v35 (F := F) x5 i) := rfl

-- %37 = stablehlo.reshape %36 : (tensor<65536x16xf32>) -> tensor<65536x4x4xf32>
def val_main_v37 (x0 : (⟨S65536x1024, .f32⟩ : BufTy).Contents (Elt F)) (x1 : (⟨S1024, .f32⟩ : BufTy).Contents (Elt F)) (x4 : (⟨S1024x16, .f32⟩ : BufTy).Contents (Elt F)) (x5 : (⟨S16, .f32⟩ : BufTy).Contents (Elt F)) : (⟨S65536x4x4, .f32⟩ : BufTy).Contents (Elt F) :=
  shapeCast _ (val_main_v36 (F := F) x0 x1 x4 x5) shapeCasts_S65536x16_S65536x4x4
abbrev idx_main_v37 (i : S65536x4x4.Idx) : S65536x16.Idx := fun a => match a with
  | ⟨0, _⟩ => ⟨(((i 0).val * 4 + (i 1).val) * 4 + (i 2).val) / 16, by have h0 : (i 0).val < 65536 := (i 0).isLt; have h1 : (i 1).val < 4 := (i 1).isLt; have h2 : (i 2).val < 4 := (i 2).isLt; show (((i 0).val * 4 + (i 1).val) * 4 + (i 2).val) / 16 < 65536; omega⟩
  | ⟨1, _⟩ => ⟨(((i 0).val * 4 + (i 1).val) * 4 + (i 2).val) % 16, by have h0 : (i 0).val < 65536 := (i 0).isLt; have h1 : (i 1).val < 4 := (i 1).isLt; have h2 : (i 2).val < 4 := (i 2).isLt; show (((i 0).val * 4 + (i 1).val) * 4 + (i 2).val) % 16 < 16; omega⟩
theorem val_main_v37_apply (x0 : (⟨S65536x1024, .f32⟩ : BufTy).Contents (Elt F)) (x1 : (⟨S1024, .f32⟩ : BufTy).Contents (Elt F)) (x4 : (⟨S1024x16, .f32⟩ : BufTy).Contents (Elt F)) (x5 : (⟨S16, .f32⟩ : BufTy).Contents (Elt F)) (i : S65536x4x4.Idx) :
    val_main_v37 (F := F) x0 x1 x4 x5 i = val_main_v36 (F := F) x0 x1 x4 x5 (idx_main_v37 i) := by
  unfold val_main_v37
  generalize val_main_v36 (F := F) x0 x1 x4 x5 = y
  exact shapeCast_apply y shapeCasts_S65536x16_S65536x4x4 i (idx_main_v37 i)
    (by rewrite [Shape.rowMajor_val_two, Shape.rowMajor_val_three]; have h0 : (i 0).val < 65536 := (i 0).isLt; have h1 : (i 1).val < 4 := (i 1).isLt; have h2 : (i 2).val < 4 := (i 2).isLt; show (((i 0).val * 4 + (i 1).val) * 4 + (i 2).val) / 16 * 16 + (((i 0).val * 4 + (i 1).val) * 4 + (i 2).val) % 16 = ((i 0).val * 4 + (i 1).val) * 4 + (i 2).val; omega)

-- %38 = stablehlo.broadcast_in_dim %29, dims = [0, 1] : (tensor<65536x4xf32>) -> tensor<65536x4x1xf32>
def val_main_v38 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4x1, .f32⟩ : BufTy).Contents (Elt F) :=
  broadcastInDim S65536x4x1 ![0, 1] bcast_S65536x4_S65536x4x1_0_1 (val_main_v29 (F := F) x0 x1 x2 x3)
abbrev idx_main_v38 (i : S65536x4x1.Idx) : S65536x4.Idx := fun a => match a with
  | ⟨0, _⟩ => ⟨(i 0).val, (i 0).isLt⟩
  | ⟨1, _⟩ => ⟨(i 1).val, (i 1).isLt⟩
theorem val_main_v38_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4x1.Idx) :
    val_main_v38 (F := F) x0 x1 x2 x3 i = val_main_v29 (F := F) x0 x1 x2 x3 (idx_main_v38 i) := by
  unfold val_main_v38
  generalize val_main_v29 (F := F) x0 x1 x2 x3 = y
  exact broadcastInDim_apply _ bcast_S65536x4_S65536x4x1_0_1 y i (idx_main_v38 i) (fun a => match a with
    | ⟨0, _⟩ => by show (i 0).val = if (65536 : Nat) = 1 then 0 else (i 0).val; rw [if_neg (by decide)]
    | ⟨1, _⟩ => by show (i 1).val = if (4 : Nat) = 1 then 0 else (i 1).val; rw [if_neg (by decide)])

-- %39 = stablehlo.broadcast_in_dim %38, dims = [0, 1, 2] : (tensor<65536x4x1xf32>) -> tensor<65536x4x4xf32>
def val_main_v39 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4x4, .f32⟩ : BufTy).Contents (Elt F) :=
  broadcastInDim S65536x4x4 ![0, 1, 2] bcast_S65536x4x1_S65536x4x4_0_1_2 (val_main_v38 (F := F) x0 x1 x2 x3)
abbrev idx_main_v39 (i : S65536x4x4.Idx) : S65536x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v39_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4x4.Idx) :
    val_main_v39 (F := F) x0 x1 x2 x3 i = val_main_v38 (F := F) x0 x1 x2 x3 (idx_main_v39 i) := by
  unfold val_main_v39
  generalize val_main_v38 (F := F) x0 x1 x2 x3 = y
  exact broadcastInDim_apply _ bcast_S65536x4x1_S65536x4x4_0_1_2 y i (idx_main_v39 i) (fun a => match a with
    | ⟨0, _⟩ => by show (i 0).val = if (65536 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

-- %40 = stablehlo.multiply %37, %39 : tensor<65536x4x4xf32>
def val_main_v40 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x4x4, .f32⟩ : BufTy).Contents (Elt F) :=
  mulf (val_main_v37 (F := F) x0 x1 x4 x5) (val_main_v39 (F := F) x0 x1 x2 x3)
theorem val_main_v40_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x4x4.Idx) :
    val_main_v40 (F := F) x0 x1 x2 x3 x4 x5 i = FloatOps.mulf (val_main_v37 (F := F) x0 x1 x4 x5 i) (val_main_v39 (F := F) x0 x1 x2 x3 i) := rfl

-- %cst_6 = stablehlo.constant dense<0.000000e+00> : tensor<f32>
def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

-- %41 = stablehlo.reduce(%40 init: %cst_6) applies stablehlo.add across dimensions = [1] : (tensor<65536x4x4xf32>, tensor<f32>) -> tensor<65536x4xf32> {
def val_main_v41 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x4, .f32⟩ : BufTy).Contents (Elt F) :=
  Host.reduceAdd (val_main_v40 (F := F) x0 x1 x2 x3 x4 x5) (val_main_cst_6 (F := F)) reducesTo_S65536x4x4_S65536x4_d1 h_S_
abbrev idx_main_v41 (i : S65536x4.Idx) (k : Fin 4) : S65536x4x4.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v41_apply (x0 : (⟨S65536x1024, .f32⟩ : BufTy).Contents (Elt Ideal)) (x1 : (⟨S1024, .f32⟩ : BufTy).Contents (Elt Ideal)) (x2 : (⟨S1024x4, .f32⟩ : BufTy).Contents (Elt Ideal)) (x3 : (⟨S4, .f32⟩ : BufTy).Contents (Elt Ideal)) (x4 : (⟨S1024x16, .f32⟩ : BufTy).Contents (Elt Ideal)) (x5 : (⟨S16, .f32⟩ : BufTy).Contents (Elt Ideal)) (i : S65536x4.Idx) :
    val_main_v41 (F := Ideal) x0 x1 x2 x3 x4 x5 i = (val_main_cst_6 (F := Ideal)) (Shape.Idx.first h_S_) + ∑ k : Fin 4, (val_main_v40 (F := Ideal) x0 x1 x2 x3 x4 x5) (idx_main_v41 i k) := by
  unfold val_main_v41
  generalize val_main_v40 (F := Ideal) x0 x1 x2 x3 x4 x5 = y0
  simp only [Host.reduceAdd, Ideal.hostReduceAdd_def]
  rw [Ideal.hostReduceAdd_single reducesTo_S65536x4x4_S65536x4_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %cst_7 = stablehlo.constant dense<0xFF800000> : tensor<f32>
def val_main_cst_7 : (⟨S_, .f32⟩ : BufTy).Contents (Elt F) :=
  constant S_ .f32 0xFF800000#32
theorem val_main_cst_7_apply (i : S_.Idx) :
    val_main_cst_7 (F := F) i = FloatOps.ofBits .f32 0xFF800000#32 := rfl

-- %42 = stablehlo.reduce(%41 init: %cst_7) applies stablehlo.maximum across dimensions = [1] : (tensor<65536x4xf32>, tensor<f32>) -> tensor<65536xf32> {
def val_main_v42 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536, .f32⟩ : BufTy).Contents (Elt F) :=
  Host.reduce FloatOps.maximumf (val_main_v41 (F := F) x0 x1 x2 x3 x4 x5) (val_main_cst_7 (F := F)) reducesTo_S65536x4_S65536_d1 h_S_

-- %cst_8 = stablehlo.constant dense<0xFF800000> : tensor<f32>
def val_main_cst_8 : (⟨S_, .f32⟩ : BufTy).Contents (Elt F) :=
  constant S_ .f32 0xFF800000#32
theorem val_main_cst_8_apply (i : S_.Idx) :
    val_main_cst_8 (F := F) i = FloatOps.ofBits .f32 0xFF800000#32 := rfl

-- %43 = stablehlo.broadcast_in_dim %cst_8, dims = [] : (tensor<f32>) -> tensor<65536xf32>
def val_main_v43 : (⟨S65536, .f32⟩ : BufTy).Contents (Elt F) :=
  broadcastInDim S65536 ![] bcast_S_S65536 (val_main_cst_8 (F := F))
abbrev idx_main_v43 (i : S65536.Idx) : S_.Idx := fun a => a.elim0
theorem val_main_v43_apply (i : S65536.Idx) :
    val_main_v43 (F := F) i = val_main_cst_8 (F := F) (idx_main_v43 i) := by
  unfold val_main_v43
  generalize val_main_cst_8 (F := F) = y
  exact broadcastInDim_apply _ bcast_S_S65536 y i (idx_main_v43 i) (fun a => a.elim0)

-- %44 = stablehlo.maximum %43, %42 : tensor<65536xf32>
def val_main_v44 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536, .f32⟩ : BufTy).Contents (Elt F) :=
  maximumf (val_main_v43 (F := F)) (val_main_v42 (F := F) x0 x1 x2 x3 x4 x5)
theorem val_main_v44_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536.Idx) :
    val_main_v44 (F := F) x0 x1 x2 x3 x4 x5 i = FloatOps.maximumf (val_main_v43 (F := F) i) (val_main_v42 (F := F) x0 x1 x2 x3 x4 x5 i) := rfl

-- %45 = stablehlo.broadcast_in_dim %44, dims = [0] : (tensor<65536xf32>) -> tensor<65536x1xf32>
def val_main_v45 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x1, .f32⟩ : BufTy).Contents (Elt F) :=
  broadcastInDim S65536x1 ![0] bcast_S65536_S65536x1_0 (val_main_v44 (F := F) x0 x1 x2 x3 x4 x5)
abbrev idx_main_v45 (i : S65536x1.Idx) : S65536.Idx := fun a => match a with
  | ⟨0, _⟩ => ⟨(i 0).val, (i 0).isLt⟩
theorem val_main_v45_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x1.Idx) :
    val_main_v45 (F := F) x0 x1 x2 x3 x4 x5 i = val_main_v44 (F := F) x0 x1 x2 x3 x4 x5 (idx_main_v45 i) := by
  unfold val_main_v45
  generalize val_main_v44 (F := F) x0 x1 x2 x3 x4 x5 = y
  exact broadcastInDim_apply _ bcast_S65536_S65536x1_0 y i (idx_main_v45 i) (fun a => match a with
    | ⟨0, _⟩ => by show (i 0).val = if (65536 : Nat) = 1 then 0 else (i 0).val; rw [if_neg (by decide)])

-- %46 = stablehlo.broadcast_in_dim %45, dims = [0, 1] : (tensor<65536x1xf32>) -> tensor<65536x4xf32>
def val_main_v46 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x4, .f32⟩ : BufTy).Contents (Elt F) :=
  broadcastInDim S65536x4 ![0, 1] bcast_S65536x1_S65536x4_0_1 (val_main_v45 (F := F) x0 x1 x2 x3 x4 x5)
abbrev idx_main_v46 (i : S65536x4.Idx) : S65536x1.Idx := fun a => match a with
  | ⟨0, _⟩ => ⟨(i 0).val, (i 0).isLt⟩
  | ⟨1, _⟩ => ⟨0, Nat.one_pos⟩
theorem val_main_v46_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x4.Idx) :
    val_main_v46 (F := F) x0 x1 x2 x3 x4 x5 i = val_main_v45 (F := F) x0 x1 x2 x3 x4 x5 (idx_main_v46 i) := by
  unfold val_main_v46
  generalize val_main_v45 (F := F) x0 x1 x2 x3 x4 x5 = y
  exact broadcastInDim_apply _ bcast_S65536x1_S65536x4_0_1 y i (idx_main_v46 i) (fun a => match a with
    | ⟨0, _⟩ => by show (i 0).val = if (65536 : Nat) = 1 then 0 else (i 0).val; rw [if_neg (by decide)]
    | ⟨1, _⟩ => by show 0 = if (1 : Nat) = 1 then 0 else (i 1).val; rw [if_pos rfl])

-- %47 = stablehlo.subtract %41, %46 : tensor<65536x4xf32>
def val_main_v47 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x4, .f32⟩ : BufTy).Contents (Elt F) :=
  subf (val_main_v41 (F := F) x0 x1 x2 x3 x4 x5) (val_main_v46 (F := F) x0 x1 x2 x3 x4 x5)
theorem val_main_v47_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x4.Idx) :
    val_main_v47 (F := F) x0 x1 x2 x3 x4 x5 i = FloatOps.subf (val_main_v41 (F := F) x0 x1 x2 x3 x4 x5 i) (val_main_v46 (F := F) x0 x1 x2 x3 x4 x5 i) := rfl

-- %48 = stablehlo.exponential %47 : tensor<65536x4xf32>
def val_main_v48 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x4, .f32⟩ : BufTy).Contents (Elt F) :=
  Host.exp (val_main_v47 (F := F) x0 x1 x2 x3 x4 x5)
theorem val_main_v48_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x4.Idx) :
    val_main_v48 (F := F) x0 x1 x2 x3 x4 x5 i = FloatOps.hostUnary .exp (val_main_v47 (F := F) x0 x1 x2 x3 x4 x5 i) := rfl

-- %cst_9 = stablehlo.constant dense<0.000000e+00> : tensor<f32>
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

-- %49 = stablehlo.reduce(%48 init: %cst_9) applies stablehlo.add across dimensions = [1] : (tensor<65536x4xf32>, tensor<f32>) -> tensor<65536xf32> {
def val_main_v49 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536, .f32⟩ : BufTy).Contents (Elt F) :=
  Host.reduceAdd (val_main_v48 (F := F) x0 x1 x2 x3 x4 x5) (val_main_cst_9 (F := F)) reducesTo_S65536x4_S65536_d1 h_S_
abbrev idx_main_v49 (i : S65536.Idx) (k : Fin 4) : S65536x4.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v49_apply (x0 : (⟨S65536x1024, .f32⟩ : BufTy).Contents (Elt Ideal)) (x1 : (⟨S1024, .f32⟩ : BufTy).Contents (Elt Ideal)) (x2 : (⟨S1024x4, .f32⟩ : BufTy).Contents (Elt Ideal)) (x3 : (⟨S4, .f32⟩ : BufTy).Contents (Elt Ideal)) (x4 : (⟨S1024x16, .f32⟩ : BufTy).Contents (Elt Ideal)) (x5 : (⟨S16, .f32⟩ : BufTy).Contents (Elt Ideal)) (i : S65536.Idx) :
    val_main_v49 (F := Ideal) x0 x1 x2 x3 x4 x5 i = (val_main_cst_9 (F := Ideal)) (Shape.Idx.first h_S_) + ∑ k : Fin 4, (val_main_v48 (F := Ideal) x0 x1 x2 x3 x4 x5) (idx_main_v49 i k) := by
  unfold val_main_v49
  generalize val_main_v48 (F := Ideal) x0 x1 x2 x3 x4 x5 = y0
  simp only [Host.reduceAdd, Ideal.hostReduceAdd_def]
  rw [Ideal.hostReduceAdd_single reducesTo_S65536x4_S65536_d1 (by decide)]
  refine congrArg (_ + ·) (Finset.sum_congr rfl fun k _ => ?_)
  exact congrArg y0 (funext fun a => Fin.ext (by match a with | ⟨0, _⟩ => rfl | ⟨1, _⟩ => rfl))

-- %50 = stablehlo.broadcast_in_dim %49, dims = [0] : (tensor<65536xf32>) -> tensor<65536x1xf32>
def val_main_v50 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x1, .f32⟩ : BufTy).Contents (Elt F) :=
  broadcastInDim S65536x1 ![0] bcast_S65536_S65536x1_0 (val_main_v49 (F := F) x0 x1 x2 x3 x4 x5)
abbrev idx_main_v50 (i : S65536x1.Idx) : S65536.Idx := fun a => match a with
  | ⟨0, _⟩ => ⟨(i 0).val, (i 0).isLt⟩
theorem val_main_v50_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x1.Idx) :
    val_main_v50 (F := F) x0 x1 x2 x3 x4 x5 i = val_main_v49 (F := F) x0 x1 x2 x3 x4 x5 (idx_main_v50 i) := by
  unfold val_main_v50
  generalize val_main_v49 (F := F) x0 x1 x2 x3 x4 x5 = y
  exact broadcastInDim_apply _ bcast_S65536_S65536x1_0 y i (idx_main_v50 i) (fun a => match a with
    | ⟨0, _⟩ => by show (i 0).val = if (65536 : Nat) = 1 then 0 else (i 0).val; rw [if_neg (by decide)])

-- %51 = stablehlo.broadcast_in_dim %50, dims = [0, 1] : (tensor<65536x1xf32>) -> tensor<65536x4xf32>
def val_main_v51 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x4, .f32⟩ : BufTy).Contents (Elt F) :=
  broadcastInDim S65536x4 ![0, 1] bcast_S65536x1_S65536x4_0_1 (val_main_v50 (F := F) x0 x1 x2 x3 x4 x5)
abbrev idx_main_v51 (i : S65536x4.Idx) : S65536x1.Idx := fun a => match a with
  | ⟨0, _⟩ => ⟨(i 0).val, (i 0).isLt⟩
  | ⟨1, _⟩ => ⟨0, Nat.one_pos⟩
theorem val_main_v51_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x4.Idx) :
    val_main_v51 (F := F) x0 x1 x2 x3 x4 x5 i = val_main_v50 (F := F) x0 x1 x2 x3 x4 x5 (idx_main_v51 i) := by
  unfold val_main_v51
  generalize val_main_v50 (F := F) x0 x1 x2 x3 x4 x5 = y
  exact broadcastInDim_apply _ bcast_S65536x1_S65536x4_0_1 y i (idx_main_v51 i) (fun a => match a with
    | ⟨0, _⟩ => by show (i 0).val = if (65536 : Nat) = 1 then 0 else (i 0).val; rw [if_neg (by decide)]
    | ⟨1, _⟩ => by show 0 = if (1 : Nat) = 1 then 0 else (i 1).val; rw [if_pos rfl])

-- %52 = stablehlo.divide %48, %51 : tensor<65536x4xf32>
def val_main_v52 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x4, .f32⟩ : BufTy).Contents (Elt F) :=
  Host.divf (val_main_v48 (F := F) x0 x1 x2 x3 x4 x5) (val_main_v51 (F := F) x0 x1 x2 x3 x4 x5)
theorem val_main_v52_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x4.Idx) :
    val_main_v52 (F := F) x0 x1 x2 x3 x4 x5 i = FloatOps.hostDivf (val_main_v48 (F := F) x0 x1 x2 x3 x4 x5 i) (val_main_v51 (F := F) x0 x1 x2 x3 x4 x5 i) := rfl

-- %values, %indices = chlo.top_k(%52, k = 2) : tensor<65536x4xf32> -> (tensor<65536x2xf32>, tensor<65536x2xi32>)
def val_main_values (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x2, .f32⟩ : BufTy).Contents (Elt F) :=
  (Host.topK S65536x2 1 (FloatOps.cmpfTotal .gt) (val_main_v52 (F := F) x0 x1 x2 x3 x4 x5) sliceFits_S65536x4_S65536x2).1

-- %values, %indices = chlo.top_k(%52, k = 2) : tensor<65536x4xf32> -> (tensor<65536x2xf32>, tensor<65536x2xi32>)
def val_main_indices (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x2, .i32⟩ : BufTy).Contents (Elt F) :=
  (Host.topK S65536x2 1 (FloatOps.cmpfTotal .gt) (val_main_v52 (F := F) x0 x1 x2 x3 x4 x5) sliceFits_S65536x4_S65536x2).2

-- %cst_10 = stablehlo.constant dense<0.000000e+00> : tensor<f32>
def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

-- %53 = stablehlo.reduce(%values init: %cst_10) applies stablehlo.add across dimensions = [1] : (tensor<65536x2xf32>, tensor<f32>) -> tensor<65536xf32> {
def val_main_v53 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536, .f32⟩ : BufTy).Contents (Elt F) :=
  Host.reduceAdd (val_main_values (F := F) x0 x1 x2 x3 x4 x5) (val_main_cst_10 (F := F)) reducesTo_S65536x2_S65536_d1 h_S_
abbrev idx_main_v53 (i : S65536.Idx) (k : Fin 2) : S65536x2.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v53_apply (x0 : (⟨S65536x1024, .f32⟩ : BufTy).Contents (Elt Ideal)) (x1 : (⟨S1024, .f32⟩ : BufTy).Contents (Elt Ideal)) (x2 : (⟨S1024x4, .f32⟩ : BufTy).Contents (Elt Ideal)) (x3 : (⟨S4, .f32⟩ : BufTy).Contents (Elt Ideal)) (x4 : (⟨S1024x16, .f32⟩ : BufTy).Contents (Elt Ideal)) (x5 : (⟨S16, .f32⟩ : BufTy).Contents (Elt Ideal)) (i : S65536.Idx) :
    val_main_v53 (F := Ideal) x0 x1 x2 x3 x4 x5 i = (val_main_cst_10 (F := Ideal)) (Shape.Idx.first h_S_) + ∑ k : Fin 2, (val_main_values (F := Ideal) x0 x1 x2 x3 x4 x5) (idx_main_v53 i k) := by
  unfold val_main_v53
  generalize val_main_values (F := Ideal) x0 x1 x2 x3 x4 x5 = y0
  simp only [Host.reduceAdd, Ideal.hostReduceAdd_def]
  rw [Ideal.hostReduceAdd_single reducesTo_S65536x2_S65536_d1 (by decide)]
  refine congrArg (_ + ·) (Finset.sum_congr rfl fun k _ => ?_)
  exact congrArg y0 (funext fun a => Fin.ext (by match a with | ⟨0, _⟩ => rfl | ⟨1, _⟩ => rfl))

-- %54 = stablehlo.broadcast_in_dim %53, dims = [0] : (tensor<65536xf32>) -> tensor<65536x1xf32>
def val_main_v54 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x1, .f32⟩ : BufTy).Contents (Elt F) :=
  broadcastInDim S65536x1 ![0] bcast_S65536_S65536x1_0 (val_main_v53 (F := F) x0 x1 x2 x3 x4 x5)
abbrev idx_main_v54 (i : S65536x1.Idx) : S65536.Idx := fun a => match a with
  | ⟨0, _⟩ => ⟨(i 0).val, (i 0).isLt⟩
theorem val_main_v54_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x1.Idx) :
    val_main_v54 (F := F) x0 x1 x2 x3 x4 x5 i = val_main_v53 (F := F) x0 x1 x2 x3 x4 x5 (idx_main_v54 i) := by
  unfold val_main_v54
  generalize val_main_v53 (F := F) x0 x1 x2 x3 x4 x5 = y
  exact broadcastInDim_apply _ bcast_S65536_S65536x1_0 y i (idx_main_v54 i) (fun a => match a with
    | ⟨0, _⟩ => by show (i 0).val = if (65536 : Nat) = 1 then 0 else (i 0).val; rw [if_neg (by decide)])

-- %55 = stablehlo.broadcast_in_dim %54, dims = [0, 1] : (tensor<65536x1xf32>) -> tensor<65536x2xf32>
def val_main_v55 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x2, .f32⟩ : BufTy).Contents (Elt F) :=
  broadcastInDim S65536x2 ![0, 1] bcast_S65536x1_S65536x2_0_1 (val_main_v54 (F := F) x0 x1 x2 x3 x4 x5)
abbrev idx_main_v55 (i : S65536x2.Idx) : S65536x1.Idx := fun a => match a with
  | ⟨0, _⟩ => ⟨(i 0).val, (i 0).isLt⟩
  | ⟨1, _⟩ => ⟨0, Nat.one_pos⟩
theorem val_main_v55_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x2.Idx) :
    val_main_v55 (F := F) x0 x1 x2 x3 x4 x5 i = val_main_v54 (F := F) x0 x1 x2 x3 x4 x5 (idx_main_v55 i) := by
  unfold val_main_v55
  generalize val_main_v54 (F := F) x0 x1 x2 x3 x4 x5 = y
  exact broadcastInDim_apply _ bcast_S65536x1_S65536x2_0_1 y i (idx_main_v55 i) (fun a => match a with
    | ⟨0, _⟩ => by show (i 0).val = if (65536 : Nat) = 1 then 0 else (i 0).val; rw [if_neg (by decide)]
    | ⟨1, _⟩ => by show 0 = if (1 : Nat) = 1 then 0 else (i 1).val; rw [if_pos rfl])

-- %56 = stablehlo.divide %values, %55 : tensor<65536x2xf32>
def val_main_v56 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x2, .f32⟩ : BufTy).Contents (Elt F) :=
  Host.divf (val_main_values (F := F) x0 x1 x2 x3 x4 x5) (val_main_v55 (F := F) x0 x1 x2 x3 x4 x5)
theorem val_main_v56_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x2.Idx) :
    val_main_v56 (F := F) x0 x1 x2 x3 x4 x5 i = FloatOps.hostDivf (val_main_values (F := F) x0 x1 x2 x3 x4 x5 i) (val_main_v55 (F := F) x0 x1 x2 x3 x4 x5 i) := rfl

-- @_one_hot_0's %0 = stablehlo.broadcast_in_dim %arg0, dims = [0, 1] : (tensor<65536x2xi32>) -> tensor<65536x2x1xi32>, in %57 = func.call @_one_hot_0(…) (record main_call2)
def val_main_call2_v0 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x2x1, .i32⟩ : BufTy).Contents (Elt F) :=
  broadcastInDim S65536x2x1 ![0, 1] bcast_S65536x2_S65536x2x1_0_1 (val_main_indices (F := F) x0 x1 x2 x3 x4 x5)
abbrev idx_main_call2_v0 (i : S65536x2x1.Idx) : S65536x2.Idx := fun a => match a with
  | ⟨0, _⟩ => ⟨(i 0).val, (i 0).isLt⟩
  | ⟨1, _⟩ => ⟨(i 1).val, (i 1).isLt⟩
theorem val_main_call2_v0_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x2x1.Idx) :
    val_main_call2_v0 (F := F) x0 x1 x2 x3 x4 x5 i = val_main_indices (F := F) x0 x1 x2 x3 x4 x5 (idx_main_call2_v0 i) := by
  unfold val_main_call2_v0
  generalize val_main_indices (F := F) x0 x1 x2 x3 x4 x5 = y
  exact broadcastInDim_apply _ bcast_S65536x2_S65536x2x1_0_1 y i (idx_main_call2_v0 i) (fun a => match a with
    | ⟨0, _⟩ => by show (i 0).val = if (65536 : Nat) = 1 then 0 else (i 0).val; rw [if_neg (by decide)]
    | ⟨1, _⟩ => by show (i 1).val = if (2 : Nat) = 1 then 0 else (i 1).val; rw [if_neg (by decide)])

-- @_one_hot_0's %1 = stablehlo.iota dim = 2 : tensor<1x1x4xi32>, in %57 = func.call @_one_hot_0(…) (record main_call2)
def val_main_call2_v1 : (⟨S1x1x4, .i32⟩ : BufTy).Contents (Elt F) :=
  iotaInDim S1x1x4 32 2
theorem val_main_call2_v1_apply (i : S1x1x4.Idx) :
    val_main_call2_v1 (F := F) i = BitVec.ofNat 32 (i 2).val := rfl

-- @_one_hot_0's %2 = stablehlo.broadcast_in_dim %0, dims = [0, 1, 2] : (tensor<65536x2x1xi32>) -> tensor<65536x2x4xi32>, in %57 = func.call @_one_hot_0(…) (record main_call2)
def val_main_call2_v2 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x2x4, .i32⟩ : BufTy).Contents (Elt F) :=
  broadcastInDim S65536x2x4 ![0, 1, 2] bcast_S65536x2x1_S65536x2x4_0_1_2 (val_main_call2_v0 (F := F) x0 x1 x2 x3 x4 x5)
abbrev idx_main_call2_v2 (i : S65536x2x4.Idx) : S65536x2x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call2_v2_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x2x4.Idx) :
    val_main_call2_v2 (F := F) x0 x1 x2 x3 x4 x5 i = val_main_call2_v0 (F := F) x0 x1 x2 x3 x4 x5 (idx_main_call2_v2 i) := by
  unfold val_main_call2_v2
  generalize val_main_call2_v0 (F := F) x0 x1 x2 x3 x4 x5 = y
  exact broadcastInDim_apply _ bcast_S65536x2x1_S65536x2x4_0_1_2 y i (idx_main_call2_v2 i) (fun a => match a with
    | ⟨0, _⟩ => by show (i 0).val = if (65536 : Nat) = 1 then 0 else (i 0).val; rw [if_neg (by decide)]
    | ⟨1, _⟩ => by show (i 1).val = if (2 : Nat) = 1 then 0 else (i 1).val; rw [if_neg (by decide)]
    | ⟨2, _⟩ => by show 0 = if (1 : Nat) = 1 then 0 else (i 2).val; rw [if_pos rfl])

-- @_one_hot_0's %3 = stablehlo.broadcast_in_dim %1, dims = [0, 1, 2] : (tensor<1x1x4xi32>) -> tensor<65536x2x4xi32>, in %57 = func.call @_one_hot_0(…) (record main_call2)
def val_main_call2_v3 : (⟨S65536x2x4, .i32⟩ : BufTy).Contents (Elt F) :=
  broadcastInDim S65536x2x4 ![0, 1, 2] bcast_S1x1x4_S65536x2x4_0_1_2 (val_main_call2_v1 (F := F))
abbrev idx_main_call2_v3 (i : S65536x2x4.Idx) : S1x1x4.Idx := fun a => match a with
  | ⟨0, _⟩ => ⟨0, Nat.one_pos⟩
  | ⟨1, _⟩ => ⟨0, Nat.one_pos⟩
  | ⟨2, _⟩ => ⟨(i 2).val, (i 2).isLt⟩
theorem val_main_call2_v3_apply (i : S65536x2x4.Idx) :
    val_main_call2_v3 (F := F) i = val_main_call2_v1 (F := F) (idx_main_call2_v3 i) := by
  unfold val_main_call2_v3
  generalize val_main_call2_v1 (F := F) = y
  exact broadcastInDim_apply _ bcast_S1x1x4_S65536x2x4_0_1_2 y i (idx_main_call2_v3 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (4 : Nat) = 1 then 0 else (i 2).val; rw [if_neg (by decide)])

-- @_one_hot_0's %4 = stablehlo.compare EQ, %2, %3, SIGNED : (tensor<65536x2x4xi32>, tensor<65536x2x4xi32>) -> tensor<65536x2x4xi1>, in %57 = func.call @_one_hot_0(…) (record main_call2)
def val_main_call2_v4 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x2x4, .i1⟩ : BufTy).Contents (Elt F) :=
  cmpi .eq (val_main_call2_v2 (F := F) x0 x1 x2 x3 x4 x5) (val_main_call2_v3 (F := F))
theorem val_main_call2_v4_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x2x4.Idx) :
    val_main_call2_v4 (F := F) x0 x1 x2 x3 x4 x5 i = IntOp.cmpi .eq (val_main_call2_v2 (F := F) x0 x1 x2 x3 x4 x5 i) (val_main_call2_v3 (F := F) i) := rfl

-- %57 = func.call @_one_hot_0(…) (record main_call2) result 0: @_one_hot_0's %5 = stablehlo.convert %4 : (tensor<65536x2x4xi1>) -> tensor<65536x2x4xf32>
def val_main_v57 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x2x4, .f32⟩ : BufTy).Contents (Elt F) :=
  uitofp .f32 (val_main_call2_v4 (F := F) x0 x1 x2 x3 x4 x5)
theorem val_main_v57_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x2x4.Idx) :
    val_main_v57 (F := F) x0 x1 x2 x3 x4 x5 i = FloatOps.uitofp .f32 (val_main_call2_v4 (F := F) x0 x1 x2 x3 x4 x5 i) := rfl

-- %58 = stablehlo.broadcast_in_dim %56, dims = [0, 1] : (tensor<65536x2xf32>) -> tensor<65536x2x1xf32>
def val_main_v58 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x2x1, .f32⟩ : BufTy).Contents (Elt F) :=
  broadcastInDim S65536x2x1 ![0, 1] bcast_S65536x2_S65536x2x1_0_1 (val_main_v56 (F := F) x0 x1 x2 x3 x4 x5)
abbrev idx_main_v58 (i : S65536x2x1.Idx) : S65536x2.Idx := fun a => match a with
  | ⟨0, _⟩ => ⟨(i 0).val, (i 0).isLt⟩
  | ⟨1, _⟩ => ⟨(i 1).val, (i 1).isLt⟩
theorem val_main_v58_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x2x1.Idx) :
    val_main_v58 (F := F) x0 x1 x2 x3 x4 x5 i = val_main_v56 (F := F) x0 x1 x2 x3 x4 x5 (idx_main_v58 i) := by
  unfold val_main_v58
  generalize val_main_v56 (F := F) x0 x1 x2 x3 x4 x5 = y
  exact broadcastInDim_apply _ bcast_S65536x2_S65536x2x1_0_1 y i (idx_main_v58 i) (fun a => match a with
    | ⟨0, _⟩ => by show (i 0).val = if (65536 : Nat) = 1 then 0 else (i 0).val; rw [if_neg (by decide)]
    | ⟨1, _⟩ => by show (i 1).val = if (2 : Nat) = 1 then 0 else (i 1).val; rw [if_neg (by decide)])

-- %59 = stablehlo.broadcast_in_dim %58, dims = [0, 1, 2] : (tensor<65536x2x1xf32>) -> tensor<65536x2x4xf32>
def val_main_v59 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x2x4, .f32⟩ : BufTy).Contents (Elt F) :=
  broadcastInDim S65536x2x4 ![0, 1, 2] bcast_S65536x2x1_S65536x2x4_0_1_2 (val_main_v58 (F := F) x0 x1 x2 x3 x4 x5)
abbrev idx_main_v59 (i : S65536x2x4.Idx) : S65536x2x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v59_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x2x4.Idx) :
    val_main_v59 (F := F) x0 x1 x2 x3 x4 x5 i = val_main_v58 (F := F) x0 x1 x2 x3 x4 x5 (idx_main_v59 i) := by
  unfold val_main_v59
  generalize val_main_v58 (F := F) x0 x1 x2 x3 x4 x5 = y
  exact broadcastInDim_apply _ bcast_S65536x2x1_S65536x2x4_0_1_2 y i (idx_main_v59 i) (fun a => match a with
    | ⟨0, _⟩ => by show (i 0).val = if (65536 : Nat) = 1 then 0 else (i 0).val; rw [if_neg (by decide)]
    | ⟨1, _⟩ => by show (i 1).val = if (2 : Nat) = 1 then 0 else (i 1).val; rw [if_neg (by decide)]
    | ⟨2, _⟩ => by show 0 = if (1 : Nat) = 1 then 0 else (i 2).val; rw [if_pos rfl])

-- %60 = stablehlo.multiply %57, %59 : tensor<65536x2x4xf32>
def val_main_v60 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x2x4, .f32⟩ : BufTy).Contents (Elt F) :=
  mulf (val_main_v57 (F := F) x0 x1 x2 x3 x4 x5) (val_main_v59 (F := F) x0 x1 x2 x3 x4 x5)
theorem val_main_v60_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x2x4.Idx) :
    val_main_v60 (F := F) x0 x1 x2 x3 x4 x5 i = FloatOps.mulf (val_main_v57 (F := F) x0 x1 x2 x3 x4 x5 i) (val_main_v59 (F := F) x0 x1 x2 x3 x4 x5 i) := rfl

-- %cst_11 = stablehlo.constant dense<0.000000e+00> : tensor<f32>
def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

-- %61 = stablehlo.reduce(%60 init: %cst_11) applies stablehlo.add across dimensions = [1] : (tensor<65536x2x4xf32>, tensor<f32>) -> tensor<65536x4xf32> {
def val_main_v61 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x4, .f32⟩ : BufTy).Contents (Elt F) :=
  Host.reduceAdd (val_main_v60 (F := F) x0 x1 x2 x3 x4 x5) (val_main_cst_11 (F := F)) reducesTo_S65536x2x4_S65536x4_d1 h_S_
abbrev idx_main_v61 (i : S65536x4.Idx) (k : Fin 2) : S65536x2x4.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v61_apply (x0 : (⟨S65536x1024, .f32⟩ : BufTy).Contents (Elt Ideal)) (x1 : (⟨S1024, .f32⟩ : BufTy).Contents (Elt Ideal)) (x2 : (⟨S1024x4, .f32⟩ : BufTy).Contents (Elt Ideal)) (x3 : (⟨S4, .f32⟩ : BufTy).Contents (Elt Ideal)) (x4 : (⟨S1024x16, .f32⟩ : BufTy).Contents (Elt Ideal)) (x5 : (⟨S16, .f32⟩ : BufTy).Contents (Elt Ideal)) (i : S65536x4.Idx) :
    val_main_v61 (F := Ideal) x0 x1 x2 x3 x4 x5 i = (val_main_cst_11 (F := Ideal)) (Shape.Idx.first h_S_) + ∑ k : Fin 2, (val_main_v60 (F := Ideal) x0 x1 x2 x3 x4 x5) (idx_main_v61 i k) := by
  unfold val_main_v61
  generalize val_main_v60 (F := Ideal) x0 x1 x2 x3 x4 x5 = y0
  simp only [Host.reduceAdd, Ideal.hostReduceAdd_def]
  rw [Ideal.hostReduceAdd_single reducesTo_S65536x2x4_S65536x4_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %62 = stablehlo.broadcast_in_dim %29, dims = [0, 1] : (tensor<65536x4xf32>) -> tensor<65536x4x1xf32>
def val_main_v62 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4x1, .f32⟩ : BufTy).Contents (Elt F) :=
  broadcastInDim S65536x4x1 ![0, 1] bcast_S65536x4_S65536x4x1_0_1 (val_main_v29 (F := F) x0 x1 x2 x3)
abbrev idx_main_v62 (i : S65536x4x1.Idx) : S65536x4.Idx := fun a => match a with
  | ⟨0, _⟩ => ⟨(i 0).val, (i 0).isLt⟩
  | ⟨1, _⟩ => ⟨(i 1).val, (i 1).isLt⟩
theorem val_main_v62_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4x1.Idx) :
    val_main_v62 (F := F) x0 x1 x2 x3 i = val_main_v29 (F := F) x0 x1 x2 x3 (idx_main_v62 i) := by
  unfold val_main_v62
  generalize val_main_v29 (F := F) x0 x1 x2 x3 = y
  exact broadcastInDim_apply _ bcast_S65536x4_S65536x4x1_0_1 y i (idx_main_v62 i) (fun a => match a with
    | ⟨0, _⟩ => by show (i 0).val = if (65536 : Nat) = 1 then 0 else (i 0).val; rw [if_neg (by decide)]
    | ⟨1, _⟩ => by show (i 1).val = if (4 : Nat) = 1 then 0 else (i 1).val; rw [if_neg (by decide)])

-- %63 = stablehlo.broadcast_in_dim %32, dims = [0, 1] : (tensor<65536x1xf32>) -> tensor<65536x4xf32>
def val_main_v63 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4, .f32⟩ : BufTy).Contents (Elt F) :=
  broadcastInDim S65536x4 ![0, 1] bcast_S65536x1_S65536x4_0_1 (val_main_v32 (F := F) x0 x1 x2 x3)
abbrev idx_main_v63 (i : S65536x4.Idx) : S65536x1.Idx := fun a => match a with
  | ⟨0, _⟩ => ⟨(i 0).val, (i 0).isLt⟩
  | ⟨1, _⟩ => ⟨0, Nat.one_pos⟩
theorem val_main_v63_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4.Idx) :
    val_main_v63 (F := F) x0 x1 x2 x3 i = val_main_v32 (F := F) x0 x1 x2 x3 (idx_main_v63 i) := by
  unfold val_main_v63
  generalize val_main_v32 (F := F) x0 x1 x2 x3 = y
  exact broadcastInDim_apply _ bcast_S65536x1_S65536x4_0_1 y i (idx_main_v63 i) (fun a => match a with
    | ⟨0, _⟩ => by show (i 0).val = if (65536 : Nat) = 1 then 0 else (i 0).val; rw [if_neg (by decide)]
    | ⟨1, _⟩ => by show 0 = if (1 : Nat) = 1 then 0 else (i 1).val; rw [if_pos rfl])

-- %64 = stablehlo.multiply %63, %61 : tensor<65536x4xf32>
def val_main_v64 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x4, .f32⟩ : BufTy).Contents (Elt F) :=
  mulf (val_main_v63 (F := F) x0 x1 x2 x3) (val_main_v61 (F := F) x0 x1 x2 x3 x4 x5)
theorem val_main_v64_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x4.Idx) :
    val_main_v64 (F := F) x0 x1 x2 x3 x4 x5 i = FloatOps.mulf (val_main_v63 (F := F) x0 x1 x2 x3 i) (val_main_v61 (F := F) x0 x1 x2 x3 x4 x5 i) := rfl

-- %65 = stablehlo.broadcast_in_dim %64, dims = [0, 2] : (tensor<65536x4xf32>) -> tensor<65536x1x4xf32>
def val_main_v65 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x1x4, .f32⟩ : BufTy).Contents (Elt F) :=
  broadcastInDim S65536x1x4 ![0, 2] bcast_S65536x4_S65536x1x4_0_2 (val_main_v64 (F := F) x0 x1 x2 x3 x4 x5)
abbrev idx_main_v65 (i : S65536x1x4.Idx) : S65536x4.Idx := fun a => match a with
  | ⟨0, _⟩ => ⟨(i 0).val, (i 0).isLt⟩
  | ⟨1, _⟩ => ⟨(i 2).val, (i 2).isLt⟩
theorem val_main_v65_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x1x4.Idx) :
    val_main_v65 (F := F) x0 x1 x2 x3 x4 x5 i = val_main_v64 (F := F) x0 x1 x2 x3 x4 x5 (idx_main_v65 i) := by
  unfold val_main_v65
  generalize val_main_v64 (F := F) x0 x1 x2 x3 x4 x5 = y
  exact broadcastInDim_apply _ bcast_S65536x4_S65536x1x4_0_2 y i (idx_main_v65 i) (fun a => match a with
    | ⟨0, _⟩ => by show (i 0).val = if (65536 : Nat) = 1 then 0 else (i 0).val; rw [if_neg (by decide)]
    | ⟨1, _⟩ => by show (i 2).val = if (4 : Nat) = 1 then 0 else (i 2).val; rw [if_neg (by decide)])

-- %66 = stablehlo.broadcast_in_dim %62, dims = [0, 1, 2] : (tensor<65536x4x1xf32>) -> tensor<65536x4x4xf32>
def val_main_v66 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) : (⟨S65536x4x4, .f32⟩ : BufTy).Contents (Elt F) :=
  broadcastInDim S65536x4x4 ![0, 1, 2] bcast_S65536x4x1_S65536x4x4_0_1_2 (val_main_v62 (F := F) x0 x1 x2 x3)
abbrev idx_main_v66 (i : S65536x4x4.Idx) : S65536x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v66_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (i : S65536x4x4.Idx) :
    val_main_v66 (F := F) x0 x1 x2 x3 i = val_main_v62 (F := F) x0 x1 x2 x3 (idx_main_v66 i) := by
  unfold val_main_v66
  generalize val_main_v62 (F := F) x0 x1 x2 x3 = y
  exact broadcastInDim_apply _ bcast_S65536x4x1_S65536x4x4_0_1_2 y i (idx_main_v66 i) (fun a => match a with
    | ⟨0, _⟩ => by show (i 0).val = if (65536 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

-- %67 = stablehlo.broadcast_in_dim %65, dims = [0, 1, 2] : (tensor<65536x1x4xf32>) -> tensor<65536x4x4xf32>
def val_main_v67 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x4x4, .f32⟩ : BufTy).Contents (Elt F) :=
  broadcastInDim S65536x4x4 ![0, 1, 2] bcast_S65536x1x4_S65536x4x4_0_1_2 (val_main_v65 (F := F) x0 x1 x2 x3 x4 x5)
abbrev idx_main_v67 (i : S65536x4x4.Idx) : S65536x1x4.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v67_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x4x4.Idx) :
    val_main_v67 (F := F) x0 x1 x2 x3 x4 x5 i = val_main_v65 (F := F) x0 x1 x2 x3 x4 x5 (idx_main_v67 i) := by
  unfold val_main_v67
  generalize val_main_v65 (F := F) x0 x1 x2 x3 x4 x5 = y
  exact broadcastInDim_apply _ bcast_S65536x1x4_S65536x4x4_0_1_2 y i (idx_main_v67 i) (fun a => match a with
    | ⟨0, _⟩ => by show (i 0).val = if (65536 : Nat) = 1 then 0 else (i 0).val; rw [if_neg (by decide)]
    | ⟨1, _⟩ => by show 0 = if (1 : Nat) = 1 then 0 else (i 1).val; rw [if_pos rfl]
    | ⟨2, _⟩ => by show (i 2).val = if (4 : Nat) = 1 then 0 else (i 2).val; rw [if_neg (by decide)])

-- %68 = stablehlo.multiply %66, %67 : tensor<65536x4x4xf32>
def val_main_v68 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x4x4, .f32⟩ : BufTy).Contents (Elt F) :=
  mulf (val_main_v66 (F := F) x0 x1 x2 x3) (val_main_v67 (F := F) x0 x1 x2 x3 x4 x5)
theorem val_main_v68_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x4x4.Idx) :
    val_main_v68 (F := F) x0 x1 x2 x3 x4 x5 i = FloatOps.mulf (val_main_v66 (F := F) x0 x1 x2 x3 i) (val_main_v67 (F := F) x0 x1 x2 x3 x4 x5 i) := rfl

-- %69 = stablehlo.reshape %68 : (tensor<65536x4x4xf32>) -> tensor<65536x16xf32>
def val_main_v69 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x16, .f32⟩ : BufTy).Contents (Elt F) :=
  shapeCast _ (val_main_v68 (F := F) x0 x1 x2 x3 x4 x5) shapeCasts_S65536x4x4_S65536x16
abbrev idx_main_v69 (i : S65536x16.Idx) : S65536x4x4.Idx := fun a => match a with
  | ⟨0, _⟩ => ⟨((i 0).val * 16 + (i 1).val) / 16, by have h0 : (i 0).val < 65536 := (i 0).isLt; have h1 : (i 1).val < 16 := (i 1).isLt; show ((i 0).val * 16 + (i 1).val) / 16 < 65536; omega⟩
  | ⟨1, _⟩ => ⟨((i 0).val * 16 + (i 1).val) / 4 % 4, by have h0 : (i 0).val < 65536 := (i 0).isLt; have h1 : (i 1).val < 16 := (i 1).isLt; show ((i 0).val * 16 + (i 1).val) / 4 % 4 < 4; omega⟩
  | ⟨2, _⟩ => ⟨((i 0).val * 16 + (i 1).val) % 4, by have h0 : (i 0).val < 65536 := (i 0).isLt; have h1 : (i 1).val < 16 := (i 1).isLt; show ((i 0).val * 16 + (i 1).val) % 4 < 4; omega⟩
theorem val_main_v69_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x16.Idx) :
    val_main_v69 (F := F) x0 x1 x2 x3 x4 x5 i = val_main_v68 (F := F) x0 x1 x2 x3 x4 x5 (idx_main_v69 i) := by
  unfold val_main_v69
  generalize val_main_v68 (F := F) x0 x1 x2 x3 x4 x5 = y
  exact shapeCast_apply y shapeCasts_S65536x4x4_S65536x16 i (idx_main_v69 i)
    (by rewrite [Shape.rowMajor_val_three, Shape.rowMajor_val_two]; have h0 : (i 0).val < 65536 := (i 0).isLt; have h1 : (i 1).val < 16 := (i 1).isLt; show (((i 0).val * 16 + (i 1).val) / 16 * 4 + ((i 0).val * 16 + (i 1).val) / 4 % 4) * 4 + ((i 0).val * 16 + (i 1).val) % 4 = (i 0).val * 16 + (i 1).val; omega)

-- %70 = stablehlo.dot_general %12, %arg6, contracting_dims = [1] x [1], precision = [DEFAULT, DEFAULT] : (tensor<65536x1024xf32>, tensor<16x1024x512xf32>) -> tensor<65536x16x512xf32>
def val_main_v70 (x0 : (⟨S65536x1024, .f32⟩ : BufTy).Contents (Elt F)) (x1 : (⟨S1024, .f32⟩ : BufTy).Contents (Elt F)) (x6 : (⟨S16x1024x512, .f32⟩ : BufTy).Contents (Elt F)) : (⟨S65536x16x512, .f32⟩ : BufTy).Contents (Elt F) :=
  Host.dotGeneral dot_S65536x1024_S16x1024x512_S65536x16x512_1_1_0_02_n_n none (val_main_v12 (F := F) x0 x1) (x6)
theorem lhs_main_v70_0 (i : S65536x16x512.Idx) (q : dot_S65536x1024_S16x1024x512_S65536x16x512_1_1_0_02_n_n.contr.Idx) :
    (dot_S65536x1024_S16x1024x512_S65536x16x512_1_1_0_02_n_n.lhsIdx i q 0).val = (i 0).val := by
  unfold DotDims.lhsIdx
  rw [dif_neg (show ¬(0 : Fin S65536x1024.rank) ∈ dot_S65536x1024_S16x1024x512_S65536x16x512_1_1_0_02_n_n.lhsBatch by decide), dif_pos (show (0 : Fin S65536x1024.rank) ∈ dot_S65536x1024_S16x1024x512_S65536x16x512_1_1_0_02_n_n.lhsNonContracting by decide)]
  rfl
theorem lhs_main_v70_1 (i : S65536x16x512.Idx) (q : dot_S65536x1024_S16x1024x512_S65536x16x512_1_1_0_02_n_n.contr.Idx) :
    (dot_S65536x1024_S16x1024x512_S65536x16x512_1_1_0_02_n_n.lhsIdx i q 1).val = (q ⟨0, by decide⟩).val :=
  dot_S65536x1024_S16x1024x512_S65536x16x512_1_1_0_02_n_n.lhsIdx_val_of_single rfl i q
theorem rhs_main_v70_0 (i : S65536x16x512.Idx) (q : dot_S65536x1024_S16x1024x512_S65536x16x512_1_1_0_02_n_n.contr.Idx) :
    (dot_S65536x1024_S16x1024x512_S65536x16x512_1_1_0_02_n_n.rhsIdx i q 0).val = (i 1).val := by
  unfold DotDims.rhsIdx
  rw [dif_neg (show ¬(0 : Fin S16x1024x512.rank) ∈ dot_S65536x1024_S16x1024x512_S65536x16x512_1_1_0_02_n_n.rhsBatch by decide), dif_pos (show (0 : Fin S16x1024x512.rank) ∈ dot_S65536x1024_S16x1024x512_S65536x16x512_1_1_0_02_n_n.rhsNonContracting by decide)]
  rfl
theorem rhs_main_v70_1 (i : S65536x16x512.Idx) (q : dot_S65536x1024_S16x1024x512_S65536x16x512_1_1_0_02_n_n.contr.Idx) :
    (dot_S65536x1024_S16x1024x512_S65536x16x512_1_1_0_02_n_n.rhsIdx i q 1).val = (q ⟨0, by decide⟩).val :=
  dot_S65536x1024_S16x1024x512_S65536x16x512_1_1_0_02_n_n.rhsIdx_val_of_single rfl i q
theorem rhs_main_v70_2 (i : S65536x16x512.Idx) (q : dot_S65536x1024_S16x1024x512_S65536x16x512_1_1_0_02_n_n.contr.Idx) :
    (dot_S65536x1024_S16x1024x512_S65536x16x512_1_1_0_02_n_n.rhsIdx i q 2).val = (i 2).val := by
  unfold DotDims.rhsIdx
  rw [dif_neg (show ¬(2 : Fin S16x1024x512.rank) ∈ dot_S65536x1024_S16x1024x512_S65536x16x512_1_1_0_02_n_n.rhsBatch by decide), dif_pos (show (2 : Fin S16x1024x512.rank) ∈ dot_S65536x1024_S16x1024x512_S65536x16x512_1_1_0_02_n_n.rhsNonContracting by decide)]
  rfl
abbrev lidx_main_v70 (i : S65536x16x512.Idx) (k : Fin 1024) : S65536x1024.Idx := fun a => match a with
  | ⟨0, _⟩ => ⟨(i 0).val, (i 0).isLt⟩
  | ⟨1, _⟩ => ⟨k.val, k.isLt⟩
abbrev ridx_main_v70 (i : S65536x16x512.Idx) (k : Fin 1024) : S16x1024x512.Idx := fun a => match a with
  | ⟨0, _⟩ => ⟨(i 1).val, (i 1).isLt⟩
  | ⟨1, _⟩ => ⟨k.val, k.isLt⟩
  | ⟨2, _⟩ => ⟨(i 2).val, (i 2).isLt⟩
/-- Stated at `F := Ideal`, where the host's `dot_general` is this sum; at a bit-exact instance it is an opaque function of its operands. -/
theorem val_main_v70_apply (x0 : (⟨S65536x1024, .f32⟩ : BufTy).Contents (Elt Ideal)) (x1 : (⟨S1024, .f32⟩ : BufTy).Contents (Elt Ideal)) (x6 : (⟨S16x1024x512, .f32⟩ : BufTy).Contents (Elt Ideal)) (i : S65536x16x512.Idx) :
    val_main_v70 (F := Ideal) x0 x1 x6 i = ∑ k : Fin 1024, (val_main_v12 (F := Ideal) x0 x1) (lidx_main_v70 i k) * x6 (ridx_main_v70 i k) := by
  unfold val_main_v70
  generalize val_main_v12 (F := Ideal) x0 x1 = y0
  simp only [Host.dotGeneral]
  rw [Ideal.dotGeneral_apply, ← Equiv.sum_comp (ValueIdx.contrEquiv1 dot_S65536x1024_S16x1024x512_S65536x16x512_1_1_0_02_n_n 1024 rfl rfl).symm]
  refine Finset.sum_congr rfl fun k _ => ?_
  have hk := ValueIdx.contrEquiv1_symm_val dot_S65536x1024_S16x1024x512_S65536x16x512_1_1_0_02_n_n 1024 rfl rfl k
  have el : dot_S65536x1024_S16x1024x512_S65536x16x512_1_1_0_02_n_n.lhsIdx i ((ValueIdx.contrEquiv1 dot_S65536x1024_S16x1024x512_S65536x16x512_1_1_0_02_n_n 1024 rfl rfl).symm k) = lidx_main_v70 i k := funext fun a => Fin.ext (by
    match a with
    | ⟨0, _⟩ => exact lhs_main_v70_0 _ _
    | ⟨1, _⟩ => exact (lhs_main_v70_1 _ _).trans hk)
  have er : dot_S65536x1024_S16x1024x512_S65536x16x512_1_1_0_02_n_n.rhsIdx i ((ValueIdx.contrEquiv1 dot_S65536x1024_S16x1024x512_S65536x16x512_1_1_0_02_n_n 1024 rfl rfl).symm k) = ridx_main_v70 i k := funext fun a => Fin.ext (by
    match a with
    | ⟨0, _⟩ => exact rhs_main_v70_0 _ _
    | ⟨1, _⟩ => exact (rhs_main_v70_1 _ _).trans hk
    | ⟨2, _⟩ => exact rhs_main_v70_2 _ _)
  rw [el, er]

-- @silu's %0 = stablehlo.negate %arg0 : tensor<65536x16x512xf32>, in %71 = func.call @silu(…) (record main_call3)
def val_main_call3_v0 (x0 : (⟨S65536x1024, .f32⟩ : BufTy).Contents (Elt F)) (x1 : (⟨S1024, .f32⟩ : BufTy).Contents (Elt F)) (x6 : (⟨S16x1024x512, .f32⟩ : BufTy).Contents (Elt F)) : (⟨S65536x16x512, .f32⟩ : BufTy).Contents (Elt F) :=
  Host.negf (val_main_v70 (F := F) x0 x1 x6)
theorem val_main_call3_v0_apply (x0 : (⟨S65536x1024, .f32⟩ : BufTy).Contents (Elt F)) (x1 : (⟨S1024, .f32⟩ : BufTy).Contents (Elt F)) (x6 : (⟨S16x1024x512, .f32⟩ : BufTy).Contents (Elt F)) (i : S65536x16x512.Idx) :
    val_main_call3_v0 (F := F) x0 x1 x6 i = FloatOps.hostNegf (val_main_v70 (F := F) x0 x1 x6 i) := rfl

-- @silu's %1 = stablehlo.exponential %0 : tensor<65536x16x512xf32>, in %71 = func.call @silu(…) (record main_call3)
def val_main_call3_v1 (x0 : (⟨S65536x1024, .f32⟩ : BufTy).Contents (Elt F)) (x1 : (⟨S1024, .f32⟩ : BufTy).Contents (Elt F)) (x6 : (⟨S16x1024x512, .f32⟩ : BufTy).Contents (Elt F)) : (⟨S65536x16x512, .f32⟩ : BufTy).Contents (Elt F) :=
  Host.exp (val_main_call3_v0 (F := F) x0 x1 x6)
theorem val_main_call3_v1_apply (x0 : (⟨S65536x1024, .f32⟩ : BufTy).Contents (Elt F)) (x1 : (⟨S1024, .f32⟩ : BufTy).Contents (Elt F)) (x6 : (⟨S16x1024x512, .f32⟩ : BufTy).Contents (Elt F)) (i : S65536x16x512.Idx) :
    val_main_call3_v1 (F := F) x0 x1 x6 i = FloatOps.hostUnary .exp (val_main_call3_v0 (F := F) x0 x1 x6 i) := rfl

-- @silu's %cst = stablehlo.constant dense<1.000000e+00> : tensor<f32>, in %71 = func.call @silu(…) (record main_call3)
def val_main_call3_cst : (⟨S_, .f32⟩ : BufTy).Contents (Elt F) :=
  constant S_ .f32 0x3F800000#32
theorem val_main_call3_cst_apply (i : S_.Idx) :
    val_main_call3_cst (F := F) i = FloatOps.ofBits .f32 0x3F800000#32 := rfl

-- @silu's %2 = stablehlo.broadcast_in_dim %cst, dims = [] : (tensor<f32>) -> tensor<65536x16x512xf32>, in %71 = func.call @silu(…) (record main_call3)
def val_main_call3_v2 : (⟨S65536x16x512, .f32⟩ : BufTy).Contents (Elt F) :=
  broadcastInDim S65536x16x512 ![] bcast_S_S65536x16x512 (val_main_call3_cst (F := F))
abbrev idx_main_call3_v2 (i : S65536x16x512.Idx) : S_.Idx := fun a => a.elim0
theorem val_main_call3_v2_apply (i : S65536x16x512.Idx) :
    val_main_call3_v2 (F := F) i = val_main_call3_cst (F := F) (idx_main_call3_v2 i) := by
  unfold val_main_call3_v2
  generalize val_main_call3_cst (F := F) = y
  exact broadcastInDim_apply _ bcast_S_S65536x16x512 y i (idx_main_call3_v2 i) (fun a => a.elim0)

-- @silu's %3 = stablehlo.add %2, %1 : tensor<65536x16x512xf32>, in %71 = func.call @silu(…) (record main_call3)
def val_main_call3_v3 (x0 : (⟨S65536x1024, .f32⟩ : BufTy).Contents (Elt F)) (x1 : (⟨S1024, .f32⟩ : BufTy).Contents (Elt F)) (x6 : (⟨S16x1024x512, .f32⟩ : BufTy).Contents (Elt F)) : (⟨S65536x16x512, .f32⟩ : BufTy).Contents (Elt F) :=
  addf (val_main_call3_v2 (F := F)) (val_main_call3_v1 (F := F) x0 x1 x6)
theorem val_main_call3_v3_apply (x0 : (⟨S65536x1024, .f32⟩ : BufTy).Contents (Elt F)) (x1 : (⟨S1024, .f32⟩ : BufTy).Contents (Elt F)) (x6 : (⟨S16x1024x512, .f32⟩ : BufTy).Contents (Elt F)) (i : S65536x16x512.Idx) :
    val_main_call3_v3 (F := F) x0 x1 x6 i = FloatOps.addf (val_main_call3_v2 (F := F) i) (val_main_call3_v1 (F := F) x0 x1 x6 i) := rfl

-- @silu's %cst_0 = stablehlo.constant dense<1.000000e+00> : tensor<f32>, in %71 = func.call @silu(…) (record main_call3)
def val_main_call3_cst_0 : (⟨S_, .f32⟩ : BufTy).Contents (Elt F) :=
  constant S_ .f32 0x3F800000#32
theorem val_main_call3_cst_0_apply (i : S_.Idx) :
    val_main_call3_cst_0 (F := F) i = FloatOps.ofBits .f32 0x3F800000#32 := rfl

-- @silu's %4 = stablehlo.broadcast_in_dim %cst_0, dims = [] : (tensor<f32>) -> tensor<65536x16x512xf32>, in %71 = func.call @silu(…) (record main_call3)
def val_main_call3_v4 : (⟨S65536x16x512, .f32⟩ : BufTy).Contents (Elt F) :=
  broadcastInDim S65536x16x512 ![] bcast_S_S65536x16x512 (val_main_call3_cst_0 (F := F))
abbrev idx_main_call3_v4 (i : S65536x16x512.Idx) : S_.Idx := fun a => a.elim0
theorem val_main_call3_v4_apply (i : S65536x16x512.Idx) :
    val_main_call3_v4 (F := F) i = val_main_call3_cst_0 (F := F) (idx_main_call3_v4 i) := by
  unfold val_main_call3_v4
  generalize val_main_call3_cst_0 (F := F) = y
  exact broadcastInDim_apply _ bcast_S_S65536x16x512 y i (idx_main_call3_v4 i) (fun a => a.elim0)

-- @silu's %5 = stablehlo.divide %4, %3 : tensor<65536x16x512xf32>, in %71 = func.call @silu(…) (record main_call3)
def val_main_call3_v5 (x0 : (⟨S65536x1024, .f32⟩ : BufTy).Contents (Elt F)) (x1 : (⟨S1024, .f32⟩ : BufTy).Contents (Elt F)) (x6 : (⟨S16x1024x512, .f32⟩ : BufTy).Contents (Elt F)) : (⟨S65536x16x512, .f32⟩ : BufTy).Contents (Elt F) :=
  Host.divf (val_main_call3_v4 (F := F)) (val_main_call3_v3 (F := F) x0 x1 x6)
theorem val_main_call3_v5_apply (x0 : (⟨S65536x1024, .f32⟩ : BufTy).Contents (Elt F)) (x1 : (⟨S1024, .f32⟩ : BufTy).Contents (Elt F)) (x6 : (⟨S16x1024x512, .f32⟩ : BufTy).Contents (Elt F)) (i : S65536x16x512.Idx) :
    val_main_call3_v5 (F := F) x0 x1 x6 i = FloatOps.hostDivf (val_main_call3_v4 (F := F) i) (val_main_call3_v3 (F := F) x0 x1 x6 i) := rfl

-- %71 = func.call @silu(…) (record main_call3) result 0: @silu's %6 = stablehlo.multiply %arg0, %5 : tensor<65536x16x512xf32>
def val_main_v71 (x0 : (⟨S65536x1024, .f32⟩ : BufTy).Contents (Elt F)) (x1 : (⟨S1024, .f32⟩ : BufTy).Contents (Elt F)) (x6 : (⟨S16x1024x512, .f32⟩ : BufTy).Contents (Elt F)) : (⟨S65536x16x512, .f32⟩ : BufTy).Contents (Elt F) :=
  mulf (val_main_v70 (F := F) x0 x1 x6) (val_main_call3_v5 (F := F) x0 x1 x6)
theorem val_main_v71_apply (x0 : (⟨S65536x1024, .f32⟩ : BufTy).Contents (Elt F)) (x1 : (⟨S1024, .f32⟩ : BufTy).Contents (Elt F)) (x6 : (⟨S16x1024x512, .f32⟩ : BufTy).Contents (Elt F)) (i : S65536x16x512.Idx) :
    val_main_v71 (F := F) x0 x1 x6 i = FloatOps.mulf (val_main_v70 (F := F) x0 x1 x6 i) (val_main_call3_v5 (F := F) x0 x1 x6 i) := rfl

-- %72 = stablehlo.dot_general %12, %arg7, contracting_dims = [1] x [1], precision = [DEFAULT, DEFAULT] : (tensor<65536x1024xf32>, tensor<16x1024x512xf32>) -> tensor<65536x16x512xf32>
def val_main_v72 (x0 : (⟨S65536x1024, .f32⟩ : BufTy).Contents (Elt F)) (x1 : (⟨S1024, .f32⟩ : BufTy).Contents (Elt F)) (x7 : (⟨S16x1024x512, .f32⟩ : BufTy).Contents (Elt F)) : (⟨S65536x16x512, .f32⟩ : BufTy).Contents (Elt F) :=
  Host.dotGeneral dot_S65536x1024_S16x1024x512_S65536x16x512_1_1_0_02_n_n none (val_main_v12 (F := F) x0 x1) (x7)
theorem lhs_main_v72_0 (i : S65536x16x512.Idx) (q : dot_S65536x1024_S16x1024x512_S65536x16x512_1_1_0_02_n_n.contr.Idx) :
    (dot_S65536x1024_S16x1024x512_S65536x16x512_1_1_0_02_n_n.lhsIdx i q 0).val = (i 0).val := by
  unfold DotDims.lhsIdx
  rw [dif_neg (show ¬(0 : Fin S65536x1024.rank) ∈ dot_S65536x1024_S16x1024x512_S65536x16x512_1_1_0_02_n_n.lhsBatch by decide), dif_pos (show (0 : Fin S65536x1024.rank) ∈ dot_S65536x1024_S16x1024x512_S65536x16x512_1_1_0_02_n_n.lhsNonContracting by decide)]
  rfl
theorem lhs_main_v72_1 (i : S65536x16x512.Idx) (q : dot_S65536x1024_S16x1024x512_S65536x16x512_1_1_0_02_n_n.contr.Idx) :
    (dot_S65536x1024_S16x1024x512_S65536x16x512_1_1_0_02_n_n.lhsIdx i q 1).val = (q ⟨0, by decide⟩).val :=
  dot_S65536x1024_S16x1024x512_S65536x16x512_1_1_0_02_n_n.lhsIdx_val_of_single rfl i q
theorem rhs_main_v72_0 (i : S65536x16x512.Idx) (q : dot_S65536x1024_S16x1024x512_S65536x16x512_1_1_0_02_n_n.contr.Idx) :
    (dot_S65536x1024_S16x1024x512_S65536x16x512_1_1_0_02_n_n.rhsIdx i q 0).val = (i 1).val := by
  unfold DotDims.rhsIdx
  rw [dif_neg (show ¬(0 : Fin S16x1024x512.rank) ∈ dot_S65536x1024_S16x1024x512_S65536x16x512_1_1_0_02_n_n.rhsBatch by decide), dif_pos (show (0 : Fin S16x1024x512.rank) ∈ dot_S65536x1024_S16x1024x512_S65536x16x512_1_1_0_02_n_n.rhsNonContracting by decide)]
  rfl
theorem rhs_main_v72_1 (i : S65536x16x512.Idx) (q : dot_S65536x1024_S16x1024x512_S65536x16x512_1_1_0_02_n_n.contr.Idx) :
    (dot_S65536x1024_S16x1024x512_S65536x16x512_1_1_0_02_n_n.rhsIdx i q 1).val = (q ⟨0, by decide⟩).val :=
  dot_S65536x1024_S16x1024x512_S65536x16x512_1_1_0_02_n_n.rhsIdx_val_of_single rfl i q
theorem rhs_main_v72_2 (i : S65536x16x512.Idx) (q : dot_S65536x1024_S16x1024x512_S65536x16x512_1_1_0_02_n_n.contr.Idx) :
    (dot_S65536x1024_S16x1024x512_S65536x16x512_1_1_0_02_n_n.rhsIdx i q 2).val = (i 2).val := by
  unfold DotDims.rhsIdx
  rw [dif_neg (show ¬(2 : Fin S16x1024x512.rank) ∈ dot_S65536x1024_S16x1024x512_S65536x16x512_1_1_0_02_n_n.rhsBatch by decide), dif_pos (show (2 : Fin S16x1024x512.rank) ∈ dot_S65536x1024_S16x1024x512_S65536x16x512_1_1_0_02_n_n.rhsNonContracting by decide)]
  rfl
abbrev lidx_main_v72 (i : S65536x16x512.Idx) (k : Fin 1024) : S65536x1024.Idx := fun a => match a with
  | ⟨0, _⟩ => ⟨(i 0).val, (i 0).isLt⟩
  | ⟨1, _⟩ => ⟨k.val, k.isLt⟩
abbrev ridx_main_v72 (i : S65536x16x512.Idx) (k : Fin 1024) : S16x1024x512.Idx := fun a => match a with
  | ⟨0, _⟩ => ⟨(i 1).val, (i 1).isLt⟩
  | ⟨1, _⟩ => ⟨k.val, k.isLt⟩
  | ⟨2, _⟩ => ⟨(i 2).val, (i 2).isLt⟩
/-- Stated at `F := Ideal`, where the host's `dot_general` is this sum; at a bit-exact instance it is an opaque function of its operands. -/
theorem val_main_v72_apply (x0 : (⟨S65536x1024, .f32⟩ : BufTy).Contents (Elt Ideal)) (x1 : (⟨S1024, .f32⟩ : BufTy).Contents (Elt Ideal)) (x7 : (⟨S16x1024x512, .f32⟩ : BufTy).Contents (Elt Ideal)) (i : S65536x16x512.Idx) :
    val_main_v72 (F := Ideal) x0 x1 x7 i = ∑ k : Fin 1024, (val_main_v12 (F := Ideal) x0 x1) (lidx_main_v72 i k) * x7 (ridx_main_v72 i k) := by
  unfold val_main_v72
  generalize val_main_v12 (F := Ideal) x0 x1 = y0
  simp only [Host.dotGeneral]
  rw [Ideal.dotGeneral_apply, ← Equiv.sum_comp (ValueIdx.contrEquiv1 dot_S65536x1024_S16x1024x512_S65536x16x512_1_1_0_02_n_n 1024 rfl rfl).symm]
  refine Finset.sum_congr rfl fun k _ => ?_
  have hk := ValueIdx.contrEquiv1_symm_val dot_S65536x1024_S16x1024x512_S65536x16x512_1_1_0_02_n_n 1024 rfl rfl k
  have el : dot_S65536x1024_S16x1024x512_S65536x16x512_1_1_0_02_n_n.lhsIdx i ((ValueIdx.contrEquiv1 dot_S65536x1024_S16x1024x512_S65536x16x512_1_1_0_02_n_n 1024 rfl rfl).symm k) = lidx_main_v72 i k := funext fun a => Fin.ext (by
    match a with
    | ⟨0, _⟩ => exact lhs_main_v72_0 _ _
    | ⟨1, _⟩ => exact (lhs_main_v72_1 _ _).trans hk)
  have er : dot_S65536x1024_S16x1024x512_S65536x16x512_1_1_0_02_n_n.rhsIdx i ((ValueIdx.contrEquiv1 dot_S65536x1024_S16x1024x512_S65536x16x512_1_1_0_02_n_n 1024 rfl rfl).symm k) = ridx_main_v72 i k := funext fun a => Fin.ext (by
    match a with
    | ⟨0, _⟩ => exact rhs_main_v72_0 _ _
    | ⟨1, _⟩ => exact (rhs_main_v72_1 _ _).trans hk
    | ⟨2, _⟩ => exact rhs_main_v72_2 _ _)
  rw [el, er]

-- %73 = stablehlo.multiply %71, %72 : tensor<65536x16x512xf32>
def val_main_v73 (x0 : (⟨S65536x1024, .f32⟩ : BufTy).Contents (Elt F)) (x1 : (⟨S1024, .f32⟩ : BufTy).Contents (Elt F)) (x6 x7 : (⟨S16x1024x512, .f32⟩ : BufTy).Contents (Elt F)) : (⟨S65536x16x512, .f32⟩ : BufTy).Contents (Elt F) :=
  mulf (val_main_v71 (F := F) x0 x1 x6) (val_main_v72 (F := F) x0 x1 x7)
theorem val_main_v73_apply (x0 : (⟨S65536x1024, .f32⟩ : BufTy).Contents (Elt F)) (x1 : (⟨S1024, .f32⟩ : BufTy).Contents (Elt F)) (x6 x7 : (⟨S16x1024x512, .f32⟩ : BufTy).Contents (Elt F)) (i : S65536x16x512.Idx) :
    val_main_v73 (F := F) x0 x1 x6 x7 i = FloatOps.mulf (val_main_v71 (F := F) x0 x1 x6 i) (val_main_v72 (F := F) x0 x1 x7 i) := rfl

-- %74 = stablehlo.dot_general %arg8, %73, batching_dims = [0] x [1], contracting_dims = [1] x [2], precision = [DEFAULT, DEFAULT] : (tensor<16x512x1024xf32>, tensor<65536x16x512xf32>) -> tensor<16x1024x65536xf32>
def val_main_v74 (x0 : (⟨S65536x1024, .f32⟩ : BufTy).Contents (Elt F)) (x1 : (⟨S1024, .f32⟩ : BufTy).Contents (Elt F)) (x6 x7 : (⟨S16x1024x512, .f32⟩ : BufTy).Contents (Elt F)) (x8 : (⟨S16x512x1024, .f32⟩ : BufTy).Contents (Elt F)) : (⟨S16x1024x65536, .f32⟩ : BufTy).Contents (Elt F) :=
  Host.dotGeneral dot_S16x512x1024_S65536x16x512_S16x1024x65536_1_2_2_0_0_1 none (x8) (val_main_v73 (F := F) x0 x1 x6 x7)
theorem lhs_main_v74_0 (i : S16x1024x65536.Idx) (q : dot_S16x512x1024_S65536x16x512_S16x1024x65536_1_2_2_0_0_1.contr.Idx) :
    (dot_S16x512x1024_S65536x16x512_S16x1024x65536_1_2_2_0_0_1.lhsIdx i q 0).val = (i 0).val := by
  unfold DotDims.lhsIdx
  rw [dif_pos (show (0 : Fin S16x512x1024.rank) ∈ dot_S16x512x1024_S65536x16x512_S16x1024x65536_1_2_2_0_0_1.lhsBatch by decide)]
  rfl
theorem lhs_main_v74_1 (i : S16x1024x65536.Idx) (q : dot_S16x512x1024_S65536x16x512_S16x1024x65536_1_2_2_0_0_1.contr.Idx) :
    (dot_S16x512x1024_S65536x16x512_S16x1024x65536_1_2_2_0_0_1.lhsIdx i q 1).val = (q ⟨0, by decide⟩).val :=
  dot_S16x512x1024_S65536x16x512_S16x1024x65536_1_2_2_0_0_1.lhsIdx_val_of_single rfl i q
theorem lhs_main_v74_2 (i : S16x1024x65536.Idx) (q : dot_S16x512x1024_S65536x16x512_S16x1024x65536_1_2_2_0_0_1.contr.Idx) :
    (dot_S16x512x1024_S65536x16x512_S16x1024x65536_1_2_2_0_0_1.lhsIdx i q 2).val = (i 1).val := by
  unfold DotDims.lhsIdx
  rw [dif_neg (show ¬(2 : Fin S16x512x1024.rank) ∈ dot_S16x512x1024_S65536x16x512_S16x1024x65536_1_2_2_0_0_1.lhsBatch by decide), dif_pos (show (2 : Fin S16x512x1024.rank) ∈ dot_S16x512x1024_S65536x16x512_S16x1024x65536_1_2_2_0_0_1.lhsNonContracting by decide)]
  rfl
theorem rhs_main_v74_0 (i : S16x1024x65536.Idx) (q : dot_S16x512x1024_S65536x16x512_S16x1024x65536_1_2_2_0_0_1.contr.Idx) :
    (dot_S16x512x1024_S65536x16x512_S16x1024x65536_1_2_2_0_0_1.rhsIdx i q 0).val = (i 2).val := by
  unfold DotDims.rhsIdx
  rw [dif_neg (show ¬(0 : Fin S65536x16x512.rank) ∈ dot_S16x512x1024_S65536x16x512_S16x1024x65536_1_2_2_0_0_1.rhsBatch by decide), dif_pos (show (0 : Fin S65536x16x512.rank) ∈ dot_S16x512x1024_S65536x16x512_S16x1024x65536_1_2_2_0_0_1.rhsNonContracting by decide)]
  rfl
theorem rhs_main_v74_1 (i : S16x1024x65536.Idx) (q : dot_S16x512x1024_S65536x16x512_S16x1024x65536_1_2_2_0_0_1.contr.Idx) :
    (dot_S16x512x1024_S65536x16x512_S16x1024x65536_1_2_2_0_0_1.rhsIdx i q 1).val = (i 0).val := by
  unfold DotDims.rhsIdx
  rw [dif_pos (show (1 : Fin S65536x16x512.rank) ∈ dot_S16x512x1024_S65536x16x512_S16x1024x65536_1_2_2_0_0_1.rhsBatch by decide)]
  rfl
theorem rhs_main_v74_2 (i : S16x1024x65536.Idx) (q : dot_S16x512x1024_S65536x16x512_S16x1024x65536_1_2_2_0_0_1.contr.Idx) :
    (dot_S16x512x1024_S65536x16x512_S16x1024x65536_1_2_2_0_0_1.rhsIdx i q 2).val = (q ⟨0, by decide⟩).val :=
  dot_S16x512x1024_S65536x16x512_S16x1024x65536_1_2_2_0_0_1.rhsIdx_val_of_single rfl i q
abbrev lidx_main_v74 (i : S16x1024x65536.Idx) (k : Fin 512) : S16x512x1024.Idx := fun a => match a with
  | ⟨0, _⟩ => ⟨(i 0).val, (i 0).isLt⟩
  | ⟨1, _⟩ => ⟨k.val, k.isLt⟩
  | ⟨2, _⟩ => ⟨(i 1).val, (i 1).isLt⟩
abbrev ridx_main_v74 (i : S16x1024x65536.Idx) (k : Fin 512) : S65536x16x512.Idx := fun a => match a with
  | ⟨0, _⟩ => ⟨(i 2).val, (i 2).isLt⟩
  | ⟨1, _⟩ => ⟨(i 0).val, (i 0).isLt⟩
  | ⟨2, _⟩ => ⟨k.val, k.isLt⟩
/-- Stated at `F := Ideal`, where the host's `dot_general` is this sum; at a bit-exact instance it is an opaque function of its operands. -/
theorem val_main_v74_apply (x0 : (⟨S65536x1024, .f32⟩ : BufTy).Contents (Elt Ideal)) (x1 : (⟨S1024, .f32⟩ : BufTy).Contents (Elt Ideal)) (x6 x7 : (⟨S16x1024x512, .f32⟩ : BufTy).Contents (Elt Ideal)) (x8 : (⟨S16x512x1024, .f32⟩ : BufTy).Contents (Elt Ideal)) (i : S16x1024x65536.Idx) :
    val_main_v74 (F := Ideal) x0 x1 x6 x7 x8 i = ∑ k : Fin 512, x8 (lidx_main_v74 i k) * (val_main_v73 (F := Ideal) x0 x1 x6 x7) (ridx_main_v74 i k) := by
  unfold val_main_v74
  generalize val_main_v73 (F := Ideal) x0 x1 x6 x7 = y0
  simp only [Host.dotGeneral]
  rw [Ideal.dotGeneral_apply, ← Equiv.sum_comp (ValueIdx.contrEquiv1 dot_S16x512x1024_S65536x16x512_S16x1024x65536_1_2_2_0_0_1 512 rfl rfl).symm]
  refine Finset.sum_congr rfl fun k _ => ?_
  have hk := ValueIdx.contrEquiv1_symm_val dot_S16x512x1024_S65536x16x512_S16x1024x65536_1_2_2_0_0_1 512 rfl rfl k
  have el : dot_S16x512x1024_S65536x16x512_S16x1024x65536_1_2_2_0_0_1.lhsIdx i ((ValueIdx.contrEquiv1 dot_S16x512x1024_S65536x16x512_S16x1024x65536_1_2_2_0_0_1 512 rfl rfl).symm k) = lidx_main_v74 i k := funext fun a => Fin.ext (by
    match a with
    | ⟨0, _⟩ => exact lhs_main_v74_0 _ _
    | ⟨1, _⟩ => exact (lhs_main_v74_1 _ _).trans hk
    | ⟨2, _⟩ => exact lhs_main_v74_2 _ _)
  have er : dot_S16x512x1024_S65536x16x512_S16x1024x65536_1_2_2_0_0_1.rhsIdx i ((ValueIdx.contrEquiv1 dot_S16x512x1024_S65536x16x512_S16x1024x65536_1_2_2_0_0_1 512 rfl rfl).symm k) = ridx_main_v74 i k := funext fun a => Fin.ext (by
    match a with
    | ⟨0, _⟩ => exact rhs_main_v74_0 _ _
    | ⟨1, _⟩ => exact rhs_main_v74_1 _ _
    | ⟨2, _⟩ => exact (rhs_main_v74_2 _ _).trans hk)
  rw [el, er]

-- %75 = stablehlo.transpose %74, dims = [2, 0, 1] : (tensor<16x1024x65536xf32>) -> tensor<65536x16x1024xf32>
def val_main_v75 (x0 : (⟨S65536x1024, .f32⟩ : BufTy).Contents (Elt F)) (x1 : (⟨S1024, .f32⟩ : BufTy).Contents (Elt F)) (x6 x7 : (⟨S16x1024x512, .f32⟩ : BufTy).Contents (Elt F)) (x8 : (⟨S16x512x1024, .f32⟩ : BufTy).Contents (Elt F)) : (⟨S65536x16x1024, .f32⟩ : BufTy).Contents (Elt F) :=
  transpose S65536x16x1024 [2, 0, 1] (val_main_v74 (F := F) x0 x1 x6 x7 x8) transposes_S16x1024x65536_S65536x16x1024_2_0_1
abbrev idx_main_v75 (i : S65536x16x1024.Idx) : S16x1024x65536.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v75_apply (x0 : (⟨S65536x1024, .f32⟩ : BufTy).Contents (Elt F)) (x1 : (⟨S1024, .f32⟩ : BufTy).Contents (Elt F)) (x6 x7 : (⟨S16x1024x512, .f32⟩ : BufTy).Contents (Elt F)) (x8 : (⟨S16x512x1024, .f32⟩ : BufTy).Contents (Elt F)) (i : S65536x16x1024.Idx) :
    val_main_v75 (F := F) x0 x1 x6 x7 x8 i = val_main_v74 (F := F) x0 x1 x6 x7 x8 (idx_main_v75 i) := by
  unfold val_main_v75
  generalize val_main_v74 (F := F) x0 x1 x6 x7 x8 = y
  exact transpose_apply [2, 0, 1] y transposes_S16x1024x65536_S65536x16x1024_2_0_1 i (idx_main_v75 i) (fun b => match b with
    | ⟨0, _⟩ => rfl
    | ⟨1, _⟩ => rfl
    | ⟨2, _⟩ => rfl)

-- %76 = stablehlo.broadcast_in_dim %69, dims = [0, 1] : (tensor<65536x16xf32>) -> tensor<65536x16x1xf32>
def val_main_v76 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x16x1, .f32⟩ : BufTy).Contents (Elt F) :=
  broadcastInDim S65536x16x1 ![0, 1] bcast_S65536x16_S65536x16x1_0_1 (val_main_v69 (F := F) x0 x1 x2 x3 x4 x5)
abbrev idx_main_v76 (i : S65536x16x1.Idx) : S65536x16.Idx := fun a => match a with
  | ⟨0, _⟩ => ⟨(i 0).val, (i 0).isLt⟩
  | ⟨1, _⟩ => ⟨(i 1).val, (i 1).isLt⟩
theorem val_main_v76_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x16x1.Idx) :
    val_main_v76 (F := F) x0 x1 x2 x3 x4 x5 i = val_main_v69 (F := F) x0 x1 x2 x3 x4 x5 (idx_main_v76 i) := by
  unfold val_main_v76
  generalize val_main_v69 (F := F) x0 x1 x2 x3 x4 x5 = y
  exact broadcastInDim_apply _ bcast_S65536x16_S65536x16x1_0_1 y i (idx_main_v76 i) (fun a => match a with
    | ⟨0, _⟩ => by show (i 0).val = if (65536 : Nat) = 1 then 0 else (i 0).val; rw [if_neg (by decide)]
    | ⟨1, _⟩ => by show (i 1).val = if (16 : Nat) = 1 then 0 else (i 1).val; rw [if_neg (by decide)])

-- %77 = stablehlo.broadcast_in_dim %76, dims = [0, 1, 2] : (tensor<65536x16x1xf32>) -> tensor<65536x16x1024xf32>
def val_main_v77 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) : (⟨S65536x16x1024, .f32⟩ : BufTy).Contents (Elt F) :=
  broadcastInDim S65536x16x1024 ![0, 1, 2] bcast_S65536x16x1_S65536x16x1024_0_1_2 (val_main_v76 (F := F) x0 x1 x2 x3 x4 x5)
abbrev idx_main_v77 (i : S65536x16x1024.Idx) : S65536x16x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v77_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (i : S65536x16x1024.Idx) :
    val_main_v77 (F := F) x0 x1 x2 x3 x4 x5 i = val_main_v76 (F := F) x0 x1 x2 x3 x4 x5 (idx_main_v77 i) := by
  unfold val_main_v77
  generalize val_main_v76 (F := F) x0 x1 x2 x3 x4 x5 = y
  exact broadcastInDim_apply _ bcast_S65536x16x1_S65536x16x1024_0_1_2 y i (idx_main_v77 i) (fun a => match a with
    | ⟨0, _⟩ => by show (i 0).val = if (65536 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])

-- %78 = stablehlo.multiply %77, %75 : tensor<65536x16x1024xf32>
def val_main_v78 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (x6 x7 : (⟨S16x1024x512, .f32⟩ : BufTy).Contents (Elt F)) (x8 : (⟨S16x512x1024, .f32⟩ : BufTy).Contents (Elt F)) : (⟨S65536x16x1024, .f32⟩ : BufTy).Contents (Elt F) :=
  mulf (val_main_v77 (F := F) x0 x1 x2 x3 x4 x5) (val_main_v75 (F := F) x0 x1 x6 x7 x8)
theorem val_main_v78_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (x6 x7 : (⟨S16x1024x512, .f32⟩ : BufTy).Contents (Elt F)) (x8 : (⟨S16x512x1024, .f32⟩ : BufTy).Contents (Elt F)) (i : S65536x16x1024.Idx) :
    val_main_v78 (F := F) x0 x1 x2 x3 x4 x5 x6 x7 x8 i = FloatOps.mulf (val_main_v77 (F := F) x0 x1 x2 x3 x4 x5 i) (val_main_v75 (F := F) x0 x1 x6 x7 x8 i) := rfl

-- %cst_12 = stablehlo.constant dense<0.000000e+00> : tensor<f32>
def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

-- %79 = stablehlo.reduce(%78 init: %cst_12) applies stablehlo.add across dimensions = [1] : (tensor<65536x16x1024xf32>, tensor<f32>) -> tensor<65536x1024xf32> {
def val_main_v79 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (x6 x7 : (⟨S16x1024x512, .f32⟩ : BufTy).Contents (Elt F)) (x8 : (⟨S16x512x1024, .f32⟩ : BufTy).Contents (Elt F)) : (⟨S65536x1024, .f32⟩ : BufTy).Contents (Elt F) :=
  Host.reduceAdd (val_main_v78 (F := F) x0 x1 x2 x3 x4 x5 x6 x7 x8) (val_main_cst_12 (F := F)) reducesTo_S65536x16x1024_S65536x1024_d1 h_S_
abbrev idx_main_v79 (i : S65536x1024.Idx) (k : Fin 16) : S65536x16x1024.Idx := fun a => match a with
  | ⟨0, _⟩ => ⟨(i 0).val, (i 0).isLt⟩
  | ⟨1, _⟩ => ⟨k.val, k.isLt⟩
  | ⟨2, _⟩ => ⟨(i 1).val, (i 1).isLt⟩
/-- Stated at `F := Ideal`, where the host's float sum is this sum; at a bit-exact instance it is an opaque function of its operand. -/
theorem val_main_v79_apply (x0 : (⟨S65536x1024, .f32⟩ : BufTy).Contents (Elt Ideal)) (x1 : (⟨S1024, .f32⟩ : BufTy).Contents (Elt Ideal)) (x2 : (⟨S1024x4, .f32⟩ : BufTy).Contents (Elt Ideal)) (x3 : (⟨S4, .f32⟩ : BufTy).Contents (Elt Ideal)) (x4 : (⟨S1024x16, .f32⟩ : BufTy).Contents (Elt Ideal)) (x5 : (⟨S16, .f32⟩ : BufTy).Contents (Elt Ideal)) (x6 x7 : (⟨S16x1024x512, .f32⟩ : BufTy).Contents (Elt Ideal)) (x8 : (⟨S16x512x1024, .f32⟩ : BufTy).Contents (Elt Ideal)) (i : S65536x1024.Idx) :
    val_main_v79 (F := Ideal) x0 x1 x2 x3 x4 x5 x6 x7 x8 i = (val_main_cst_12 (F := Ideal)) (Shape.Idx.first h_S_) + ∑ k : Fin 16, (val_main_v78 (F := Ideal) x0 x1 x2 x3 x4 x5 x6 x7 x8) (idx_main_v79 i k) := by
  unfold val_main_v79
  generalize val_main_v78 (F := Ideal) x0 x1 x2 x3 x4 x5 x6 x7 x8 = y0
  simp only [Host.reduceAdd, Ideal.hostReduceAdd_def]
  rw [Ideal.hostReduceAdd_single reducesTo_S65536x16x1024_S65536x1024_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %80 = stablehlo.add %arg0, %79 : tensor<65536x1024xf32>
def val_main_v80 (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (x6 x7 : (⟨S16x1024x512, .f32⟩ : BufTy).Contents (Elt F)) (x8 : (⟨S16x512x1024, .f32⟩ : BufTy).Contents (Elt F)) : (⟨S65536x1024, .f32⟩ : BufTy).Contents (Elt F) :=
  addf (x0) (val_main_v79 (F := F) x0 x1 x2 x3 x4 x5 x6 x7 x8)
theorem val_main_v80_apply (x0 : (⟨S65536x1024, .f32⟩ : BufTy).Contents (Elt F)) (x1 : (⟨S1024, .f32⟩ : BufTy).Contents (Elt F)) (x2 : (⟨S1024x4, .f32⟩ : BufTy).Contents (Elt F)) (x3 : (⟨S4, .f32⟩ : BufTy).Contents (Elt F)) (x4 : (⟨S1024x16, .f32⟩ : BufTy).Contents (Elt F)) (x5 : (⟨S16, .f32⟩ : BufTy).Contents (Elt F)) (x6 x7 : (⟨S16x1024x512, .f32⟩ : BufTy).Contents (Elt F)) (x8 : (⟨S16x512x1024, .f32⟩ : BufTy).Contents (Elt F)) (i : S65536x1024.Idx) :
    val_main_v80 (F := F) x0 x1 x2 x3 x4 x5 x6 x7 x8 i = FloatOps.addf (x0 i) (val_main_v79 (F := F) x0 x1 x2 x3 x4 x5 x6 x7 x8 i) := rfl

/-- The term the Run module names `res_main_v80` is the stage. -/
theorem val_main_v80_eq (m : (ℓ : Loc nD τ sig) → Buf (Elt F) ℓ) (c : Dev nD) :
    Cert.ReferenceIdeal.Value.res_main_v80 m c = val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Value.res_main_v80; rfl

end Cert.ReferenceIdeal.Read

end
-- ==== Proof.RefPick.lean ====
/-
  The reference's three choices read at a row: the largest of four, the first largest of four (an arg-max over pairs of
  value and position), and the two largest of four in order (a stable sort cut after two).
-/
module

public import proofs.«01_k».proof.Proof.RefRead
public import proofs.«01_k».proof.Proof.Row
public import Idealize.ShloMosaic.Lib.SortPrefix
public import Idealize.ShloMosaic.Lib.Pointwise.Reshape
public import Idealize.ShloMosaic.Lib.KernelVsHost

@[expose] public section

noncomputable section

open scoped BigOperators

namespace Cert.ReferenceIdeal.Pick

open Idealize.ShloMosaic
open Cert.ReferenceIdeal Cert.ReferenceIdeal.Gen Cert.ReferenceIdeal.Value Cert.Moe

/-! ## The largest -/

theorem reduces4 : S65536x4.Reduces [1] S65536 := by decide

theorem lift4 (t : Fin 65536) (k : Fin 4) : reduces4.lift (ix1 t) k = ix2 t k :=
  funext fun a => match a with | ⟨0, _⟩ => rfl | ⟨1, _⟩ => rfl

theorem fiber4 (t : Fin 65536) (i : S65536x4.Idx) (h : reduces4.drop i = ix1 t) : ∃ k : Fin 4, i = ix2 t k :=
  ⟨i 1, ((reduces4.lift_drop i).symm.trans (congrArg (fun q => reduces4.lift q (i 1)) h)).trans (lift4 t (i 1))⟩

theorem maxred (v : FVec Ideal S65536x4 .f32) (t : Fin 65536) (i0 : Fin 4) (h : ∀ k, v (ix2 t k) ≤ v (ix2 t i0)) :
    Host.reduce FloatOps.maximumf v (constant S_ .f32 0xFF800000#32) reducesTo_S65536x4_S65536_d1 h_S_ (ix1 t)
      = v (ix2 t i0) := by
  rw [hostReduce_maximumf_eq_multiReduction v 0xFF800000#32 reducesTo_S65536x4_S65536_d1 h_S_ reduces4 (.inl rfl) rfl]
  refine (Ideal.multiReduction_maximumf_single _ _ _ _ _ _).trans ?_
  show Finset.fold max (Ideal.ofBits .f32 0xFF800000#32) _ _ = _
  rw [ofBits_bot_f32]
  refine (Finset.fold_congr fun k _ => ?_).trans (fold_max_eq (fun k : Fin 4 => v (ix2 t k)) i0 h)
  exact congrArg v (lift4 t k)

/-! ## The first largest -/

/-- The arg-max's step: the greater value, the smaller position between equals. -/
theorem argmax_step (a b : EReal × BitVec 32) :
    reducer_argmax_f32_i32 (F := Ideal) a b
      = if b.1 < a.1 then a else if a.1 = b.1 ∧ a.2.slt b.2 = true then a else b := by
  obtain ⟨a1, a2⟩ := a
  obtain ⟨b1, b2⟩ := b
  show (Scalar.select (IntOp.ori (Ideal.cmp .ogt a1 b1) (Ideal.cmp .une a1 a1)) a1 b1,
    Scalar.select (IntOp.ori (IntOp.ori (Ideal.cmp .ogt a1 b1) (Ideal.cmp .une a1 a1))
      (IntOp.andi (Ideal.cmp .oeq a1 b1) (BitVec.ofBool (a2.slt b2)))) a2 b2) = _
  simp only [Ideal.cmp]
  by_cases h1 : b1 < a1
  · have ho : ∀ x : BitVec 1, 1#1 ||| x = 1#1 := by decide
    simp [h1, Scalar.select, IntOp.ori, IntOp.andi, ho]
  · by_cases h2 : a1 = b1
    · subst h2
      by_cases h3 : a2.slt b2 = true <;> simp [h3, Scalar.select, IntOp.ori, IntOp.andi]
    · simp [h1, h2, Scalar.select, IntOp.ori, IntOp.andi]

/-- A left fold of the arg-max's step over a list that holds the winner, all of whose elements lose to it. -/
theorem foldl_win (w : EReal × BitVec 32) (C : EReal × BitVec 32 → Prop)
    (hl : ∀ c, C c → reducer_argmax_f32_i32 (F := Ideal) w c = w)
    (hr : ∀ c, C c → reducer_argmax_f32_i32 (F := Ideal) c w = w) (L : List (EReal × BitVec 32)) :
    ∀ acc, C acc → (∀ x ∈ L, C x) → (w ∈ L ∨ acc = w) → L.foldl (reducer_argmax_f32_i32 (F := Ideal)) acc = w := by
  induction L with
  | nil => intro acc _ _ h; simpa using h
  | cons x L ih =>
    intro acc hacc hL h
    rw [List.foldl_cons]
    have hx := hL x List.mem_cons_self
    refine ih _ ?_ (fun y hy => hL y (List.mem_cons_of_mem _ hy)) ?_
    · rw [argmax_step]
      split
      · exact hacc
      · split
        · exact hacc
        · exact hx
    · rcases h with h | h
      · rcases List.mem_cons.1 h with h | h
        · right; rw [← h]; exact hr acc hacc
        · exact Or.inl h
      · right; rw [h]; exact hl x hx

theorem argmax_row (v : FVec Ideal S65536x4 .f32) (t : Fin 65536) (p : Fin 4 → ℝ) (g : Fin 4)
    (hv : ∀ k, v (ix2 t k) = (p k : EReal)) (hle : ∀ k, p k ≤ p g) (hlt : ∀ k, k < g → p k < p g) :
    amax2 (F := Ideal) v (iotaInDim S65536x4 32 1) (constant (F := Ideal) S_ .f32 0xFF800000#32) (constantI S_ 32 0#32) (ix1 t)
      = BitVec.ofNat 32 g.val := by
  unfold amax2
  rw [Ideal.argReduce_eq_reduce2, Host.reduce2_eq_foldl_fiber]
  have hi : ∀ k : Fin 4, iotaInDim S65536x4 32 1 (ix2 t k) = BitVec.ofNat 32 k.val := fun k => rfl
  have hslt : ∀ a b : Fin 4, (BitVec.ofNat 32 a.val).slt (BitVec.ofNat 32 b.val) = decide (a < b) := by decide
  let C : EReal × BitVec 32 → Prop := fun c => c = (⊥, 0#32) ∨ ∃ k : Fin 4, c = ((p k : EReal), BitVec.ofNat 32 k.val)
  have key := foldl_win ((p g : EReal), BitVec.ofNat 32 g.val) C ?_ ?_
    (Host.argReduceFiber v (iotaInDim S65536x4 32 1) reducesTo_S65536x4_S65536_d1 (ix1 t)) (⊥, 0#32) (Or.inl rfl) ?_ ?_
  · have hinit : (((constant (F := Ideal) S_ .f32 0xFF800000#32) (Shape.Idx.first h_S_) : EReal), (constantI S_ 32 0#32) (Shape.Idx.first h_S_))
        = ((⊥ : EReal), 0#32) := Prod.ext ofBits_bot_f32 rfl
    rw [hinit]
    exact congrArg Prod.snd key
  · rintro c (rfl | ⟨k, rfl⟩)
    · rw [argmax_step, if_pos (EReal.bot_lt_coe _)]
    · rw [argmax_step]
      by_cases h1 : p k < p g
      · rw [if_pos (EReal.coe_lt_coe_iff.2 h1)]
      · have he : p g = p k := le_antisymm (not_lt.1 h1) (hle k)
        rw [if_neg (by simpa using not_lt.1 h1)]
        by_cases h2 : g < k
        · rw [if_pos ⟨by simp [he], by rw [hslt]; simpa using h2⟩]
        · have : k = g := by
            rcases lt_or_eq_of_le (not_lt.1 h2) with h | h
            · exact absurd (hlt k h) h1
            · exact h
          subst this; split <;> rfl
  · rintro c (rfl | ⟨k, rfl⟩)
    · rw [argmax_step, if_neg (by simp), if_neg (by simp)]
    · rw [argmax_step, if_neg (by simpa using hle k)]
      split
      · next h =>
        have he : p k = p g := by simpa using h.1
        have hk : k < g := by have := h.2; rw [hslt] at this; simpa using this
        exact absurd he (ne_of_lt (hlt k hk))
      · rfl
  · intro x hx
    unfold Host.argReduceFiber at hx
    rw [List.mem_map] at hx
    obtain ⟨n, hn, rfl⟩ := hx
    rw [List.mem_filter] at hn
    obtain ⟨k, hk⟩ := fiber4 t _ (of_decide_eq_true hn.2)
    exact Or.inr ⟨k, by rw [hk]; exact Prod.ext (hv _) (hi _)⟩
  · left
    unfold Host.argReduceFiber
    rw [List.mem_map]
    refine ⟨S65536x4.rowMajor (ix2 t g), ?_, ?_⟩
    · rw [List.mem_filter]
      refine ⟨List.mem_finRange _, ?_⟩
      rw [Equiv.symm_apply_apply, ← lift4]
      exact decide_eq_true (reduces4.drop_lift _ _)
    · rw [Equiv.symm_apply_apply]
      exact Prod.ext (hv _) (hi _)

/-! ## The two largest, in order -/

theorem insertBefore_congr {ι : Type} (B B' : ι → ι → Bool) (a : ι) (l : List ι) (h : ∀ b ∈ l, B b a = B' b a) :
    insertBefore B a l = insertBefore B' a l := by
  induction l with
  | nil => rfl
  | cons b l ih =>
    unfold insertBefore
    rw [h b List.mem_cons_self, ih fun c hc => h c (List.mem_cons_of_mem _ hc)]

theorem stableSort_congr {ι : Type} (B B' : ι → ι → Bool) (l : List ι) (h : l.Pairwise fun a b => B b a = B' b a) :
    stableSort B l = stableSort B' l := by
  induction l with
  | nil => rfl
  | cons a l ih =>
    obtain ⟨ha, hl⟩ := List.pairwise_cons.1 h
    unfold stableSort
    rw [ih hl]
    exact insertBefore_congr _ _ _ _ fun b hb => ha b ((perm_stableSort _ l).mem_iff.1 hb)

theorem sorted_two (B : Fin 4 → Fin 4 → Bool) (p : Fin 4 → ℝ) (hB : ∀ a b, B a b = decide (p b < p a)) {k1 k2 : Fin 4}
    (k1_le : ∀ j, p j ≤ p k1) (k1_lt : ∀ j, j < k1 → p j < p k1) (ne : k2 ≠ k1) (k2_le : ∀ j, j ≠ k1 → p j ≤ p k2)
    (k2_lt : ∀ j, j < k2 → j ≠ k1 → p j < p k2) (i : Fin 2) :
    sortedFrom B (i.castLE (by decide)) = (![k1, k2] : Fin 2 → Fin 4) i := by
  classical
  let B' : Fin 4 → Fin 4 → Bool := fun k k' => decide (p k' < p k) || (decide (p k = p k') && decide (k < k'))
  have hs : sortPositions 4 B = sortPositions 4 B' := by
    refine stableSort_congr B B' _ ((List.pairwise_lt_finRange 4).imp fun {a b} hab => ?_)
    rw [hB]
    simp [B', not_lt.2 (le_of_lt hab)]
  have ht : StrictTotalBefore B' := StrictTotalBefore.of_key_then_position (fun x y : ℝ => decide (y < x)) p
    (fun a => by simp) (fun a b c h1 h2 => by simp only [decide_eq_true_eq] at *; exact lt_trans h2 h1)
    (fun a b => by
      simp only [decide_eq_true_eq]
      rcases lt_trichotomy a b with h | h | h
      · exact Or.inr (Or.inr h)
      · exact Or.inr (Or.inl h)
      · exact Or.inl h)
  have hf : sortedFrom B (i.castLE (by decide)) = sortedFrom B' (i.castLE (by decide)) := by
    unfold sortedFrom
    simp only [List.get_eq_getElem]
    congr 1
  rw [hf]
  have hB' : ∀ a b, B' a b = false ↔ ¬(p b < p a ∨ (p a = p b ∧ a < b)) := fun a b => by
    simp only [B', Bool.or_eq_false_iff, Bool.and_eq_false_iff, decide_eq_false_iff_not, not_or, not_and_or]
  refine ht.sortedFrom_eq_of_prefix (by decide) (![k1, k2] : Fin 2 → Fin 4) ?_ ?_ ?_ i
  · intro a b hab
    fin_cases a <;> fin_cases b <;> simp_all
  · intro a b hab
    obtain ⟨rfl, rfl⟩ : a = 0 ∧ b = 1 := by revert hab; revert a b; decide
    show B' k2 k1 = false
    rw [hB']
    rintro (h | ⟨h, h'⟩)
    · exact absurd (k1_le k2) (not_le.2 h)
    · exact absurd h (ne_of_lt (k1_lt k2 h'))
  · intro a q hq
    have hq1 : q ≠ k1 := fun h => hq 0 h.symm
    have hq2 : q ≠ k2 := fun h => hq 1 h.symm
    rw [hB']
    fin_cases a
    · rintro (h | ⟨h, h'⟩)
      · exact absurd (k1_le q) (not_le.2 h)
      · exact absurd h (ne_of_lt (k1_lt q h'))
    · rintro (h | ⟨h, h'⟩)
      · exact absurd (k2_le q hq1) (not_le.2 h)
      · exact absurd h (ne_of_lt (k2_lt q h' hq1))

theorem sort2_axis {α β : Type} (cmp : α × β → α × β → BitVec 1) (x : S65536x4.Idx → α) (y : S65536x4.Idx → β) (t : Fin 65536)
    (k : Fin 4) (B : Fin 4 → Fin 4 → Bool)
    (hB : ∀ a b, (cmp (x (ix2 t a), y (ix2 t a)) (x (ix2 t b), y (ix2 t b)) == 1#1) = B a b) :
    (Host.sort2 S65536x4 1 cmp x y).1 (ix2 t k) = x (ix2 t (sortedFrom B k))
      ∧ (Host.sort2 S65536x4 1 cmp x y).2 (ix2 t k) = y (ix2 t (sortedFrom B k)) := by
  have hd : 1 < S65536x4.rank := by decide
  have hal : ∀ k' : Fin (S65536x4.size ⟨1, hd⟩), Shape.Idx.along (s := S65536x4) (ix2 t k) ⟨1, hd⟩ k' = ix2 t k' := fun k' =>
    funext fun a => match a with | ⟨0, _⟩ => rfl | ⟨1, _⟩ => rfl
  have hB' : (fun a b : Fin (S65536x4.size ⟨1, hd⟩) =>
      cmp (x (Shape.Idx.along (s := S65536x4) (ix2 t k) ⟨1, hd⟩ a), y (Shape.Idx.along (s := S65536x4) (ix2 t k) ⟨1, hd⟩ a))
        (x (Shape.Idx.along (s := S65536x4) (ix2 t k) ⟨1, hd⟩ b), y (Shape.Idx.along (s := S65536x4) (ix2 t k) ⟨1, hd⟩ b)) == 1#1) = B := by
    funext a b
    rw [hal, hal]
    exact hB a b
  have hs : Host.sort2 S65536x4 1 cmp x y = _ := dif_pos hd
  rw [hs]
  exact ⟨(congrArg x (hal _)).trans (congrArg (fun B : Fin 4 → Fin 4 → Bool => x (ix2 t (sortedFrom B k))) hB'),
    (congrArg y (hal _)).trans (congrArg (fun B : Fin 4 → Fin 4 → Bool => y (ix2 t (sortedFrom B k))) hB')⟩

theorem topK_row (v : FVec Ideal S65536x4 .f32) (t : Fin 65536) (p : Fin 4 → ℝ) {k1 k2 : Fin 4}
    (hv : ∀ k, v (ix2 t k) = (p k : EReal))
    (k1_le : ∀ j, p j ≤ p k1) (k1_lt : ∀ j, j < k1 → p j < p k1) (ne : k2 ≠ k1) (k2_le : ∀ j, j ≠ k1 → p j ≤ p k2)
    (k2_lt : ∀ j, j < k2 → j ≠ k1 → p j < p k2) (i : Fin 2) :
    (Host.topK S65536x2 1 (FloatOps.cmpfTotal (F := Ideal) (φ := .f32) .gt) v sliceFits_S65536x4_S65536x2).1 (ix2 t i)
        = (p ((![k1, k2] : Fin 2 → Fin 4) i) : EReal)
      ∧ (Host.topK S65536x2 1 (FloatOps.cmpfTotal (F := Ideal) (φ := .f32) .gt) v sliceFits_S65536x4_S65536x2).2 (ix2 t i)
        = BitVec.ofNat 32 ((![k1, k2] : Fin 2 → Fin 4) i).val := by
  let B : Fin 4 → Fin 4 → Bool := fun a b => decide (p b < p a)
  have hσ := sorted_two B p (fun _ _ => rfl) k1_le k1_lt ne k2_le k2_lt i
  have hs := sort2_axis (fun l r : EReal × BitVec 32 => FloatOps.cmpfTotal (F := Ideal) (φ := .f32) .gt l.1 r.1) v
    (fun i => if hd : 1 < S65536x4.rank then iotaInDim S65536x4 32 ⟨1, hd⟩ i else 0#32) t (i.castLE (by decide)) B
    (fun a b => by
      show (Ideal.cmp .ogt (v (ix2 t a)) (v (ix2 t b)) == 1#1) = decide (p b < p a)
      rw [hv, hv]
      simp only [Ideal.cmp, EReal.coe_lt_coe_iff]
      by_cases h : p b < p a <;> simp [h])
  have hsl : (fun a : Fin S65536x4.rank => (⟨0 + ((ix2 t i : S65536x2.Idx) (a.cast sliceFits_S65536x4_S65536x2.1.symm)).val,
      Nat.lt_of_lt_of_le (Nat.add_lt_add_left ((ix2 t i : S65536x2.Idx) _).isLt _) (sliceFits_S65536x4_S65536x2.2 a)⟩ : Fin (S65536x4.size a)))
      = (ix2 t (i.castLE (by decide)) : S65536x4.Idx) :=
    funext fun a => match a with
      | ⟨0, _⟩ => Fin.ext (Nat.zero_add _)
      | ⟨1, _⟩ => Fin.ext (Nat.zero_add _)
  unfold Host.topK
  constructor
  · refine (congrArg _ hsl).trans (hs.1.trans ?_)
    rw [hσ, hv]
  · refine (congrArg _ hsl).trans (hs.2.trans ?_)
    rw [hσ]
    rfl

end Cert.ReferenceIdeal.Pick
-- ==== Proof.RefRow.lean ====
/-
  The reference's gates read at a token: from the logits of one token, each value of the routing in turn, down to the
  sixteen gates.
-/
module

public import proofs.«01_k».proof.Proof.RefPick

@[expose] public section

noncomputable section

open scoped BigOperators

namespace Cert.ReferenceIdeal.Route

open Idealize.ShloMosaic
open Cert.ReferenceIdeal Cert.ReferenceIdeal.Gen Cert.ReferenceIdeal.Value Cert.ReferenceIdeal.Read Cert.ReferenceIdeal.Pick Cert.Moe

theorem one1 {n : Nat} (f : (⟨1, ![n]⟩ : Shape).Idx) (a : Fin n) (h0 : f 0 = a) : f = ix1 a :=
  funext fun k => match k with | ⟨0, _⟩ => h0

theorem two2 {n m : Nat} (f : (⟨2, ![n, m]⟩ : Shape).Idx) (a : Fin n) (b : Fin m) (h0 : f 0 = a) (h1 : f 1 = b) : f = ix2 a b :=
  funext fun k => match k with | ⟨0, _⟩ => h0 | ⟨1, _⟩ => h1

theorem three3 {n m l : Nat} (f : (⟨3, ![n, m, l]⟩ : Shape).Idx) (a : Fin n) (b : Fin m) (c : Fin l) (h0 : f 0 = a)
    (h1 : f 1 = b) (h2 : f 2 = c) : f = ix3 a b c :=
  funext fun k => match k with | ⟨0, _⟩ => h0 | ⟨1, _⟩ => h1 | ⟨2, _⟩ => h2

/-- The indicator a comparison of two small positions converts to. -/
theorem onehot (a b : Fin 4) :
    (FloatOps.uitofp (F := Ideal) .f32 (IntOp.cmpi .eq (BitVec.ofNat 32 a.val) (BitVec.ofNat 32 b.val)) : EReal)
      = (((if b = a then 1 else 0 : ℝ)) : EReal) := by
  have h : (IntOp.cmpi .eq (BitVec.ofNat 32 a.val) (BitVec.ofNat 32 b.val)).toNat = if b = a then 1 else 0 := by
    revert a b; decide
  show (((IntOp.cmpi .eq (BitVec.ofNat 32 a.val) (BitVec.ofNat 32 b.val)).toNat : ℝ) : EReal) = _
  rw [h]
  split <;> simp

theorem zero_init : (FloatOps.ofBits (F := Ideal) .f32 0x00000000#32 : EReal) = 0 := Ideal.ofBits_zero_f32

variable (x0 : (⟨S65536x1024, .f32⟩ : BufTy).Contents (Elt Ideal)) (x1 : (⟨S1024, .f32⟩ : BufTy).Contents (Elt Ideal))
  (x2 : (⟨S1024x4, .f32⟩ : BufTy).Contents (Elt Ideal)) (x3 : (⟨S4, .f32⟩ : BufTy).Contents (Elt Ideal))
  (x4 : (⟨S1024x16, .f32⟩ : BufTy).Contents (Elt Ideal)) (x5 : (⟨S16, .f32⟩ : BufTy).Contents (Elt Ideal))
  (t : Fin 65536) (G : Fin 4 → ℝ) (E : Fin 4 → Fin 4 → ℝ) {g k1 k2 : Fin 4} (hp : Pick G E g k1 k2)
  (hG : ∀ j, val_main_v16 (F := Ideal) x0 x1 x2 x3 (ix2 t j) = (G j : EReal))

/-! ## The group -/

include hp hG

theorem v19_row : val_main_v19 (F := Ideal) x0 x1 x2 x3 (ix1 t) = (G g : EReal) := by
  rw [val_main_v19_apply, val_main_v18_apply]
  have h17 : val_main_v17 (F := Ideal) x0 x1 x2 x3 (ix1 t) = (G g : EReal) :=
    (maxred (val_main_v16 (F := Ideal) x0 x1 x2 x3) t g (fun k => by
      rw [hG, hG]; exact EReal.coe_le_coe_iff.2 (hp.g_le k))).trans (hG g)
  rw [h17]
  show max (Ideal.ofBits .f32 0xFF800000#32) _ = _
  rw [ofBits_bot_f32]
  exact max_eq_right bot_le

theorem v23_row (j : Fin 4) : val_main_v23 (F := Ideal) x0 x1 x2 x3 (ix2 t j) = ((Real.exp (G j - G g) : ℝ) : EReal) := by
  rw [val_main_v23_apply, val_main_v22_apply, val_main_v21_apply, val_main_v20_apply,
    one1 (idx_main_v20 (idx_main_v21 (ix2 t j))) t rfl, v19_row x0 x1 x2 x3 t G E hp hG, hG]
  show Ideal.exp ((G j : EReal) - (G g : EReal)) = _
  rw [← EReal.coe_sub]
  rfl

theorem v24_row : val_main_v24 (F := Ideal) x0 x1 x2 x3 (ix1 t) = ((∑ j, Real.exp (G j - G g) : ℝ) : EReal) := by
  rw [val_main_v24_apply, val_main_cst_4_apply, zero_init, zero_add, coe_sum]
  refine Finset.sum_congr rfl fun k _ => ?_
  rw [two2 (idx_main_v24 (ix1 t) k) t k rfl rfl]
  exact v23_row x0 x1 x2 x3 t G E hp hG k

theorem v27_row (j : Fin 4) : val_main_v27 (F := Ideal) x0 x1 x2 x3 (ix2 t j) = ((soft G g j : ℝ) : EReal) := by
  rw [val_main_v27_apply, val_main_v26_apply, val_main_v25_apply, one1 (idx_main_v25 (idx_main_v26 (ix2 t j))) t rfl,
    v24_row x0 x1 x2 x3 t G E hp hG, v23_row x0 x1 x2 x3 t G E hp hG]
  exact div_coe _ _ (ne_of_gt (expSum_pos G g))

theorem v28_row : val_main_v28 (F := Ideal) x0 x1 x2 x3 (ix1 t) = BitVec.ofNat 32 g.val :=
  argmax_row (val_main_v27 (F := Ideal) x0 x1 x2 x3) t (soft G g) g (v27_row x0 x1 x2 x3 t G E hp hG)
    (fun k => (soft_le G g).2 (hp.g_le k)) (fun k hk => (soft_lt G g).2 (hp.g_lt k hk))

theorem v29_row (a : Fin 4) : val_main_v29 (F := Ideal) x0 x1 x2 x3 (ix2 t a) = ((if a = g then 1 else 0 : ℝ) : EReal) := by
  rw [val_main_v29_apply, val_main_call1_v4_apply, val_main_call1_v2_apply, val_main_call1_v0_apply, val_main_call1_v3_apply,
    val_main_call1_v1_apply, one1 (idx_main_call1_v0 (idx_main_call1_v2 (ix2 t a))) t rfl, v28_row x0 x1 x2 x3 t G E hp hG]
  exact onehot g a

theorem v31_row : val_main_v31 (F := Ideal) x0 x1 x2 x3 (ix1 t) = ((groupW G g : ℝ) : EReal) := by
  rw [val_main_v31_apply, val_main_cst_5_apply, zero_init, zero_add]
  have : ∀ k : Fin 4, val_main_v30 (F := Ideal) x0 x1 x2 x3 (idx_main_v31 (ix1 t) k)
      = ((soft G g k * (if k = g then 1 else 0) : ℝ) : EReal) := fun k => by
    rw [two2 (idx_main_v31 (ix1 t) k) t k rfl rfl, val_main_v30_apply, v27_row x0 x1 x2 x3 t G E hp hG,
      v29_row x0 x1 x2 x3 t G E hp hG, EReal.coe_mul]
    rfl
  rw [Finset.sum_congr rfl fun k _ => this k, ← coe_sum]
  simp [groupW_eq]

/-! ## The experts of the group -/

variable (hE : ∀ a k, val_main_v37 (F := Ideal) x0 x1 x4 x5 (ix3 t a k) = (E a k : EReal))

include hE

theorem v41_row (k : Fin 4) : val_main_v41 (F := Ideal) x0 x1 x2 x3 x4 x5 (ix2 t k) = (E g k : EReal) := by
  rw [val_main_v41_apply, val_main_cst_6_apply, zero_init, zero_add]
  have : ∀ a : Fin 4, val_main_v40 (F := Ideal) x0 x1 x2 x3 x4 x5 (idx_main_v41 (ix2 t k) a)
      = ((E a k * (if a = g then 1 else 0) : ℝ) : EReal) := fun a => by
    rw [three3 (idx_main_v41 (ix2 t k) a) t a k rfl rfl rfl, val_main_v40_apply, hE, val_main_v39_apply, val_main_v38_apply,
      two2 (idx_main_v38 (idx_main_v39 (ix3 t a k))) t a rfl rfl, v29_row x0 x1 x2 x3 t G E hp hG, EReal.coe_mul]
    rfl
  rw [Finset.sum_congr rfl fun k _ => this k, ← coe_sum]
  simp

theorem v44_row : val_main_v44 (F := Ideal) x0 x1 x2 x3 x4 x5 (ix1 t) = (E g k1 : EReal) := by
  rw [val_main_v44_apply, val_main_v43_apply]
  have h41 := v41_row x0 x1 x2 x3 x4 x5 t G E hp hG hE
  have h42 : val_main_v42 (F := Ideal) x0 x1 x2 x3 x4 x5 (ix1 t) = (E g k1 : EReal) :=
    (maxred (val_main_v41 (F := Ideal) x0 x1 x2 x3 x4 x5) t k1 (fun k => by
      rw [h41, h41]; exact EReal.coe_le_coe_iff.2 (hp.k1_le k))).trans (h41 k1)
  rw [h42]
  show max (Ideal.ofBits .f32 0xFF800000#32) _ = _
  rw [ofBits_bot_f32]
  exact max_eq_right bot_le

theorem v48_row (j : Fin 4) :
    val_main_v48 (F := Ideal) x0 x1 x2 x3 x4 x5 (ix2 t j) = ((Real.exp (E g j - E g k1) : ℝ) : EReal) := by
  rw [val_main_v48_apply, val_main_v47_apply, val_main_v46_apply, val_main_v45_apply,
    one1 (idx_main_v45 (idx_main_v46 (ix2 t j))) t rfl, v44_row x0 x1 x2 x3 x4 x5 t G E hp hG hE,
    v41_row x0 x1 x2 x3 x4 x5 t G E hp hG hE]
  show Ideal.exp ((E g j : EReal) - (E g k1 : EReal)) = _
  rw [← EReal.coe_sub]
  rfl

theorem v49_row : val_main_v49 (F := Ideal) x0 x1 x2 x3 x4 x5 (ix1 t) = ((∑ j, Real.exp (E g j - E g k1) : ℝ) : EReal) := by
  rw [val_main_v49_apply, val_main_cst_9_apply, zero_init, zero_add, coe_sum]
  refine Finset.sum_congr rfl fun k _ => ?_
  rw [two2 (idx_main_v49 (ix1 t) k) t k rfl rfl]
  exact v48_row x0 x1 x2 x3 x4 x5 t G E hp hG hE k

theorem v52_row (j : Fin 4) :
    val_main_v52 (F := Ideal) x0 x1 x2 x3 x4 x5 (ix2 t j) = ((soft (E g) k1 j : ℝ) : EReal) := by
  rw [val_main_v52_apply, val_main_v51_apply, val_main_v50_apply, one1 (idx_main_v50 (idx_main_v51 (ix2 t j))) t rfl,
    v49_row x0 x1 x2 x3 x4 x5 t G E hp hG hE, v48_row x0 x1 x2 x3 x4 x5 t G E hp hG hE]
  exact div_coe _ _ (ne_of_gt (expSum_pos (E g) k1))

theorem top_row (i : Fin 2) :
    val_main_values (F := Ideal) x0 x1 x2 x3 x4 x5 (ix2 t i) = (soft (E g) k1 ((![k1, k2] : Fin 2 → Fin 4) i) : EReal)
      ∧ val_main_indices (F := Ideal) x0 x1 x2 x3 x4 x5 (ix2 t i) = BitVec.ofNat 32 ((![k1, k2] : Fin 2 → Fin 4) i).val :=
  topK_row (val_main_v52 (F := Ideal) x0 x1 x2 x3 x4 x5) t (soft (E g) k1) (v52_row x0 x1 x2 x3 x4 x5 t G E hp hG hE)
    (fun j => (soft_le (E g) k1).2 (hp.k1_le j)) (fun j hj => (soft_lt (E g) k1).2 (hp.k1_lt j hj)) hp.ne
    (fun j hj => (soft_le (E g) k1).2 (hp.k2_le j hj)) (fun j hj hj' => (soft_lt (E g) k1).2 (hp.k2_lt j hj hj')) i

theorem v56_row (i : Fin 2) :
    val_main_v56 (F := Ideal) x0 x1 x2 x3 x4 x5 (ix2 t i)
      = ((soft (E g) k1 ((![k1, k2] : Fin 2 → Fin 4) i) / (soft (E g) k1 k1 + soft (E g) k1 k2) : ℝ) : EReal) := by
  have h53 : val_main_v53 (F := Ideal) x0 x1 x2 x3 x4 x5 (ix1 t) = ((soft (E g) k1 k1 + soft (E g) k1 k2 : ℝ) : EReal) := by
    rw [val_main_v53_apply, val_main_cst_10_apply, zero_init, zero_add, Fin.sum_univ_two, two2 (idx_main_v53 (ix1 t) 0) t 0 rfl rfl,
      two2 (idx_main_v53 (ix1 t) 1) t 1 rfl rfl, (top_row x0 x1 x2 x3 x4 x5 t G E hp hG hE 0).1,
      (top_row x0 x1 x2 x3 x4 x5 t G E hp hG hE 1).1, EReal.coe_add]
    rfl
  rw [val_main_v56_apply, val_main_v55_apply, val_main_v54_apply, one1 (idx_main_v54 (idx_main_v55 (ix2 t i))) t rfl, h53,
    (top_row x0 x1 x2 x3 x4 x5 t G E hp hG hE i).1]
  exact div_coe _ _ (ne_of_gt (add_pos (soft_pos _ _ _) (soft_pos _ _ _)))

theorem v60_row (i : Fin 2) (k : Fin 4) :
    val_main_v60 (F := Ideal) x0 x1 x2 x3 x4 x5 (ix3 t i k)
      = ((if k = (![k1, k2] : Fin 2 → Fin 4) i then 1 else 0) * (soft (E g) k1 ((![k1, k2] : Fin 2 → Fin 4) i) / (soft (E g) k1 k1 + soft (E g) k1 k2)) : ℝ) := by
  rw [val_main_v60_apply, val_main_v59_apply, val_main_v58_apply, two2 (idx_main_v58 (idx_main_v59 (ix3 t i k))) t i rfl rfl,
    v56_row x0 x1 x2 x3 x4 x5 t G E hp hG hE, val_main_v57_apply, val_main_call2_v4_apply, val_main_call2_v2_apply,
    val_main_call2_v0_apply, val_main_call2_v3_apply, val_main_call2_v1_apply,
    two2 (idx_main_call2_v0 (idx_main_call2_v2 (ix3 t i k))) t i rfl rfl, (top_row x0 x1 x2 x3 x4 x5 t G E hp hG hE i).2,
    EReal.coe_mul]
  exact congrArg (fun z : EReal => z * _) (onehot ((![k1, k2] : Fin 2 → Fin 4) i) k)

theorem v61_row (k : Fin 4) :
    val_main_v61 (F := Ideal) x0 x1 x2 x3 x4 x5 (ix2 t k) = ((share (E g) k1 k2 k : ℝ) : EReal) := by
  rw [val_main_v61_apply, val_main_cst_11_apply, zero_init, zero_add, Fin.sum_univ_two,
    three3 (idx_main_v61 (ix2 t k) 0) t 0 k rfl rfl rfl, three3 (idx_main_v61 (ix2 t k) 1) t 1 k rfl rfl rfl,
    v60_row x0 x1 x2 x3 x4 x5 t G E hp hG hE, v60_row x0 x1 x2 x3 x4 x5 t G E hp hG hE, ← EReal.coe_add]
  congr 1
  show (if k = k1 then (1 : ℝ) else 0) * (soft (E g) k1 k1 / _) + (if k = k2 then (1 : ℝ) else 0) * (soft (E g) k1 k2 / _) = _
  unfold share
  have hne := hp.ne
  by_cases h1 : k = k1
  · have h2 : k ≠ k2 := fun h => hne (h.symm.trans h1)
    rw [if_pos h1, if_neg h2, if_pos h1]; ring
  · by_cases h2 : k = k2
    · rw [if_neg h1, if_pos h2, if_neg h1, if_pos h2]; ring
    · rw [if_neg h1, if_neg h2, if_neg h1, if_neg h2]; ring

theorem v68_row (a k : Fin 4) :
    val_main_v68 (F := Ideal) x0 x1 x2 x3 x4 x5 (ix3 t a k) = ((gate G E g k1 k2 a k : ℝ) : EReal) := by
  rw [val_main_v68_apply, val_main_v66_apply, val_main_v62_apply, val_main_v67_apply, val_main_v65_apply, val_main_v64_apply,
    val_main_v63_apply, val_main_v32_apply, two2 (idx_main_v62 (idx_main_v66 (ix3 t a k))) t a rfl rfl,
    two2 (idx_main_v65 (idx_main_v67 (ix3 t a k))) t k rfl rfl, one1 (idx_main_v32 (idx_main_v63 (ix2 t k))) t rfl,
    v29_row x0 x1 x2 x3 t G E hp hG, v31_row x0 x1 x2 x3 t G E hp hG, v61_row x0 x1 x2 x3 x4 x5 t G E hp hG hE]
  show ((if a = g then 1 else 0 : ℝ) : EReal) * ((groupW G g : EReal) * (share (E g) k1 k2 k : EReal)) = _
  rw [← EReal.coe_mul, ← EReal.coe_mul]
  congr 1
  unfold gate
  split <;> simp

/-- The gates of a token. -/
theorem v69_row (a k : Fin 4) (e : Fin 16) (he : e.val = 4 * a.val + k.val) :
    val_main_v69 (F := Ideal) x0 x1 x2 x3 x4 x5 (ix2 t e) = ((gate G E g k1 k2 a k : ℝ) : EReal) := by
  have ha := a.isLt
  have hk := k.isLt
  rw [val_main_v69_apply, three3 (idx_main_v69 (ix2 t e)) t a k
    (Fin.ext (by show (t.val * 16 + e.val) / 16 = t.val; omega))
    (Fin.ext (by show (t.val * 16 + e.val) / 4 % 4 = a.val; omega))
    (Fin.ext (by show (t.val * 16 + e.val) % 4 = k.val; omega))]
  exact v68_row x0 x1 x2 x3 x4 x5 t G E hp hG hE a k

end Cert.ReferenceIdeal.Route
-- ==== Proof.RefOut.lean ====
/-
  The reference read at a token and a feature: the residual plus, over the sixteen experts, the gate times the expert's
  output.
-/
module

public import proofs.«01_k».proof.Proof.RefRow
public import proofs.«01_k».proof.Proof.Spec

@[expose] public section

noncomputable section

open scoped BigOperators

namespace Cert.ReferenceIdeal.Out

open Idealize.ShloMosaic
open Cert.ReferenceIdeal Cert.ReferenceIdeal.Gen Cert.ReferenceIdeal.Value Cert.ReferenceIdeal.Read Cert.ReferenceIdeal.Route Cert.Moe

variable (x0 : (⟨S65536x1024, .f32⟩ : BufTy).Contents (Elt Ideal)) (x1 : (⟨S1024, .f32⟩ : BufTy).Contents (Elt Ideal))
  (x2 : (⟨S1024x4, .f32⟩ : BufTy).Contents (Elt Ideal)) (x3 : (⟨S4, .f32⟩ : BufTy).Contents (Elt Ideal))
  (x4 : (⟨S1024x16, .f32⟩ : BufTy).Contents (Elt Ideal)) (x5 : (⟨S16, .f32⟩ : BufTy).Contents (Elt Ideal))
  (x6 x7 : (⟨S16x1024x512, .f32⟩ : BufTy).Contents (Elt Ideal)) (x8 : (⟨S16x512x1024, .f32⟩ : BufTy).Contents (Elt Ideal))
  (t : Fin 65536)

/-- The normalised token. -/
def hrow (k : Fin 1024) : EReal := nrm (fun k => x0 (ix2 t k)) (fun k => x1 (ix1 k)) k

theorem v12_apply (d : Fin 1024) : val_main_v12 (F := Ideal) x0 x1 (ix2 t d) = hrow x0 x1 t d := by
  have h1 : val_main_v1 (F := Ideal) x0 (ix1 t) = ∑ k, x0 (ix2 t k) * x0 (ix2 t k) := by
    rw [val_main_v1_apply, val_main_cst_apply, zero_init, zero_add]
    refine Finset.sum_congr rfl fun k _ => ?_
    rw [two2 (idx_main_v1 (ix1 t) k) t k rfl rfl]
    rfl
  rw [val_main_v12_apply, val_main_v9_apply, val_main_v8_apply, val_main_v7_apply, val_main_v6_apply, val_main_v4_apply,
    val_main_v2_apply, one1 (idx_main_v2 (idx_main_v8 (ix2 t d))) t rfl, h1, val_main_v3_apply, val_main_v5_apply,
    val_main_v11_apply, val_main_v10_apply, one1 (idx_main_v10 (idx_main_v11 (ix2 t d))) d rfl]
  rfl

theorem v16_apply (j : Fin 4) :
    val_main_v16 (F := Ideal) x0 x1 x2 x3 (ix2 t j) = logit (hrow x0 x1 t) (fun k => x2 (ix2 k j)) (x3 (ix1 j)) := by
  rw [val_main_v16_apply, val_main_v15_apply, val_main_v14_apply, one1 (idx_main_v14 (idx_main_v15 (ix2 t j))) j rfl,
    val_main_v13_apply]
  refine congrArg (fun z : EReal => z + x3 (ix1 j)) (Finset.sum_congr rfl fun k _ => ?_)
  rw [two2 (lidx_main_v13 (ix2 t j) k) t k rfl rfl, two2 (ridx_main_v13 (ix2 t j) k) k j rfl rfl, v12_apply]

theorem v37_apply (a k : Fin 4) (e : Fin 16) (he : e.val = 4 * a.val + k.val) :
    val_main_v37 (F := Ideal) x0 x1 x4 x5 (ix3 t a k) = logit (hrow x0 x1 t) (fun k => x4 (ix2 k e)) (x5 (ix1 e)) := by
  have ha := a.isLt
  have hk := k.isLt
  rw [val_main_v37_apply, two2 (idx_main_v37 (ix3 t a k)) t e
      (Fin.ext (by show ((t.val * 4 + a.val) * 4 + k.val) / 16 = t.val; omega))
      (Fin.ext (by show ((t.val * 4 + a.val) * 4 + k.val) % 16 = e.val; omega)),
    val_main_v36_apply, val_main_v35_apply, val_main_v34_apply, one1 (idx_main_v34 (idx_main_v35 (ix2 t e))) e rfl,
    val_main_v33_apply]
  refine congrArg (fun z : EReal => z + x5 (ix1 e)) (Finset.sum_congr rfl fun k _ => ?_)
  rw [two2 (lidx_main_v33 (ix2 t e) k) t k rfl rfl, two2 (ridx_main_v33 (ix2 t e) k) k e rfl rfl, v12_apply]

theorem v70_apply (e : Fin 16) (f : Fin 512) :
    val_main_v70 (F := Ideal) x0 x1 x6 (ix3 t e f) = ∑ k, hrow x0 x1 t k * x6 (ix3 e k f) := by
  rw [val_main_v70_apply]
  refine Finset.sum_congr rfl fun k _ => ?_
  rw [two2 (lidx_main_v70 (ix3 t e f) k) t k rfl rfl, three3 (ridx_main_v70 (ix3 t e f) k) e k f rfl rfl rfl, v12_apply]

theorem v72_apply (e : Fin 16) (f : Fin 512) :
    val_main_v72 (F := Ideal) x0 x1 x7 (ix3 t e f) = ∑ k, hrow x0 x1 t k * x7 (ix3 e k f) := by
  rw [val_main_v72_apply]
  refine Finset.sum_congr rfl fun k _ => ?_
  rw [two2 (lidx_main_v72 (ix3 t e f) k) t k rfl rfl, three3 (ridx_main_v72 (ix3 t e f) k) e k f rfl rfl rfl, v12_apply]

theorem v73_apply (e : Fin 16) (f : Fin 512) :
    val_main_v73 (F := Ideal) x0 x1 x6 x7 (ix3 t e f)
      = glu (∑ k, hrow x0 x1 t k * x6 (ix3 e k f)) (∑ k, hrow x0 x1 t k * x7 (ix3 e k f)) := by
  rw [val_main_v73_apply, val_main_v71_apply, val_main_call3_v5_apply, val_main_call3_v4_apply, val_main_call3_v3_apply,
    val_main_call3_v2_apply, val_main_call3_v1_apply, val_main_call3_v0_apply, v70_apply, v72_apply]
  rfl

theorem v75_apply (e : Fin 16) (d : Fin 1024) :
    val_main_v75 (F := Ideal) x0 x1 x6 x7 x8 (ix3 t e d)
      = expert (hrow x0 x1 t) (fun k f => x6 (ix3 e k f)) (fun k f => x7 (ix3 e k f)) (fun f => x8 (ix3 e f d)) := by
  rw [val_main_v75_apply, three3 (idx_main_v75 (ix3 t e d)) e d t rfl rfl rfl, val_main_v74_apply]
  refine Finset.sum_congr rfl fun f _ => ?_
  rw [three3 (lidx_main_v74 (ix3 e d t) f) e f d rfl rfl rfl, three3 (ridx_main_v74 (ix3 e d t) f) t e f rfl rfl rfl, v73_apply,
    mul_comm]

/-- The reference's result at a token and a feature. -/
theorem v80_apply (d : Fin 1024) :
    val_main_v80 (F := Ideal) x0 x1 x2 x3 x4 x5 x6 x7 x8 (ix2 t d)
      = x0 (ix2 t d) + ∑ e : Fin 16, val_main_v69 (F := Ideal) x0 x1 x2 x3 x4 x5 (ix2 t e)
          * expert (hrow x0 x1 t) (fun k f => x6 (ix3 e k f)) (fun k f => x7 (ix3 e k f)) (fun f => x8 (ix3 e f d)) := by
  rw [val_main_v80_apply, val_main_v79_apply, val_main_cst_12_apply, zero_init, zero_add]
  refine congrArg (fun z : EReal => x0 (ix2 t d) + z) (Finset.sum_congr rfl fun e _ => ?_)
  rw [three3 (idx_main_v79 (ix2 t d) e) t e d rfl rfl rfl, val_main_v78_apply, val_main_v77_apply, val_main_v76_apply,
    two2 (idx_main_v76 (idx_main_v77 (ix3 t e d))) t e rfl rfl, v75_apply]
  rfl

end Cert.ReferenceIdeal.Out
-- ==== Proof.Compare.lean ====
/-
  The kernel's output array is the reference's: row by row the router's logits are the same real numbers, the two
  routings give the same gates, and the two sums over the experts are the same sum. And what the precondition says: the
  router's inputs are real numbers.
-/
module

public import proofs.«01_k».proof.Defs
public import proofs.«01_k».proof.Proof.KOut
public import proofs.«01_k».proof.Proof.RefOut
public import proofs.«01_k».proof.Proof.Gen.Pre_finite_router

@[expose] public section

noncomputable section

open scoped BigOperators

namespace Cert.Compare

open Idealize.ShloMosaic Idealize.ShloMosaic.TcCoe Idealize.SL.Sem
open Cert.Moe Cert.KernelIdeal Cert.KernelIdeal.Gen Cert.KernelIdeal.KRow Cert.KernelIdeal.KWin Cert.KernelIdeal.KOut

/-! ## The precondition -/

theorem ofBits_inf : Ideal.ofBits .f32 0x7F800000#32 = ⊤ := by
  simp [Ideal.ofBits, Ideal.ieee]

/-- An extended real that compares below infinity in absolute value is a real number. -/
theorem real_of_lt (x : EReal) (h : Ideal.cmp .olt (max x (-x)) (Ideal.ofBits .f32 0x7F800000#32) = 1#1) : ∃ r : ℝ, x = (r : EReal) := by
  rw [ofBits_inf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  refine real_of_ne x (fun hb => ?_) (fun ht => ?_)
  · rw [hb] at hlt; exact absurd hlt (by simp)
  · rw [ht] at hlt; exact absurd hlt (by simp)

/-- The router's inputs are real numbers. -/
structure RealRouter (m : (ℓ : Loc nD τ sig) → Buf (Elt Ideal) ℓ) (c : Dev nD) : Prop where
  g : ∀ k : Fin 1024, ∃ r : ℝ, (m ((c : Thread nD τ).loc main_arg1) : Vec Ideal S1024 .f32) (ix1 k) = (r : EReal)
  wg : ∀ (k : Fin 1024) (j : Fin 4), ∃ r : ℝ, (m ((c : Thread nD τ).loc main_arg2) : Vec Ideal S1024x4 .f32) (ix2 k j) = (r : EReal)
  bg : ∀ j : Fin 4, ∃ r : ℝ, (m ((c : Thread nD τ).loc main_arg3) : Vec Ideal S4 .f32) (ix1 j) = (r : EReal)
  we : ∀ (k : Fin 1024) (e : Fin 16), ∃ r : ℝ, (m ((c : Thread nD τ).loc main_arg4) : Vec Ideal S1024x16 .f32) (ix2 k e) = (r : EReal)
  be : ∀ e : Fin 16, ∃ r : ℝ, (m ((c : Thread nD τ).loc main_arg5) : Vec Ideal S16 .f32) (ix1 e) = (r : EReal)

theorem real_router (m : (ℓ : Loc nD τ sig) → Buf (Elt Ideal) ℓ) (h : Cert.Pre_KernelIdeal_finite_router m) (c : Dev nD) :
    RealRouter m c := by
  obtain ⟨h1, h2, h3, h4, h5⟩ := h c
  exact ⟨fun k => real_of_lt _ (congrFun h1 (ix1 k)), fun k j => real_of_lt _ (congrFun h2 (ix2 k j)),
    fun j => real_of_lt _ (congrFun h3 (ix1 j)), fun k e => real_of_lt _ (congrFun h4 (ix2 k e)),
    fun e => real_of_lt _ (congrFun h5 (ix1 e))⟩

/-! ## The router's logits are real -/

variable (m : (ℓ : Loc nD τ sig) → Buf (Elt Ideal) ℓ) (c : Dev nD)

theorem lane_cases (n : Fin 128) : (∃ j : Fin 4, n = j.castLE (by decide)) ∨ (∃ e : Fin 16, n.val = 4 + e.val)
    ∨ (∃ q : Fin 108, n.val = 20 + q.val) := by
  rcases lt_or_ge n.val 4 with h | h
  · exact .inl ⟨⟨n.val, h⟩, rfl⟩
  · rcases lt_or_ge n.val 20 with h' | h'
    · exact .inr (.inl ⟨⟨n.val - 4, by omega⟩, by show n.val = 4 + (n.val - 4); omega⟩)
    · exact .inr (.inr ⟨⟨n.val - 20, by omega⟩, by show n.val = 20 + (n.val - 20); omega⟩)

theorem wcat_real (hf : RealRouter m c) (k : Fin 1024) (n : Fin 128) : ∃ r : ℝ, wcat m c (ix2 k n) = (r : EReal) := by
  rcases lane_cases n with ⟨j, rfl⟩ | ⟨e, he⟩ | ⟨q, hq⟩
  · rw [wcat_group]; exact hf.wg k j
  · rw [wcat_expert m c k n e he]; exact hf.we k e
  · rw [wcat_rest m c k n q hq]; exact ⟨0, rfl⟩

theorem bcat_real (hf : RealRouter m c) (n : Fin 128) : ∃ r : ℝ, bcat m c (ix1 n) = (r : EReal) := by
  rcases lane_cases n with ⟨j, rfl⟩ | ⟨e, he⟩ | ⟨q, hq⟩
  · rw [bcat_group]; exact hf.bg j
  · rw [bcat_expert m c n e he]; exact hf.be e
  · rw [bcat_rest m c n q hq]; exact ⟨0, rfl⟩

theorem logits_real (hf : RealRouter m c) (q : Fin 65536) (n : Fin 128) :
    ∃ r : ℝ, logit (hrow m c q) (fun k => wcat m c (ix2 k n)) (bcat m c (ix1 n)) = (r : EReal) :=
  logit_real _ _ _ (fun k => by obtain ⟨γ, hγ⟩ := hf.g k; exact nrm_real _ _ k γ hγ)
    (fun k => wcat_real m c hf k n) (bcat_real m c hf n)

/-! ## The two outputs -/

/-- The reference's result at the kernel's argument arrays. -/
def refOut : (⟨S65536x1024, .f32⟩ : BufTy).Contents (Elt Ideal) :=
  Cert.ReferenceIdeal.Read.val_main_v80 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The gates the two programs give a row's experts are the same. -/
theorem gates_eq (hf : RealRouter m c) (q : Fin 65536) (e : Fin 16) :
    gates m c (opens q) (ix2 (place q) (exLane e))
      = Cert.ReferenceIdeal.Read.val_main_v69 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 q e) := by
  choose l hl using logits_real m c hf q
  obtain ⟨g, k1, k2, hp⟩ := Pick.exists (rowG l) (rowE l)
  have hd : e.val = 4 * (e.val / 4) + e.val % 4 := by omega
  have he := e.isLt
  let a : Fin 4 := ⟨e.val / 4, by omega⟩
  let k : Fin 4 := ⟨e.val % 4, by omega⟩
  have hlane : exLane e = lane a k := Fin.ext (by show e.val + 4 = 4 + 4 * (e.val / 4) + e.val % 4; omega)
  refine Eq.trans ?_ (Cert.ReferenceIdeal.Route.v69_row _ _ _ _ _ _ q (rowG l) (rowE l) hp ?_ ?_ a k e hd).symm
  · rw [hlane]
    exact gateBlk_row _ _ _ _ (place q) l hp (fun n => (logits_apply m c q n).trans (hl n)) a k
  · intro j
    refine (Cert.ReferenceIdeal.Out.v16_apply _ _ _ _ q j).trans ?_
    refine Eq.trans ?_ (hl (j.castLE (by decide)))
    refine (congrArg (fun A => logit (hrow m c q) A _) (funext fun k => (wcat_group m c k j).symm)).trans ?_
    exact congrArg (fun A => logit (hrow m c q) _ A) (bcat_group m c j).symm
  · intro a k
    have ha := a.isLt
    have hk := k.isLt
    let e : Fin 16 := ⟨4 * a.val + k.val, by omega⟩
    have hn : (lane a k).val = 4 + e.val := by show 4 + 4 * a.val + k.val = 4 + (4 * a.val + k.val); omega
    refine (Cert.ReferenceIdeal.Out.v37_apply _ _ _ _ q a k e rfl).trans ?_
    refine Eq.trans ?_ (hl (lane a k))
    refine (congrArg (fun A => logit (hrow m c q) A _) (funext fun k' => (wcat_expert m c k' (lane a k) e hn).symm)).trans ?_
    exact congrArg (fun A => logit (hrow m c q) _ A) (bcat_expert m c (lane a k) e hn).symm

theorem out_apply (hf : RealRouter m c) (q : Fin 65536) (d : Fin 1024) : Value.G7 m c (ix2 q d) = refOut m c (ix2 q d) := by
  refine (G7_apply m c q d).trans (Eq.trans ?_ (Cert.ReferenceIdeal.Out.v80_apply _ _ _ _ _ _ _ _ _ q d).symm)
  refine congrArg (fun z : EReal => xarr m c (ix2 q d) + z) (Finset.sum_congr rfl fun e _ => ?_)
  unfold term
  rw [gates_eq m c hf q e, show (fun k => rows m c (opens q) (ix2 (place q) k)) = hrow m c q from funext fun k => rows_apply m c q k]
  rfl

/-- The kernel's output array is the reference's result. -/
theorem out_eq (hf : RealRouter m c) : Value.G7 m c = refOut m c := by
  funext i
  have hi : (i : S65536x1024.Idx) = ix2 (i 0) (i 1) := funext fun a => match a with | ⟨0, _⟩ => rfl | ⟨1, _⟩ => rfl
  exact (congrArg (Value.G7 m c) hi).trans ((out_apply m c hf (i 0) (i 1)).trans (congrArg (refOut m c) hi).symm)

end Cert.Compare
-- ==== Proof.Proj.lean ====
/-
  A normalised row against one column of a weight matrix, and two readings used by every call that projects one.
-/
module

public import proofs.«01_k».proof.Proof.KPoint
public import proofs.«01_k».proof.Proof.RefRow

@[expose] public section

noncomputable section

open scoped BigOperators

namespace Cert.Proj

open Idealize.ShloMosaic Idealize.ShloMosaic.TcCoe Idealize.SL.Sem
open Cert.Moe Cert.ReferenceIdeal.Route

/-- The normalised row `X` (with gains `g`) against the column `w`. -/
def proj (X g w : Fin 1024 → EReal) : EReal := ∑ k, nrm X g k * w k

/-- A load read at one index. -/
theorem ld_at {S : Shape} {e : EltTy} (X : S.Idx → Elt Ideal e) (r : Rect S) (x : r.shape.Idx) (k : S.Idx)
    (hk : ∀ a, (k a).val = (r.emb x a).val) : View.ld X r x = X k :=
  congrArg X (funext fun a => Fin.ext (hk a).symm)

/-- A vector as a matrix of one row. -/
theorem gains (x : (⟨1, ![1024]⟩ : Shape).Idx → EReal) (h : (⟨1, ![1024]⟩ : Shape).ShapeCasts ⟨2, ![1, 1024]⟩) (k : Fin 1024) :
    shapeCast ⟨2, ![1, 1024]⟩ x h (ix2 0 k) = x (ix1 k) :=
  shapeCast_apply _ _ _ _ (by
    refine (rowMajor_val1 (ix1 k)).trans (Eq.trans ?_ (rowMajor_val2 _ 1024 rfl).symm)
    show k.val = 0 * 1024 + k.val
    omega)

/-- An index of a block of 512 rows, from its row, the block's place and its column. -/
theorem emb_eq {R W : ℕ} (i : (⟨2, ![R, W]⟩ : Shape).Idx) (a b t : ℕ) (r : Fin 512) (j : Fin W) (q : Fin R)
    (h0 : (i 0).val = a * 512 + 1 * r.val) (h1 : (i 1).val = b * W + 1 * j.val) (h : a = t ∧ b = 0) (hq : q.val = t * 512 + r.val) :
    i = ix2 q j := by
  rw [h.1] at h0
  rw [h.2] at h1
  exact two2 i q j (Fin.ext (by omega)) (Fin.ext (by omega))

/-- Two matrices that agree at every row and column. -/
theorem ext2 {R W : ℕ} {A B : (⟨2, ![R, W]⟩ : Shape).Idx → EReal} (h : ∀ q j, A (ix2 q j) = B (ix2 q j)) : A = B :=
  funext fun i => by rw [two2 i (i 0) (i 1) rfl rfl]; exact h _ _

end Cert.Proj
-- ==== Proof.MemKv.lean ====
/-
  The keys and values of the memory: each row of the two arrays is a normalised row of the memory against the two halves of
  the weights' columns.
-/
module

public import proofs.«01_k».proof.Proof.Proj
public import proofs.«01_k».proof.Proof.Gen.Kernel2Ideal.Value
public import proofs.«01_k».proof.Proof.Gen.Reference2Ideal.Read

@[expose] public section

noncomputable section

open scoped BigOperators

namespace Cert.MemKv

open Idealize.ShloMosaic Idealize.ShloMosaic.TcCoe Idealize.SL.Sem
open Cert.Kernel2Ideal Cert.Kernel2Ideal.Gen Cert.Moe Cert.Proj Cert.ReferenceIdeal.Route
open Cert.KernelIdeal.Blocks (hz2)
open Cert.KernelIdeal.KPoint (mmPlain)

variable (m : (ℓ : Loc nD τ sig) → Buf (Elt Ideal) ℓ) (c : Dev nD)

/-! ## One block -/

theorem pay1_apply (x0 : Vec Ideal S512x1024 .f32) (x1 : Vec Ideal S1x1024 .f32) (r : Fin 512) (d : Fin 1024) :
    k0_pay1 x0 x1 (ix2 r d) = nrm (fun k => x0 (ix2 r k)) (fun k => x1 (ix2 0 k)) d := by
  refine Eq.trans ?_ (Cert.KernelIdeal.KPoint.pay3_apply x0 x1 r d)
  unfold k0_pay1 Cert.KernelIdeal.Gen.k0_pay3 Cert.KernelIdeal.Gen.k0_pay2
  simp only [shapeCast_self]

theorem pay2_apply (x0 : Vec Ideal S512x1024 .f32) (x1 : Vec Ideal S1x1024 .f32) (x2 : Vec Ideal S1024x512 .bf16) (r j : Fin 512) :
    k0_pay2 x0 x1 x2 (ix2 r j) = proj (fun k => x0 (ix2 r k)) (fun k => x1 (ix2 0 k)) (fun k => x2 (ix2 k j)) := by
  unfold k0_pay2
  rw [shapeCast_self]
  rw [mmPlain dot_S512x1024_S1024x512_S512x512_1_0_0_1_n_n rfl]
  exact Finset.sum_congr rfl fun k _ => by rw [pay1_apply]

theorem pay3_apply (x0 : Vec Ideal S512x1024 .f32) (x1 : Vec Ideal S1x1024 .f32) (x2 : Vec Ideal S1024x512 .bf16) (r j : Fin 512) :
    k0_pay3 x0 x1 x2 (ix2 r j) = proj (fun k => x0 (ix2 r k)) (fun k => x1 (ix2 0 k)) (fun k => x2 (ix2 k j)) :=
  pay2_apply x0 x1 x2 r j

theorem out3_apply (x0 : Vec Ideal S512x1024 .f32) (x1 : Vec Ideal S1x1024 .f32) (x2 : Vec Ideal S1024x1024 .bf16) (r j : Fin 512)
    (n : Fin 1024) (hn : n.val = j.val) :
    out0_3 x0 x1 x2 (ix2 r j) = proj (fun k => x0 (ix2 r k)) (fun k => x1 (ix2 0 k)) (fun k => x2 (ix2 k n)) := by
  unfold out0_3
  rw [View.canon_unit_zero hz2]
  simp only [View.ld_unit_zero (S := S512x1024) hz2, View.ld_unit_zero (S := S1x1024) hz2]
  refine (pay2_apply x0 x1 _ r j).trans ?_
  exact congrArg (proj _ _) (funext fun k => ld_at x2 r0_2 (ix2 k j) (ix2 k n) fun a => match a with
    | ⟨0, _⟩ => show k.val = 0 + 1 * k.val by omega
    | ⟨1, _⟩ => show n.val = 0 + 1 * j.val by omega)

theorem out4_apply (x0 : Vec Ideal S512x1024 .f32) (x1 : Vec Ideal S1x1024 .f32) (x2 : Vec Ideal S1024x1024 .bf16) (r j : Fin 512)
    (n : Fin 1024) (hn : n.val = 512 + j.val) :
    out0_4 x0 x1 x2 (ix2 r j) = proj (fun k => x0 (ix2 r k)) (fun k => x1 (ix2 0 k)) (fun k => x2 (ix2 k n)) := by
  unfold out0_4
  rw [View.canon_unit_zero hz2]
  simp only [View.ld_unit_zero (S := S512x1024) hz2, View.ld_unit_zero (S := S1x1024) hz2]
  refine (pay3_apply x0 x1 _ r j).trans ?_
  exact congrArg (proj _ _) (funext fun k => ld_at x2 r0_4 (ix2 k j) (ix2 k n) fun a => match a with
    | ⟨0, _⟩ => show k.val = 0 + 1 * k.val by omega
    | ⟨1, _⟩ => show n.val = 512 + 1 * j.val by omega)

/-! ## The windows -/

theorem V_v0 : (V m c main_v0 : Vec Ideal S4096x1024 .f32)
    = shapeCast S4096x1024 (m ((c : Thread nD τ).loc main_arg0) : Vec Ideal S16x256x1024 .f32) shapeCasts_S16x256x1024_S4096x1024 := by
  simp only [V, hostOps0]; after_results_simp <;> rfl

theorem V_v1 : (V m c main_v1 : Vec Ideal S1024x1024 .bf16) = (m ((c : Thread nD τ).loc main_arg2) : Vec Ideal S1024x1024 .f32) := by
  simp only [V, hostOps0]; after_results_simp <;> rfl

theorem V_v2 : (V m c main_v2 : Vec Ideal S1x1024 .f32)
    = shapeCast S1x1024 (m ((c : Thread nD τ).loc main_arg1) : Vec Ideal S1024 .f32) shapeCasts_S1024_S1x1024 := by
  simp only [V, hostOps0]; after_results_simp <;> rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem flush3 : ∀ t : Fin cfg0.N, (cfg0.win 3).flush t = true :=
  (by decide +kernel : ∀ t : Fin grid0.N, (cfg0.win 3).flush t = true)
theorem flush4 : ∀ t : Fin cfg0.N, (cfg0.win 4).flush t = true :=
  (by decide +kernel : ∀ t : Fin grid0.N, (cfg0.win 4).flush t = true)

theorem blk0 (t : Fin cfg0.N) (r : Fin 512) (k : Fin 1024) (b : Fin 16) (s : Fin 256) (q : Fin 4096)
    (hqs : q.val = b.val * 256 + s.val) (hq : q.val = t.val * 512 + r.val) :
    (iblk m c 0 t : Vec Ideal S512x1024 .f32) (ix2 r k) = (m ((c : Thread nD τ).loc main_arg0) : Vec Ideal S16x256x1024 .f32) (ix3 b s k) := by
  have h : (iblk m c 0 t : Vec Ideal S512x1024 .f32) (ix2 r k) = (V m c main_v0 : Vec Ideal S4096x1024 .f32) (ix2 q k) := by
    unfold iblk
    rw [View.read_apply]
    show V m c main_v0 _ = _
    congr 1
    funext a
    apply Fin.ext
    match a with
    | ⟨0, _⟩ =>
      show win0_0.index t (0 : Fin 2) * 512 + 1 * r.val = q.val
      rw [(idx0 t).1, hq]; omega
    | ⟨1, _⟩ =>
      show win0_0.index t (1 : Fin 2) * 1024 + 1 * k.val = k.val
      rw [(idx0 t).2]; omega
  rw [h, V_v0]
  exact shapeCast_apply _ _ _ _ (by
    refine (rowMajor_val3 (ix3 b s k) (256 * 1024) 1024 rfl rfl).trans (Eq.trans ?_ (rowMajor_val2 _ 1024 rfl).symm)
    show b.val * (256 * 1024) + s.val * 1024 + k.val = q.val * 1024 + k.val
    omega)

theorem blk1 (t : Fin cfg0.N) (k : Fin 1024) :
    (iblk m c 1 t : Vec Ideal S1x1024 .f32) (ix2 0 k) = (m ((c : Thread nD τ).loc main_arg1) : Vec Ideal S1024 .f32) (ix1 k) := by
  have h : (iblk m c 1 t : Vec Ideal S1x1024 .f32) (ix2 0 k) = (V m c main_v2 : Vec Ideal S1x1024 .f32) (ix2 0 k) := by
    unfold iblk
    rw [View.read_apply]
    show V m c main_v2 _ = _
    congr 1
    funext a
    apply Fin.ext
    match a with
    | ⟨0, _⟩ =>
      show win0_1.index t (0 : Fin 2) * 1 + 1 * 0 = 0
      rw [(idx1 t).1]
    | ⟨1, _⟩ =>
      show win0_1.index t (1 : Fin 2) * 1024 + 1 * k.val = k.val
      rw [(idx1 t).2]; omega
  rw [h, V_v2]
  exact gains _ _ k

theorem blk2 (t : Fin cfg0.N) (k n : Fin 1024) :
    (iblk m c 2 t : Vec Ideal S1024x1024 .bf16) (ix2 k n) = (m ((c : Thread nD τ).loc main_arg2) : Vec Ideal S1024x1024 .f32) (ix2 k n) := by
  unfold iblk
  rw [View.read_apply]
  show V m c main_v1 _ = _
  refine (congrFun (V_v1 m c) _).trans ?_
  congr 1
  funext a
  apply Fin.ext
  match a with
  | ⟨0, _⟩ =>
    show win0_2.index t (0 : Fin 2) * 1024 + 1 * k.val = k.val
    rw [(idx2 t).1]; omega
  | ⟨1, _⟩ =>
    show win0_2.index t (1 : Fin 2) * 1024 + 1 * n.val = n.val
    rw [(idx2 t).2]; omega

/-! ## The arrays -/

/-- The projection of row `s` of batch `b` on column `n`, from the launch's arguments. -/
def at3 (b : Fin 16) (s : Fin 256) (n : Fin 1024) : EReal :=
  proj (fun k => (m ((c : Thread nD τ).loc main_arg0) : Vec Ideal S16x256x1024 .f32) (ix3 b s k))
    (fun k => (m ((c : Thread nD τ).loc main_arg1) : Vec Ideal S1024 .f32) (ix1 k))
    (fun k => (m ((c : Thread nD τ).loc main_arg2) : Vec Ideal S1024x1024 .f32) (ix2 k n))

theorem point_apply (t : Fin cfg0.N) (r : Fin 512) (b : Fin 16) (s : Fin 256) (n : Fin 1024) (q : Fin 4096)
    (hqs : q.val = b.val * 256 + s.val) (hq : q.val = t.val * 512 + r.val) :
    proj (fun k => (iblk m c 0 t : Vec Ideal S512x1024 .f32) (ix2 r k)) (fun k => (iblk m c 1 t : Vec Ideal S1x1024 .f32) (ix2 0 k))
      (fun k => (iblk m c 2 t : Vec Ideal S1024x1024 .bf16) (ix2 k n)) = at3 m c b s n := by
  refine (congrArg (fun A => proj A _ _) (funext fun k => blk0 m c t r k b s q hqs hq)).trans ?_
  refine (congrArg (fun A => proj _ A _) (funext fun k => blk1 m c t k)).trans ?_
  exact congrArg (fun A => proj _ _ A) (funext fun k => blk2 m c t k n)

theorem arr3_apply (b : Fin 16) (s : Fin 256) (q : Fin 4096) (hqs : q.val = b.val * 256 + s.val) (j : Fin 512) (n : Fin 1024) (hn : n.val = j.val) :
    ((dats m 0 c).arrAt 3 cfg0.N : Vec Ideal S4096x512 .f32) (ix2 q j) = at3 m c b s n := by
  have hq := q.isLt
  let t : Fin cfg0.N := ⟨q.val / 512, lt_of_lt_of_eq (show q.val / 512 < 8 by omega) N_0.symm⟩
  let r : Fin 512 := ⟨q.val % 512, Nat.mod_lt _ (by decide)⟩
  have hqr : q.val = t.val * 512 + r.val := by show q.val = q.val / 512 * 512 + q.val % 512; omega
  have h := congrFun (Value.blocks3 m c t (flush3 t)) (ix2 r j)
  rw [View.read_apply, Value.flushed3] at h
  have hi : ((cfg0.win 3).blk t).view.emb (ix2 r j) = (ix2 q j : S4096x512.Idx) := by
    funext a
    apply Fin.ext
    match a with
    | ⟨0, _⟩ =>
      show win0_3.index t (0 : Fin 2) * 512 + 1 * r.val = q.val
      rw [(idx3 t).1, hqr]; omega
    | ⟨1, _⟩ =>
      show win0_3.index t (1 : Fin 2) * 512 + 1 * j.val = j.val
      rw [(idx3 t).2]; omega
  refine (congrArg ((dats m 0 c).arrAt 3 cfg0.N : Vec Ideal S4096x512 .f32) hi).symm.trans (h.trans ?_)
  exact (out3_apply _ _ _ r j n hn).trans (point_apply m c t r b s n q hqs hqr)

theorem arr4_apply (b : Fin 16) (s : Fin 256) (q : Fin 4096) (hqs : q.val = b.val * 256 + s.val) (j : Fin 512) (n : Fin 1024) (hn : n.val = 512 + j.val) :
    ((dats m 0 c).arrAt 4 cfg0.N : Vec Ideal S4096x512 .f32) (ix2 q j) = at3 m c b s n := by
  have hq := q.isLt
  let t : Fin cfg0.N := ⟨q.val / 512, lt_of_lt_of_eq (show q.val / 512 < 8 by omega) N_0.symm⟩
  let r : Fin 512 := ⟨q.val % 512, Nat.mod_lt _ (by decide)⟩
  have hqr : q.val = t.val * 512 + r.val := by show q.val = q.val / 512 * 512 + q.val % 512; omega
  have h := congrFun (Value.blocks4 m c t (flush4 t)) (ix2 r j)
  rw [View.read_apply, Value.flushed4] at h
  have hi : ((cfg0.win 4).blk t).view.emb (ix2 r j) = (ix2 q j : S4096x512.Idx) := by
    funext a
    apply Fin.ext
    match a with
    | ⟨0, _⟩ =>
      show win0_4.index t (0 : Fin 2) * 512 + 1 * r.val = q.val
      rw [(idx4 t).1, hqr]; omega
    | ⟨1, _⟩ =>
      show win0_4.index t (1 : Fin 2) * 512 + 1 * j.val = j.val
      rw [(idx4 t).2]; omega
  refine (congrArg ((dats m 0 c).arrAt 4 cfg0.N : Vec Ideal S4096x512 .f32) hi).symm.trans (h.trans ?_)
  exact (out4_apply _ _ _ r j n hn).trans (point_apply m c t r b s n q hqs hqr)

/-! ## The reference -/

section Reference

open Cert.Reference2Ideal.Read

theorem ref_norm (x0 : Vec Ideal S16x256x1024 .f32) (x1 : Vec Ideal S1024 .f32) (b : Fin 16) (s : Fin 256) (d : Fin 1024) :
    val_main_v12 (F := Ideal) x0 x1 (ix3 b s d) = nrm (fun k => x0 (ix3 b s k)) (fun k => x1 (ix1 k)) d := by
  have h1 : val_main_v1 (F := Ideal) x0 (ix2 b s) = ∑ k, x0 (ix3 b s k) * x0 (ix3 b s k) := by
    rw [val_main_v1_apply, val_main_cst_apply, zero_init, zero_add]
    refine Finset.sum_congr rfl fun k _ => ?_
    rw [three3 (idx_main_v1 (ix2 b s) k) b s k rfl rfl rfl]
    rfl
  rw [val_main_v12_apply, val_main_v9_apply, val_main_v8_apply, val_main_v7_apply, val_main_v6_apply, val_main_v4_apply,
    val_main_v2_apply, two2 (idx_main_v2 (idx_main_v8 (ix3 b s d))) b s rfl rfl, h1, val_main_v3_apply, val_main_v5_apply,
    val_main_v11_apply, val_main_v10_apply, one1 (idx_main_v10 (idx_main_v11 (ix3 b s d))) d rfl]
  rfl

theorem ref_dot (x0 : Vec Ideal S16x256x1024 .f32) (x1 : Vec Ideal S1024 .f32) (x2 : Vec Ideal S1024x1024 .f32) (b : Fin 16) (s : Fin 256) (n : Fin 1024) :
    val_main_v13 (F := Ideal) x0 x1 x2 (ix3 b s n) = proj (fun k => x0 (ix3 b s k)) (fun k => x1 (ix1 k)) (fun k => x2 (ix2 k n)) := by
  rw [val_main_v13_apply]
  refine Finset.sum_congr rfl fun k _ => ?_
  rw [three3 (lidx_main_v13 (ix3 b s n) k) b s k rfl rfl rfl, two2 (ridx_main_v13 (ix3 b s n) k) k n rfl rfl, ref_norm]

theorem ref16 (x0 : Vec Ideal S16x256x1024 .f32) (x1 : Vec Ideal S1024 .f32) (x2 : Vec Ideal S1024x1024 .f32) (b : Fin 16) (s : Fin 256)
    (q : Fin 4096) (hqs : q.val = b.val * 256 + s.val) (j : Fin 512) (n : Fin 1024) (hn : n.val = j.val) :
    val_main_v16 (F := Ideal) x0 x1 x2 (ix2 q j) = proj (fun k => x0 (ix3 b s k)) (fun k => x1 (ix1 k)) (fun k => x2 (ix2 k n)) := by
  have hs := s.isLt
  have hj := j.isLt
  rw [val_main_v16_apply, val_main_v14_apply, three3 (idx_main_v14 (idx_main_v16 (ix2 q j))) b s n
    (Fin.ext (by show (q.val * 512 + j.val) / 131072 = b.val; omega)) (Fin.ext (by show (q.val * 512 + j.val) / 512 % 256 = s.val; omega))
    (Fin.ext (by show (q.val * 512 + j.val) % 512 = n.val; omega)), ref_dot]

theorem ref17 (x0 : Vec Ideal S16x256x1024 .f32) (x1 : Vec Ideal S1024 .f32) (x2 : Vec Ideal S1024x1024 .f32) (b : Fin 16) (s : Fin 256)
    (q : Fin 4096) (hqs : q.val = b.val * 256 + s.val) (j : Fin 512) (n : Fin 1024) (hn : n.val = 512 + j.val) :
    val_main_v17 (F := Ideal) x0 x1 x2 (ix2 q j) = proj (fun k => x0 (ix3 b s k)) (fun k => x1 (ix1 k)) (fun k => x2 (ix2 k n)) := by
  have hs := s.isLt
  have hj := j.isLt
  rw [val_main_v17_apply, val_main_v15_apply, three3 (idx_main_v15 (idx_main_v17 (ix2 q j))) b s n
    (Fin.ext (by show (q.val * 512 + j.val) / 131072 = b.val; omega)) (Fin.ext (by show (q.val * 512 + j.val) / 512 % 256 = s.val; omega))
    (Fin.ext (by show 512 + (q.val * 512 + j.val) % 512 = n.val; omega)), ref_dot]

end Reference

/-! ## The equations -/

theorem eq3_at (q : Fin 4096) (j : Fin 512) : ((dats m 0 c).arrAt 3 cfg0.N : Vec Ideal S4096x512 .f32) (ix2 q j)
    = Cert.Reference2Ideal.Read.val_main_v16 (F := Ideal) (m ((c : Thread nD τ).loc main_arg0)) (m ((c : Thread nD τ).loc main_arg1))
        (m ((c : Thread nD τ).loc main_arg2)) (ix2 q j) := by
  have hq := q.isLt
  have hj := j.isLt
  obtain ⟨b, s, hqs⟩ : ∃ (b : Fin 16) (s : Fin 256), q.val = b.val * 256 + s.val :=
    ⟨⟨q.val / 256, by omega⟩, ⟨q.val % 256, by omega⟩, by show q.val = q.val / 256 * 256 + q.val % 256; omega⟩
  obtain ⟨n, hn⟩ : ∃ n : Fin 1024, n.val = j.val := ⟨⟨j.val, by omega⟩, rfl⟩
  exact (arr3_apply m c b s q hqs j n hn).trans (ref16 _ _ _ b s q hqs j n hn).symm

/-- The kernel's first array is the reference's first result. -/
theorem out_eq3 : ((dats m 0 c).arrAt 3 cfg0.N : Vec Ideal S4096x512 .f32)
    = Cert.Reference2Ideal.Read.val_main_v16 (F := Ideal) (m ((c : Thread nD τ).loc main_arg0)) (m ((c : Thread nD τ).loc main_arg1))
        (m ((c : Thread nD τ).loc main_arg2)) := by
  funext i
  have hi : (i : S4096x512.Idx) = ix2 (i 0) (i 1) := two2 _ _ _ rfl rfl
  rw [hi]
  exact eq3_at m c (i 0) (i 1)

theorem eq4_at (q : Fin 4096) (j : Fin 512) : ((dats m 0 c).arrAt 4 cfg0.N : Vec Ideal S4096x512 .f32) (ix2 q j)
    = Cert.Reference2Ideal.Read.val_main_v17 (F := Ideal) (m ((c : Thread nD τ).loc main_arg0)) (m ((c : Thread nD τ).loc main_arg1))
        (m ((c : Thread nD τ).loc main_arg2)) (ix2 q j) := by
  have hq := q.isLt
  have hj := j.isLt
  obtain ⟨b, s, hqs⟩ : ∃ (b : Fin 16) (s : Fin 256), q.val = b.val * 256 + s.val :=
    ⟨⟨q.val / 256, by omega⟩, ⟨q.val % 256, by omega⟩, by show q.val = q.val / 256 * 256 + q.val % 256; omega⟩
  obtain ⟨n, hn⟩ : ∃ n : Fin 1024, n.val = 512 + j.val := ⟨⟨512 + j.val, by omega⟩, rfl⟩
  exact (arr4_apply m c b s q hqs j n hn).trans (ref17 _ _ _ b s q hqs j n hn).symm

/-- The kernel's second array is the reference's second result. -/
theorem out_eq4 : ((dats m 0 c).arrAt 4 cfg0.N : Vec Ideal S4096x512 .f32)
    = Cert.Reference2Ideal.Read.val_main_v17 (F := Ideal) (m ((c : Thread nD τ).loc main_arg0)) (m ((c : Thread nD τ).loc main_arg1))
        (m ((c : Thread nD τ).loc main_arg2)) := by
  funext i
  have hi : (i : S4096x512.Idx) = ix2 (i 0) (i 1) := two2 _ _ _ rfl rfl
  rw [hi]
  exact eq4_at m c (i 0) (i 1)

end Cert.MemKv
-- ==== Proof.InProj.lean ====
/-
  The projection that feeds the mixers: each row of the seven arrays is a normalised row of the input against a range of the
  weights' columns; the kernel puts 112 columns of zeros after the first 784.
-/
module

public import proofs.«01_k».proof.Proof.Proj
public import proofs.«01_k».proof.Proof.Gen.Kernel3Ideal.Value
public import proofs.«01_k».proof.Proof.Gen.Reference3Ideal.Read

@[expose] public section

noncomputable section

open scoped BigOperators

namespace Cert.InProj

open Idealize.ShloMosaic Idealize.ShloMosaic.TcCoe Idealize.SL.Sem
open Cert.Kernel3Ideal Cert.Kernel3Ideal.Gen Cert.Moe Cert.Proj Cert.ReferenceIdeal.Route
open Cert.KernelIdeal.Blocks (hz2)
open Cert.KernelIdeal.KPoint (mmPlain)

variable (m : (ℓ : Loc nD τ sig) → Buf (Elt Ideal) ℓ) (c : Dev nD)

/-! ## One block -/

/-- Row `r` of a block against column `n` of the packed weights. -/
def cell (x0 : Vec Ideal S512x1024 .f32) (x1 : Vec Ideal S1x1024 .f32) (x2 : Vec Ideal S1024x2688 .bf16) (r : Fin 512) (n : Fin 2688) : EReal :=
  proj (fun k => x0 (ix2 r k)) (fun k => x1 (ix2 0 k)) (fun k => x2 (ix2 k n))

theorem pay5_apply (x0 : Vec Ideal S512x1024 .f32) (x1 : Vec Ideal S1x1024 .f32) (r : Fin 512) (d : Fin 1024) :
    k0_pay5 x0 x1 (ix2 r d) = nrm (fun k => x0 (ix2 r k)) (fun k => x1 (ix2 0 k)) d := by
  refine Eq.trans ?_ (Cert.KernelIdeal.KPoint.pay3_apply x0 x1 r d)
  unfold k0_pay5 Cert.KernelIdeal.Gen.k0_pay3 Cert.KernelIdeal.Gen.k0_pay2
  simp only [shapeCast_self]

/-- The product of the normalised block with some columns of the packed weights, at one of them. -/
theorem mm_apply {W : ℕ} (d : DotDims S512x1024 ⟨2, ![1024, W]⟩ ⟨2, ![512, W]⟩) (hd : d = DotDims.plain 512 1024 W)
    (x0 : Vec Ideal S512x1024 .f32) (x1 : Vec Ideal S1x1024 .f32) (x2 : Vec Ideal S1024x2688 .bf16) (w : FVec Ideal ⟨2, ![1024, W]⟩ .bf16)
    (r : Fin 512) (j : Fin W) (n : Fin 2688) (hw : ∀ k, w (ix2 k j) = x2 (ix2 k n)) :
    matmul (φ₁ := .bf16) d none (k0_pay5 x0 x1) w (constant ⟨2, ![512, W]⟩ .f32 0x00000000#32) (ix2 r j) = cell x0 x1 x2 r n := by
  rw [mmPlain d hd]
  unfold cell proj
  exact Finset.sum_congr rfl fun k _ => by rw [pay5_apply, hw]

/-- A load of `W` columns of the packed weights from column `o`. -/
theorem cols {W o : ℕ} {inb : ∀ a, (![0, o] : Fin 2 → ℕ) a + (⟨2, ![1024, W]⟩ : Shape).size a ≤ S1024x2688.size a} (x2 : Vec Ideal S1024x2688 .bf16)
    (j : Fin W) (n : Fin 2688) (hn : n.val = o + j.val) (k : Fin 1024) :
    View.ld x2 (Rect.unit (s := S1024x2688) ![0, o] (⟨2, ![1024, W]⟩ : Shape).size inb) (ix2 k j) = x2 (ix2 k n) :=
  ld_at x2 (Rect.unit (s := S1024x2688) ![0, o] (⟨2, ![1024, W]⟩ : Shape).size inb) (ix2 k j) (ix2 k n) fun a => match a with
    | ⟨0, _⟩ => show k.val = 0 + 1 * k.val by omega
    | ⟨1, _⟩ => show n.val = o + 1 * j.val by omega

section Block

variable (x0 : Vec Ideal S512x1024 .f32) (x1 : Vec Ideal S1x1024 .f32) (x2 : Vec Ideal S1024x2688 .bf16) (r : Fin 512) (n : Fin 2688)

theorem out3_apply (j : Fin 896) (hn : n.val = 0 + j.val) : out0_3 x0 x1 x2 (ix2 r j) = cell x0 x1 x2 r n := by
  unfold out0_3 k0_pay6
  rw [View.canon_unit_zero hz2, shapeCast_self]
  simp only [View.ld_unit_zero (S := S512x1024) hz2, View.ld_unit_zero (S := S1x1024) hz2]
  exact mm_apply _ rfl x0 x1 x2 _ r j n (cols x2 j n hn)

theorem out4_apply (j : Fin 256) (hn : n.val = 896 + j.val) : out0_4 x0 x1 x2 (ix2 r j) = cell x0 x1 x2 r n := by
  unfold out0_4 k0_pay7
  rw [View.canon_unit_zero hz2, shapeCast_self]
  simp only [View.ld_unit_zero (S := S512x1024) hz2, View.ld_unit_zero (S := S1x1024) hz2]
  exact mm_apply _ rfl x0 x1 x2 _ r j n (cols x2 j n hn)

theorem out5_apply (j : Fin 512) (hn : n.val = 1152 + j.val) : out0_5 x0 x1 x2 (ix2 r j) = cell x0 x1 x2 r n := by
  unfold out0_5 k0_pay8
  rw [View.canon_unit_zero hz2, shapeCast_self]
  simp only [View.ld_unit_zero (S := S512x1024) hz2, View.ld_unit_zero (S := S1x1024) hz2]
  exact mm_apply _ rfl x0 x1 x2 _ r j n (cols x2 j n hn)

theorem out6_apply (j : Fin 512) (hn : n.val = 1664 + j.val) : out0_6 x0 x1 x2 (ix2 r j) = cell x0 x1 x2 r n := by
  unfold out0_6 k0_pay1 k0_pay11 k0_pay12 k0_pay10 k0_pay9
  rw [View.canon_unit_zero hz2, shapeCast_self]
  simp only [View.ld_unit_zero (S := S512x1024) hz2, View.ld_unit_zero (S := S1x1024) hz2]
  exact mm_apply _ rfl x0 x1 x2 _ r j n (cols x2 j n hn)

theorem out7_eq : (out0_7 x0 x1 x2 : S512x512.Idx → EReal) = out0_6 x0 x1 x2 := by
  unfold out0_7 out0_6
  rw [View.canon_unit_zero hz2, View.canon_unit_zero hz2]
  rfl

theorem out8_apply (j : Fin 512) (hn : n.val = 2176 + j.val) : out0_8 x0 x1 x2 (ix2 r j) = cell x0 x1 x2 r n := by
  unfold out0_8 k0_pay3 k0_pay11
  rw [View.canon_unit_zero hz2, shapeCast_self]
  simp only [View.ld_unit_zero (S := S512x1024) hz2, View.ld_unit_zero (S := S1x1024) hz2]
  exact mm_apply _ rfl x0 x1 x2 _ r j n (cols x2 j n hn)

theorem out9_eq : (out0_9 x0 x1 x2 : S512x512.Idx → EReal) = out0_8 x0 x1 x2 := by
  unfold out0_9 out0_8
  rw [View.canon_unit_zero hz2, View.canon_unit_zero hz2]
  rfl

end Block

/-! ## The windows -/

/-- The weights with 112 columns of zeros after the first 784. -/
def wparts : List ((s : Shape) × Vec Ideal s .f32) :=
  [⟨S1024x784, extractStridedSlice S1024x784 ![0, 0] (m ((c : Thread nD τ).loc main_arg2) : Vec Ideal S1024x2576 .f32) slices_S1024x2576_S1024x784_0_0⟩,
    ⟨S1024x112, broadcastInDim S1024x112 ![] bcast_S_S1024x112 (constant (F := Ideal) S_ .f32 0x00000000#32)⟩,
    ⟨S1024x1792, extractStridedSlice S1024x1792 ![0, 784] (m ((c : Thread nD τ).loc main_arg2) : Vec Ideal S1024x2576 .f32) slices_S1024x2576_S1024x1792_0_784⟩]

/-- The packed weights. -/
def wcat : Vec Ideal S1024x2688 .f32 :=
  concatenate S1024x2688 1 (wparts m c) concatenates_S1024x784_S1024x112_S1024x1792_S1024x2688_d1

theorem V_v4 : (V m c main_v4 : Vec Ideal S1024x2688 .bf16) = wcat m c := by
  simp only [V, hostOps0]; after_results_simp <;> rfl

theorem V_v5 : (V m c main_v5 : Vec Ideal S1x1024 .f32)
    = shapeCast S1x1024 (m ((c : Thread nD τ).loc main_arg1) : Vec Ideal S1024 .f32) shapeCasts_S1024_S1x1024 := by
  simp only [V, hostOps0]; after_results_simp <;> rfl

theorem wcat_lo (k : Fin 1024) (n : Fin 2688) (p : Fin 2576) (h : p.val < 784) (hn : n.val = p.val) :
    wcat m c (ix2 k n) = (m ((c : Thread nD τ).loc main_arg2) : Vec Ideal S1024x2576 .f32) (ix2 k p) := by
  refine (concatenate_apply_piece (t := S1024x2688) 1 (wparts m c) concatenates_S1024x784_S1024x112_S1024x1792_S1024x2688_d1 (ix2 k n) 0 (show 0 < 3 by decide)
    S1024x784 _ rfl rfl 0 rfl (ix2 k ⟨p.val, h⟩) (fun b hb => match b with | ⟨0, _⟩ => rfl | ⟨1, _⟩ => absurd rfl hb) ((Nat.zero_add _).trans hn.symm)).trans ?_
  exact extractStridedSlice_apply _ _ _ _ (ix2 k p) fun a => match a with
    | ⟨0, _⟩ => show k.val = 0 + k.val by omega
    | ⟨1, _⟩ => show p.val = 0 + p.val by omega

theorem wcat_mid (k : Fin 1024) (n : Fin 2688) (h0 : 784 ≤ n.val) (h1 : n.val < 896) : wcat m c (ix2 k n) = 0 :=
  (concatenate_apply_piece (t := S1024x2688) 1 (wparts m c) concatenates_S1024x784_S1024x112_S1024x1792_S1024x2688_d1 (ix2 k n) 1 (show 1 < 3 by decide)
    S1024x112 _ rfl rfl 784 rfl (ix2 k ⟨n.val - 784, by omega⟩) (fun b hb => match b with | ⟨0, _⟩ => rfl | ⟨1, _⟩ => absurd rfl hb)
    (show 784 + (n.val - 784) = n.val by omega)).trans Ideal.ofBits_zero_f32

theorem wcat_hi (k : Fin 1024) (n : Fin 2688) (p : Fin 2576) (h : 784 ≤ p.val) (hn : n.val = 112 + p.val) :
    wcat m c (ix2 k n) = (m ((c : Thread nD τ).loc main_arg2) : Vec Ideal S1024x2576 .f32) (ix2 k p) := by
  have hp := p.isLt
  refine (concatenate_apply_piece (t := S1024x2688) 1 (wparts m c) concatenates_S1024x784_S1024x112_S1024x1792_S1024x2688_d1 (ix2 k n) 2 (show 2 < 3 by decide)
    S1024x1792 _ rfl rfl 896 rfl (ix2 k ⟨p.val - 784, by omega⟩) (fun b hb => match b with | ⟨0, _⟩ => rfl | ⟨1, _⟩ => absurd rfl hb)
    (show 896 + (p.val - 784) = n.val by omega)).trans ?_
  exact extractStridedSlice_apply _ _ _ _ (ix2 k p) fun a => match a with
    | ⟨0, _⟩ => show k.val = 0 + k.val by omega
    | ⟨1, _⟩ => show p.val = 784 + (p.val - 784) by omega

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem flush : ∀ t : Fin cfg0.N, (cfg0.win 3).flush t = true ∧ (cfg0.win 4).flush t = true ∧ (cfg0.win 5).flush t = true
    ∧ (cfg0.win 6).flush t = true ∧ (cfg0.win 7).flush t = true ∧ (cfg0.win 8).flush t = true ∧ (cfg0.win 9).flush t = true :=
  (by decide +kernel : ∀ t : Fin grid0.N, (cfg0.win 3).flush t = true ∧ (cfg0.win 4).flush t = true ∧ (cfg0.win 5).flush t = true
    ∧ (cfg0.win 6).flush t = true ∧ (cfg0.win 7).flush t = true ∧ (cfg0.win 8).flush t = true ∧ (cfg0.win 9).flush t = true)

theorem blk0 (t : Fin cfg0.N) (r : Fin 512) (k : Fin 1024) (q : Fin 65536) (hq : q.val = t.val * 512 + r.val) :
    (iblk m c 0 t : Vec Ideal S512x1024 .f32) (ix2 r k) = (m ((c : Thread nD τ).loc main_arg0) : Vec Ideal S65536x1024 .f32) (ix2 q k) := by
  unfold iblk
  rw [View.read_apply]
  show V m c main_arg0 _ = _
  rw [V_main_arg0]
  exact congrArg (m ((c : Thread nD τ).loc main_arg0) : Vec Ideal S65536x1024 .f32)
    (emb_eq (((cfg0.win 0).blk t).view.emb (ix2 r k)) _ _ t.val r k q rfl rfl (idx0 t) hq)

theorem blk1 (t : Fin cfg0.N) (k : Fin 1024) :
    (iblk m c 1 t : Vec Ideal S1x1024 .f32) (ix2 0 k) = (m ((c : Thread nD τ).loc main_arg1) : Vec Ideal S1024 .f32) (ix1 k) := by
  have h : (iblk m c 1 t : Vec Ideal S1x1024 .f32) (ix2 0 k) = (V m c main_v5 : Vec Ideal S1x1024 .f32) (ix2 0 k) := by
    unfold iblk
    rw [View.read_apply]
    show V m c main_v5 _ = _
    congr 1
    funext a
    apply Fin.ext
    match a with
    | ⟨0, _⟩ =>
      show win0_1.index t (0 : Fin 2) * 1 + 1 * 0 = 0
      rw [(idx1 t).1]
    | ⟨1, _⟩ =>
      show win0_1.index t (1 : Fin 2) * 1024 + 1 * k.val = k.val
      rw [(idx1 t).2]; omega
  rw [h, V_v5]
  exact gains _ _ k

theorem blk2 (t : Fin cfg0.N) (k : Fin 1024) (n : Fin 2688) :
    (iblk m c 2 t : Vec Ideal S1024x2688 .bf16) (ix2 k n) = wcat m c (ix2 k n) := by
  unfold iblk
  rw [View.read_apply]
  show V m c main_v4 _ = _
  refine (congrFun (V_v4 m c) _).trans ?_
  congr 1
  funext a
  apply Fin.ext
  match a with
  | ⟨0, _⟩ =>
    show win0_2.index t (0 : Fin 2) * 1024 + 1 * k.val = k.val
    rw [(idx2 t).1]; omega
  | ⟨1, _⟩ =>
    show win0_2.index t (1 : Fin 2) * 2688 + 1 * n.val = n.val
    rw [(idx2 t).2]; omega

/-! ## The arrays -/

/-- Row `q` of the input against column `p` of the weights. -/
def inner (q : Fin 65536) (p : Fin 2576) : EReal :=
  proj (fun k => (m ((c : Thread nD τ).loc main_arg0) : Vec Ideal S65536x1024 .f32) (ix2 q k))
    (fun k => (m ((c : Thread nD τ).loc main_arg1) : Vec Ideal S1024 .f32) (ix1 k))
    (fun k => (m ((c : Thread nD τ).loc main_arg2) : Vec Ideal S1024x2576 .f32) (ix2 k p))

theorem cell_blk (t : Fin cfg0.N) (r : Fin 512) (n : Fin 2688) (q : Fin 65536) (hq : q.val = t.val * 512 + r.val) :
    cell (iblk m c 0 t) (iblk m c 1 t) (iblk m c 2 t) r n
      = proj (fun k => (m ((c : Thread nD τ).loc main_arg0) : Vec Ideal S65536x1024 .f32) (ix2 q k))
          (fun k => (m ((c : Thread nD τ).loc main_arg1) : Vec Ideal S1024 .f32) (ix1 k)) (fun k => wcat m c (ix2 k n)) := by
  unfold cell
  refine (congrArg (fun A => proj A _ _) (funext fun k => blk0 m c t r k q hq)).trans ?_
  refine (congrArg (fun A => proj _ A _) (funext fun k => blk1 m c t k)).trans ?_
  exact congrArg (fun A => proj _ _ A) (funext fun k => blk2 m c t k n)

theorem cell_lo (t : Fin cfg0.N) (r : Fin 512) (n : Fin 2688) (q : Fin 65536) (hq : q.val = t.val * 512 + r.val) (p : Fin 2576)
    (h : p.val < 784) (hn : n.val = p.val) : cell (iblk m c 0 t) (iblk m c 1 t) (iblk m c 2 t) r n = inner m c q p :=
  (cell_blk m c t r n q hq).trans (congrArg (fun A => proj _ _ A) (funext fun k => wcat_lo m c k n p h hn))

theorem cell_mid (t : Fin cfg0.N) (r : Fin 512) (n : Fin 2688) (q : Fin 65536) (hq : q.val = t.val * 512 + r.val)
    (h0 : 784 ≤ n.val) (h1 : n.val < 896) : cell (iblk m c 0 t) (iblk m c 1 t) (iblk m c 2 t) r n = 0 :=
  (cell_blk m c t r n q hq).trans ((congrArg (fun A => proj _ _ A) (funext fun k => wcat_mid m c k n h0 h1)).trans
    (Finset.sum_eq_zero fun k _ => mul_zero _))

theorem cell_hi (t : Fin cfg0.N) (r : Fin 512) (n : Fin 2688) (q : Fin 65536) (hq : q.val = t.val * 512 + r.val) (p : Fin 2576)
    (h : 784 ≤ p.val) (hn : n.val = 112 + p.val) : cell (iblk m c 0 t) (iblk m c 1 t) (iblk m c 2 t) r n = inner m c q p :=
  (cell_blk m c t r n q hq).trans (congrArg (fun A => proj _ _ A) (funext fun k => wcat_hi m c k n p h hn))

theorem split (q : Fin 65536) : ∃ (t : Fin cfg0.N) (r : Fin 512), q.val = t.val * 512 + r.val := by
  have hq := q.isLt
  refine ⟨⟨q.val / 512, lt_of_lt_of_eq (show q.val / 512 < 128 by omega) N_0.symm⟩, ⟨q.val % 512, Nat.mod_lt _ (by decide)⟩, ?_⟩
  show q.val = q.val / 512 * 512 + q.val % 512
  omega

theorem arr3 (t : Fin cfg0.N) (r : Fin 512) (q : Fin 65536) (hq : q.val = t.val * 512 + r.val) (j : Fin 896) (n : Fin 2688) (hn : n.val = 0 + j.val) :
    ((dats m 0 c).arrAt 3 cfg0.N : Vec Ideal S65536x896 .f32) (ix2 q j) = cell (iblk m c 0 t) (iblk m c 1 t) (iblk m c 2 t) r n := by
  have h := congrFun (Value.blocks3 m c t (flush t).1) (ix2 r j)
  rw [View.read_apply, Value.flushed3] at h
  exact (congrArg ((dats m 0 c).arrAt 3 cfg0.N : Vec Ideal S65536x896 .f32)
    (emb_eq (((cfg0.win 3).blk t).view.emb (ix2 r j)) _ _ t.val r j q rfl rfl (idx3 t) hq)).symm.trans (h.trans (out3_apply _ _ _ r n j hn))

theorem arr4 (q : Fin 65536) (j : Fin 256) (p : Fin 2576) (hp : p.val = 784 + j.val) :
    ((dats m 0 c).arrAt 4 cfg0.N : Vec Ideal S65536x256 .f32) (ix2 q j) = inner m c q p := by
  obtain ⟨t, r, hq⟩ := split q
  have hj := j.isLt
  have h := congrFun (Value.blocks4 m c t (flush t).2.1) (ix2 r j)
  rw [View.read_apply, Value.flushed4] at h
  refine (congrArg ((dats m 0 c).arrAt 4 cfg0.N : Vec Ideal S65536x256 .f32)
    (emb_eq (((cfg0.win 4).blk t).view.emb (ix2 r j)) _ _ t.val r j q rfl rfl (idx4 t) hq)).symm.trans (h.trans ?_)
  exact (out4_apply _ _ _ r ⟨896 + j.val, by omega⟩ j rfl).trans (cell_hi m c t r _ q hq p (by omega) (show 896 + j.val = 112 + p.val by omega))

theorem arr5 (q : Fin 65536) (j : Fin 512) (p : Fin 2576) (hp : p.val = 1040 + j.val) :
    ((dats m 0 c).arrAt 5 cfg0.N : Vec Ideal S65536x512 .bf16) (ix2 q j) = inner m c q p := by
  obtain ⟨t, r, hq⟩ := split q
  have hj := j.isLt
  have h := congrFun (Value.blocks5 m c t (flush t).2.2.1) (ix2 r j)
  rw [View.read_apply, Value.flushed5] at h
  refine (congrArg ((dats m 0 c).arrAt 5 cfg0.N : Vec Ideal S65536x512 .bf16)
    (emb_eq (((cfg0.win 5).blk t).view.emb (ix2 r j)) _ _ t.val r j q rfl rfl (idx5 t) hq)).symm.trans (h.trans ?_)
  exact (out5_apply _ _ _ r ⟨1152 + j.val, by omega⟩ j rfl).trans (cell_hi m c t r _ q hq p (by omega) (show 1152 + j.val = 112 + p.val by omega))

theorem arr6 (q : Fin 65536) (j : Fin 512) (p : Fin 2576) (hp : p.val = 1552 + j.val) :
    ((dats m 0 c).arrAt 6 cfg0.N : Vec Ideal S65536x512 .f32) (ix2 q j) = inner m c q p := by
  obtain ⟨t, r, hq⟩ := split q
  have hj := j.isLt
  have h := congrFun (Value.blocks6 m c t (flush t).2.2.2.1) (ix2 r j)
  rw [View.read_apply, Value.flushed6] at h
  refine (congrArg ((dats m 0 c).arrAt 6 cfg0.N : Vec Ideal S65536x512 .f32)
    (emb_eq (((cfg0.win 6).blk t).view.emb (ix2 r j)) _ _ t.val r j q rfl rfl (idx6 t) hq)).symm.trans (h.trans ?_)
  exact (out6_apply _ _ _ r ⟨1664 + j.val, by omega⟩ j rfl).trans (cell_hi m c t r _ q hq p (by omega) (show 1664 + j.val = 112 + p.val by omega))

theorem arr7 (q : Fin 65536) (j : Fin 512) (p : Fin 2576) (hp : p.val = 1552 + j.val) :
    ((dats m 0 c).arrAt 7 cfg0.N : Vec Ideal S65536x512 .bf16) (ix2 q j) = inner m c q p := by
  obtain ⟨t, r, hq⟩ := split q
  have hj := j.isLt
  have h := congrFun (Value.blocks7 m c t (flush t).2.2.2.2.1) (ix2 r j)
  rw [View.read_apply, Value.flushed7] at h
  refine (congrArg ((dats m 0 c).arrAt 7 cfg0.N : Vec Ideal S65536x512 .bf16)
    (emb_eq (((cfg0.win 7).blk t).view.emb (ix2 r j)) _ _ t.val r j q rfl rfl (idx7 t) hq)).symm.trans (h.trans ?_)
  refine (congrFun (out7_eq _ _ _) (ix2 r j)).trans ?_
  exact (out6_apply _ _ _ r ⟨1664 + j.val, by omega⟩ j rfl).trans (cell_hi m c t r _ q hq p (by omega) (show 1664 + j.val = 112 + p.val by omega))

theorem arr8 (q : Fin 65536) (j : Fin 512) (p : Fin 2576) (hp : p.val = 2064 + j.val) :
    ((dats m 0 c).arrAt 8 cfg0.N : Vec Ideal S65536x512 .f32) (ix2 q j) = inner m c q p := by
  obtain ⟨t, r, hq⟩ := split q
  have hj := j.isLt
  have h := congrFun (Value.blocks8 m c t (flush t).2.2.2.2.2.1) (ix2 r j)
  rw [View.read_apply, Value.flushed8] at h
  refine (congrArg ((dats m 0 c).arrAt 8 cfg0.N : Vec Ideal S65536x512 .f32)
    (emb_eq (((cfg0.win 8).blk t).view.emb (ix2 r j)) _ _ t.val r j q rfl rfl (idx8 t) hq)).symm.trans (h.trans ?_)
  exact (out8_apply _ _ _ r ⟨2176 + j.val, by omega⟩ j rfl).trans (cell_hi m c t r _ q hq p (by omega) (show 2176 + j.val = 112 + p.val by omega))

theorem arr9 (q : Fin 65536) (j : Fin 512) (p : Fin 2576) (hp : p.val = 2064 + j.val) :
    ((dats m 0 c).arrAt 9 cfg0.N : Vec Ideal S65536x512 .bf16) (ix2 q j) = inner m c q p := by
  obtain ⟨t, r, hq⟩ := split q
  have hj := j.isLt
  have h := congrFun (Value.blocks9 m c t (flush t).2.2.2.2.2.2) (ix2 r j)
  rw [View.read_apply, Value.flushed9] at h
  refine (congrArg ((dats m 0 c).arrAt 9 cfg0.N : Vec Ideal S65536x512 .bf16)
    (emb_eq (((cfg0.win 9).blk t).view.emb (ix2 r j)) _ _ t.val r j q rfl rfl (idx9 t) hq)).symm.trans (h.trans ?_)
  refine (congrFun (out9_eq _ _ _) (ix2 r j)).trans ?_
  exact (out8_apply _ _ _ r ⟨2176 + j.val, by omega⟩ j rfl).trans (cell_hi m c t r _ q hq p (by omega) (show 2176 + j.val = 112 + p.val by omega))

/-! ## The reference -/

section Reference

open Cert.Reference3Ideal.Read

theorem ref_norm (x0 : Vec Ideal S65536x1024 .f32) (x1 : Vec Ideal S1024 .f32) (t : Fin 65536) (d : Fin 1024) :
    val_main_v12 (F := Ideal) x0 x1 (ix2 t d) = nrm (fun k => x0 (ix2 t k)) (fun k => x1 (ix1 k)) d := by
  have h1 : val_main_v1 (F := Ideal) x0 (ix1 t) = ∑ k, x0 (ix2 t k) * x0 (ix2 t k) := by
    rw [val_main_v1_apply, val_main_cst_apply, zero_init, zero_add]
    refine Finset.sum_congr rfl fun k _ => ?_
    rw [two2 (idx_main_v1 (ix1 t) k) t k rfl rfl]
    rfl
  rw [val_main_v12_apply, val_main_v9_apply, val_main_v8_apply, val_main_v7_apply, val_main_v6_apply, val_main_v4_apply,
    val_main_v2_apply, one1 (idx_main_v2 (idx_main_v8 (ix2 t d))) t rfl, h1, val_main_v3_apply, val_main_v5_apply,
    val_main_v11_apply, val_main_v10_apply, one1 (idx_main_v10 (idx_main_v11 (ix2 t d))) d rfl]
  rfl

theorem ref_dot (x0 : Vec Ideal S65536x1024 .f32) (x1 : Vec Ideal S1024 .f32) (x2 : Vec Ideal S1024x2576 .f32) (q : Fin 65536) (p : Fin 2576) :
    val_main_v13 (F := Ideal) x0 x1 x2 (ix2 q p) = proj (fun k => x0 (ix2 q k)) (fun k => x1 (ix1 k)) (fun k => x2 (ix2 k p)) := by
  rw [val_main_v13_apply]
  refine Finset.sum_congr rfl fun k _ => ?_
  rw [two2 (lidx_main_v13 (ix2 q p) k) q k rfl rfl, two2 (ridx_main_v13 (ix2 q p) k) k p rfl rfl, ref_norm]

/-- The parts of the reference's first result. -/
def zparts (x0 : Vec Ideal S65536x1024 .f32) (x1 : Vec Ideal S1024 .f32) (x2 : Vec Ideal S1024x2576 .f32) : List ((s : Shape) × Vec Ideal s .f32) :=
  [⟨Cert.Reference3Ideal.S65536x784, val_main_v14 (F := Ideal) x0 x1 x2⟩, ⟨Cert.Reference3Ideal.S65536x112, val_main_v19 (F := Ideal)⟩]

theorem ref20_lo (x0 : Vec Ideal S65536x1024 .f32) (x1 : Vec Ideal S1024 .f32) (x2 : Vec Ideal S1024x2576 .f32) (q : Fin 65536) (j : Fin 896)
    (p : Fin 2576) (h : p.val < 784) (hj : j.val = p.val) :
    val_main_v20 (F := Ideal) x0 x1 x2 (ix2 q j) = proj (fun k => x0 (ix2 q k)) (fun k => x1 (ix1 k)) (fun k => x2 (ix2 k p)) := by
  refine (concatenate_apply_piece (t := S65536x896) 1 (zparts x0 x1 x2) Cert.Reference3Ideal.Facts₀.concatenates_S65536x784_S65536x112_S65536x896_d1 (ix2 q j) 0 (show 0 < 2 by decide)
    Cert.Reference3Ideal.S65536x784 _ rfl rfl 0 rfl (ix2 q ⟨p.val, h⟩) (fun b hb => match b with | ⟨0, _⟩ => rfl | ⟨1, _⟩ => absurd rfl hb) ((Nat.zero_add _).trans hj.symm)).trans ?_
  rw [val_main_v14_apply, two2 (idx_main_v14 (ix2 q ⟨p.val, h⟩)) q p rfl rfl, ref_dot]

theorem ref20_hi (x0 : Vec Ideal S65536x1024 .f32) (x1 : Vec Ideal S1024 .f32) (x2 : Vec Ideal S1024x2576 .f32) (q : Fin 65536) (j : Fin 896)
    (h : 784 ≤ j.val) : val_main_v20 (F := Ideal) x0 x1 x2 (ix2 q j) = 0 := by
  have hj := j.isLt
  refine (concatenate_apply_piece (t := S65536x896) 1 (zparts x0 x1 x2) Cert.Reference3Ideal.Facts₀.concatenates_S65536x784_S65536x112_S65536x896_d1 (ix2 q j) 1 (show 1 < 2 by decide)
    Cert.Reference3Ideal.S65536x112 _ rfl rfl 784 rfl (ix2 q ⟨j.val - 784, by omega⟩) (fun b hb => match b with | ⟨0, _⟩ => rfl | ⟨1, _⟩ => absurd rfl hb)
    (show 784 + (j.val - 784) = j.val by omega)).trans ?_
  exact Ideal.ofBits_zero_f32

end Reference

/-! ## The equations -/

section Equations

open Cert.Reference3Ideal.Read

theorem out_eq3 : ((dats m 0 c).arrAt 3 cfg0.N : Vec Ideal S65536x896 .f32)
    = val_main_v20 (F := Ideal) (m ((c : Thread nD τ).loc main_arg0)) (m ((c : Thread nD τ).loc main_arg1)) (m ((c : Thread nD τ).loc main_arg2)) := by
  refine ext2 fun q j => ?_
  have hj := j.isLt
  obtain ⟨t, r, hq⟩ := split q
  refine (arr3 m c t r q hq j ⟨j.val, by omega⟩ (Nat.zero_add _).symm).trans ?_
  by_cases h : j.val < 784
  · exact (cell_lo m c t r _ q hq ⟨j.val, by omega⟩ h rfl).trans (ref20_lo _ _ _ q j _ h rfl).symm
  · exact (cell_mid m c t r _ q hq (show 784 ≤ j.val by omega) hj).trans (ref20_hi _ _ _ q j (by omega)).symm

theorem out_eq4 : ((dats m 0 c).arrAt 4 cfg0.N : Vec Ideal S65536x256 .f32)
    = val_main_v15 (F := Ideal) (m ((c : Thread nD τ).loc main_arg0)) (m ((c : Thread nD τ).loc main_arg1)) (m ((c : Thread nD τ).loc main_arg2)) := by
  refine ext2 fun q j => ?_
  have hj := j.isLt
  obtain ⟨p, hp⟩ : ∃ p : Fin 2576, p.val = 784 + j.val := ⟨⟨784 + j.val, by omega⟩, rfl⟩
  refine (arr4 m c q j p hp).trans (Eq.symm ?_)
  rw [val_main_v15_apply, two2 (idx_main_v15 (ix2 q j)) q p rfl (Fin.ext hp.symm)]
  exact ref_dot _ _ _ q p

theorem out_eq5 : ((dats m 0 c).arrAt 5 cfg0.N : Vec Ideal S65536x512 .bf16)
    = val_main_v21 (F := Ideal) (m ((c : Thread nD τ).loc main_arg0)) (m ((c : Thread nD τ).loc main_arg1)) (m ((c : Thread nD τ).loc main_arg2)) := by
  refine ext2 fun q j => ?_
  have hj := j.isLt
  obtain ⟨p, hp⟩ : ∃ p : Fin 2576, p.val = 1040 + j.val := ⟨⟨1040 + j.val, by omega⟩, rfl⟩
  refine (arr5 m c q j p hp).trans (Eq.symm ?_)
  rw [val_main_v21_apply]
  refine (val_main_v16_apply _ _ _ _).trans ?_
  rw [two2 (idx_main_v16 (ix2 q j)) q p rfl (Fin.ext hp.symm)]
  exact ref_dot _ _ _ q p

theorem out_eq6 : ((dats m 0 c).arrAt 6 cfg0.N : Vec Ideal S65536x512 .f32)
    = val_main_v17 (F := Ideal) (m ((c : Thread nD τ).loc main_arg0)) (m ((c : Thread nD τ).loc main_arg1)) (m ((c : Thread nD τ).loc main_arg2)) := by
  refine ext2 fun q j => ?_
  have hj := j.isLt
  obtain ⟨p, hp⟩ : ∃ p : Fin 2576, p.val = 1552 + j.val := ⟨⟨1552 + j.val, by omega⟩, rfl⟩
  refine (arr6 m c q j p hp).trans (Eq.symm ?_)
  rw [val_main_v17_apply, two2 (idx_main_v17 (ix2 q j)) q p rfl (Fin.ext hp.symm)]
  exact ref_dot _ _ _ q p

theorem out_eq7 : ((dats m 0 c).arrAt 7 cfg0.N : Vec Ideal S65536x512 .bf16)
    = val_main_v22 (F := Ideal) (m ((c : Thread nD τ).loc main_arg0)) (m ((c : Thread nD τ).loc main_arg1)) (m ((c : Thread nD τ).loc main_arg2)) := by
  refine ext2 fun q j => ?_
  have hj := j.isLt
  obtain ⟨p, hp⟩ : ∃ p : Fin 2576, p.val = 1552 + j.val := ⟨⟨1552 + j.val, by omega⟩, rfl⟩
  refine (arr7 m c q j p hp).trans (Eq.symm ?_)
  rw [val_main_v22_apply]
  refine (val_main_v17_apply _ _ _ _).trans ?_
  rw [two2 (idx_main_v17 (ix2 q j)) q p rfl (Fin.ext hp.symm)]
  exact ref_dot _ _ _ q p

theorem out_eq8 : ((dats m 0 c).arrAt 8 cfg0.N : Vec Ideal S65536x512 .f32)
    = val_main_v18 (F := Ideal) (m ((c : Thread nD τ).loc main_arg0)) (m ((c : Thread nD τ).loc main_arg1)) (m ((c : Thread nD τ).loc main_arg2)) := by
  refine ext2 fun q j => ?_
  have hj := j.isLt
  obtain ⟨p, hp⟩ : ∃ p : Fin 2576, p.val = 2064 + j.val := ⟨⟨2064 + j.val, by omega⟩, rfl⟩
  refine (arr8 m c q j p hp).trans (Eq.symm ?_)
  rw [val_main_v18_apply, two2 (idx_main_v18 (ix2 q j)) q p rfl (Fin.ext hp.symm)]
  exact ref_dot _ _ _ q p

theorem out_eq9 : ((dats m 0 c).arrAt 9 cfg0.N : Vec Ideal S65536x512 .bf16)
    = val_main_v23 (F := Ideal) (m ((c : Thread nD τ).loc main_arg0)) (m ((c : Thread nD τ).loc main_arg1)) (m ((c : Thread nD τ).loc main_arg2)) := by
  refine ext2 fun q j => ?_
  have hj := j.isLt
  obtain ⟨p, hp⟩ : ∃ p : Fin 2576, p.val = 2064 + j.val := ⟨⟨2064 + j.val, by omega⟩, rfl⟩
  refine (arr9 m c q j p hp).trans (Eq.symm ?_)
  rw [val_main_v23_apply]
  refine (val_main_v18_apply _ _ _ _).trans ?_
  rw [two2 (idx_main_v18 (ix2 q j)) q p rfl (Fin.ext hp.symm)]
  exact ref_dot _ _ _ q p

end Equations

end Cert.InProj
-- ==== Proof.OutProj.lean ====
/-
  The projection that closes the mixers: the kernel adds the products of the three mixers' outputs with their rows of the
  weights; the reference multiplies the three side by side with all the rows at once.
-/
module

public import proofs.«01_k».proof.Proof.Proj
public import proofs.«01_k».proof.Proof.Gen.Kernel4Ideal.Value
public import proofs.«01_k».proof.Proof.Gen.Reference4Ideal.Read

@[expose] public section

noncomputable section

open scoped BigOperators

namespace Cert.OutProj

open Idealize.ShloMosaic Idealize.ShloMosaic.TcCoe Idealize.SL.Sem
open Cert.Kernel4Ideal Cert.Kernel4Ideal.Gen Cert.Moe Cert.Proj Cert.ReferenceIdeal.Route
open Cert.KernelIdeal.Blocks (hz2)
open Cert.KernelIdeal.KPoint (mmPlain)

variable (m : (ℓ : Loc nD τ sig) → Buf (Elt Ideal) ℓ) (c : Dev nD)

/-- The residual `x` and three products with rows 0, 256 and 512 onwards of the column `w`. -/
def mix (x : EReal) (A B : Fin 256 → EReal) (D : Fin 512 → EReal) (w : Fin 1024 → EReal) : EReal :=
  x + (∑ k : Fin 256, A k * w ⟨k.val, by omega⟩ + ∑ k : Fin 256, B k * w ⟨256 + k.val, by omega⟩ + ∑ k : Fin 512, D k * w ⟨512 + k.val, by omega⟩)

/-- A sum over the 1024 rows in three ranges. -/
theorem sum3 (f : Fin 1024 → EReal) : ∑ k, f k
    = ∑ k : Fin 256, f ⟨k.val, by omega⟩ + ∑ k : Fin 256, f ⟨256 + k.val, by omega⟩ + ∑ k : Fin 512, f ⟨512 + k.val, by omega⟩ := by
  refine (Fin.sum_univ_add (a := 512) (b := 512) f).trans ?_
  rw [Fin.sum_univ_add (a := 256) (b := 256)]
  rfl

/-! ## One block -/

/-- A load of `H` rows of the weights from row `o`. -/
theorem rows {H o : ℕ} {inb : ∀ a, (![o, 0] : Fin 2 → ℕ) a + (⟨2, ![H, 1024]⟩ : Shape).size a ≤ S1024x1024.size a} (x : Vec Ideal S1024x1024 .bf16)
    (j : Fin H) (n : Fin 1024) (hn : n.val = o + j.val) (d : Fin 1024) :
    View.ld x (Rect.unit (s := S1024x1024) ![o, 0] (⟨2, ![H, 1024]⟩ : Shape).size inb) (ix2 j d) = x (ix2 n d) :=
  ld_at x (Rect.unit (s := S1024x1024) ![o, 0] (⟨2, ![H, 1024]⟩ : Shape).size inb) (ix2 j d) (ix2 n d) fun a => match a with
    | ⟨0, _⟩ => show n.val = o + 1 * j.val by omega
    | ⟨1, _⟩ => show d.val = 0 + 1 * d.val by omega

theorem out_apply (x0 : Vec Ideal S512x1024 .f32) (x1 x2 : Vec Ideal S512x256 .bf16) (x3 : Vec Ideal S512x512 .bf16) (x4 : Vec Ideal S1024x1024 .bf16)
    (r : Fin 512) (d : Fin 1024) :
    out0_5 x0 x1 x2 x3 x4 (ix2 r d)
      = mix (x0 (ix2 r d)) (fun k => x1 (ix2 r k)) (fun k => x2 (ix2 r k)) (fun k => x3 (ix2 r k)) (fun k => x4 (ix2 k d)) := by
  unfold out0_5 k0_pay1
  rw [View.canon_unit_zero hz2]
  simp only [View.ld_unit_zero (S := S512x1024) hz2, View.ld_unit_zero (S := S512x256) hz2, View.ld_unit_zero (S := S512x512) hz2, shapeCast_self]
  show x0 (ix2 r d) + (matmul (F := Ideal) dot_S512x256_S256x1024_S512x1024_1_0_0_1_n_n none x1 (View.ld x4 r0_1) (constant (F := Ideal) S512x1024 .f32 0x00000000#32) (ix2 r d)
    + matmul (F := Ideal) dot_S512x256_S256x1024_S512x1024_1_0_0_1_n_n none x2 (View.ld x4 r0_2) (constant (F := Ideal) S512x1024 .f32 0x00000000#32) (ix2 r d)
    + matmul (F := Ideal) dot_S512x512_S512x1024_S512x1024_1_0_0_1_n_n none x3 (View.ld x4 r0_4) (constant (F := Ideal) S512x1024 .f32 0x00000000#32) (ix2 r d)) = _
  rw [mmPlain dot_S512x256_S256x1024_S512x1024_1_0_0_1_n_n rfl, mmPlain dot_S512x256_S256x1024_S512x1024_1_0_0_1_n_n rfl,
    mmPlain dot_S512x512_S512x1024_S512x1024_1_0_0_1_n_n rfl]
  unfold mix
  congr 1
  congr 1
  · congr 1
    · exact Finset.sum_congr rfl fun k _ => congrArg (fun z : EReal => x1 (ix2 r k) * z) (rows x4 k _ (Nat.zero_add _).symm d)
    · exact Finset.sum_congr rfl fun k _ => congrArg (fun z : EReal => x2 (ix2 r k) * z) (rows x4 k _ rfl d)
  · exact Finset.sum_congr rfl fun k _ => congrArg (fun z : EReal => x3 (ix2 r k) * z) (rows x4 k _ rfl d)

/-! ## The windows -/

theorem V_v0 : (V m c main_v0 : Vec Ideal S1024x1024 .bf16) = (m ((c : Thread nD τ).loc main_arg4) : Vec Ideal S1024x1024 .f32) := by
  simp only [V, hostOps0]; after_results_simp <;> rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem flush5 : ∀ t : Fin cfg0.N, (cfg0.win 5).flush t = true :=
  (by decide +kernel : ∀ t : Fin grid0.N, (cfg0.win 5).flush t = true)

section Blocks

variable (t : Fin cfg0.N) (r : Fin 512) (q : Fin 65536) (hq : q.val = t.val * 512 + r.val)
include hq

theorem blk0 (k : Fin 1024) :
    (iblk m c 0 t : Vec Ideal S512x1024 .f32) (ix2 r k) = (m ((c : Thread nD τ).loc main_arg0) : Vec Ideal S65536x1024 .f32) (ix2 q k) := by
  unfold iblk
  rw [View.read_apply]
  show V m c main_arg0 _ = _
  rw [V_main_arg0]
  exact congrArg (m ((c : Thread nD τ).loc main_arg0) : Vec Ideal S65536x1024 .f32)
    (emb_eq (((cfg0.win 0).blk t).view.emb (ix2 r k)) _ _ t.val r k q rfl rfl (idx0 t) hq)

theorem blk1 (k : Fin 256) :
    (iblk m c 1 t : Vec Ideal S512x256 .bf16) (ix2 r k) = (m ((c : Thread nD τ).loc main_arg1) : Vec Ideal S65536x256 .bf16) (ix2 q k) := by
  unfold iblk
  rw [View.read_apply]
  show V m c main_arg1 _ = _
  rw [V_main_arg1]
  exact congrArg (m ((c : Thread nD τ).loc main_arg1) : Vec Ideal S65536x256 .bf16)
    (emb_eq (((cfg0.win 1).blk t).view.emb (ix2 r k)) _ _ t.val r k q rfl rfl (idx1 t) hq)

theorem blk2 (k : Fin 256) :
    (iblk m c 2 t : Vec Ideal S512x256 .bf16) (ix2 r k) = (m ((c : Thread nD τ).loc main_arg2) : Vec Ideal S65536x256 .bf16) (ix2 q k) := by
  unfold iblk
  rw [View.read_apply]
  show V m c main_arg2 _ = _
  rw [V_main_arg2]
  exact congrArg (m ((c : Thread nD τ).loc main_arg2) : Vec Ideal S65536x256 .bf16)
    (emb_eq (((cfg0.win 2).blk t).view.emb (ix2 r k)) _ _ t.val r k q rfl rfl (idx2 t) hq)

theorem blk3 (k : Fin 512) :
    (iblk m c 3 t : Vec Ideal S512x512 .bf16) (ix2 r k) = (m ((c : Thread nD τ).loc main_arg3) : Vec Ideal S65536x512 .bf16) (ix2 q k) := by
  unfold iblk
  rw [View.read_apply]
  show V m c main_arg3 _ = _
  rw [V_main_arg3]
  exact congrArg (m ((c : Thread nD τ).loc main_arg3) : Vec Ideal S65536x512 .bf16)
    (emb_eq (((cfg0.win 3).blk t).view.emb (ix2 r k)) _ _ t.val r k q rfl rfl (idx3 t) hq)

end Blocks

theorem blk4 (t : Fin cfg0.N) (k d : Fin 1024) :
    (iblk m c 4 t : Vec Ideal S1024x1024 .bf16) (ix2 k d) = (m ((c : Thread nD τ).loc main_arg4) : Vec Ideal S1024x1024 .f32) (ix2 k d) := by
  unfold iblk
  rw [View.read_apply]
  show V m c main_v0 _ = _
  refine (congrFun (V_v0 m c) _).trans ?_
  congr 1
  funext a
  apply Fin.ext
  match a with
  | ⟨0, _⟩ =>
    show win0_4.index t (0 : Fin 2) * 1024 + 1 * k.val = k.val
    rw [(idx4 t).1]; omega
  | ⟨1, _⟩ =>
    show win0_4.index t (1 : Fin 2) * 1024 + 1 * d.val = d.val
    rw [(idx4 t).2]; omega

/-- The kernel's output array at a row and a feature. -/
theorem arr_apply (q : Fin 65536) (d : Fin 1024) :
    ((dats m 0 c).arrAt 5 cfg0.N : Vec Ideal S65536x1024 .f32) (ix2 q d)
      = mix ((m ((c : Thread nD τ).loc main_arg0) : Vec Ideal S65536x1024 .f32) (ix2 q d))
          (fun k => (m ((c : Thread nD τ).loc main_arg1) : Vec Ideal S65536x256 .bf16) (ix2 q k))
          (fun k => (m ((c : Thread nD τ).loc main_arg2) : Vec Ideal S65536x256 .bf16) (ix2 q k))
          (fun k => (m ((c : Thread nD τ).loc main_arg3) : Vec Ideal S65536x512 .bf16) (ix2 q k))
          (fun k => (m ((c : Thread nD τ).loc main_arg4) : Vec Ideal S1024x1024 .f32) (ix2 k d)) := by
  have hq := q.isLt
  let t : Fin cfg0.N := ⟨q.val / 512, lt_of_lt_of_eq (show q.val / 512 < 128 by omega) N_0.symm⟩
  let r : Fin 512 := ⟨q.val % 512, Nat.mod_lt _ (by decide)⟩
  have hqr : q.val = t.val * 512 + r.val := by show q.val = q.val / 512 * 512 + q.val % 512; omega
  have h := congrFun (Value.blocks5 m c t (flush5 t)) (ix2 r d)
  rw [View.read_apply, Value.flushed5] at h
  refine (congrArg ((dats m 0 c).arrAt 5 cfg0.N : Vec Ideal S65536x1024 .f32)
    (emb_eq (((cfg0.win 5).blk t).view.emb (ix2 r d)) _ _ t.val r d q rfl rfl (idx5 t) hqr)).symm.trans (h.trans ?_)
  refine (out_apply _ _ _ _ _ r d).trans ?_
  refine (congrArg (fun A => mix A _ _ _ _) (blk0 m c t r q hqr d)).trans ?_
  refine (congrArg (fun A => mix _ A _ _ _) (funext fun k => blk1 m c t r q hqr k)).trans ?_
  refine (congrArg (fun A => mix _ _ A _ _) (funext fun k => blk2 m c t r q hqr k)).trans ?_
  refine (congrArg (fun A => mix _ _ _ A _) (funext fun k => blk3 m c t r q hqr k)).trans ?_
  exact congrArg (fun A => mix _ _ _ _ A) (funext fun k => blk4 m c t k d)

/-! ## The reference -/

section Reference

open Cert.Reference4Ideal.Read

variable (x0 : Vec Ideal S65536x1024 .f32) (x1 x2 : Vec Ideal S65536x256 .bf16) (x3 : Vec Ideal S65536x512 .bf16) (x4 : Vec Ideal S1024x1024 .f32)

/-- The three mixers' outputs. -/
def parts : List ((s : Shape) × Vec Ideal s .bf16) := [⟨S65536x256, x1⟩, ⟨S65536x256, x2⟩, ⟨S65536x512, x3⟩]

theorem cat0 (q : Fin 65536) (n : Fin 1024) (k : Fin 256) (hn : n.val = k.val) : val_main_v0 (F := Ideal) x1 x2 x3 (ix2 q n) = x1 (ix2 q k) :=
  concatenate_apply_piece (t := S65536x1024) 1 (parts x1 x2 x3) Cert.Reference4Ideal.Facts₀.concatenates_S65536x256_S65536x256_S65536x512_S65536x1024_d1 (ix2 q n) 0 (show 0 < 3 by decide)
    S65536x256 _ rfl rfl 0 rfl (ix2 q k) (fun b hb => match b with | ⟨0, _⟩ => rfl | ⟨1, _⟩ => absurd rfl hb) ((Nat.zero_add _).trans hn.symm)

theorem cat1 (q : Fin 65536) (n : Fin 1024) (k : Fin 256) (hn : n.val = 256 + k.val) : val_main_v0 (F := Ideal) x1 x2 x3 (ix2 q n) = x2 (ix2 q k) :=
  concatenate_apply_piece (t := S65536x1024) 1 (parts x1 x2 x3) Cert.Reference4Ideal.Facts₀.concatenates_S65536x256_S65536x256_S65536x512_S65536x1024_d1 (ix2 q n) 1 (show 1 < 3 by decide)
    S65536x256 _ rfl rfl 256 rfl (ix2 q k) (fun b hb => match b with | ⟨0, _⟩ => rfl | ⟨1, _⟩ => absurd rfl hb) hn.symm

theorem cat2 (q : Fin 65536) (n : Fin 1024) (k : Fin 512) (hn : n.val = 512 + k.val) : val_main_v0 (F := Ideal) x1 x2 x3 (ix2 q n) = x3 (ix2 q k) :=
  concatenate_apply_piece (t := S65536x1024) 1 (parts x1 x2 x3) Cert.Reference4Ideal.Facts₀.concatenates_S65536x256_S65536x256_S65536x512_S65536x1024_d1 (ix2 q n) 2 (show 2 < 3 by decide)
    S65536x512 _ rfl rfl 512 rfl (ix2 q k) (fun b hb => match b with | ⟨0, _⟩ => rfl | ⟨1, _⟩ => absurd rfl hb) hn.symm

theorem ref_apply (q : Fin 65536) (d : Fin 1024) : val_main_v3 (F := Ideal) x0 x1 x2 x3 x4 (ix2 q d)
    = mix (x0 (ix2 q d)) (fun k => x1 (ix2 q k)) (fun k => x2 (ix2 q k)) (fun k => x3 (ix2 q k)) (fun k => x4 (ix2 k d)) := by
  have hterm : ∀ k : Fin 1024, val_main_v1 (F := Ideal) x1 x2 x3 (lidx_main_v2 (ix2 q d) k) * x4 (ridx_main_v2 (ix2 q d) k)
      = val_main_v0 (F := Ideal) x1 x2 x3 (ix2 q k) * x4 (ix2 k d) := fun k => by
    rw [two2 (lidx_main_v2 (ix2 q d) k) q k rfl rfl, two2 (ridx_main_v2 (ix2 q d) k) k d rfl rfl]
    rfl
  rw [val_main_v3_apply, val_main_v2_apply, Finset.sum_congr rfl fun k _ => hterm k, sum3]
  unfold mix
  refine congrArg (fun z : EReal => x0 (ix2 q d) + z) ?_
  congr 1
  · congr 1
    · exact Finset.sum_congr rfl fun k _ => by rw [cat0 x1 x2 x3 q _ k rfl]
    · exact Finset.sum_congr rfl fun k _ => by rw [cat1 x1 x2 x3 q _ k rfl]
  · exact Finset.sum_congr rfl fun k _ => by rw [cat2 x1 x2 x3 q _ k rfl]

end Reference

/-- The kernel's output array is the reference's result. -/
theorem out_eq : ((dats m 0 c).arrAt 5 cfg0.N : Vec Ideal S65536x1024 .f32)
    = Cert.Reference4Ideal.Read.val_main_v3 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) :=
  ext2 fun q d => (arr_apply m c q d).trans (ref_apply _ _ _ _ _ q d).symm

end Cert.OutProj
-- ==== Proof.Attn.lean ====
/-
  Attention of one query row over the memory, in four heads of 128 features: the scores, their softmax, the weighted values, and
  the projection of the four heads side by side.
-/
module

public import proofs.«01_k».proof.Proof.Proj

@[expose] public section

noncomputable section

open scoped BigOperators

namespace Cert.Attn

open Idealize.ShloMosaic

/-- The number 128, whose root the scores are divided by. -/
theorem ofBits_128 : Ideal.ofBits .f32 0x43000000#32 = ((128 : ℝ) : EReal) := by
  simp [Ideal.ofBits, Ideal.ieee, -EReal.coe_mul]; norm_num

/-- The scaled score of the query `Q` against the key `k`. -/
def score (Q : Fin 128 → EReal) (K : Fin 256 → Fin 128 → EReal) (k : Fin 256) : EReal :=
  (∑ d, Q d * K k d) * (((Real.sqrt 128)⁻¹ : ℝ) : EReal)

/-- The largest score. -/
def top (S : Fin 256 → EReal) : EReal := (Finset.univ : Finset (Fin 256)).fold max ⊥ S

/-- The exponential of a score less the largest. -/
def ex (S : Fin 256 → EReal) (k : Fin 256) : EReal := Ideal.exp (S k - top S)

/-- The softmax of the scores. -/
def soft (S : Fin 256 → EReal) (k : Fin 256) : EReal := Ideal.div (ex S k) (∑ j, ex S j)

/-- One head's output at feature `d`. -/
def head (Q : Fin 128 → EReal) (K V : Fin 256 → Fin 128 → EReal) (d : Fin 128) : EReal := ∑ k, soft (score Q K) k * V k d

/-- Feature `d` of head `h` among the 512 features. -/
def feat (h : Fin 4) (d : Fin 128) : Fin 512 := ⟨h.val * 128 + d.val, by omega⟩

/-- The heads' outputs side by side. -/
def heads (Q : Fin 512 → EReal) (K V : Fin 256 → Fin 512 → EReal) (h : Fin 4) (d : Fin 128) : EReal :=
  head (fun e => Q (feat h e)) (fun k e => K k (feat h e)) (fun k e => V k (feat h e)) d

/-- The residual `x` and the heads' outputs against the column `w`. -/
def attn (x : EReal) (Q : Fin 512 → EReal) (K V : Fin 256 → Fin 512 → EReal) (w : Fin 512 → EReal) : EReal :=
  x + ∑ n : Fin 512, heads Q K V ⟨n.val / 128, by omega⟩ ⟨n.val % 128, Nat.mod_lt _ (by decide)⟩ * w n

end Cert.Attn
-- ==== Proof.MemAttnRef.lean ====
/-
  The memory attention of the reference, read at a batch, a row and a feature.
-/
module

public import proofs.«01_k».proof.Proof.Attn
public import proofs.«01_k».proof.Proof.RefPick
public import proofs.«01_k».proof.Proof.Gen.Reference5Ideal.Read

@[expose] public section

noncomputable section

open scoped BigOperators

namespace Cert.MemAttn

open Idealize.ShloMosaic Idealize.ShloMosaic.TcCoe Idealize.SL.Sem Idealize.ShloMosaic.StableHlo
open Cert.Reference5Ideal Cert.Reference5Ideal.Gen Cert.Reference5Ideal.Read Cert.Moe Cert.Proj Cert.Attn Cert.ReferenceIdeal.Route

theorem four4 {n0 n1 n2 n3 : Nat} (f : (⟨4, ![n0, n1, n2, n3]⟩ : Shape).Idx) (a : Fin n0) (b : Fin n1) (c : Fin n2) (e : Fin n3)
    (h0 : f 0 = a) (h1 : f 1 = b) (h2 : f 2 = c) (h3 : f 3 = e) : f = ix4 a b c e :=
  funext fun i => match i with | ⟨0, _⟩ => h0 | ⟨1, _⟩ => h1 | ⟨2, _⟩ => h2 | ⟨3, _⟩ => h3

variable (x0 : Vec Ideal S16x4096x1024 .f32) (x1 : Vec Ideal S1024 .f32) (x2 x3 : Vec Ideal S16x256x512 .f32)
  (x4 : Vec Ideal S1024x512 .f32) (x5 : Vec Ideal S512x1024 .f32)

theorem ref_norm (b : Fin 16) (s : Fin 4096) (d : Fin 1024) :
    val_main_v12 (F := Ideal) x0 x1 (ix3 b s d) = nrm (fun k => x0 (ix3 b s k)) (fun k => x1 (ix1 k)) d := by
  have h1 : val_main_v1 (F := Ideal) x0 (ix2 b s) = ∑ k, x0 (ix3 b s k) * x0 (ix3 b s k) := by
    rw [val_main_v1_apply, val_main_cst_apply, zero_init, zero_add]
    refine Finset.sum_congr rfl fun k _ => ?_
    rw [three3 (idx_main_v1 (ix2 b s) k) b s k rfl rfl rfl]
    rfl
  rw [val_main_v12_apply, val_main_v9_apply, val_main_v8_apply, val_main_v7_apply, val_main_v6_apply, val_main_v4_apply,
    val_main_v2_apply, two2 (idx_main_v2 (idx_main_v8 (ix3 b s d))) b s rfl rfl, h1, val_main_v3_apply, val_main_v5_apply,
    val_main_v11_apply, val_main_v10_apply, one1 (idx_main_v10 (idx_main_v11 (ix3 b s d))) d rfl]
  rfl

/-- The query row of batch `b` and row `s`. -/
def qrow (b : Fin 16) (s : Fin 4096) (n : Fin 512) : EReal :=
  proj (fun k => x0 (ix3 b s k)) (fun k => x1 (ix1 k)) (fun k => x4 (ix2 k n))

theorem ref_q (b : Fin 16) (s : Fin 4096) (h : Fin 4) (d : Fin 128) :
    val_main_v16 (F := Ideal) x0 x1 x4 (ix4 b s h d) = qrow x0 x1 x4 b s (feat h d) := by
  have hb := b.isLt
  have hs := s.isLt
  have hh := h.isLt
  have hd := d.isLt
  rw [val_main_v16_apply, three3 (idx_main_v16 (ix4 b s h d)) b s (feat h d)
    (Fin.ext (by show (((b.val * 4096 + s.val) * 4 + h.val) * 128 + d.val) / 2097152 = b.val; omega))
    (Fin.ext (by show (((b.val * 4096 + s.val) * 4 + h.val) * 128 + d.val) / 512 % 4096 = s.val; omega))
    (Fin.ext (by show (((b.val * 4096 + s.val) * 4 + h.val) * 128 + d.val) % 512 = h.val * 128 + d.val; omega)), val_main_v15_apply]
  unfold qrow proj
  refine Finset.sum_congr rfl fun k _ => ?_
  rw [three3 (lidx_main_v15 (ix3 b s (feat h d)) k) b s k rfl rfl rfl, two2 (ridx_main_v15 (ix3 b s (feat h d)) k) k (feat h d) rfl rfl, ref_norm]

theorem ref_k (b : Fin 16) (k : Fin 256) (h : Fin 4) (d : Fin 128) : val_main_v13 (F := Ideal) x2 (ix4 b k h d) = x2 (ix3 b k (feat h d)) := by
  have hb := b.isLt
  have hk := k.isLt
  have hh := h.isLt
  have hd := d.isLt
  rw [val_main_v13_apply, three3 (idx_main_v13 (ix4 b k h d)) b k (feat h d)
    (Fin.ext (by show (((b.val * 256 + k.val) * 4 + h.val) * 128 + d.val) / 131072 = b.val; omega))
    (Fin.ext (by show (((b.val * 256 + k.val) * 4 + h.val) * 128 + d.val) / 512 % 256 = k.val; omega))
    (Fin.ext (by show (((b.val * 256 + k.val) * 4 + h.val) * 128 + d.val) % 512 = h.val * 128 + d.val; omega))]

theorem ref_v (b : Fin 16) (k : Fin 256) (h : Fin 4) (d : Fin 128) : val_main_v14 (F := Ideal) x3 (ix4 b k h d) = x3 (ix3 b k (feat h d)) :=
  ref_k x3 b k h d

/-- The scores of head `h` of a row. -/
def scores (b : Fin 16) (h : Fin 4) (s : Fin 4096) : Fin 256 → EReal :=
  score (fun e => qrow x0 x1 x4 b s (feat h e)) (fun k e => x2 (ix3 b k (feat h e)))

theorem ref_score (b : Fin 16) (h : Fin 4) (s : Fin 4096) (k : Fin 256) :
    val_main_v20 (F := Ideal) x0 x1 x2 x4 (ix4 b h s k) = scores x0 x1 x2 x4 b h s k := by
  have h17 : val_main_v17 (F := Ideal) x0 x1 x2 x4 (ix4 b h s k) = ∑ d, qrow x0 x1 x4 b s (feat h d) * x2 (ix3 b k (feat h d)) := by
    rw [val_main_v17_apply]
    refine Finset.sum_congr rfl fun d _ => ?_
    rw [four4 (lidx_main_v17 (ix4 b h s k) d) b s h d rfl rfl rfl rfl, four4 (ridx_main_v17 (ix4 b h s k) d) b k h d rfl rfl rfl rfl, ref_q, ref_k]
  rw [val_main_v20_apply, h17, val_main_v19_apply, val_main_v18_apply, val_main_cst_2_apply]
  show Ideal.div _ (Ideal.sqrt (Ideal.ofBits .f32 0x43000000#32)) = _
  rw [ofBits_128, Ideal.sqrt_coe, if_neg (by norm_num : ¬(128 : ℝ) < 0),
    Ideal.div_coe (Real.sqrt_pos.mpr (by norm_num : (0 : ℝ) < 128)).ne', one_div]
  rfl

theorem redu : S16x4x4096x256.Reduces [3] S16x4x4096 := by decide

theorem maxred (v : FVec Ideal S16x4x4096x256 .f32) (b : Fin 16) (h : Fin 4) (s : Fin 4096) :
    Host.reduce FloatOps.maximumf v (constant S_ .f32 0xFF800000#32) Cert.Reference5Ideal.Facts₀.reducesTo_S16x4x4096x256_S16x4x4096_d3
      Cert.Reference5Ideal.Facts₀.h_S_ (ix3 b h s) = top fun k => v (ix4 b h s k) := by
  rw [hostReduce_maximumf_eq_multiReduction v 0xFF800000#32 Cert.Reference5Ideal.Facts₀.reducesTo_S16x4x4096x256_S16x4x4096_d3
    Cert.Reference5Ideal.Facts₀.h_S_ redu (.inl rfl) rfl]
  refine (Ideal.multiReduction_maximumf_single _ _ _ _ _ _).trans ?_
  show Finset.fold max (Ideal.ofBits .f32 0xFF800000#32) _ _ = _
  rw [ofBits_bot_f32]
  refine Finset.fold_congr fun k _ => ?_
  exact congrArg v (four4 _ _ _ _ _ rfl rfl rfl rfl)

theorem ref_max (b : Fin 16) (h : Fin 4) (s : Fin 4096) :
    val_main_v21 (F := Ideal) x0 x1 x2 x4 (ix3 b h s) = top (scores x0 x1 x2 x4 b h s) := by
  unfold val_main_v21 val_main_cst_3
  rw [maxred]
  exact congrArg top (funext fun k => ref_score x0 x1 x2 x4 b h s k)

theorem ref_top (b : Fin 16) (h : Fin 4) (s : Fin 4096) :
    val_main_v23 (F := Ideal) x0 x1 x2 x4 (ix3 b h s) = top (scores x0 x1 x2 x4 b h s) := by
  rw [val_main_v23_apply, ref_max, val_main_v22_apply]
  show max (Ideal.ofBits .f32 0xFF800000#32) _ = _
  rw [ofBits_bot_f32]
  exact max_eq_right bot_le

theorem ref_ex (b : Fin 16) (h : Fin 4) (s : Fin 4096) (k : Fin 256) :
    val_main_v27 (F := Ideal) x0 x1 x2 x4 (ix4 b h s k) = ex (scores x0 x1 x2 x4 b h s) k := by
  rw [val_main_v27_apply, val_main_v26_apply, ref_score, val_main_v25_apply, val_main_v24_apply,
    three3 (idx_main_v24 (idx_main_v25 (ix4 b h s k))) b h s rfl rfl rfl, ref_top]
  rfl

theorem ref_soft (b : Fin 16) (h : Fin 4) (s : Fin 4096) (k : Fin 256) :
    val_main_v31 (F := Ideal) x0 x1 x2 x4 (ix4 b h s k) = soft (scores x0 x1 x2 x4 b h s) k := by
  have h27 : val_main_v28 (F := Ideal) x0 x1 x2 x4 (ix3 b h s) = ∑ j, ex (scores x0 x1 x2 x4 b h s) j := by
    rw [val_main_v28_apply, val_main_cst_5_apply, zero_init, zero_add]
    refine Finset.sum_congr rfl fun j _ => ?_
    rw [four4 (idx_main_v28 (ix3 b h s) j) b h s j rfl rfl rfl rfl, ref_ex]
  rw [val_main_v31_apply, ref_ex, val_main_v30_apply, val_main_v29_apply, three3 (idx_main_v29 (idx_main_v30 (ix4 b h s k))) b h s rfl rfl rfl, h27]
  rfl

theorem ref_head (b : Fin 16) (h : Fin 4) (d : Fin 128) (s : Fin 4096) :
    val_main_v32 (F := Ideal) x0 x1 x2 x3 x4 (ix4 b h d s)
      = heads (qrow x0 x1 x4 b s) (fun k n => x2 (ix3 b k n)) (fun k n => x3 (ix3 b k n)) h d := by
  rw [val_main_v32_apply]
  unfold heads head
  refine Finset.sum_congr rfl fun k _ => ?_
  rw [four4 (lidx_main_v32 (ix4 b h d s) k) b k h d rfl rfl rfl rfl, four4 (ridx_main_v32 (ix4 b h d s) k) b h s k rfl rfl rfl rfl,
    ref_v, ref_soft, mul_comm]
  rfl

theorem ref_heads (b : Fin 16) (s : Fin 4096) (n : Fin 512) :
    val_main_v34 (F := Ideal) x0 x1 x2 x3 x4 (ix3 b s n)
      = heads (qrow x0 x1 x4 b s) (fun k n => x2 (ix3 b k n)) (fun k n => x3 (ix3 b k n)) ⟨n.val / 128, by omega⟩
          ⟨n.val % 128, Nat.mod_lt _ (by decide)⟩ := by
  have hb := b.isLt
  have hs := s.isLt
  have hn := n.isLt
  rw [val_main_v34_apply, four4 (idx_main_v34 (ix3 b s n)) b s ⟨n.val / 128, by omega⟩ ⟨n.val % 128, Nat.mod_lt _ (by decide)⟩
    (Fin.ext (by show ((b.val * 4096 + s.val) * 512 + n.val) / 2097152 = b.val; omega))
    (Fin.ext (by show ((b.val * 4096 + s.val) * 512 + n.val) / 512 % 4096 = s.val; omega))
    (Fin.ext (by show ((b.val * 4096 + s.val) * 512 + n.val) / 128 % 4 = n.val / 128; omega))
    (Fin.ext (by show ((b.val * 4096 + s.val) * 512 + n.val) % 128 = n.val % 128; omega)), val_main_v33_apply]
  exact (congrArg (val_main_v32 (F := Ideal) x0 x1 x2 x3 x4) (four4 _ b _ _ s rfl rfl rfl rfl)).trans (ref_head x0 x1 x2 x3 x4 b _ _ s)

/-- The reference's result at a batch, a row and a feature. -/
theorem ref_apply (b : Fin 16) (s : Fin 4096) (d : Fin 1024) :
    val_main_v36 (F := Ideal) x0 x1 x2 x3 x4 x5 (ix3 b s d)
      = attn (x0 (ix3 b s d)) (qrow x0 x1 x4 b s) (fun k n => x2 (ix3 b k n)) (fun k n => x3 (ix3 b k n)) (fun n => x5 (ix2 n d)) := by
  rw [val_main_v36_apply, val_main_v35_apply]
  refine congrArg (fun z : EReal => x0 (ix3 b s d) + z) (Finset.sum_congr rfl fun n _ => ?_)
  rw [three3 (lidx_main_v35 (ix3 b s d) n) b s n rfl rfl rfl, two2 (ridx_main_v35 (ix3 b s d) n) n d rfl rfl, ref_heads]

end Cert.MemAttn
-- ==== Proof.MemAttnBlock.lean ====
/-
  The memory attention of one block of 512 rows, read at a row and a feature. The kernel computes its four heads one after
  another, each by the same operations.
-/
module

public import proofs.«01_k».proof.Proof.Attn
public import proofs.«01_k».proof.Proof.Gen.Kernel5Ideal.Value

@[expose] public section

noncomputable section

open scoped BigOperators

namespace Cert.MemAttn

open Idealize.ShloMosaic Idealize.ShloMosaic.TcCoe Idealize.SL.Sem
open Cert.Kernel5Ideal Cert.Kernel5Ideal.Gen Cert.Moe Cert.Proj Cert.Attn
open Cert.KernelIdeal.Blocks (hz2 hz3)
open Cert.KernelIdeal.KPoint (mmPlain same2)
open Cert.KernelIdeal.KRow (ccol)

/-! ## Rows of 256 scores -/

theorem bcol {α : Type} (x : S512x1.Idx → α) (r : Fin 512) (n : Fin 256) :
    broadcastTo S512x256 x broadcasts_S512x1_S512x256 (ix2 r n) = x (ix2 r 0) :=
  broadcastTo_apply x _ _ _ fun a => match a with | ⟨0, _⟩ => rfl | ⟨1, _⟩ => rfl

theorem maxrow (v : FVec Ideal S512x256 .f32) (r : Fin 512) :
    multiReduction .maximumf [1] S512 v 0xFF800000#32 reduces_S512x256_S512 (.inl rfl) rfl (ix1 r) = top fun k => v (ix2 r k) := by
  refine (Ideal.multiReduction_maximumf_single _ _ _ _ _ _).trans ?_
  show Finset.fold max (Ideal.ofBits .f32 0xFF800000#32) _ _ = _
  rw [ofBits_bot_f32]
  refine Finset.fold_congr fun k _ => ?_
  exact congrArg v (funext fun a => match a with | ⟨0, _⟩ => rfl | ⟨1, _⟩ => rfl)

theorem addrow (v : FVec Ideal S512x256 .f32) (r : Fin 512) :
    multiReduction .add [1] S512 v 0x00000000#32 reduces_S512x256_S512 (.inl rfl) rfl (ix1 r) = ∑ k : Fin 256, v (ix2 r k) := by
  refine (Ideal.multiReduction_add_single _ _ _ _ _ _).trans ?_
  refine Finset.sum_congr rfl fun k _ => ?_
  exact congrArg v (funext fun a => match a with | ⟨0, _⟩ => rfl | ⟨1, _⟩ => rfl)

theorem mmT {M K N : ℕ} (d : DotDims ⟨2, ![M, K]⟩ ⟨2, ![N, K]⟩ ⟨2, ![M, N]⟩) (hd : d = DotDims.transposedRhs M K N)
    {φ₁ φ₂ : FTy} (lhs : FVec Ideal ⟨2, ![M, K]⟩ φ₁) (rhs : FVec Ideal ⟨2, ![N, K]⟩ φ₂) (r : Fin M) (c : Fin N) :
    matmul d none lhs rhs (constant ⟨2, ![M, N]⟩ .f32 0x00000000#32) (ix2 r c)
      = ∑ k : Fin K, lhs (ix2 r k) * rhs (ix2 c k) := by
  subst hd
  have h := Ideal.matmul_transposedRhs_apply (φ₁ := φ₁) (φ₂ := φ₂) none lhs rhs (constant ⟨2, ![M, N]⟩ .f32 0x00000000#32) r c
  simp only [same2] at h
  refine h.trans ?_
  show Ideal.ofBits .f32 0x00000000#32 + _ = _
  rw [Ideal.ofBits_zero_f32, zero_add]

theorem drop256 {α : Type} (x : S1x256x128.Idx → α) (k : Fin 256) (d : Fin 128) :
    shapeCast S256x128 x shapeCasts_S1x256x128_S256x128 (ix2 k d) = x (ix3 0 k d) :=
  shapeCast_apply x _ _ _ (by
    rw [rowMajor_val3 _ (256 * 128) 128 rfl rfl, rowMajor_val2 _ 128 rfl]
    show 0 * (256 * 128) + k.val * 128 + d.val = k.val * 128 + d.val
    omega)

theorem drop512 {α : Type} (x : S1x512x1024.Idx → α) (r : Fin 512) (d : Fin 1024) :
    shapeCast S512x1024 x shapeCasts_S1x512x1024_S512x1024 (ix2 r d) = x (ix3 0 r d) :=
  shapeCast_apply x _ _ _ (by
    rw [rowMajor_val3 _ (512 * 1024) 1024 rfl rfl, rowMajor_val2 _ 1024 rfl]
    show 0 * (512 * 1024) + r.val * 1024 + d.val = r.val * 1024 + d.val
    omega)

theorem add512 {α : Type} (x : S512x1024.Idx → α) (r : Fin 512) (d : Fin 1024) :
    shapeCast S1x512x1024 x shapeCasts_S512x1024_S1x512x1024 (ix3 0 r d) = x (ix2 r d) :=
  shapeCast_apply x _ _ _ (by
    rw [rowMajor_val3 _ (512 * 1024) 1024 rfl rfl, rowMajor_val2 _ 1024 rfl]
    show r.val * 1024 + d.val = 0 * (512 * 1024) + r.val * 1024 + d.val
    omega)

/-! ## One head -/

/-- The named scale is one over the root of 128. -/
theorem scale : Named.named (F := Ideal) κ "scale" (φ := .f32) 0x3DB504F3#32 = (((Real.sqrt 128)⁻¹ : ℝ) : EReal) :=
  IdealRules.named_const.ideal_named_scalar _ _ _ _ rfl

/-- The scaled scores of a block of queries against a head's keys. -/
def logits (q : FVec Ideal S512x128 .bf16) (K : Vec Ideal S1x256x128 .f32) : FVec Ideal S512x256 .f32 :=
  mulf (matmul dot_S512x128_S256x128_S512x256_1_1_0_0_n_n none q (truncf .bf16 (shapeCast S256x128 K shapeCasts_S1x256x128_S256x128) bitsLt_bf16_f32)
    (constant S512x256 .f32 0x00000000#32)) (broadcast S512x256 (Named.named (F := Ideal) κ "scale" (φ := .f32) 0x3DB504F3#32))

/-- The exponentials of the scores less each row's largest. -/
def expo (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- The softmax of each row. -/
def probs (s : FVec Ideal S512x256 .f32) : FVec Ideal S512x256 .bf16 :=
  truncf .bf16 (divf (expo s) (broadcastTo S512x256 (shapeCast S512x1 (multiReduction .add [1] S512 (expo s) 0x00000000#32 reduces_S512x256_S512 (.inl rfl) rfl)
    shapeCasts_S512_S512x1) broadcasts_S512x1_S512x256)) bitsLt_bf16_f32

/-- One head's output. -/
def bhead (q : FVec Ideal S512x128 .bf16) (K V : Vec Ideal S1x256x128 .f32) : FVec Ideal S512x128 .bf16 :=
  truncf .bf16 (matmul dot_S512x256_S256x128_S512x128_1_0_0_1_n_n none (probs (logits q K))
    (truncf .bf16 (shapeCast S256x128 V shapeCasts_S1x256x128_S256x128) bitsLt_bf16_f32) (constant S512x128 .f32 0x00000000#32)) bitsLt_bf16_f32

theorem logits_apply (q : FVec Ideal S512x128 .bf16) (K : Vec Ideal S1x256x128 .f32) (r : Fin 512) (k : Fin 256) :
    logits q K (ix2 r k) = score (fun d => q (ix2 r d)) (fun k d => K (ix3 0 k d)) k := by
  unfold score
  rw [← scale]
  refine congrArg (fun z : EReal => z * Named.named (F := Ideal) κ "scale" (φ := .f32) 0x3DB504F3#32) ?_
  refine (mmT dot_S512x128_S256x128_S512x256_1_1_0_0_n_n rfl _ _ r k).trans ?_
  exact Finset.sum_congr rfl fun d _ => congrArg (fun z : EReal => q (ix2 r d) * z) (drop256 K k d)

theorem expo_apply (s : FVec Ideal S512x256 .f32) (r : Fin 512) (k : Fin 256) : expo s (ix2 r k) = ex (fun j => s (ix2 r j)) k := by
  unfold ex
  refine congrArg (fun z : EReal => Ideal.exp (s (ix2 r k) - z)) ?_
  exact (bcol _ r k).trans ((ccol _ r).trans (maxrow s r))

theorem probs_apply (s : FVec Ideal S512x256 .f32) (r : Fin 512) (k : Fin 256) : probs s (ix2 r k) = soft (fun j => s (ix2 r j)) k := by
  have h : broadcastTo S512x256 (shapeCast S512x1 (multiReduction .add [1] S512 (expo s) 0x00000000#32 reduces_S512x256_S512 (.inl rfl) rfl)
      shapeCasts_S512_S512x1) broadcasts_S512x1_S512x256 (ix2 r k) = ∑ j, ex (fun j => s (ix2 r j)) j :=
    (bcol _ r k).trans ((ccol _ r).trans ((addrow (expo s) r).trans (Finset.sum_congr rfl fun j _ => expo_apply s r j)))
  exact congrArg₂ Ideal.div (expo_apply s r k) h

theorem bhead_apply (q : FVec Ideal S512x128 .bf16) (K V : Vec Ideal S1x256x128 .f32) (r : Fin 512) (d : Fin 128) :
    bhead q K V (ix2 r d) = head (fun d => q (ix2 r d)) (fun k d => K (ix3 0 k d)) (fun k d => V (ix3 0 k d)) d := by
  refine (mmPlain dot_S512x256_S256x128_S512x128_1_0_0_1_n_n rfl _ _ r d).trans ?_
  unfold head
  refine Finset.sum_congr rfl fun k _ => ?_
  refine congrArg₂ (fun y z : EReal => y * z) ?_ (drop256 V k d)
  refine (probs_apply _ r k).trans ?_
  exact congrArg (fun S => soft S k) (funext fun j => logits_apply q K r j)

/-! ## The block -/

theorem pay2_apply (x0 : Vec Ideal S1x512x1024 .f32) (x1 : Vec Ideal S1x1024 .f32) (x2 : Vec Ideal S1024x512 .bf16) (r j : Fin 512) :
    k0_pay2 x0 x1 x2 (ix2 r j) = proj (fun k => x0 (ix3 0 r k)) (fun k => x1 (ix2 0 k)) (fun k => x2 (ix2 k j)) := by
  have h : k0_pay2 x0 x1 x2 = matmul (F := Ideal) (φ₂ := .bf16) dot_S512x1024_S1024x512_S512x512_1_0_0_1_n_n none
      (Cert.KernelIdeal.Gen.k0_pay3 (F := Ideal) (k0_pay1 x0) x1 : FVec Ideal S512x1024 .bf16) x2 (constant (F := Ideal) S512x512 .f32 0x00000000#32) := by
    unfold k0_pay2 Cert.KernelIdeal.Gen.k0_pay3 Cert.KernelIdeal.Gen.k0_pay2
    simp only [shapeCast_self]
    rfl
  rw [h]
  refine (mmPlain (φ₁ := .bf16) (φ₂ := .bf16) dot_S512x1024_S1024x512_S512x512_1_0_0_1_n_n rfl _ _ r j).trans ?_
  unfold proj
  refine Finset.sum_congr rfl fun k _ => congrArg (fun z : EReal => z * x2 (ix2 k j)) ?_
  refine (Cert.KernelIdeal.KPoint.pay3_apply (k0_pay1 x0) x1 r k).trans ?_
  exact congrArg (fun A => nrm A (fun k => x1 (ix2 0 k)) k) (funext fun k => drop512 x0 r k)

variable (x0 : Vec Ideal S1x512x1024 .f32) (x1 : Vec Ideal S1x1024 .f32) (x2 : Vec Ideal S1024x512 .bf16)
  (x3 x4 : Vec Ideal S1x256x512 .f32) (x5 : Vec Ideal S512x1024 .bf16)

/-- The queries of a block. -/
def qs : FVec Ideal S512x512 .bf16 := k0_pay2 x0 x1 x2

/-- The four heads of a block. -/
def parts : List ((s : Shape) × Vec Ideal s .bf16) :=
  [⟨S512x128, bhead (extractStridedSlice S512x128 ![0, 0] (qs x0 x1 x2) slices_S512x512_o0_0_S512x128) (View.ld x3 r0_3) (View.ld x4 r0_3)⟩,
   ⟨S512x128, bhead (extractStridedSlice S512x128 ![0, 128] (qs x0 x1 x2) slices_S512x512_o0_128_S512x128) (View.ld x3 r0_4) (View.ld x4 r0_4)⟩,
   ⟨S512x128, bhead (extractStridedSlice S512x128 ![0, 256] (qs x0 x1 x2) slices_S512x512_o0_256_S512x128) (View.ld x3 r0_5) (View.ld x4 r0_5)⟩,
   ⟨S512x128, bhead (extractStridedSlice S512x128 ![0, 384] (qs x0 x1 x2) slices_S512x512_o0_384_S512x128) (View.ld x3 r0_6) (View.ld x4 r0_6)⟩]

/-- The four heads side by side. -/
def cat : FVec Ideal S512x512 .bf16 :=
  concatenate S512x512 1 (parts x0 x1 x2 x3 x4) concatenates_S512x128_S512x128_S512x128_S512x128_S512x512_d1

theorem out_form : out0_6 x0 x1 x2 x3 x4 x5 = shapeCast S1x512x1024 (addf (k0_pay1 x0) (matmul (F := Ideal) (φ₂ := .bf16) dot_S512x512_S512x1024_S512x1024_1_0_0_1_n_n none
    (cat x0 x1 x2 x3 x4) x5 (constant (F := Ideal) S512x1024 .f32 0x00000000#32))) shapeCasts_S512x1024_S1x512x1024 := by
  unfold out0_6 k0_pay9
  rw [View.canon_unit_zero hz3]
  simp only [View.ld_unit_zero (S := S1x512x1024) hz3, View.ld_unit_zero (S := S1x1024) hz2, View.ld_unit_zero (S := S1024x512) hz2, View.ld_unit_zero (S := S512x1024) hz2]
  unfold k0_pay8
  simp only [shapeCast_self]
  rfl

/-- A head of the block, from its place among the columns. -/
theorem head_apply (o : ℕ) (h : Fin 4) (ho : o = h.val * 128) (q : FVec Ideal S512x128 .bf16) (K V : Vec Ideal S1x256x128 .f32)
    (hq : ∀ r d n, n.val = o + d.val → q (ix2 r d) = qs x0 x1 x2 (ix2 r n))
    (hK : ∀ k d n, n.val = o + d.val → K (ix3 0 k d) = x3 (ix3 0 k n)) (hV : ∀ k d n, n.val = o + d.val → V (ix3 0 k d) = x4 (ix3 0 k n))
    (r : Fin 512) (d : Fin 128) :
    bhead q K V (ix2 r d) = heads (fun n => qs x0 x1 x2 (ix2 r n)) (fun k n => x3 (ix3 0 k n)) (fun k n => x4 (ix3 0 k n)) h d := by
  refine (bhead_apply q K V r d).trans ?_
  have hf : ∀ e, (feat h e).val = o + e.val := fun e => by rw [ho]; rfl
  refine (congrArg (fun A => head A _ _ d) (funext fun e => hq r e (feat h e) (hf e))).trans ?_
  refine (congrArg (fun A => head _ A _ d) (funext fun k => funext fun e => hK k e (feat h e) (hf e))).trans ?_
  exact congrArg (fun A => head _ _ A d) (funext fun k => funext fun e => hV k e (feat h e) (hf e))

theorem slice_at (q : FVec Ideal S512x512 .bf16) {o : ℕ} (hs : S512x512.Slices ![0, o] S512x128) (r : Fin 512) (d : Fin 128) (n : Fin 512)
    (hn : n.val = o + d.val) : extractStridedSlice S512x128 ![0, o] q hs (ix2 r d) = q (ix2 r n) :=
  extractStridedSlice_apply _ q hs _ _ fun a => match a with
    | ⟨0, _⟩ => show r.val = 0 + r.val by omega
    | ⟨1, _⟩ => hn

theorem cols {o : ℕ} {inb : ∀ a, (![0, 0, o] : Fin 3 → ℕ) a + S1x256x128.size a ≤ S1x256x512.size a} (x : Vec Ideal S1x256x512 .f32)
    (k : Fin 256) (d : Fin 128) (n : Fin 512) (hn : n.val = o + d.val) :
    View.ld x (Rect.unit (s := S1x256x512) ![0, 0, o] S1x256x128.size inb) (ix3 0 k d) = x (ix3 0 k n) :=
  ld_at x (Rect.unit (s := S1x256x512) ![0, 0, o] S1x256x128.size inb) (ix3 0 k d) (ix3 0 k n) fun a => match a with
    | ⟨0, _⟩ => rfl
    | ⟨1, _⟩ => show k.val = 0 + 1 * k.val by omega
    | ⟨2, _⟩ => show n.val = o + 1 * d.val by omega

theorem cat_apply (r : Fin 512) (n : Fin 512) (h : Fin 4) (d : Fin 128) (hn : n.val = h.val * 128 + d.val) :
    cat x0 x1 x2 x3 x4 (ix2 r n)
      = heads (fun n => qs x0 x1 x2 (ix2 r n)) (fun k n => x3 (ix3 0 k n)) (fun k n => x4 (ix3 0 k n)) h d := by
  have hc : ∀ (i : ℕ) (hi : i < (parts x0 x1 x2 x3 x4).length) (y : Vec Ideal S512x128 .bf16) (pre : ℕ), (parts x0 x1 x2 x3 x4)[i] = ⟨S512x128, y⟩ →
      ((((parts x0 x1 x2 x3 x4).take i).map (·.1)).map fun s => if h : s.rank = S512x512.rank then s.size ((1 : Fin S512x512.rank).cast h.symm) else 0).sum = pre →
      n.val = pre + d.val → cat x0 x1 x2 x3 x4 (ix2 r n) = y (ix2 r d) := fun i hi y pre hy hp hnp =>
    concatenate_apply_piece (t := S512x512) 1 (parts x0 x1 x2 x3 x4) concatenates_S512x128_S512x128_S512x128_S512x128_S512x512_d1 (ix2 r n) i hi
      S512x128 y hy rfl pre hp (ix2 r d) (fun b hb => match b with | ⟨0, _⟩ => rfl | ⟨1, _⟩ => absurd rfl hb) hnp.symm
  match h, hn with
  | ⟨0, _⟩, hn =>
    exact (hc 0 (by show 0 < 4; decide) _ 0 rfl rfl hn).trans (head_apply x0 x1 x2 x3 x4 0 0 rfl _ _ _ (fun r d n hn => slice_at _ _ r d n hn)
      (fun k d n hn => cols x3 k d n hn) (fun k d n hn => cols x4 k d n hn) r d)
  | ⟨1, _⟩, hn =>
    exact (hc 1 (by show 1 < 4; decide) _ 128 rfl rfl hn).trans (head_apply x0 x1 x2 x3 x4 128 1 rfl _ _ _ (fun r d n hn => slice_at _ _ r d n hn)
      (fun k d n hn => cols x3 k d n hn) (fun k d n hn => cols x4 k d n hn) r d)
  | ⟨2, _⟩, hn =>
    exact (hc 2 (by show 2 < 4; decide) _ 256 rfl rfl hn).trans (head_apply x0 x1 x2 x3 x4 256 2 rfl _ _ _ (fun r d n hn => slice_at _ _ r d n hn)
      (fun k d n hn => cols x3 k d n hn) (fun k d n hn => cols x4 k d n hn) r d)
  | ⟨3, _⟩, hn =>
    exact (hc 3 (by show 3 < 4; decide) _ 384 rfl rfl hn).trans (head_apply x0 x1 x2 x3 x4 384 3 rfl _ _ _ (fun r d n hn => slice_at _ _ r d n hn)
      (fun k d n hn => cols x3 k d n hn) (fun k d n hn => cols x4 k d n hn) r d)

theorem out_apply (r : Fin 512) (d : Fin 1024) :
    out0_6 x0 x1 x2 x3 x4 x5 (ix3 0 r d)
      = attn (x0 (ix3 0 r d)) (fun n => proj (fun k => x0 (ix3 0 r k)) (fun k => x1 (ix2 0 k)) (fun k => x2 (ix2 k n)))
          (fun k n => x3 (ix3 0 k n)) (fun k n => x4 (ix3 0 k n)) (fun n => x5 (ix2 n d)) := by
  rw [out_form]
  unfold attn
  refine (add512 _ r d).trans ?_
  refine congrArg₂ (fun y z : EReal => y + z) (drop512 x0 r d) ?_
  refine (mmPlain (φ₁ := .bf16) (φ₂ := .bf16) dot_S512x512_S512x1024_S512x1024_1_0_0_1_n_n rfl _ _ r d).trans ?_
  refine Finset.sum_congr rfl fun n _ => congrArg (fun z : EReal => z * x5 (ix2 n d)) ?_
  refine (cat_apply x0 x1 x2 x3 x4 r n ⟨n.val / 128, by omega⟩ ⟨n.val % 128, Nat.mod_lt _ (by decide)⟩
    (by show n.val = n.val / 128 * 128 + n.val % 128; omega)).trans ?_
  exact congrArg (fun A => heads A _ _ _ _) (funext fun n => pay2_apply x0 x1 x2 r n)

end Cert.MemAttn
-- ==== Proof.MemAttn.lean ====
/-
  The memory attention: the kernel's blocks, one for each batch and each 512 of its rows, fill the reference's result.
-/
module

public import proofs.«01_k».proof.Proof.MemAttnRef
public import proofs.«01_k».proof.Proof.MemAttnBlock

@[expose] public section

noncomputable section

open scoped BigOperators

namespace Cert.MemAttn

open Idealize.ShloMosaic Idealize.ShloMosaic.TcCoe Idealize.SL.Sem
open Cert.Kernel5Ideal Cert.Kernel5Ideal.Gen Cert.Moe Cert.Proj Cert.Attn Cert.ReferenceIdeal.Route

variable (m : (ℓ : Loc nD τ sig) → Buf (Elt Ideal) ℓ) (c : Dev nD)

/-! ## The windows -/

theorem V_v0 : (V m c main_v0 : Vec Ideal S1024x512 .bf16) = (m ((c : Thread nD τ).loc main_arg4) : Vec Ideal S1024x512 .f32) := by
  simp only [V, hostOps0]; after_results_simp <;> rfl

theorem V_v1 : (V m c main_v1 : Vec Ideal S512x1024 .bf16) = (m ((c : Thread nD τ).loc main_arg5) : Vec Ideal S512x1024 .f32) := by
  simp only [V, hostOps0]; after_results_simp <;> rfl

theorem V_v2 : (V m c main_v2 : Vec Ideal S1x1024 .f32)
    = shapeCast S1x1024 (m ((c : Thread nD τ).loc main_arg1) : Vec Ideal S1024 .f32) shapeCasts_S1024_S1x1024 := by
  simp only [V, hostOps0]; after_results_simp <;> rfl

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = t.val / 8 ∧ win0_6.index t (1 : Fin 3) = t.val % 8 ∧ win0_6.index t (2 : Fin 3) = 0 :=
  (by decide +kernel : ∀ t : Fin grid0.N, _)
theorem flush6 : ∀ t : Fin cfg0.N, (cfg0.win 6).flush t = true :=
  (by decide +kernel : ∀ t : Fin grid0.N, (cfg0.win 6).flush t = true)

/-- An index of a block with one batch, from the block's place. -/
theorem emb3 {R S W H : ℕ} (i : (⟨3, ![R, S, W]⟩ : Shape).Idx) (a e f p o : ℕ) (r : Fin H) (j : Fin W) (b : Fin R) (s : Fin S)
    (h0 : (i 0).val = a * 1 + 1 * 0) (h1 : (i 1).val = e * H + 1 * r.val) (h2 : (i 2).val = f * W + 1 * j.val)
    (h : a = p ∧ e = o ∧ f = 0) (hb : b.val = p) (hs : s.val = o * H + r.val) : i = ix3 b s j := by
  obtain ⟨rfl, rfl, rfl⟩ := h
  exact three3 i b s j (Fin.ext (by omega)) (Fin.ext (by omega)) (Fin.ext (by omega))

section Blocks

variable (t : Fin cfg0.N) (b : Fin 16) (hb : b.val = t.val / 8)
include hb

theorem blk0 (r : Fin 512) (s : Fin 4096) (hs : s.val = t.val % 8 * 512 + r.val) (k : Fin 1024) :
    (iblk m c 0 t : Vec Ideal S1x512x1024 .f32) (ix3 0 r k) = (m ((c : Thread nD τ).loc main_arg0) : Vec Ideal S16x4096x1024 .f32) (ix3 b s k) := by
  unfold iblk
  rw [View.read_apply]
  show V m c main_arg0 _ = _
  rw [V_main_arg0]
  exact congrArg (m ((c : Thread nD τ).loc main_arg0) : Vec Ideal S16x4096x1024 .f32)
    (emb3 (((cfg0.win 0).blk t).view.emb (ix3 0 r k)) _ _ _ (t.val / 8) (t.val % 8) r k b s rfl rfl rfl (idx0 t) hb hs)

theorem blk3 (k : Fin 256) (n : Fin 512) :
    (iblk m c 3 t : Vec Ideal S1x256x512 .f32) (ix3 0 k n) = (m ((c : Thread nD τ).loc main_arg2) : Vec Ideal S16x256x512 .f32) (ix3 b k n) := by
  unfold iblk
  rw [View.read_apply]
  show V m c main_arg2 _ = _
  rw [V_main_arg2]
  exact congrArg (m ((c : Thread nD τ).loc main_arg2) : Vec Ideal S16x256x512 .f32)
    (emb3 (((cfg0.win 3).blk t).view.emb (ix3 0 k n)) _ _ _ (t.val / 8) 0 k n b k rfl rfl rfl (idx3 t) hb (by omega))

theorem blk4 (k : Fin 256) (n : Fin 512) :
    (iblk m c 4 t : Vec Ideal S1x256x512 .f32) (ix3 0 k n) = (m ((c : Thread nD τ).loc main_arg3) : Vec Ideal S16x256x512 .f32) (ix3 b k n) := by
  unfold iblk
  rw [View.read_apply]
  show V m c main_arg3 _ = _
  rw [V_main_arg3]
  exact congrArg (m ((c : Thread nD τ).loc main_arg3) : Vec Ideal S16x256x512 .f32)
    (emb3 (((cfg0.win 4).blk t).view.emb (ix3 0 k n)) _ _ _ (t.val / 8) 0 k n b k rfl rfl rfl (idx4 t) hb (by omega))

end Blocks

/-- An index of a block that is the whole matrix. -/
theorem emb2 {R W : ℕ} (i : (⟨2, ![R, W]⟩ : Shape).Idx) (a e : ℕ) (k : Fin R) (n : Fin W) (h0 : (i 0).val = a * R + 1 * k.val)
    (h1 : (i 1).val = e * W + 1 * n.val) (h : a = 0 ∧ e = 0) : i = ix2 k n := by
  obtain ⟨rfl, rfl⟩ := h
  exact two2 i k n (Fin.ext (by omega)) (Fin.ext (by omega))

theorem blk1 (t : Fin cfg0.N) (k : Fin 1024) :
    (iblk m c 1 t : Vec Ideal S1x1024 .f32) (ix2 0 k) = (m ((c : Thread nD τ).loc main_arg1) : Vec Ideal S1024 .f32) (ix1 k) := by
  have h : (iblk m c 1 t : Vec Ideal S1x1024 .f32) (ix2 0 k) = (V m c main_v2 : Vec Ideal S1x1024 .f32) (ix2 0 k) := by
    unfold iblk
    rw [View.read_apply]
    exact congrArg (V m c main_v2 : Vec Ideal S1x1024 .f32) (emb2 (((cfg0.win 1).blk t).view.emb (ix2 0 k)) _ _ 0 k rfl rfl (idx1 t))
  rw [h, V_v2]
  exact gains _ _ k

theorem blk2 (t : Fin cfg0.N) (k : Fin 1024) (n : Fin 512) :
    (iblk m c 2 t : Vec Ideal S1024x512 .bf16) (ix2 k n) = (m ((c : Thread nD τ).loc main_arg4) : Vec Ideal S1024x512 .f32) (ix2 k n) := by
  unfold iblk
  rw [View.read_apply]
  show V m c main_v0 _ = _
  refine (congrFun (V_v0 m c) _).trans ?_
  exact congrArg (m ((c : Thread nD τ).loc main_arg4) : Vec Ideal S1024x512 .f32) (emb2 (((cfg0.win 2).blk t).view.emb (ix2 k n)) _ _ k n rfl rfl (idx2 t))

theorem blk5 (t : Fin cfg0.N) (n : Fin 512) (d : Fin 1024) :
    (iblk m c 5 t : Vec Ideal S512x1024 .bf16) (ix2 n d) = (m ((c : Thread nD τ).loc main_arg5) : Vec Ideal S512x1024 .f32) (ix2 n d) := by
  unfold iblk
  rw [View.read_apply]
  show V m c main_v1 _ = _
  refine (congrFun (V_v1 m c) _).trans ?_
  exact congrArg (m ((c : Thread nD τ).loc main_arg5) : Vec Ideal S512x1024 .f32) (emb2 (((cfg0.win 5).blk t).view.emb (ix2 n d)) _ _ n d rfl rfl (idx5 t))

/-! ## The array -/

theorem arr_apply (b : Fin 16) (s : Fin 4096) (d : Fin 1024) :
    ((dats m 0 c).arrAt 6 cfg0.N : Vec Ideal S16x4096x1024 .f32) (ix3 b s d)
      = attn ((m ((c : Thread nD τ).loc main_arg0) : Vec Ideal S16x4096x1024 .f32) (ix3 b s d))
          (qrow (m ((c : Thread nD τ).loc main_arg0)) (m ((c : Thread nD τ).loc main_arg1)) (m ((c : Thread nD τ).loc main_arg4)) b s)
          (fun k n => (m ((c : Thread nD τ).loc main_arg2) : Vec Ideal S16x256x512 .f32) (ix3 b k n))
          (fun k n => (m ((c : Thread nD τ).loc main_arg3) : Vec Ideal S16x256x512 .f32) (ix3 b k n))
          (fun n => (m ((c : Thread nD τ).loc main_arg5) : Vec Ideal S512x1024 .f32) (ix2 n d)) := by
  have hb := b.isLt
  have hs := s.isLt
  obtain ⟨t, r, hbt, hsr⟩ : ∃ (t : Fin cfg0.N) (r : Fin 512), b.val = t.val / 8 ∧ s.val = t.val % 8 * 512 + r.val :=
    ⟨⟨b.val * 8 + s.val / 512, lt_of_lt_of_eq (show b.val * 8 + s.val / 512 < 128 by omega) N_0.symm⟩, ⟨s.val % 512, Nat.mod_lt _ (by decide)⟩,
      by show b.val = (b.val * 8 + s.val / 512) / 8; omega, by show s.val = (b.val * 8 + s.val / 512) % 8 * 512 + s.val % 512; omega⟩
  have hQ : ∀ n : Fin 512, proj (fun k => (iblk m c 0 t : Vec Ideal S1x512x1024 .f32) (ix3 0 r k))
      (fun k => (iblk m c 1 t : Vec Ideal S1x1024 .f32) (ix2 0 k)) (fun k => (iblk m c 2 t : Vec Ideal S1024x512 .bf16) (ix2 k n))
      = qrow (m ((c : Thread nD τ).loc main_arg0)) (m ((c : Thread nD τ).loc main_arg1)) (m ((c : Thread nD τ).loc main_arg4)) b s n := fun n => by
    refine (congrArg (fun A => proj A _ _) (funext fun k => blk0 m c t b hbt r s hsr k)).trans ?_
    refine (congrArg (fun A => proj _ A _) (funext fun k => blk1 m c t k)).trans ?_
    exact congrArg (fun A => proj _ _ A) (funext fun k => blk2 m c t k n)
  have h := congrFun (Value.blocks6 m c t (flush6 t)) (ix3 0 r d)
  rw [View.read_apply, Value.flushed6] at h
  refine (congrArg ((dats m 0 c).arrAt 6 cfg0.N : Vec Ideal S16x4096x1024 .f32)
    (emb3 (((cfg0.win 6).blk t).view.emb (ix3 0 r d)) _ _ _ (t.val / 8) (t.val % 8) r d b s rfl rfl rfl (idx6 t) hbt hsr)).symm.trans (h.trans ?_)
  refine (out_apply _ _ _ _ _ _ r d).trans ?_
  refine (congrArg (fun A => attn A _ _ _ _) (blk0 m c t b hbt r s hsr d)).trans ?_
  refine (congrArg (fun A => attn _ A _ _ _) (funext hQ)).trans ?_
  refine (congrArg (fun A => attn _ _ A _ _) (funext fun k => funext fun n => blk3 m c t b hbt k n)).trans ?_
  refine (congrArg (fun A => attn _ _ _ A _) (funext fun k => funext fun n => blk4 m c t b hbt k n)).trans ?_
  exact congrArg (fun A => attn _ _ _ _ A) (funext fun n => blk5 m c t n d)

/-- The kernel's output array is the reference's result. -/
theorem out_eq : ((dats m 0 c).arrAt 6 cfg0.N : Vec Ideal S16x4096x1024 .f32)
    = Cert.Reference5Ideal.Read.val_main_v36 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  funext i
  have hi : (i : S16x4096x1024.Idx) = ix3 (i 0) (i 1) (i 2) := three3 _ _ _ _ rfl rfl rfl
  rw [hi]
  exact (arr_apply m c (i 0) (i 1) (i 2)).trans (ref_apply _ _ _ _ _ _ (i 0) (i 1) (i 2)).symm

end Cert.MemAttn
-- ==== Proof.FinalNorm.lean ====
/-
  The final norm: every row of the kernel's output array is the normalised row of its input, and so is the reference's.
-/
module

public import proofs.«01_k».proof.Proof.KPoint
public import proofs.«01_k».proof.Proof.RefRow
public import proofs.«01_k».proof.Proof.Gen.Kernel6Ideal.Value
public import proofs.«01_k».proof.Proof.Gen.Reference6Ideal.Read

@[expose] public section

noncomputable section

open scoped BigOperators

namespace Cert.FinalNorm

open Idealize.ShloMosaic Idealize.ShloMosaic.TcCoe Idealize.SL.Sem
open Cert.Kernel6Ideal Cert.Kernel6Ideal.Gen Cert.Moe Cert.ReferenceIdeal.Route
open Cert.KernelIdeal.Blocks (hz2)

variable (m : (ℓ : Loc nD τ sig) → Buf (Elt Ideal) ℓ) (c : Dev nD)

theorem pay_apply (x0 : Vec Ideal S512x1024 .f32) (x1 : Vec Ideal S1x1024 .f32) (r : Fin 512) (d : Fin 1024) :
    k0_pay1 x0 x1 (ix2 r d) = nrm (fun k => x0 (ix2 r k)) (fun k => x1 (ix2 0 k)) d := by
  refine Eq.trans ?_ (Cert.KernelIdeal.KPoint.pay2_apply x0 x1 r d)
  unfold k0_pay1 Cert.KernelIdeal.Gen.k0_pay2
  simp only [shapeCast_self]
  rfl

theorem out_apply (x0 : Vec Ideal S512x1024 .f32) (x1 : Vec Ideal S1x1024 .f32) (r : Fin 512) (d : Fin 1024) :
    out0_2 x0 x1 (ix2 r d) = nrm (fun k => x0 (ix2 r k)) (fun k => x1 (ix2 0 k)) d := by
  unfold out0_2
  rw [View.canon_unit_zero hz2]
  simp only [View.ld_unit_zero (S := S512x1024) hz2, View.ld_unit_zero (S := S1x1024) hz2]
  exact pay_apply x0 x1 r d

theorem V_v0 : (V m c main_v0 : Vec Ideal S1x1024 .f32)
    = shapeCast S1x1024 (m ((c : Thread nD τ).loc main_arg1) : Vec Ideal S1024 .f32) shapeCasts_S1024_S1x1024 := by
  simp only [V, hostOps0]; after_results_simp <;> rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true :=
  (by decide +kernel : ∀ t : Fin grid0.N, (cfg0.win 2).flush t = true)

theorem blk0 (t : Fin cfg0.N) (r : Fin 512) (k : Fin 1024) (q : Fin 65536) (hq : q.val = t.val * 512 + r.val) :
    (iblk m c 0 t : Vec Ideal S512x1024 .f32) (ix2 r k) = (m ((c : Thread nD τ).loc main_arg0) : Vec Ideal S65536x1024 .f32) (ix2 q k) := by
  unfold iblk
  rw [View.read_apply]
  show V m c main_arg0 _ = _
  rw [V_main_arg0]
  congr 1
  funext a
  apply Fin.ext
  match a with
  | ⟨0, _⟩ =>
    show win0_0.index t (0 : Fin 2) * 512 + 1 * r.val = q.val
    rw [(idx0 t).1, hq]; omega
  | ⟨1, _⟩ =>
    show win0_0.index t (1 : Fin 2) * 1024 + 1 * k.val = k.val
    rw [(idx0 t).2]; omega

theorem blk1 (t : Fin cfg0.N) (k : Fin 1024) :
    (iblk m c 1 t : Vec Ideal S1x1024 .f32) (ix2 0 k) = (m ((c : Thread nD τ).loc main_arg1) : Vec Ideal S1024 .f32) (ix1 k) := by
  have h : (iblk m c 1 t : Vec Ideal S1x1024 .f32) (ix2 0 k) = (V m c main_v0 : Vec Ideal S1x1024 .f32) (ix2 0 k) := by
    unfold iblk
    rw [View.read_apply]
    show V m c main_v0 _ = _
    congr 1
    funext a
    apply Fin.ext
    match a with
    | ⟨0, _⟩ =>
      show win0_1.index t (0 : Fin 2) * 1 + 1 * 0 = 0
      rw [(idx1 t).1]
    | ⟨1, _⟩ =>
      show win0_1.index t (1 : Fin 2) * 1024 + 1 * k.val = k.val
      rw [(idx1 t).2]; omega
  rw [h, V_v0]
  exact shapeCast_apply _ _ _ _ (by
    refine (rowMajor_val1 (ix1 k)).trans (Eq.trans ?_ (rowMajor_val2 _ 1024 rfl).symm)
    show k.val = 0 * 1024 + k.val
    omega)

/-- The kernel's output array at a row and a feature. -/
theorem arr_apply (q : Fin 65536) (d : Fin 1024) :
    ((dats m 0 c).arrAt 2 cfg0.N : Vec Ideal S65536x1024 .f32) (ix2 q d)
      = nrm (fun k => (m ((c : Thread nD τ).loc main_arg0) : Vec Ideal S65536x1024 .f32) (ix2 q k))
          (fun k => (m ((c : Thread nD τ).loc main_arg1) : Vec Ideal S1024 .f32) (ix1 k)) d := by
  have hq := q.isLt
  let t : Fin cfg0.N := ⟨q.val / 512, lt_of_lt_of_eq (show q.val / 512 < 128 by omega) N_0.symm⟩
  let r : Fin 512 := ⟨q.val % 512, Nat.mod_lt _ (by decide)⟩
  have hqr : q.val = t.val * 512 + r.val := by show q.val = q.val / 512 * 512 + q.val % 512; omega
  have h := congrFun (Value.blocks2 m c t (flush2 t)) (ix2 r d)
  rw [View.read_apply, Value.flushed2] at h
  have hi : ((cfg0.win 2).blk t).view.emb (ix2 r d) = (ix2 q d : S65536x1024.Idx) := by
    funext a
    apply Fin.ext
    match a with
    | ⟨0, _⟩ =>
      show win0_2.index t (0 : Fin 2) * 512 + 1 * r.val = q.val
      rw [(idx2 t).1, hqr]; omega
    | ⟨1, _⟩ =>
      show win0_2.index t (1 : Fin 2) * 1024 + 1 * d.val = d.val
      rw [(idx2 t).2]; omega
  refine (congrArg ((dats m 0 c).arrAt 2 cfg0.N : Vec Ideal S65536x1024 .f32) hi).symm.trans (h.trans ?_)
  refine (out_apply _ _ r d).trans ?_
  refine (congrArg (fun A => nrm A _ d) (funext fun k => blk0 m c t r k q hqr)).trans ?_
  exact congrArg (fun A => nrm _ A d) (funext fun k => blk1 m c t k)

/-! ## The reference -/

section Reference

open Cert.Reference6Ideal.Read

theorem ref_apply (x0 : Vec Ideal S65536x1024 .f32) (x1 : Vec Ideal S1024 .f32) (t : Fin 65536) (d : Fin 1024) :
    val_main_v12 (F := Ideal) x0 x1 (ix2 t d) = nrm (fun k => x0 (ix2 t k)) (fun k => x1 (ix1 k)) d := by
  have h1 : val_main_v1 (F := Ideal) x0 (ix1 t) = ∑ k, x0 (ix2 t k) * x0 (ix2 t k) := by
    rw [val_main_v1_apply, val_main_cst_apply, zero_init, zero_add]
    refine Finset.sum_congr rfl fun k _ => ?_
    rw [two2 (idx_main_v1 (ix1 t) k) t k rfl rfl]
    rfl
  rw [val_main_v12_apply, val_main_v9_apply, val_main_v8_apply, val_main_v7_apply, val_main_v6_apply, val_main_v4_apply,
    val_main_v2_apply, one1 (idx_main_v2 (idx_main_v8 (ix2 t d))) t rfl, h1, val_main_v3_apply, val_main_v5_apply,
    val_main_v11_apply, val_main_v10_apply, one1 (idx_main_v10 (idx_main_v11 (ix2 t d))) d rfl]
  rfl

end Reference

/-- The kernel's output array is the reference's result. -/
theorem out_eq : ((dats m 0 c).arrAt 2 cfg0.N : Vec Ideal S65536x1024 .f32)
    = Cert.Reference6Ideal.Read.val_main_v12 (F := Ideal) (m ((c : Thread nD τ).loc main_arg0)) (m ((c : Thread nD τ).loc main_arg1)) := by
  funext i
  have hi : (i : S65536x1024.Idx) = ix2 (i 0) (i 1) := two2 _ _ _ rfl rfl
  rw [hi]
  exact (arr_apply m c (i 0) (i 1)).trans (ref_apply _ _ _ _).symm

end Cert.FinalNorm
-- ==== Proof.Pool.lean ====
/-
  The pooling of a sequence: each column of the carried rows and the sequence behind them as one line, the mean of a window of
  it less the sequence, and the map of each group of 64 columns.
-/
module

public import proofs.«01_k».proof.Proof.Spec
public import Idealize.ShloMosaic.Lib.Routing.OpsOne
public import Idealize.ShloMosaic.Lib.KernelVsHost
public import Idealize.ShloMosaic.Lib.Pipeline.Value

@[expose] public section

noncomputable section

open scoped BigOperators

namespace Cert.Pool

open Idealize.ShloMosaic Idealize.ShloMosaic.ValueIdx Idealize.ShloMosaic.Routing

/-- One column: a zero, the 15 carried entries, then the sequence. -/
def line (h : Fin 15 → EReal) (u : Fin 4096 → EReal) (n : ℕ) : EReal :=
  if n = 0 then 0 else if h1 : n < 16 then h ⟨n - 1, by omega⟩ else if h2 : n - 16 < 4096 then u ⟨n - 16, h2⟩ else 0

theorem line_hist (h : Fin 15 → EReal) (u : Fin 4096 → EReal) (n : ℕ) (j : Fin 15) (hn : n = j.val + 1) : line h u n = h j := by
  have hj := j.isLt
  subst hn
  unfold line
  rw [if_neg (by omega), dif_pos (by omega)]
  rfl

theorem line_seq (h : Fin 15 → EReal) (u : Fin 4096 → EReal) (n : ℕ) (j : Fin 4096) (hn : n = j.val + 16) : line h u n = u j := by
  have hj := j.isLt
  subst hn
  unfold line
  rw [if_neg (by omega), dif_neg (by omega), dif_pos (by omega)]
  exact congrArg u (Fin.ext (by show j.val + 16 - 16 = j.val; omega))

/-- The entries of a line at `n` and before it, `w` of them. -/
def window (e : ℕ → EReal) (w n : ℕ) : EReal := ∑ j ∈ Finset.range w, e (n - j)

/-- How many entries a mean at row `s` divides by, of a window of `w`. -/
def count (w s : ℕ) : EReal := FloatOps.sitofp (F := Ideal) .f32 (IntOp.minsi (BitVec.ofNat 32 w) (BitVec.ofNat 32 (s + 1)))

/-- The width of the window of a group. -/
def width (g : ℕ) : ℕ := 2 ^ (g + 1)

/-- Column `k` of group `g`. -/
def gcol (g : Fin 4) (k : Fin 64) : Fin 256 := ⟨g.val * 64 + k.val, by omega⟩

/-! ## A block of a matrix set at a pair of index words -/

/-- Update `(a, b)` of a block set at a pair of index words lands at `(r, c)` exactly when the words, read signed, plus `a` and `b` are `r` and `c`. -/
theorem lands_block {R C U V w : Nat} (d : ScatterDims (shape2 R C) (shape1 2) (shape2 U V)) (huw : d.updateWindowDims = [0, 1]) (hiw : d.insertedWindowDims = [])
    (hsd : d.scatterDimsToOperandDims = [0, 1]) (hivd : d.indexVectorDim = 0) (idx : IVec (shape1 2) w) (a : Fin U) (b : Fin V) (r : Fin R) (c : Fin C) :
    d.resultIdx? (ix2 a b) idx = some (ix2 r c)
      ↔ (idx (ix1 (0 : Fin 2))).toInt + (a.val : Int) = r.val ∧ (idx (ix1 (1 : Fin 2))).toInt + (b.val : Int) = c.val := by
  obtain ⟨uw, iw, sd, iv, wf⟩ := d
  dsimp only at huw hiw hsd hivd
  subst huw hiw hsd hivd
  rw [resultIdx?_ix2, start_pair _ rfl rfl, start_pair _ rfl rfl]
  rfl

/-- A block set at a pair of index words, read at `(r, c)` inside it. -/
theorem block_hit {α : Type} {R C U V w : Nat} (d : ScatterDims (shape2 R C) (shape1 2) (shape2 U V)) (huw : d.updateWindowDims = [0, 1]) (hiw : d.insertedWindowDims = [])
    (hsd : d.scatterDimsToOperandDims = [0, 1]) (hivd : d.indexVectorDim = 0) (x0 : (shape2 R C).Idx → α) (idx : IVec (shape1 2) w) (upd : (shape2 U V).Idx → α)
    (o p : Nat) (ho : (idx (ix1 (0 : Fin 2))).toInt = o) (hp : (idx (ix1 (1 : Fin 2))).toInt = p)
    (a : Fin U) (b : Fin V) (r : Fin R) (c : Fin C) (hr : r.val = o + a.val) (hc : c.val = p + b.val) :
    Host.scatter d (fun _ b => b) x0 idx upd (ix2 r c) = upd (ix2 a b) := by
  refine scatter_set_hit d x0 idx upd _ _ (fun k hk => ?_) (ix2 a b) ((lands_block d huw hiw hsd hivd idx a b r c).2 (by rw [ho, hp]; omega))
  rw [eq_ix2 k] at hk ⊢
  have h := (lands_block d huw hiw hsd hivd idx (k 0) (k 1) r c).1 hk
  rw [ho, hp] at h
  have h0 : k 0 = a := Fin.ext (by omega)
  have h1 : k 1 = b := Fin.ext (by omega)
  rw [h0, h1]
  rfl

/-- A block set at a pair of index words, read at `(r, c)` outside it. -/
theorem block_miss {α : Type} {R C U V w : Nat} (d : ScatterDims (shape2 R C) (shape1 2) (shape2 U V)) (huw : d.updateWindowDims = [0, 1]) (hiw : d.insertedWindowDims = [])
    (hsd : d.scatterDimsToOperandDims = [0, 1]) (hivd : d.indexVectorDim = 0) (x0 : (shape2 R C).Idx → α) (idx : IVec (shape1 2) w) (upd : (shape2 U V).Idx → α)
    (o p : Nat) (ho : (idx (ix1 (0 : Fin 2))).toInt = o) (hp : (idx (ix1 (1 : Fin 2))).toInt = p) (r : Fin R) (c : Fin C)
    (h : ¬((o ≤ r.val ∧ r.val < o + U) ∧ (p ≤ c.val ∧ c.val < p + V))) :
    Host.scatter d (fun _ b => b) x0 idx upd (ix2 r c) = x0 (ix2 r c) := by
  refine scatter_set_miss d x0 idx upd _ fun k hk => h ?_
  rw [eq_ix2 k] at hk
  have h := (lands_block d huw hiw hsd hivd idx (k 0) (k 1) r c).1 hk
  rw [ho, hp] at h
  have h0 : (k 0).val < U := (k 0).isLt
  have h1 : (k 1).val < V := (k 1).isLt
  omega

end Cert.Pool
-- ==== Proof.PoolCarry.lean ====
/-
  The pooling kernel's grid points: what each leaves in its block, in the rows it carries on, and in the last rows it hands out.
-/
module

public import proofs.«01_k».proof.Proof.Pool
public import proofs.«01_k».proof.Proof.KPoint
public import proofs.«01_k».proof.Proof.Gen.Kernel7Ideal.Value

@[expose] public section

noncomputable section

open scoped BigOperators

namespace Cert.Pool

open Idealize.ShloMosaic Idealize.ShloMosaic.TcCoe Idealize.SL.Sem
open Cert.Kernel7Ideal Cert.Kernel7Ideal.Gen Cert.Moe
open Cert.KernelIdeal.Blocks (hz2 hz3)

/-- The block of a grid point, from its rows, the 16 rows before them, the weights and the scale. -/
def blockOut (i : grid0.Coords) (x0 : Vec Ideal S1x512x256 .f32) (xs : Vec Ideal S16x256 .f32) (x2 : Vec Ideal S256x256 .bf16) (x3 : Vec Ideal S1x256 .f32) :
    Vec Ideal S1x512x256 .bf16 :=
  k0_pay1 (k0_pay15 (BitVec.ofNat 32 (i 1).val) (k0_pay6 x0) (k0_pay8 x0 xs) (k0_pay9 x0 xs) (k0_pay10 x0 xs) (k0_pay11 x0 xs) k0_pay12 k0_pay13 k0_pay14 x2) x3

variable (m : (ℓ : Loc nD τ sig) → Buf (Elt Ideal) ℓ) (c : Dev nD)

/-- The rows, the carried rows, the weights and the scale of a point's blocks. -/
abbrev rowsB (t : Fin cfg0.N) : Vec Ideal S1x512x256 .f32 := iblk m c 0 t
abbrev histB (t : Fin cfg0.N) : Vec Ideal S1x16x256 .f32 := iblk m c 1 t
abbrev wB (t : Fin cfg0.N) : Vec Ideal S256x256 .bf16 := iblk m c 2 t
abbrev scB (t : Fin cfg0.N) : Vec Ideal S1x256 .f32 := iblk m c 3 t

theorem A_out (t : Fin cfg0.N) (h0 : t.val % 8 = 0) :
    (outsAt0 m c t.val t.isLt).1 = blockOut (grid0.coords t) (rowsB m c t) (k0_pay5 (histB m c t)) (wB m c t) (scB m c t) := by
  rw [outsAt0_A m c t h0 (by omega)]
  dsimp only
  unfold out0_A_4
  rw [View.read_writes_eq_canon _ _ _ (cover0_A_4 _ _ _ _ _ _ _ _ _ _ _ _ _ _ _ _ _ _ _ _ _ _)]
  unfold kernelRun0_A
  dsimp only
  sl_unfold_words
  rw [View.canon_unit_zero hz3]
  simp only [View.readCov_unit_zero (S := S16x256) _ hz2, View.readAt_eq_ld, (hs0_0 t).read_unread, (hs0_1 t).read_unread, (hs0_2 t).read_unread, (hs0_3 t).read_unread,
    View.ld_unit_zero (S := S1x512x256) hz3, View.ld_unit_zero (S := S1x16x256) hz3, View.ld_unit_zero (S := S256x256) hz2, View.ld_unit_zero (S := S1x256) hz2]
  rfl

theorem A_carry (t : Fin cfg0.N) (h0 : t.val % 8 = 0) :
    (outsAt0 m c t.val t.isLt).2.2 = k0_pay3 (k0_pay7 (rowsB m c t) (k0_pay5 (histB m c t))) := by
  rw [outsAt0_A m c t h0 (by omega)]
  dsimp only
  unfold sout0_A_0
  rw [View.read_writes_eq_canon _ _ _ (scover0_A_0 _ _ _ _ _ _ _ _ _ _ _ _ _ _ _ _ _ _ _ _ _ _)]
  unfold kernelRun0_A
  dsimp only
  sl_unfold_words
  rw [View.canon_cons_unit_zero (S := S16x256) hz2]
  simp only [View.readCov_unit_zero (S := S16x256) _ hz2, View.readAt_eq_ld, (hs0_0 t).read_unread, (hs0_1 t).read_unread,
    View.ld_unit_zero (S := S1x512x256) hz3, View.ld_unit_zero (S := S1x16x256) hz3]

/-- The rows the point before `t` carried on. -/
abbrev prev (t : Fin cfg0.N) : Vec Ideal S16x256 .f32 := (outsAt0 m c (t.val - 1) (Nat.lt_of_le_of_lt (Nat.sub_le _ _) t.isLt)).2.2

theorem later_out (t : Fin cfg0.N) (h0 : ¬t.val % 8 = 0) :
    (outsAt0 m c t.val t.isLt).1 = blockOut (grid0.coords t) (rowsB m c t) (prev m c t) (wB m c t) (scB m c t) := by
  have hw : (scM0_0).IsWhole := Memref.isWhole_whole _
  by_cases h1 : t.val % 8 = 7
  · rw [outsAt0_C m c t h0 h1]
    dsimp only
    unfold out0_C_4
    rw [View.read_writes_eq_canon _ _ _ (cover0_C_4 _ _ _ _ _ _ _ _ _ _ _ _ _ _ _ _ _ _ _ _ _ _ _)]
    unfold kernelRun0_C
    dsimp only
    sl_unfold_words
    rw [View.canon_unit_zero hz3]
    simp only [View.readAt_eq_ld, (hs0_0 t).read_unread, (hs0_2 t).read_unread, (hs0_3 t).read_unread, hw.read_unread,
      View.ld_unit_zero (S := S1x512x256) hz3, View.ld_unit_zero (S := S16x256) hz2, View.ld_unit_zero (S := S256x256) hz2, View.ld_unit_zero (S := S1x256) hz2]
    rfl
  · rw [outsAt0_B m c t h0 h1]
    dsimp only
    unfold out0_B_4
    rw [View.read_writes_eq_canon _ _ _ (cover0_B_4 _ _ _ _ _ _ _ _ _ _ _ _ _ _ _ _ _ _ _ _ _ _ _)]
    unfold kernelRun0_B
    dsimp only
    sl_unfold_words
    rw [View.canon_unit_zero hz3]
    simp only [View.readAt_eq_ld, (hs0_0 t).read_unread, (hs0_2 t).read_unread, (hs0_3 t).read_unread, hw.read_unread,
      View.ld_unit_zero (S := S1x512x256) hz3, View.ld_unit_zero (S := S16x256) hz2, View.ld_unit_zero (S := S256x256) hz2, View.ld_unit_zero (S := S1x256) hz2]
    rfl

theorem later_carry (t : Fin cfg0.N) (h0 : ¬t.val % 8 = 0) :
    (outsAt0 m c t.val t.isLt).2.2 = k0_pay3 (k0_pay7 (rowsB m c t) (prev m c t)) := by
  have hw : (scM0_0).IsWhole := Memref.isWhole_whole _
  by_cases h1 : t.val % 8 = 7
  · rw [outsAt0_C m c t h0 h1]
    dsimp only
    unfold sout0_C_0
    rw [View.read_writes_eq_canon _ _ _ (scover0_C_0 _ _ _ _ _ _ _ _ _ _ _ _ _ _ _ _ _ _ _ _ _ _ _)]
    unfold kernelRun0_C
    dsimp only
    sl_unfold_words
    rw [View.canon_unit_zero hz2]
    simp only [View.readAt_eq_ld, (hs0_0 t).read_unread, hw.read_unread, View.ld_unit_zero (S := S1x512x256) hz3, View.ld_unit_zero (S := S16x256) hz2]
  · rw [outsAt0_B m c t h0 h1]
    dsimp only
    unfold sout0_B_0
    rw [View.read_writes_eq_canon _ _ _ (scover0_B_0 _ _ _ _ _ _ _ _ _ _ _ _ _ _ _ _ _ _ _ _ _ _ _)]
    unfold kernelRun0_B
    dsimp only
    sl_unfold_words
    rw [View.canon_unit_zero hz2]
    simp only [View.readAt_eq_ld, (hs0_0 t).read_unread, hw.read_unread, View.ld_unit_zero (S := S1x512x256) hz3, View.ld_unit_zero (S := S16x256) hz2]

theorem last_rows (t : Fin cfg0.N) (h1 : t.val % 8 = 7) :
    (outsAt0 m c t.val t.isLt).2.1 = k0_pay4 (k0_pay7 (rowsB m c t) (prev m c t)) := by
  have hw : (scM0_0).IsWhole := Memref.isWhole_whole _
  rw [outsAt0_C m c t (by omega) h1]
  dsimp only
  unfold out0_C_5
  rw [View.read_writes_eq_canon _ _ _ (cover0_C_5 _ _ _ _ _ _ _ _ _ _ _ _ _ _ _ _ _ _ _ _ _ _ _)]
  unfold kernelRun0_C
  dsimp only
  sl_unfold_words
  rw [View.canon_unit_zero hz3]
  simp only [View.readAt_eq_ld, (hs0_0 t).read_unread, hw.read_unread, View.ld_unit_zero (S := S1x512x256) hz3, View.ld_unit_zero (S := S16x256) hz2]

end Cert.Pool
-- ==== Proof.PoolBlock.lean ====
/-
  One block of 512 rows of the pooling kernel, read at a row and a column: the windows by doubling, the group's width by the
  column's number, and the product with the weights.
-/
module

public import proofs.«01_k».proof.Proof.PoolCarry

@[expose] public section

noncomputable section

open scoped BigOperators

namespace Cert.Pool

open Idealize.ShloMosaic Idealize.ShloMosaic.TcCoe Idealize.SL.Sem
open Cert.Kernel7Ideal Cert.Kernel7Ideal.Gen Cert.Moe
open Cert.KernelIdeal.Blocks (hz2 hz3)
open Cert.KernelIdeal.KPoint (mmPlain same2)

/-! ## Windows by doubling -/

theorem window_one (e : ℕ → EReal) (n : ℕ) : window e 1 n = e n := by
  unfold window
  rw [Finset.sum_range_one, Nat.sub_zero]

theorem window_double (e : ℕ → EReal) (w n : ℕ) : window e w n + window e w (n - w) = window e (w + w) n := by
  unfold window
  rw [Finset.sum_range_add]
  refine congrArg (fun z => _ + z) (Finset.sum_congr rfl fun j _ => ?_)
  rw [Nat.sub_sub]

/-- Two windows are equal when the lines agree on what they read. -/
theorem window_congr (e f : ℕ → EReal) (w n n' : ℕ) (h : ∀ j, j < w → e (n - j) = f (n' - j)) : window e w n = window f w n' :=
  Finset.sum_congr rfl fun j hj => h j (Finset.mem_range.mp hj)

/-- Column `k` of the 16 rows before a block and the block's rows behind them. -/
def bline (x0 : Vec Ideal S1x512x256 .f32) (xs : Vec Ideal S16x256 .f32) (k : Fin 256) (n : ℕ) : EReal :=
  if h : n < 16 then xs (ix2 ⟨n, h⟩ k) else if h2 : n - 16 < 512 then x0 (ix3 0 ⟨n - 16, h2⟩ k) else 0

theorem drop {α : Type} (x : S1x512x256.Idx → α) (r : Fin 512) (k : Fin 256) :
    shapeCast S512x256 x shapeCasts_S1x512x256_S512x256 (ix2 r k) = x (ix3 0 r k) :=
  shapeCast_apply x _ _ _ (by
    rw [rowMajor_val3 _ (512 * 256) 256 rfl rfl, rowMajor_val2 _ 256 rfl]
    show 0 * (512 * 256) + r.val * 256 + k.val = r.val * 256 + k.val
    omega)

theorem lift {α : Type} (x : S512x256.Idx → α) (r : Fin 512) (k : Fin 256) :
    shapeCast S1x512x256 x shapeCasts_S512x256_S1x512x256 (ix3 0 r k) = x (ix2 r k) :=
  shapeCast_apply x _ _ _ (by
    rw [rowMajor_val3 _ (512 * 256) 256 rfl rfl, rowMajor_val2 _ 256 rfl]
    show r.val * 256 + k.val = 0 * (512 * 256) + r.val * 256 + k.val
    omega)

theorem drop16 {α : Type} (x : S1x16x256.Idx → α) (r : Fin 16) (k : Fin 256) :
    shapeCast S16x256 x shapeCasts_S1x16x256_S16x256 (ix2 r k) = x (ix3 0 r k) :=
  shapeCast_apply x _ _ _ (by
    rw [rowMajor_val3 _ (16 * 256) 256 rfl rfl, rowMajor_val2 _ 256 rfl]
    show 0 * (16 * 256) + r.val * 256 + k.val = r.val * 256 + k.val
    omega)

theorem lift16 {α : Type} (x : S16x256.Idx → α) (r : Fin 16) (k : Fin 256) :
    shapeCast S1x16x256 x shapeCasts_S16x256_S1x16x256 (ix3 0 r k) = x (ix2 r k) :=
  shapeCast_apply x _ _ _ (by
    rw [rowMajor_val3 _ (16 * 256) 256 rfl rfl, rowMajor_val2 _ 256 rfl]
    show r.val * 256 + k.val = 0 * (16 * 256) + r.val * 256 + k.val
    omega)

section Windows

variable (x0 : Vec Ideal S1x512x256 .f32) (xs : Vec Ideal S16x256 .f32)

theorem pay7_apply (n : Fin 528) (k : Fin 256) : k0_pay7 x0 xs (ix2 n k) = bline x0 xs k n.val := by
  have hn := n.isLt
  unfold k0_pay7 bline
  by_cases h : n.val < 16
  · rw [dif_pos h]
    exact concatenate_pair_apply_left (t := S528x256) 0 xs (k0_pay6 x0) concatenates_S16x256_S512x256_S528x256_d0 (ix2 n k) rfl (ix2 ⟨n.val, h⟩ k)
      fun b => match b with | ⟨0, _⟩ => rfl | ⟨1, _⟩ => rfl
  · have h2 : n.val - 16 < 512 := by omega
    rw [dif_neg h, dif_pos h2]
    refine (concatenate_pair_apply_right (t := S528x256) 0 xs (k0_pay6 x0) concatenates_S16x256_S512x256_S528x256_d0 (ix2 n k) rfl rfl (ix2 ⟨n.val - 16, h2⟩ k)
      (fun b hb => match b with | ⟨0, _⟩ => absurd rfl hb | ⟨1, _⟩ => rfl) (by show n.val - 16 + 16 = n.val; omega)).trans ?_
    exact drop x0 _ k

/-- A window plus the one before it, by a rotation. -/
theorem doubled (v : FVec Ideal S528x256 .f32) (b : BitVec 32) (w : ℕ) (hb : b.toNat = w) (hw : w < 528) (k : Fin 256) (e : ℕ → EReal) (lo : ℕ)
    (hv : ∀ n : Fin 528, lo ≤ n.val → v (ix2 n k) = window e w n.val) (n : Fin 528) (hn : lo + w ≤ n.val) :
    addf v (dynamicRotate 0 b none v rotates_S528x256_d0) (ix2 n k) = window e (w + w) n.val := by
  have hn' := n.isLt
  have hr : dynamicRotate 0 b none v rotates_S528x256_d0 (ix2 n k) = v (ix2 ⟨n.val - w, by omega⟩ k) :=
    dynamicRotate_apply (s := S528x256) 0 b v _ (ix2 n k) (ix2 ⟨n.val - w, by omega⟩ k) fun a => match a with
      | ⟨0, _⟩ => by
        show n.val - w = (n.val + 528 - b.toNat % 528) % 528
        rw [hb, Nat.mod_eq_of_lt hw]
        omega
      | ⟨1, _⟩ => rfl
  show v (ix2 n k) + dynamicRotate 0 b none v rotates_S528x256_d0 (ix2 n k) = _
  rw [hr, hv n (by omega), hv _ (by show lo ≤ n.val - w; omega)]
  exact window_double e w n.val

theorem pay8_apply (k : Fin 256) (n : Fin 528) (hn : 1 ≤ n.val) : k0_pay8 x0 xs (ix2 n k) = window (bline x0 xs k) 2 n.val :=
  doubled (k0_pay7 x0 xs) 1#32 1 rfl (by decide) k (bline x0 xs k) 0 (fun n _ => (pay7_apply x0 xs n k).trans (window_one _ _).symm) n (by omega)

theorem pay9_apply (k : Fin 256) (n : Fin 528) (hn : 3 ≤ n.val) : k0_pay9 x0 xs (ix2 n k) = window (bline x0 xs k) 4 n.val :=
  doubled (k0_pay8 x0 xs) 2#32 2 rfl (by decide) k (bline x0 xs k) 1 (pay8_apply x0 xs k) n (by omega)

theorem pay10_apply (k : Fin 256) (n : Fin 528) (hn : 7 ≤ n.val) : k0_pay10 x0 xs (ix2 n k) = window (bline x0 xs k) 8 n.val :=
  doubled (k0_pay9 x0 xs) 4#32 4 rfl (by decide) k (bline x0 xs k) 3 (pay9_apply x0 xs k) n (by omega)

theorem pay11_apply (k : Fin 256) (n : Fin 528) (hn : 15 ≤ n.val) : k0_pay11 x0 xs (ix2 n k) = window (bline x0 xs k) 16 n.val :=
  doubled (k0_pay10 x0 xs) 8#32 8 rfl (by decide) k (bline x0 xs k) 7 (pay10_apply x0 xs k) n (by omega)

/-- The rows carried on: the last 16 of the line. -/
theorem pay2_apply (v : FVec Ideal S528x256 .f32) (j : Fin 16) (k : Fin 256) : k0_pay2 v (ix2 j k) = v (ix2 ⟨512 + j.val, by omega⟩ k) :=
  extractStridedSlice_apply _ v slices_S528x256_o512_0_S16x256 _ _ fun a => match a with
    | ⟨0, _⟩ => rfl
    | ⟨1, _⟩ => show k.val = 0 + k.val by omega

theorem pay3_apply (j : Fin 16) (k : Fin 256) : k0_pay3 (k0_pay7 x0 xs) (ix2 j k) = bline x0 xs k (512 + j.val) := by
  unfold k0_pay3
  rw [shapeCast_self, pay2_apply, pay7_apply]

theorem pay4_apply (j : Fin 16) (k : Fin 256) : k0_pay4 (k0_pay7 x0 xs) (ix3 0 j k) = bline x0 xs k (512 + j.val) := by
  unfold k0_pay4
  rw [lift16, pay2_apply, pay7_apply]

theorem pay5_apply (x1 : Vec Ideal S1x16x256 .f32) (j : Fin 16) (k : Fin 256) : k0_pay5 x1 (ix2 j k) = x1 (ix3 0 j k) := by
  unfold k0_pay5
  rw [shapeCast_self, drop16]

end Windows

/-! ## The group of a column -/

/-- The group's number of a column, as the kernel finds it. -/
def groups : IVec S512x256 32 := select k0_pay13 k0_pay14 k0_pay12

theorem groups_row (r : Fin 512) (k : Fin 256) : groups (ix2 r k) = groups (ix2 0 k) := rfl

theorem groups_zero : ∀ k : Fin 256, groups (ix2 0 k) = BitVec.ofNat 32 (k.val / 64) := by decide +kernel

/-- The choice by a group's number. -/
def pick {α : Type} (g : BitVec 32) (a b c d : α) : α :=
  Scalar.select (IntOp.cmpi .eq g 0#32) a (Scalar.select (IntOp.cmpi .eq g 1#32) b (Scalar.select (IntOp.cmpi .eq g 2#32) c d))

theorem pick_group {α : Type} (f : ℕ → α) (g : Fin 4) : pick (BitVec.ofNat 32 g.val) (f 0) (f 1) (f 2) (f 3) = f g.val := by
  fin_cases g <;> rfl

/-- The number of a row in its sequence, as the kernel finds it, and one. -/
theorem rowWord (t r : ℕ) : IntOp.addi (IntOp.addi (Scalar.addi 0#32 (Scalar.muli (BitVec.ofNat 32 t) 512#32)) (BitVec.ofNat 32 r)) 1#32
    = BitVec.ofNat 32 (512 * t + r + 1) := by
  show 0#32 + BitVec.ofNat 32 t * BitVec.ofNat 32 512 + BitVec.ofNat 32 r + BitVec.ofNat 32 1 = _
  rw [BitVec.zero_add, ← BitVec.ofNat_mul, ← BitVec.ofNat_add, ← BitVec.ofNat_add, Nat.mul_comm t 512]

section Block

variable (x0 : Vec Ideal S1x512x256 .f32) (xs : Vec Ideal S16x256 .f32) (x2 : Vec Ideal S256x256 .bf16) (x3 : Vec Ideal S1x256 .f32)

/-- The means less the rows, of a block. -/
def means (a : BitVec 32) : FVec Ideal S512x256 .bf16 := fun i =>
  Ideal.div
      (pick (groups i) (extractStridedSlice S512x256 ![16, 0] (k0_pay8 x0 xs) slices_S528x256_o16_0_S512x256 i)
        (extractStridedSlice S512x256 ![16, 0] (k0_pay9 x0 xs) slices_S528x256_o16_0_S512x256 i)
        (extractStridedSlice S512x256 ![16, 0] (k0_pay10 x0 xs) slices_S528x256_o16_0_S512x256 i)
        (extractStridedSlice S512x256 ![16, 0] (k0_pay11 x0 xs) slices_S528x256_o16_0_S512x256 i))
      (FloatOps.sitofp (F := Ideal) .f32 (IntOp.minsi (pick (groups i) 2#32 4#32 8#32 16#32)
        (IntOp.addi (IntOp.addi (Scalar.addi 0#32 (Scalar.muli a 512#32)) (iota .tc S512x256 32 [0] iota_S512x256_d0_w32 i)) 1#32)))
    - k0_pay6 x0 i

theorem pay15_form (a : BitVec 32) : k0_pay15 a (k0_pay6 x0) (k0_pay8 x0 xs) (k0_pay9 x0 xs) (k0_pay10 x0 xs) (k0_pay11 x0 xs) k0_pay12 k0_pay13 k0_pay14 x2
    = matmul (φ₁ := .bf16) (φ₂ := .bf16) dot_S512x256_S256x256_S512x256_1_0_0_1_n_n none (means x0 xs a) x2 (constant S512x256 .f32 0x00000000#32) := by
  unfold k0_pay15
  dsimp only
  rw [shapeCast_self]
  rfl

theorem slice16 (v : FVec Ideal S528x256 .f32) (r : Fin 512) (k : Fin 256) :
    extractStridedSlice S512x256 ![16, 0] v slices_S528x256_o16_0_S512x256 (ix2 r k) = v (ix2 ⟨16 + r.val, by omega⟩ k) :=
  extractStridedSlice_apply _ v slices_S528x256_o16_0_S512x256 _ _ fun a => match a with
    | ⟨0, _⟩ => rfl
    | ⟨1, _⟩ => show k.val = 0 + k.val by omega

theorem means_apply (t : ℕ) (r : Fin 512) (g : Fin 4) (k : Fin 64) :
    means x0 xs (BitVec.ofNat 32 t) (ix2 r (gcol g k))
      = Ideal.div (window (bline x0 xs (gcol g k)) (width g.val) (r.val + 16)) (count (width g.val) (512 * t + r.val)) - x0 (ix3 0 r (gcol g k)) := by
  have hk := k.isLt
  have hg : groups (ix2 r (gcol g k)) = BitVec.ofNat 32 g.val := by
    rw [groups_row, groups_zero]
    exact congrArg (BitVec.ofNat 32) (by show (g.val * 64 + k.val) / 64 = g.val; omega)
  have hi : iota .tc S512x256 32 [0] iota_S512x256_d0_w32 (ix2 r (gcol g k)) = BitVec.ofNat 32 r.val := iota_single_apply _ _ _ _ _ _
  have hn : ∀ h, (⟨16 + r.val, h⟩ : Fin 528).val = r.val + 16 := fun _ => Nat.add_comm _ _
  unfold means
  dsimp only
  rw [hg, hi, rowWord, slice16, slice16, slice16, slice16, pay8_apply _ _ _ _ (by rw [hn]; omega), pay9_apply _ _ _ _ (by rw [hn]; omega),
    pay10_apply _ _ _ _ (by rw [hn]; omega), pay11_apply _ _ _ _ (by rw [hn]; omega), hn]
  have e1 := pick_group (fun j => window (bline x0 xs (gcol g k)) (width j) (r.val + 16)) g
  have e2 := pick_group (fun j => BitVec.ofNat 32 (width j)) g
  refine congrArg₂ (fun y z : EReal => y - z) (congrArg₂ Ideal.div e1 ?_) (drop x0 r (gcol g k))
  exact congrArg (fun z : BitVec 32 => FloatOps.sitofp (F := Ideal) .f32 (IntOp.minsi z (BitVec.ofNat 32 (512 * t + r.val + 1)))) e2

theorem scrow {α : Type} (x : S1x256.Idx → α) (r : Fin 512) (n : Fin 256) : broadcastTo S512x256 x broadcasts_S1x256_S512x256 (ix2 r n) = x (ix2 0 n) :=
  broadcastTo_apply x _ _ _ fun a => match a with | ⟨0, _⟩ => rfl | ⟨1, _⟩ => rfl

/-- A sum over all columns of terms that vanish outside one group is the sum over the group. -/
theorem sum_group (f : Fin 256 → EReal) (g : Fin 4) (h : ∀ k : Fin 256, k.val / 64 ≠ g.val → f k = 0) : ∑ k, f k = ∑ k : Fin 64, f (gcol g k) := by
  refine (Finset.sum_of_injOn (gcol g) (fun a _ b _ hab => ?_) (fun _ _ => Finset.mem_coe.mpr (Finset.mem_univ _)) (fun k _ hk => h k fun hg => hk ?_) fun _ _ => rfl).symm
  · have := congrArg Fin.val hab
    exact Fin.ext (by simpa [gcol] using this)
  · refine ⟨⟨k.val % 64, Nat.mod_lt _ (by decide)⟩, Finset.mem_coe.mpr (Finset.mem_univ _), Fin.ext ?_⟩
    show g.val * 64 + k.val % 64 = k.val
    omega

/-- A block at a row and a column, where the weights vanish outside the column's group. -/
theorem blockOut_apply (i : grid0.Coords) (t : ℕ) (ht : (i 1).val = t) (r : Fin 512) (g : Fin 4) (n : Fin 64)
    (hz : ∀ k : Fin 256, k.val / 64 ≠ g.val → x2 (ix2 k (gcol g n)) = 0) :
    blockOut i x0 xs x2 x3 (ix3 0 r (gcol g n))
      = (∑ k : Fin 64, (Ideal.div (window (bline x0 xs (gcol g k)) (width g.val) (r.val + 16)) (count (width g.val) (512 * t + r.val)) - x0 (ix3 0 r (gcol g k)))
          * x2 (ix2 (gcol g k) (gcol g n))) * x3 (ix2 0 (gcol g n)) := by
  subst ht
  unfold blockOut k0_pay1
  rw [lift, pay15_form, shapeCast_self]
  refine congrArg₂ (fun y z : EReal => y * z) ?_ (scrow x3 r (gcol g n))
  refine (mmPlain (φ₁ := .bf16) (φ₂ := .bf16) dot_S512x256_S256x256_S512x256_1_0_0_1_n_n rfl _ _ r (gcol g n)).trans ?_
  refine (sum_group _ g fun k hk => ?_).trans (Finset.sum_congr rfl fun k _ => ?_)
  · rw [hz k hk, mul_zero]
  · rw [means_apply]

end Block

end Cert.Pool
-- ==== Proof.PoolHost.lean ====
/-
  What the pooling kernel is called with: the sequence, the carried rows under a row of zeros, the groups' weights on the
  diagonal of one matrix, and the scale.
-/
module

public import proofs.«01_k».proof.Proof.PoolBlock
public import proofs.«01_k».proof.Proof.Proj
public import proofs.«01_k».proof.Proof.RefRow

@[expose] public section

noncomputable section

open scoped BigOperators

namespace Cert.Pool

open Idealize.ShloMosaic Idealize.ShloMosaic.TcCoe Idealize.SL.Sem
open Cert.Kernel7Ideal Cert.Kernel7Ideal.Gen Cert.Moe Cert.Proj
open Cert.KernelIdeal.KPoint (same2)

/-- The two index words of a block on the diagonal. -/
def corner (a : BitVec 32) : IVec S2 32 :=
  concatenate S2 0 [⟨S1, broadcastInDim S1 ![] bcast_S_S1 (constantI S_ 32 a)⟩, ⟨S1, broadcastInDim S1 ![] bcast_S_S1 (constantI S_ 32 a)⟩] concatenates_S1_S1_S2_d0

/-- One group's weights set on the diagonal. -/
def setBlock (x : Vec Ideal S256x256 .f32) (a : BitVec 32) (w : Vec Ideal S1x64x64 .f32) : Vec Ideal S256x256 .f32 :=
  Host.scatter scatter_S256x256_S2_S64x64_01_n_01_0 (fun _ b => b) x (corner a) (shapeCast S64x64 w shapeCasts_S1x64x64_S64x64)

/-- The four groups' weights on the diagonal. -/
def diag (w : Vec Ideal S4x64x64 .f32) : Vec Ideal S256x256 .f32 :=
  setBlock (setBlock (setBlock (setBlock (broadcastInDim S256x256 ![] bcast_S_S256x256 (constant (F := Ideal) S_ .f32 0x00000000#32))
    0#32 (extractStridedSlice S1x64x64 ![0, 0, 0] w slices_S4x64x64_S1x64x64_0_0_0))
    64#32 (extractStridedSlice S1x64x64 ![1, 0, 0] w slices_S4x64x64_S1x64x64_1_0_0))
    128#32 (extractStridedSlice S1x64x64 ![2, 0, 0] w slices_S4x64x64_S1x64x64_2_0_0))
    192#32 (extractStridedSlice S1x64x64 ![3, 0, 0] w slices_S4x64x64_S1x64x64_3_0_0)

/-- One column of a sequence behind its carried rows. -/
def lineOf (h : Vec Ideal S16x15x256 .f32) (u : Vec Ideal S16x4096x256 .f32) (b : Fin 16) (k : Fin 256) : ℕ → EReal :=
  line (fun j => h (ix3 b j k)) (fun s => u (ix3 b s k))

/-- The result of a group at a row: the mean of the rows the window holds, less the row, against the weights, scaled. -/
def mixed (u : Vec Ideal S16x4096x256 .f32) (h : Vec Ideal S16x15x256 .f32) (w : Vec Ideal S4x64x64 .f32) (sc : Vec Ideal S256 .f32)
    (b : Fin 16) (s : Fin 4096) (g : Fin 4) (n : Fin 64) : EReal :=
  (∑ k : Fin 64, (Ideal.div (window (lineOf h u b (gcol g k)) (width g.val) (s.val + 16)) (count (width g.val) s.val) - u (ix3 b s (gcol g k)))
    * w (ix3 g k n)) * sc (ix1 (gcol g n))

theorem width_le : ∀ g : Fin 4, width g.val ≤ 16 := by decide

variable (m : (ℓ : Loc nD τ sig) → Buf (Elt Ideal) ℓ) (c : Dev nD)

theorem V_hist : (V m c main_v0 : Vec Ideal S16x16x256 .f32)
    = pad S16x16x256 ![0, 1, 0] ![0, 0, 0] ![0, 0, 0] (m ((c : Thread nD τ).loc main_arg1) : Vec Ideal S16x15x256 .f32)
        (sitofp (F := Ideal) .f32 (constantI S_ 32 0#32)) pads_S16x15x256_S16x16x256_000_100_000 h_S_ := by
  simp only [V, hostOps0, hostOps0_1, hostOps0_2, List.flatten_cons, List.flatten_nil, List.append_nil, List.cons_append, List.nil_append]; after_results_simp <;> rfl

set_option maxRecDepth 65536 in
theorem V_diag : (V m c main_v26 : Vec Ideal S256x256 .bf16) = truncf (F := Ideal) .bf16 (diag (m ((c : Thread nD τ).loc main_arg2) : Vec Ideal S4x64x64 .f32)) bitsLt_bf16_f32 := by
  unfold diag setBlock corner
  simp only [V, hostOps0, hostOps0_1, hostOps0_2, List.flatten_cons, List.flatten_nil, List.append_nil, List.cons_append, List.nil_append]; after_results_simp <;> rfl

theorem V_scale : (V m c main_v27 : Vec Ideal S1x256 .f32) = shapeCast S1x256 (m ((c : Thread nD τ).loc main_arg3) : Vec Ideal S256 .f32) shapeCasts_S256_S1x256 := by
  simp only [V, hostOps0, hostOps0_1, hostOps0_2, List.flatten_cons, List.flatten_nil, List.append_nil, List.cons_append, List.nil_append]; after_results_simp <;> rfl

/-! ## The weights on the diagonal -/

theorem corner_apply (a : BitVec 32) (i : Fin 2) : corner a (ValueIdx.ix1 i) = a := by
  unfold corner
  fin_cases i
  · exact (concatenate_pair_apply_left (t := S2) (s₁ := S1) (s₂ := S1) 0 _ _ concatenates_S1_S1_S2_d0 _ rfl (ix1 0) fun b => match b with | ⟨0, _⟩ => rfl).trans rfl
  · exact (concatenate_pair_apply_right (t := S2) (s₁ := S1) (s₂ := S1) 0 _ _ concatenates_S1_S1_S2_d0 _ rfl rfl (ix1 0)
      (fun b hb => match b with | ⟨0, _⟩ => absurd rfl hb) rfl).trans rfl

theorem square {α : Type} (x : S1x64x64.Idx → α) (k n : Fin 64) : shapeCast S64x64 x shapeCasts_S1x64x64_S64x64 (ix2 k n) = x (ix3 0 k n) :=
  shapeCast_apply x _ _ _ (by
    rw [rowMajor_val3 _ (64 * 64) 64 rfl rfl, rowMajor_val2 _ 64 rfl]
    show 0 * (64 * 64) + k.val * 64 + n.val = k.val * 64 + n.val
    omega)

theorem setBlock_hit (x : Vec Ideal S256x256 .f32) (a : BitVec 32) (v : Vec Ideal S1x64x64 .f32) (g : Fin 4) (ha : a.toInt = ((g.val * 64 : ℕ) : ℤ)) (k n : Fin 64) :
    setBlock x a v (ix2 (gcol g k) (gcol g n)) = v (ix3 0 k n) := by
  unfold setBlock
  refine (congrArg _ (same2 (gcol g k) (gcol g n)).symm).trans ?_
  refine (block_hit (R := 256) (C := 256) (U := 64) (V := 64) scatter_S256x256_S2_S64x64_01_n_01_0 rfl rfl rfl rfl x (corner a) _ (g.val * 64) (g.val * 64)
    (by rw [corner_apply, ha]) (by rw [corner_apply, ha]) k n (gcol g k) (gcol g n) rfl rfl).trans ?_
  exact (congrArg _ (same2 k n)).trans (square v k n)

theorem setBlock_miss (x : Vec Ideal S256x256 .f32) (a : BitVec 32) (v : Vec Ideal S1x64x64 .f32) (g : Fin 4) (ha : a.toInt = ((g.val * 64 : ℕ) : ℤ)) (r n : Fin 256)
    (h : ¬(r.val / 64 = g.val ∧ n.val / 64 = g.val)) : setBlock x a v (ix2 r n) = x (ix2 r n) := by
  unfold setBlock
  refine (congrArg _ (same2 r n).symm).trans ?_
  refine (block_miss (R := 256) (C := 256) (U := 64) (V := 64) scatter_S256x256_S2_S64x64_01_n_01_0 rfl rfl rfl rfl x (corner a) _ (g.val * 64) (g.val * 64)
    (by rw [corner_apply, ha]) (by rw [corner_apply, ha]) r n (by omega)).trans ?_
  exact congrArg x (same2 r n)

theorem page (w : Vec Ideal S4x64x64 .f32) {o : ℕ} (hs : S4x64x64.Slices ![o, 0, 0] S1x64x64) (g : Fin 4) (hg : g.val = o) (k n : Fin 64) :
    extractStridedSlice S1x64x64 ![o, 0, 0] w hs (ix3 0 k n) = w (ix3 g k n) :=
  extractStridedSlice_apply _ w hs _ _ fun a => match a with
    | ⟨0, _⟩ => show g.val = o + 0 by omega
    | ⟨1, _⟩ => show k.val = 0 + k.val by omega
    | ⟨2, _⟩ => show n.val = 0 + n.val by omega

theorem diag_out (w : Vec Ideal S4x64x64 .f32) (r n : Fin 256) (h : r.val / 64 ≠ n.val / 64) : diag w (ix2 r n) = 0 := by
  unfold diag
  rw [setBlock_miss _ _ _ 3 rfl r n (by omega), setBlock_miss _ _ _ 2 rfl r n (by omega), setBlock_miss _ _ _ 1 rfl r n (by omega),
    setBlock_miss _ _ _ 0 rfl r n (by omega)]
  exact Ideal.ofBits_zero_f32

theorem diag_in (w : Vec Ideal S4x64x64 .f32) (g : Fin 4) (k n : Fin 64) : diag w (ix2 (gcol g k) (gcol g n)) = w (ix3 g k n) := by
  have hk : (gcol g k).val / 64 = g.val := by
    have := k.isLt
    show (g.val * 64 + k.val) / 64 = g.val
    omega
  unfold diag
  match g, hk with
  | ⟨0, _⟩, hk =>
    rw [setBlock_miss _ _ _ 3 rfl _ _ (by rw [hk]; simp), setBlock_miss _ _ _ 2 rfl _ _ (by rw [hk]; simp), setBlock_miss _ _ _ 1 rfl _ _ (by rw [hk]; simp)]
    exact (setBlock_hit _ _ _ 0 rfl k n).trans (page w _ 0 rfl k n)
  | ⟨1, _⟩, hk =>
    rw [setBlock_miss _ _ _ 3 rfl _ _ (by rw [hk]; simp), setBlock_miss _ _ _ 2 rfl _ _ (by rw [hk]; simp)]
    exact (setBlock_hit _ _ _ 1 rfl k n).trans (page w _ 1 rfl k n)
  | ⟨2, _⟩, hk =>
    rw [setBlock_miss _ _ _ 3 rfl _ _ (by rw [hk]; simp)]
    exact (setBlock_hit _ _ _ 2 rfl k n).trans (page w _ 2 rfl k n)
  | ⟨3, _⟩, hk => exact (setBlock_hit _ _ _ 3 rfl k n).trans (page w _ 3 rfl k n)

/-- The carried rows under a row of zeros. -/
theorem pad_zero (h : Vec Ideal S16x15x256 .f32) (v : FVec Ideal S_ .f32) (hv : v (Shape.Idx.first h_S_) = 0) (b : Fin 16) (k : Fin 256) :
    pad S16x16x256 ![0, 1, 0] ![0, 0, 0] ![0, 0, 0] h v pads_S16x15x256_S16x16x256_000_100_000 h_S_ (ix3 b 0 k) = 0 :=
  (pad_apply_of_not_inside (s := S16x15x256) _ _ _ h v _ _ (ix3 b 0 k) 1 (fun q => absurd (show 1 ≤ 0 from q.1) (by decide))).trans hv

theorem pad_row (h : Vec Ideal S16x15x256 .f32) (v : FVec Ideal S_ .f32) (b : Fin 16) (j : Fin 15) (i : Fin 16) (hi : i.val = j.val + 1) (k : Fin 256) :
    pad S16x16x256 ![0, 1, 0] ![0, 0, 0] ![0, 0, 0] h v pads_S16x15x256_S16x16x256_000_100_000 h_S_ (ix3 b i k) = h (ix3 b j k) :=
  pad_apply_of_inside (s := S16x15x256) _ _ _ h v _ _ (ix3 b i k) (ix3 b j k) fun a => match a with
    | ⟨0, _⟩ => show b.val = 0 + b.val * (0 + 1) by omega
    | ⟨1, _⟩ => show i.val = 1 + j.val * (0 + 1) by omega
    | ⟨2, _⟩ => show k.val = 0 + k.val * (0 + 1) by omega

theorem scale_row {α : Type} (x : S256.Idx → α) (k : Fin 256) : shapeCast S1x256 x shapeCasts_S256_S1x256 (ix2 0 k) = x (ix1 k) :=
  shapeCast_apply _ _ _ _ (by
    refine (rowMajor_val1 (ix1 k)).trans (Eq.trans ?_ (rowMajor_val2 _ 256 rfl).symm)
    show k.val = 0 * 256 + k.val
    omega)

end Cert.Pool
-- ==== Proof.PoolOut.lean ====
/-
  What the pooling kernel leaves: each block of the output from the line of rows behind it, and the rows carried out of the
  sequence.
-/
module

public import proofs.«01_k».proof.Proof.PoolCarry
public import proofs.«01_k».proof.Proof.PoolHost
public import proofs.«01_k».proof.Proof.MemAttn
public import proofs.«01_k».proof.Proof.Gen.Kernel7Ideal.Value

@[expose] public section

noncomputable section

open scoped BigOperators

namespace Cert.Pool

open Idealize.ShloMosaic Idealize.ShloMosaic.TcCoe Idealize.SL.Sem
open Cert.Kernel7Ideal Cert.Kernel7Ideal.Gen Cert.Moe Cert.Proj
open Cert.MemAttn (emb3 emb2)

variable (m : (ℓ : Loc nD τ sig) → Buf (Elt Ideal) ℓ) (c : Dev nD)

abbrev uA : Vec Ideal S16x4096x256 .f32 := m ((c : Thread nD τ).loc main_arg0)
abbrev hA : Vec Ideal S16x15x256 .f32 := m ((c : Thread nD τ).loc main_arg1)
abbrev wA : Vec Ideal S4x64x64 .f32 := m ((c : Thread nD τ).loc main_arg2)
abbrev sA : Vec Ideal S256 .f32 := m ((c : Thread nD τ).loc main_arg3)

theorem N_0 : cfg0.N = 128 := by decide +kernel
theorem coord1 : ∀ t : Fin cfg0.N, ((grid0.coords t) 1).val = t.val % 8 :=
  (by decide +kernel : ∀ t : Fin grid0.N, ((grid0.coords t) 1).val = t.val % 8)

theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

section Blocks

variable (t : Fin cfg0.N) (b : Fin 16) (hb : b.val = t.val / 8)

include hb in
theorem blk0 (r : Fin 512) (s : Fin 4096) (hs : s.val = t.val % 8 * 512 + r.val) (k : Fin 256) : rowsB m c t (ix3 0 r k) = uA m c (ix3 b s k) := by
  unfold rowsB iblk
  rw [View.read_apply]
  show V m c main_arg0 _ = _
  rw [V_main_arg0]
  exact congrArg (uA m c) (emb3 (((cfg0.win 0).blk t).view.emb (ix3 0 r k)) _ _ _ (t.val / 8) (t.val % 8) r k b s rfl rfl rfl (idx0 t) hb hs)

include hb in
theorem blk1 (i : Fin 16) (k : Fin 256) : histB m c t (ix3 0 i k) = lineOf (hA m c) (uA m c) b k i.val := by
  have h : histB m c t (ix3 0 i k) = (V m c main_v0 : Vec Ideal S16x16x256 .f32) (ix3 b i k) := by
    unfold histB iblk
    rw [View.read_apply]
    exact congrArg (V m c main_v0 : Vec Ideal S16x16x256 .f32)
      (emb3 (((cfg0.win 1).blk t).view.emb (ix3 0 i k)) _ _ _ (t.val / 8) 0 i k b i rfl rfl rfl (idx1 t) hb (by omega))
  rw [h, V_hist]
  obtain ⟨i, hi⟩ := i
  match i, hi with
  | 0, _ => exact (pad_zero _ _ (by show (((0#32 : BitVec 32).toInt : ℝ) : EReal) = 0; simp) b k).trans (by unfold lineOf line; rfl)
  | j + 1, hj => exact (pad_row _ _ b ⟨j, by omega⟩ ⟨j + 1, hj⟩ rfl k).trans (line_hist (fun j => hA m c (ix3 b j k)) (fun s => uA m c (ix3 b s k)) (j + 1) ⟨j, by omega⟩ rfl).symm

theorem blk2 (k n : Fin 256) : wB m c t (ix2 k n) = diag (wA m c) (ix2 k n) := by
  have h : wB m c t (ix2 k n) = (V m c main_v26 : Vec Ideal S256x256 .bf16) (ix2 k n) := by
    unfold wB iblk
    rw [View.read_apply]
    exact congrArg (V m c main_v26 : Vec Ideal S256x256 .bf16) (emb2 (((cfg0.win 2).blk t).view.emb (ix2 k n)) _ _ k n rfl rfl (idx2 t))
  rw [h, V_diag]
  exact ValueIdx.truncf_apply (diag (wA m c)) _ _

theorem blk3 (k : Fin 256) : scB m c t (ix2 0 k) = sA m c (ix1 k) := by
  have h : scB m c t (ix2 0 k) = (V m c main_v27 : Vec Ideal S1x256 .f32) (ix2 0 k) := by
    unfold scB iblk
    rw [View.read_apply]
    exact congrArg (V m c main_v27 : Vec Ideal S1x256 .f32) (emb2 (((cfg0.win 3).blk t).view.emb (ix2 0 k)) _ _ 0 k rfl rfl (idx3 t))
  rw [h, V_scale]
  exact scale_row _ k

include hb in
/-- The line of a block is the sequence's line from the block's place on. -/
theorem bline_eq (xs : Vec Ideal S16x256 .f32) (hxs : ∀ (i : Fin 16) (k : Fin 256), xs (ix2 i k) = lineOf (hA m c) (uA m c) b k (512 * (t.val % 8) + i.val))
    (k : Fin 256) (n : ℕ) (hn : n < 528) : bline (rowsB m c t) xs k n = lineOf (hA m c) (uA m c) b k (512 * (t.val % 8) + n) := by
  unfold bline
  by_cases h : n < 16
  · rw [dif_pos h, hxs]
  · have h2 : n - 16 < 512 := by omega
    rw [dif_neg h, dif_pos h2]
    have hq : t.val % 8 < 8 := Nat.mod_lt _ (by decide)
    refine (blk0 m c t b hb ⟨n - 16, h2⟩ ⟨t.val % 8 * 512 + (n - 16), by omega⟩ rfl k).trans ?_
    refine (line_seq (fun j => hA m c (ix3 b j k)) (fun s => uA m c (ix3 b s k)) _ ⟨t.val % 8 * 512 + (n - 16), by omega⟩ ?_).symm
    show 512 * (t.val % 8) + n = t.val % 8 * 512 + (n - 16) + 16
    omega

end Blocks

/-- The batch a point's rows come from. -/
def batch (t : Fin cfg0.N) : Fin 16 := ⟨t.val / 8, by have := lt_of_lt_of_eq t.isLt N_0; omega⟩

/-- The rows carried on after a point. -/
theorem carried (j : ℕ) : ∀ t : Fin cfg0.N, t.val % 8 = j → ∀ (i : Fin 16) (k : Fin 256),
    ((outsAt0 m c t.val t.isLt).2.2 : Vec Ideal S16x256 .f32) (ix2 i k) = lineOf (hA m c) (uA m c) (batch t) k (512 * (t.val % 8) + (512 + i.val)) := by
  induction j with
  | zero =>
    intro t ht i k
    rw [A_carry m c t ht, pay3_apply, bline_eq m c t (batch t) rfl _ _ k _ (by omega)]
    intro i k
    rw [pay5_apply, blk1 m c t (batch t) rfl i k, ht, Nat.mul_zero, Nat.zero_add]
  | succ j ih =>
    intro t ht i k
    have h0 : ¬t.val % 8 = 0 := by omega
    rw [later_carry m c t h0, pay3_apply, bline_eq m c t (batch t) rfl _ _ k _ (by omega)]
    intro i k
    have hb : batch ⟨t.val - 1, Nat.lt_of_le_of_lt (Nat.sub_le _ _) t.isLt⟩ = batch t := Fin.ext (by show (t.val - 1) / 8 = t.val / 8; omega)
    have h := ih ⟨t.val - 1, Nat.lt_of_le_of_lt (Nat.sub_le _ _) t.isLt⟩ (by show (t.val - 1) % 8 = j; omega) i k
    rw [hb] at h
    refine h.trans (congrArg (lineOf (hA m c) (uA m c) (batch t) k) ?_)
    show 512 * ((t.val - 1) % 8) + (512 + i.val) = 512 * (t.val % 8) + i.val
    omega

theorem before_later (t : Fin cfg0.N) (h0 : ¬t.val % 8 = 0) (i : Fin 16) (k : Fin 256) :
    prev m c t (ix2 i k) = lineOf (hA m c) (uA m c) (batch t) k (512 * (t.val % 8) + i.val) := by
  have hb : batch ⟨t.val - 1, Nat.lt_of_le_of_lt (Nat.sub_le _ _) t.isLt⟩ = batch t := Fin.ext (by show (t.val - 1) / 8 = t.val / 8; omega)
  have h := carried m c _ ⟨t.val - 1, Nat.lt_of_le_of_lt (Nat.sub_le _ _) t.isLt⟩ rfl i k
  rw [hb] at h
  refine h.trans (congrArg (lineOf (hA m c) (uA m c) (batch t) k) ?_)
  show 512 * ((t.val - 1) % 8) + (512 + i.val) = 512 * (t.val % 8) + i.val
  omega

/-- A point's block, given the 16 rows before it. -/
theorem block_mixed (t : Fin cfg0.N) (xs : Vec Ideal S16x256 .f32)
    (hxs : ∀ (i : Fin 16) (k : Fin 256), xs (ix2 i k) = lineOf (hA m c) (uA m c) (batch t) k (512 * (t.val % 8) + i.val))
    (r : Fin 512) (s : Fin 4096) (hs : s.val = 512 * (t.val % 8) + r.val) (g : Fin 4) (n : Fin 64) :
    blockOut (grid0.coords t) (rowsB m c t) xs (wB m c t) (scB m c t) (ix3 0 r (gcol g n)) = mixed (uA m c) (hA m c) (wA m c) (sA m c) (batch t) s g n := by
  have hr := r.isLt
  rw [blockOut_apply (rowsB m c t) xs (wB m c t) (scB m c t) (grid0.coords t) (t.val % 8) (coord1 t) r g n fun k hk => by
    rw [blk2]
    refine diag_out _ _ _ fun e => hk (e.trans ?_)
    have := n.isLt
    show (g.val * 64 + n.val) / 64 = g.val
    omega]
  unfold mixed
  rw [blk3]
  refine congrArg (· * _) (Finset.sum_congr rfl fun k _ => ?_)
  rw [blk2, diag_in, blk0 m c t (batch t) rfl r s (by omega), hs,
    window_congr (bline (rowsB m c t) xs (gcol g k)) (lineOf (hA m c) (uA m c) (batch t) (gcol g k)) (width g.val) (r.val + 16) (512 * (t.val % 8) + r.val + 16)]
  intro j hj
  have hw := width_le g
  rw [bline_eq m c t (batch t) rfl xs hxs _ _ (by omega)]
  exact congrArg _ (by omega)

theorem out_mixed (t : Fin cfg0.N) (r : Fin 512) (s : Fin 4096) (hs : s.val = 512 * (t.val % 8) + r.val) (g : Fin 4) (n : Fin 64) :
    ((outsAt0 m c t.val t.isLt).1 : Vec Ideal S1x512x256 .bf16) (ix3 0 r (gcol g n)) = mixed (uA m c) (hA m c) (wA m c) (sA m c) (batch t) s g n := by
  by_cases h0 : t.val % 8 = 0
  · rw [A_out m c t h0]
    refine block_mixed m c t _ (fun i k => ?_) r s hs g n
    rw [pay5_apply, blk1 m c t (batch t) rfl i k, h0, Nat.mul_zero, Nat.zero_add]
  · rw [later_out m c t h0]
    exact block_mixed m c t _ (before_later m c t h0) r s hs g n

/-- The first result of the call at an index. -/
theorem G4_apply (b : Fin 16) (s : Fin 4096) (g : Fin 4) (n : Fin 64) :
    (Value.G4 m c : Vec Ideal S16x4096x256 .bf16) (ix3 b s (gcol g n)) = mixed (uA m c) (hA m c) (wA m c) (sA m c) b s g n := by
  have hb := b.isLt
  have hs := s.isLt
  have hn := (gcol g n).isLt
  have hpt : Value.pt4Of (ix3 b s (gcol g n) : S16x4096x256.Idx) = 8 * b.val + s.val / 512 := by
    show 8 * (b.val / 1 - 0) + 1 * (s.val / 512 - 0) + 1 * ((gcol g n).val / 256 - 0) = _
    omega
  have hlt : 8 * b.val + s.val / 512 < cfg0.N := lt_of_lt_of_eq (show 8 * b.val + s.val / 512 < 128 by omega) N_0.symm
  have hloc : Value.loc4Of (ix3 b s (gcol g n) : S16x4096x256.Idx) = ix3 0 ⟨s.val % 512, Nat.mod_lt _ (by decide)⟩ (gcol g n) := by
    funext a
    apply Fin.ext
    match a with
    | ⟨0, _⟩ => show b.val % 1 = 0; omega
    | ⟨1, _⟩ => rfl
    | ⟨2, _⟩ => show (gcol g n).val % 256 = (gcol g n).val; omega
  unfold Value.G4
  rw [dif_pos (by rw [hpt]; exact hlt), hloc, Value.fold0_congr m c _ _ (8 * b.val + s.val / 512) (by omega) hpt, ← Value.outsAt0_sweep m c _ hlt]
  refine (out_mixed m c ⟨8 * b.val + s.val / 512, hlt⟩ ⟨s.val % 512, Nat.mod_lt _ (by decide)⟩ s ?_ g n).trans ?_
  · show s.val = 512 * ((8 * b.val + s.val / 512) % 8) + s.val % 512
    omega
  · refine congrArg (fun b => mixed (uA m c) (hA m c) (wA m c) (sA m c) b s g n) (Fin.ext ?_)
    show (8 * b.val + s.val / 512) / 8 = b.val
    omega

/-- The second result of the call at an index. -/
theorem G5_apply (b : Fin 16) (j : Fin 16) (k : Fin 256) :
    (Value.G5 m c : Vec Ideal S16x16x256 .f32) (ix3 b j k) = lineOf (hA m c) (uA m c) b k (4096 + j.val) := by
  have hb := b.isLt
  have hj := j.isLt
  have hk := k.isLt
  have hpt : Value.pt5Of (ix3 b j k : S16x16x256.Idx) = 8 * b.val + 7 := by
    show 8 * (1 * (b.val / 1 - 0) + 1 * (j.val / 16 - 0) + 1 * (k.val / 256 - 0)) + 7 = _
    omega
  have hlt : 8 * b.val + 7 < cfg0.N := lt_of_lt_of_eq (show 8 * b.val + 7 < 128 by omega) N_0.symm
  have hloc : Value.loc5Of (ix3 b j k : S16x16x256.Idx) = ix3 0 j k := by
    funext a
    apply Fin.ext
    match a with
    | ⟨0, _⟩ => show b.val % 1 = 0; omega
    | ⟨1, _⟩ => show j.val % 16 = j.val; omega
    | ⟨2, _⟩ => show k.val % 256 = k.val; omega
  have h7 : (8 * b.val + 7) % 8 = 7 := by omega
  have hbt : batch ⟨8 * b.val + 7, hlt⟩ = b := Fin.ext (by show (8 * b.val + 7) / 8 = b.val; omega)
  unfold Value.G5
  rw [dif_pos (by rw [hpt]; exact hlt), hloc, Value.fold0_congr m c _ _ (8 * b.val + 7) (by omega) hpt, ← Value.outsAt0_sweep m c _ hlt]
  refine (congrFun (last_rows m c ⟨8 * b.val + 7, hlt⟩ h7) (ix3 0 j k)).trans ?_
  rw [pay4_apply, bline_eq m c ⟨8 * b.val + 7, hlt⟩ b (by show b.val = (8 * b.val + 7) / 8; omega) _ _ k _ (by omega)]
  · exact congrArg _ (by show 512 * ((8 * b.val + 7) % 8) + (512 + j.val) = 4096 + j.val; omega)
  · intro i k
    rw [before_later m c ⟨8 * b.val + 7, hlt⟩ (by show ¬(8 * b.val + 7) % 8 = 0; omega) i k, hbt]

end Cert.Pool
-- ==== Proof.PoolRef.lean ====
/-
  What the reference of the pooling call returns, at an index.
-/
module

public import proofs.«01_k».proof.Proof.PoolHost
public import proofs.«01_k».proof.Proof.Gen.Reference7Ideal.Read

@[expose] public section

noncomputable section

open scoped BigOperators

namespace Cert.PoolRef

open Idealize.ShloMosaic Idealize.ShloMosaic.TcCoe Idealize.SL.Sem
open Cert.Reference7Ideal Cert.Reference7Ideal.Gen Cert.Reference7Ideal.Read Cert.Moe Cert.Pool

variable (x0 : Vec Ideal S16x4096x256 .f32) (x1 : Vec Ideal S16x15x256 .f32) (x2 : Vec Ideal S4x64x64 .f32) (x3 : Vec Ideal S256 .f32)

/-- The carried rows before the sequence are the line from its second entry on. -/
theorem ext_apply (b : Fin 16) (n : Fin 4111) (k : Fin 256) : val_main_v0 (F := Ideal) x0 x1 (ix3 b n k) = lineOf x1 x0 b k (n.val + 1) := by
  have hn := n.isLt
  unfold val_main_v0 lineOf
  by_cases h : n.val < 15
  · refine (concatenate_pair_apply_left (t := S16x4111x256) (s₁ := S16x15x256) (s₂ := S16x4096x256) 1 x1 x0 _ (ix3 b n k) rfl (ix3 b ⟨n.val, h⟩ k)
      fun a => match a with | ⟨0, _⟩ => rfl | ⟨1, _⟩ => rfl | ⟨2, _⟩ => rfl).trans ?_
    exact (line_hist (fun j => x1 (ix3 b j k)) (fun s => x0 (ix3 b s k)) (n.val + 1) ⟨n.val, h⟩ rfl).symm
  · refine (concatenate_pair_apply_right (t := S16x4111x256) (s₁ := S16x15x256) (s₂ := S16x4096x256) 1 x1 x0 _ (ix3 b n k) rfl rfl
      (ix3 b ⟨n.val - 15, by omega⟩ k) (fun a ha => match a with | ⟨0, _⟩ => rfl | ⟨1, _⟩ => absurd rfl ha | ⟨2, _⟩ => rfl)
      (show n.val - 15 + 15 = n.val by omega)).trans ?_
    exact (line_seq (fun j => x1 (ix3 b j k)) (fun s => x0 (ix3 b s k)) (n.val + 1) ⟨n.val - 15, by omega⟩ (show n.val + 1 = n.val - 15 + 16 by omega)).symm

variable (b : Fin 16) (s : Fin 4096)

theorem slice_ext (o : ℕ) (ho : o ≤ 15) (hs : S16x4111x256.Slices ![0, o, 0] S16x4096x256) (k : Fin 256) :
    extractStridedSlice S16x4096x256 ![0, o, 0] (val_main_v0 (F := Ideal) x0 x1) hs (ix3 b s k) = lineOf x1 x0 b k (s.val + 16 - (15 - o)) := by
  have := s.isLt
  refine (extractStridedSlice_apply _ _ hs (ix3 b s k) (ix3 b ⟨o + s.val, by omega⟩ k) fun a => match a with
    | ⟨0, _⟩ => show b.val = 0 + b.val by omega
    | ⟨1, _⟩ => show o + s.val = o + s.val from rfl
    | ⟨2, _⟩ => show k.val = 0 + k.val by omega).trans ?_
  rw [ext_apply]
  exact congrArg _ (show o + s.val + 1 = s.val + 16 - (15 - o) by omega)

/-- A running total takes the rows one place further back. -/
theorem further {A : FVec Ideal S16x4096x256 .f32} {o : ℕ} {hs : S16x4111x256.Slices ![0, o, 0] S16x4096x256} (w : ℕ) (how : o + w = 15)
    (hA : ∀ k, A (ix3 b s k) = window (lineOf x1 x0 b k) w (s.val + 16)) (k : Fin 256) :
    addf A (extractStridedSlice S16x4096x256 ![0, o, 0] (val_main_v0 (F := Ideal) x0 x1) hs) (ix3 b s k) = window (lineOf x1 x0 b k) (w + 1) (s.val + 16) := by
  unfold window
  rw [Finset.sum_range_succ]
  refine congrArg₂ (fun y z : EReal => y + z) (hA k) ((slice_ext x0 x1 b s o (by omega) hs k).trans (congrArg _ ?_))
  omega

theorem total1 (k : Fin 256) : val_main_v5 (F := Ideal) x0 x1 (ix3 b s k) = window (lineOf x1 x0 b k) 1 (s.val + 16) :=
  (slice_ext x0 x1 b s 15 le_rfl _ k).trans (window_one _ _).symm

theorem total2 : ∀ k, val_main_v7 (F := Ideal) x0 x1 (ix3 b s k) = window (lineOf x1 x0 b k) 2 (s.val + 16) :=
  further x0 x1 b s 1 rfl (total1 x0 x1 b s)

theorem total4 : ∀ k, val_main_v22 (F := Ideal) x0 x1 (ix3 b s k) = window (lineOf x1 x0 b k) 4 (s.val + 16) :=
  further x0 x1 b s 3 rfl (further x0 x1 b s 2 rfl (total2 x0 x1 b s))

theorem total8 : ∀ k, val_main_v42 (F := Ideal) x0 x1 (ix3 b s k) = window (lineOf x1 x0 b k) 8 (s.val + 16) :=
  further x0 x1 b s 7 rfl (further x0 x1 b s 6 rfl (further x0 x1 b s 5 rfl (further x0 x1 b s 4 rfl (total4 x0 x1 b s))))

theorem total16 : ∀ k, val_main_v70 (F := Ideal) x0 x1 (ix3 b s k) = window (lineOf x1 x0 b k) 16 (s.val + 16) :=
  further x0 x1 b s 15 rfl (further x0 x1 b s 14 rfl (further x0 x1 b s 13 rfl (further x0 x1 b s 12 rfl
    (further x0 x1 b s 11 rfl (further x0 x1 b s 10 rfl (further x0 x1 b s 9 rfl (further x0 x1 b s 8 rfl (total8 x0 x1 b s))))))))

theorem columns (x : Vec Ideal S16x4096x256 .f32) (g : Fin 4) (p : ℕ) (hp : p = g.val * 64) (hs : S16x4096x256.Slices ![0, 0, p] S16x4096x64) (k : Fin 64) :
    extractStridedSlice S16x4096x64 ![0, 0, p] x hs (ix3 b s k) = x (ix3 b s (gcol g k)) :=
  extractStridedSlice_apply _ _ hs _ _ fun a => match a with
    | ⟨0, _⟩ => show b.val = 0 + b.val by omega
    | ⟨1, _⟩ => show s.val = 0 + s.val by omega
    | ⟨2, _⟩ => show g.val * 64 + k.val = p + k.val by omega

theorem slice_mat (g : Fin 4) (o : ℕ) (ho : g.val = o) (hs : S4x64x64.Slices ![o, 0, 0] S1x64x64) (k n : Fin 64) :
    shapeCast S64x64 (extractStridedSlice S1x64x64 ![o, 0, 0] x2 hs) shapeCasts_S1x64x64_S64x64 (ix2 k n) = x2 (ix3 g k n) :=
  (square _ k n).trans (page x2 hs g ho k n)

/-- The lengths the means divide by, spread over batches and columns. -/
def lengths (w : BitVec 32) : FVec Ideal S16x4096x64 .f32 :=
  broadcastInDim S16x4096x64 ![0, 1, 2] bcast_S1x4096x1_S16x4096x64_0_1_2
    (sitofp (F := Ideal) .f32 (minsi (broadcastInDim S1x4096x1 ![] bcast_S_S1x4096x1 (constantI S_ 32 w)) (val_main_v4 (F := Ideal))))

theorem lengths_apply (w : ℕ) (k : Fin 64) : lengths (BitVec.ofNat 32 w) (ix3 b s k) = count w s.val := by
  unfold lengths
  refine (broadcastInDim_apply _ _ _ _ (ix3 0 s 0) fun a => match a with | ⟨0, _⟩ => rfl | ⟨1, _⟩ => rfl | ⟨2, _⟩ => rfl).trans ?_
  unfold Pool.count
  refine congrArg (fun z : BitVec 32 => FloatOps.sitofp (F := Ideal) .f32 (IntOp.minsi (BitVec.ofNat 32 w) z)) ?_
  rw [val_main_v4_apply]
  exact (BitVec.ofNat_add s.val 1).symm

/-- One group's columns at a row, before the scale. -/
def grouped (s : Fin 4096) (g : Fin 4) (n : Fin 64) : EReal :=
  ∑ k : Fin 64, (Ideal.div (window (lineOf x1 x0 b (gcol g k)) (width g.val) (s.val + 16)) (count (width g.val) s.val) - x0 (ix3 b s (gcol g k))) * x2 (ix3 g k n)

/-- One group: the mean less the sequence, against the group's weights. -/
theorem group_apply (g : Fin 4) (p : ℕ) (hp : p = g.val * 64) (A : FVec Ideal S16x4096x256 .f32) (hs : S16x4096x256.Slices ![0, 0, p] S16x4096x64)
    (o : ℕ) (ho : g.val = o) (hw : S4x64x64.Slices ![o, 0, 0] S1x64x64) (n : Fin 64)
    (hA : ∀ k, A (ix3 b s k) = window (lineOf x1 x0 b k) (width g.val) (s.val + 16)) :
    Host.dotGeneral dot_S16x4096x64_S64x64_S16x4096x64_2_0_01_1_n_n none
        (subf (Host.divf (extractStridedSlice S16x4096x64 ![0, 0, p] A hs) (lengths (BitVec.ofNat 32 (width g.val)))) (extractStridedSlice S16x4096x64 ![0, 0, p] x0 hs) : FVec Ideal S16x4096x64 .f32)
        (shapeCast S64x64 (extractStridedSlice S1x64x64 ![o, 0, 0] x2 hw) shapeCasts_S1x64x64_S64x64 : FVec Ideal S64x64 .f32) (ix3 b s n)
      = grouped x0 x1 x2 b s g n := by
  simp only [Host.dotGeneral]
  rw [Ideal.dotGeneral_apply, ← Equiv.sum_comp (ValueIdx.contrEquiv1 dot_S16x4096x64_S64x64_S16x4096x64_2_0_01_1_n_n 64 rfl rfl).symm]
  refine Finset.sum_congr rfl fun k _ => ?_
  have hk := ValueIdx.contrEquiv1_symm_val dot_S16x4096x64_S64x64_S16x4096x64_2_0_01_1_n_n 64 rfl rfl k
  refine congrArg₂ (fun y z : EReal => y * z) ((congrArg (subf (Host.divf _ _) _) (Cert.ReferenceIdeal.Route.three3 _ b s k ?_ ?_ ?_)).trans
    (congrArg₂ (fun y z : EReal => y - z) (congrArg₂ Ideal.div ((columns b s A g p hp hs k).trans (hA _)) (lengths_apply b s _ k)) (columns b s x0 g p hp hs k)))
    ((congrArg _ (Cert.ReferenceIdeal.Route.two2 _ k n ?_ ?_)).trans (slice_mat x2 g o ho hw k n))
  · exact Fin.ext (lhs_main_v18_0 _ _)
  · exact Fin.ext (lhs_main_v18_1 _ _)
  · exact Fin.ext ((lhs_main_v18_2 _ _).trans hk)
  · exact Fin.ext ((rhs_main_v18_0 _ _).trans hk)
  · exact Fin.ext (rhs_main_v18_1 _ _)

/-- The four groups side by side. -/
theorem groups_apply (g : Fin 4) (n : Fin 64) : val_main_v82 (F := Ideal) x0 x1 x2 (ix3 b s (gcol g n)) = grouped x0 x1 x2 b s g n := by
  unfold val_main_v82
  have left2 : ∀ (A : FVec Ideal S16x4096x192 .f32) (B : FVec Ideal S16x4096x64 .f32) (q : Fin 192), q.val = (gcol g n).val →
      concatenate S16x4096x256 2 [⟨S16x4096x192, A⟩, ⟨S16x4096x64, B⟩] concatenates_S16x4096x192_S16x4096x64_S16x4096x256_d2 (ix3 b s (gcol g n)) = A (ix3 b s q) := fun A B q hq =>
    concatenate_pair_apply_left (t := S16x4096x256) (s₁ := S16x4096x192) (s₂ := S16x4096x64) 2 A B _ _ rfl (ix3 b s q)
      fun a => match a with | ⟨0, _⟩ => rfl | ⟨1, _⟩ => rfl | ⟨2, _⟩ => hq
  have left1 : ∀ (A : FVec Ideal S16x4096x128 .f32) (B : FVec Ideal S16x4096x64 .f32) (q : Fin 192) (r : Fin 128), r.val = q.val →
      concatenate S16x4096x192 2 [⟨S16x4096x128, A⟩, ⟨S16x4096x64, B⟩] concatenates_S16x4096x128_S16x4096x64_S16x4096x192_d2 (ix3 b s q) = A (ix3 b s r) := fun A B q r hq =>
    concatenate_pair_apply_left (t := S16x4096x192) (s₁ := S16x4096x128) (s₂ := S16x4096x64) 2 A B _ _ rfl (ix3 b s r)
      fun a => match a with | ⟨0, _⟩ => rfl | ⟨1, _⟩ => rfl | ⟨2, _⟩ => hq
  have hn := n.isLt
  match g with
  | ⟨3, _⟩ =>
    refine (concatenate_pair_apply_right (t := S16x4096x256) (s₁ := S16x4096x192) (s₂ := S16x4096x64) 2 _ _ _ (ix3 b s (gcol 3 n)) rfl rfl (ix3 b s n)
      (fun a ha => match a with | ⟨0, _⟩ => rfl | ⟨1, _⟩ => rfl | ⟨2, _⟩ => absurd rfl ha) (show n.val + 192 = 3 * 64 + n.val by omega)).trans ?_
    exact group_apply x0 x1 x2 b s 3 192 rfl _ _ 3 rfl _ n (total16 x0 x1 b s)
  | ⟨2, _⟩ =>
    refine (left2 _ _ ⟨128 + n.val, by omega⟩ rfl).trans ?_
    refine (concatenate_pair_apply_right (t := S16x4096x192) (s₁ := S16x4096x128) (s₂ := S16x4096x64) 2 _ _ _ (ix3 b s ⟨128 + n.val, by omega⟩) rfl rfl (ix3 b s n)
      (fun a ha => match a with | ⟨0, _⟩ => rfl | ⟨1, _⟩ => rfl | ⟨2, _⟩ => absurd rfl ha) (show n.val + 128 = 128 + n.val by omega)).trans ?_
    exact group_apply x0 x1 x2 b s 2 128 rfl _ _ 2 rfl _ n (total8 x0 x1 b s)
  | ⟨1, _⟩ =>
    refine (left2 _ _ ⟨64 + n.val, by omega⟩ (by show 64 + n.val = 1 * 64 + n.val; omega)).trans ?_
    refine (left1 _ _ _ ⟨64 + n.val, by omega⟩ rfl).trans ?_
    refine (concatenate_pair_apply_right (t := S16x4096x128) (s₁ := S16x4096x64) (s₂ := S16x4096x64) 2 _ _ _ (ix3 b s ⟨64 + n.val, by omega⟩) rfl rfl (ix3 b s n)
      (fun a ha => match a with | ⟨0, _⟩ => rfl | ⟨1, _⟩ => rfl | ⟨2, _⟩ => absurd rfl ha) (show n.val + 64 = 64 + n.val by omega)).trans ?_
    exact group_apply x0 x1 x2 b s 1 64 rfl _ _ 1 rfl _ n (total4 x0 x1 b s)
  | ⟨0, _⟩ =>
    refine (left2 _ _ ⟨n.val, by omega⟩ (by show n.val = 0 * 64 + n.val; omega)).trans ?_
    refine (left1 _ _ _ ⟨n.val, by omega⟩ rfl).trans ?_
    refine (concatenate_pair_apply_left (t := S16x4096x128) (s₁ := S16x4096x64) (s₂ := S16x4096x64) 2 _ _ _ (ix3 b s ⟨n.val, by omega⟩) rfl (ix3 b s n)
      fun a => match a with | ⟨0, _⟩ => rfl | ⟨1, _⟩ => rfl | ⟨2, _⟩ => rfl).trans ?_
    exact group_apply x0 x1 x2 b s 0 0 rfl _ _ 0 rfl _ n (total2 x0 x1 b s)

/-- The first result of the reference at an index. -/
theorem out_apply (g : Fin 4) (n : Fin 64) : val_main_v86 (F := Ideal) x0 x1 x2 x3 (ix3 b s (gcol g n)) = mixed x0 x1 x2 x3 b s g n := by
  rw [val_main_v86_apply, val_main_v85_apply]
  refine congrArg₂ (fun y z : EReal => y * z) (groups_apply x0 x1 x2 b s g n) ?_
  rw [val_main_v84_apply, val_main_v83_apply]
  exact congrArg x3 (funext fun a => match a with | ⟨0, _⟩ => rfl)

/-- The second result of the reference at an index. -/
theorem rows_apply (j : Fin 16) (k : Fin 256) : val_main_v87 (F := Ideal) x0 x1 (ix3 b j k) = lineOf x1 x0 b k (4096 + j.val) := by
  have := j.isLt
  unfold val_main_v87
  refine (extractStridedSlice_apply _ _ _ (ix3 b j k) (ix3 b ⟨4095 + j.val, by omega⟩ k) fun a => match a with
    | ⟨0, _⟩ => show b.val = 0 + b.val by omega
    | ⟨1, _⟩ => show 4095 + j.val = 4095 + j.val from rfl
    | ⟨2, _⟩ => show k.val = 0 + k.val by omega).trans ?_
  rw [ext_apply]
  exact congrArg _ (show 4095 + j.val + 1 = 4096 + j.val by omega)

end Cert.PoolRef
-- ==== Proof.PoolEq.lean ====
/-
  The pooling kernel and its reference return the same arrays.
-/
module

public import proofs.«01_k».proof.Proof.PoolOut
public import proofs.«01_k».proof.Proof.PoolRef

@[expose] public section

noncomputable section

namespace Cert.Pool

open Idealize.ShloMosaic Idealize.ShloMosaic.TcCoe Idealize.SL.Sem
open Cert.Kernel7Ideal Cert.Kernel7Ideal.Gen Cert.Moe
open Cert.ReferenceIdeal.Route (three3)

variable (m : (ℓ : Loc nD τ sig) → Buf (Elt Ideal) ℓ) (c : Dev nD)

theorem out_eq4 : ((dats m 0 c).arrAt 4 cfg0.N : Vec Ideal S16x4096x256 .bf16)
    = Cert.Reference7Ideal.Read.val_main_v86 (F := Ideal) (uA m c) (hA m c) (wA m c) (sA m c) := by
  refine (Value.final4 m c).trans (funext fun i => ?_)
  have h2 : (i 2).val < 256 := (i 2).isLt
  have hi : i = ix3 (i 0) (i 1) (gcol ⟨(i 2).val / 64, by omega⟩ ⟨(i 2).val % 64, Nat.mod_lt _ (by decide)⟩) :=
    three3 i _ _ _ rfl rfl (Fin.ext (show (i 2).val = (i 2).val / 64 * 64 + (i 2).val % 64 by omega))
  rw [hi]
  exact (G4_apply m c _ _ _ _).trans (Cert.PoolRef.out_apply _ _ _ _ _ _ _ _).symm

theorem out_eq5 : ((dats m 0 c).arrAt 5 cfg0.N : Vec Ideal S16x16x256 .f32)
    = Cert.Reference7Ideal.Read.val_main_v87 (F := Ideal) (uA m c) (hA m c) := by
  refine (Value.final5 m c).trans (funext fun i => ?_)
  have hi : i = ix3 (i 0) (i 1) (i 2) := three3 i _ _ _ rfl rfl rfl
  rw [hi]
  exact (G5_apply m c _ _ _).trans (Cert.PoolRef.rows_apply _ _ _ _ _).symm

end Cert.Pool
-- ==== Proof.lean ====
/-
  The proof of `Cert.Claim`: of each of the six calls, the two frames of the kernel from its generated launch proof, the
  reference's from its run, and the value claim from the two runs and the comparison of what they leave.
-/
module

public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_finite_router
public import proofs.«01_k».proof.Proof.RefRun
public import proofs.«01_k».proof.Proof.Compare
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.MemKv
public import proofs.«01_k».proof.Proof.InProj
public import proofs.«01_k».proof.Proof.OutProj
public import proofs.«01_k».proof.Proof.MemAttn
public import proofs.«01_k».proof.Proof.FinalNorm
public import proofs.«01_k».proof.Proof.PoolEq
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_router := fun m ρ _ => Cert.KernelIdeal.Gen.frame m ρ

/-- The reference declares no semaphore, and its run leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_router := fun m ρ _ => frame_reference m ρ trivial

/-- The reference's result at its own arguments is `Compare.refOut` where the arguments agree with the kernel's. -/
theorem value : Cert.algebraic_KernelIdeal_ReferenceIdeal_pre_finite_router := by
  intro m g m' g' hpre hargs
  refine ⟨fun c => Cert.KernelIdeal.Value.G7 m c, Cert.KernelIdeal.Value.run (F := Ideal) m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v80_eq m' c).trans ?_)
  obtain ⟨h0, h1, h2, h3, h4, h5, h6, h7, h8⟩ := hargs c
  rw [h0, h1, h2, h3, h4, h5, h6, h7, h8]
  exact (Cert.Compare.out_eq m c (Cert.Compare.real_router m hpre c)).symm

/-! ## The memory's keys and values -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem value2 : Cert.algebraic_Kernel2Ideal_Reference2Ideal := by
  intro m g m' g' _ hargs
  refine ⟨fun c => (Cert.Kernel2Ideal.Gen.dats m 0 c).arrAt 3 Cert.Kernel2Ideal.cfg0.N,
    fun c => (Cert.Kernel2Ideal.Gen.dats m 0 c).arrAt 4 Cert.Kernel2Ideal.cfg0.N, Cert.Kernel2Ideal.Value.run_blocks (F := Ideal) m g, ?_⟩
  refine (θ_run Cert.Reference2Ideal.defs _ _).mono (fun r h c => ⟨(h c).1.trans ?_, (h c).2.1.trans ?_, (h c).2.2⟩)
    (Cert.Reference2Ideal.Value.run (F := Ideal) m' g')
  · obtain ⟨h0, h1, h2⟩ := hargs c
    rw [h0, h1, h2]
    exact (Cert.Reference2Ideal.Read.val_main_v16_eq _ _ _).trans (Cert.MemKv.out_eq3 m c).symm
  · obtain ⟨h0, h1, h2⟩ := hargs c
    rw [h0, h1, h2]
    exact (Cert.Reference2Ideal.Read.val_main_v17_eq _ _ _).trans (Cert.MemKv.out_eq4 m c).symm

/-! ## The projection that opens the mixers -/

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

theorem value3 : Cert.algebraic_Kernel3Ideal_Reference3Ideal := by
  intro m g m' g' _ hargs
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N, Cert.Kernel3Ideal.Value.run_blocks (F := Ideal) m g, ?_⟩
  refine (θ_run Cert.Reference3Ideal.defs _ _).mono (fun r h c => ?_) (Cert.Reference3Ideal.Value.run (F := Ideal) m' g')
  obtain ⟨h0, h1, h2⟩ := hargs c
  obtain ⟨r3, r4, r5, r6, r7, r8, r9, kept⟩ := h c
  rw [h0, h1, h2] at r3 r4 r5 r6 r7 r8 r9
  exact ⟨r3.trans ((Cert.Reference3Ideal.Read.val_main_v20_eq _ _ _).trans (Cert.InProj.out_eq3 m c).symm),
    r4.trans ((Cert.Reference3Ideal.Read.val_main_v15_eq _ _ _).trans (Cert.InProj.out_eq4 m c).symm),
    r5.trans ((Cert.Reference3Ideal.Read.val_main_v21_eq _ _ _).trans (Cert.InProj.out_eq5 m c).symm),
    r6.trans ((Cert.Reference3Ideal.Read.val_main_v17_eq _ _ _).trans (Cert.InProj.out_eq6 m c).symm),
    r7.trans ((Cert.Reference3Ideal.Read.val_main_v22_eq _ _ _).trans (Cert.InProj.out_eq7 m c).symm),
    r8.trans ((Cert.Reference3Ideal.Read.val_main_v18_eq _ _ _).trans (Cert.InProj.out_eq8 m c).symm),
    r9.trans ((Cert.Reference3Ideal.Read.val_main_v23_eq _ _ _).trans (Cert.InProj.out_eq9 m c).symm), kept⟩

/-! ## The projection that closes the mixers -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem value4 : Cert.algebraic_Kernel4Ideal_Reference4Ideal := by
  intro m g m' g' _ hargs
  refine ⟨fun c => (Cert.Kernel4Ideal.Gen.dats m 0 c).arrAt 5 Cert.Kernel4Ideal.cfg0.N, Cert.Kernel4Ideal.Value.run_blocks (F := Ideal) m g, ?_⟩
  refine (θ_run Cert.Reference4Ideal.defs _ _).mono (fun r h c => ⟨(h c).1.trans ?_, (h c).2⟩) (Cert.Reference4Ideal.Value.run (F := Ideal) m' g')
  obtain ⟨h0, h1, h2, h3, h4⟩ := hargs c
  rw [h0, h1, h2, h3, h4]
  exact (Cert.Reference4Ideal.Read.val_main_v3_eq _ _ _ _ _).trans (Cert.OutProj.out_eq m c).symm

/-! ## The memory attention -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves5 : Cert.preserves_Kernel5_Kernel5Ideal :=
  IdealRules.named_const.statement Cert.Kernel5Ideal.κ "scale" .f32 0x3DB504F3#32 (((Real.sqrt 128)⁻¹ : ℝ) : EReal) rfl

theorem value5 : Cert.algebraic_Kernel5Ideal_Reference5Ideal := by
  intro m g m' g' _ hargs
  refine ⟨fun c => (Cert.Kernel5Ideal.Gen.dats m 0 c).arrAt 6 Cert.Kernel5Ideal.cfg0.N, Cert.Kernel5Ideal.Value.run_blocks (F := Ideal) m g, ?_⟩
  refine (θ_run Cert.Reference5Ideal.defs _ _).mono (fun r h c => ⟨?_, (h c).2⟩) (Cert.Reference5Ideal.Value.run (F := Ideal) m' g')
  refine (h c).1.trans ((Cert.Reference5Ideal.Read.val_main_v36_eq m' c).trans ?_)
  obtain ⟨h0, h1, h2, h3, h4, h5⟩ := hargs c
  rw [h0, h1, h2, h3, h4, h5]
  exact (Cert.MemAttn.out_eq m c).symm

/-! ## The final norm -/

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem value6 : Cert.algebraic_Kernel6Ideal_Reference6Ideal := by
  intro m g m' g' _ hargs
  refine ⟨fun c => (Cert.Kernel6Ideal.Gen.dats m 0 c).arrAt 2 Cert.Kernel6Ideal.cfg0.N, Cert.Kernel6Ideal.Value.run_blocks (F := Ideal) m g, ?_⟩
  refine (θ_run Cert.Reference6Ideal.defs _ _).mono (fun r h c => ⟨(h c).1.trans ?_, (h c).2⟩) (Cert.Reference6Ideal.Value.run (F := Ideal) m' g')
  obtain ⟨h0, h1⟩ := hargs c
  rw [h0, h1]
  exact (Cert.Reference6Ideal.Read.val_main_v12_eq _ _).trans (Cert.FinalNorm.out_eq m c).symm

/-! ## The pooling -/

theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem value7 : Cert.algebraic_Kernel7Ideal_Reference7Ideal := by
  intro m g m' g' _ hargs
  refine ⟨fun c => (Cert.Kernel7Ideal.Gen.dats m 0 c).arrAt 4 Cert.Kernel7Ideal.cfg0.N,
    fun c => (Cert.Kernel7Ideal.Gen.dats m 0 c).arrAt 5 Cert.Kernel7Ideal.cfg0.N, Cert.Kernel7Ideal.Value.run_blocks (F := Ideal) m g, ?_⟩
  refine (θ_run Cert.Reference7Ideal.defs _ _).mono (fun r h c => ⟨?_, ?_, (h c).2.2⟩) (Cert.Reference7Ideal.Value.run (F := Ideal) m' g')
  · refine (h c).1.trans ((Cert.Reference7Ideal.Read.val_main_v86_eq m' c).trans ?_)
    obtain ⟨h0, h1, h2, h3⟩ := hargs c
    rw [h0, h1, h2, h3]
    exact (Cert.Pool.out_eq4 m c).symm
  · refine (h c).2.1.trans ?_
    obtain ⟨h0, h1, h2, h3⟩ := hargs c
    rw [h0, h1]
    exact (Cert.Reference7Ideal.Read.val_main_v87_eq _ _).trans (Cert.Pool.out_eq5 m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite_router.Gen.facts,
    frame_kernel, frame_ideal, frame_ideal_pre, frame_reference, frame_reference_pre,
    frame_kernel2, frame_ideal2, frame_reference2, frame_kernel3, frame_ideal3, frame_reference3,
    frame_kernel4, frame_ideal4, frame_reference4, frame_kernel5, frame_ideal5, frame_reference5,
    frame_kernel6, frame_ideal6, frame_reference6, frame_kernel7, frame_ideal7, frame_reference7,
    trivial, value, trivial, value2, trivial, value3, trivial, value4, preserves5, value5, trivial, value6, trivial, value7⟩

end Cert.Proof

end
